-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x20 : Shape := ⟨2, ![16384, 20]⟩
abbrev S16384x1 : Shape := ⟨2, ![16384, 1]⟩
abbrev S512x64 : Shape := ⟨2, ![512, 64]⟩
abbrev S192x64 : Shape := ⟨2, ![192, 64]⟩
abbrev S192 : Shape := ⟨1, ![192]⟩
abbrev S_ : Shape := ⟨0, ![]⟩

class Facts : Prop where
  bcast_S_S16384x20 : S_.BroadcastsInDim S16384x20 (![] : Fin 0 → Fin S16384x20.rank)
  reducesTo_S16384x20_S_d0_1 : S16384x20.ReducesTo [0, 1] S_
  h_S_ : 0 < S_.numel
  bcast_S_S16384x1 : S_.BroadcastsInDim S16384x1 (![] : Fin 0 → Fin S16384x1.rank)
  reducesTo_S16384x1_S_d0_1 : S16384x1.ReducesTo [0, 1] S_

variable [Facts]

def fn_part1 {F : FTy → Type} [FloatOps F] (main_arg4 : IVec S16384x1 32) (main_arg5 : IVec S16384x1 32) (main_v14 : IVec S_ 1) (main_c_7 : IVec S_ 32) : IVec S_ 1 :=
  let main_v15 : IVec S16384x1 32 := broadcastInDim S16384x1 ![] bcast_S_S16384x1 main_c_7
  let main_v16 : IVec S16384x1 1 := cmpi .sge main_arg4 main_v15
  let main_c_8 : IVec S_ 1 := constantI S_ 1 1#1
  let main_v17 : IVec S_ 1 := (fun x v => Host.reduce IntOp.andi x v reducesTo_S16384x1_S_d0_1 h_S_) main_v16 main_c_8
  let main_v18 : IVec S_ 1 := andi main_v14 main_v17
  let main_c_9 : IVec S_ 32 := constantI S_ 32 20#32
  let main_v19 : IVec S16384x1 32 := broadcastInDim S16384x1 ![] bcast_S_S16384x1 main_c_9
  let main_v20 : IVec S16384x1 1 := cmpi .sle main_arg4 main_v19
  let main_c_10 : IVec S_ 1 := constantI S_ 1 1#1
  let main_v21 : IVec S_ 1 := (fun x v => Host.reduce IntOp.andi x v reducesTo_S16384x1_S_d0_1 h_S_) main_v20 main_c_10
  let main_v22 : IVec S_ 1 := andi main_v18 main_v21
  let main_c_11 : IVec S_ 32 := constantI S_ 32 1#32
  let main_v23 : IVec S16384x1 32 := broadcastInDim S16384x1 ![] bcast_S_S16384x1 main_c_11
  let main_v24 : IVec S16384x1 1 := cmpi .sge main_arg5 main_v23
  let main_c_12 : IVec S_ 1 := constantI S_ 1 1#1
  let main_v25 : IVec S_ 1 := (fun x v => Host.reduce IntOp.andi x v reducesTo_S16384x1_S_d0_1 h_S_) main_v24 main_c_12
  let main_v26 : IVec S_ 1 := andi main_v22 main_v25
  let main_c_13 : IVec S_ 32 := constantI S_ 32 20#32
  let main_v27 : IVec S16384x1 32 := broadcastInDim S16384x1 ![] bcast_S_S16384x1 main_c_13
  let main_v28 : IVec S16384x1 1 := cmpi .sle main_arg5 main_v27
  let main_c_14 : IVec S_ 1 := constantI S_ 1 1#1
  let main_v29 : IVec S_ 1 := (fun x v => Host.reduce IntOp.andi x v reducesTo_S16384x1_S_d0_1 h_S_) main_v28 main_c_14
  let main_v30 : IVec S_ 1 := andi main_v26 main_v29
  main_v30

def fn {F : FTy → Type} [FloatOps F] (main_arg0 : IVec S16384x20 32) (main_arg1 : IVec S16384x20 32) (main_arg2 : FVec F S16384x20 .f32) (main_arg3 : FVec F S16384x20 .f32) (main_arg4 : IVec S16384x1 32) (main_arg5 : IVec S16384x1 32) (main_arg6 : FVec F S512x64 .f32) (main_arg7 : FVec F S192x64 .f32) (main_arg8 : FVec F S192x64 .f32) (main_arg9 : FVec F S192 .f32) (main_arg10 : FVec F S192 .f32) (main_arg11 : FVec F S192x64 .f32) (main_arg12 : FVec F S192x64 .f32) (main_arg13 : FVec F S192 .f32) (main_arg14 : FVec F S192 .f32) : IVec S_ 1 :=
  let main_c : IVec S_ 32 := constantI S_ 32 0#32
  let main_v0 : IVec S16384x20 32 := broadcastInDim S16384x20 ![] bcast_S_S16384x20 main_c
  let main_v1 : IVec S16384x20 1 := cmpi .sge main_arg0 main_v0
  let main_c_0 : IVec S_ 1 := constantI S_ 1 1#1
  let main_v2 : IVec S_ 1 := (fun x v => Host.reduce IntOp.andi x v reducesTo_S16384x20_S_d0_1 h_S_) main_v1 main_c_0
  let main_c_1 : IVec S_ 32 := constantI S_ 32 512#32
  let main_v3 : IVec S16384x20 32 := broadcastInDim S16384x20 ![] bcast_S_S16384x20 main_c_1
  let main_v4 : IVec S16384x20 1 := cmpi .slt main_arg0 main_v3
  let main_c_2 : IVec S_ 1 := constantI S_ 1 1#1
  let main_v5 : IVec S_ 1 := (fun x v => Host.reduce IntOp.andi x v reducesTo_S16384x20_S_d0_1 h_S_) main_v4 main_c_2
  let main_v6 : IVec S_ 1 := andi main_v2 main_v5
  let main_c_3 : IVec S_ 32 := constantI S_ 32 0#32
  let main_v7 : IVec S16384x20 32 := broadcastInDim S16384x20 ![] bcast_S_S16384x20 main_c_3
  let main_v8 : IVec S16384x20 1 := cmpi .sge main_arg1 main_v7
  let main_c_4 : IVec S_ 1 := constantI S_ 1 1#1
  let main_v9 : IVec S_ 1 := (fun x v => Host.reduce IntOp.andi x v reducesTo_S16384x20_S_d0_1 h_S_) main_v8 main_c_4
  let main_v10 : IVec S_ 1 := andi main_v6 main_v9
  let main_c_5 : IVec S_ 32 := constantI S_ 32 512#32
  let main_v11 : IVec S16384x20 32 := broadcastInDim S16384x20 ![] bcast_S_S16384x20 main_c_5
  let main_v12 : IVec S16384x20 1 := cmpi .slt main_arg1 main_v11
  let main_c_6 : IVec S_ 1 := constantI S_ 1 1#1
  let main_v13 : IVec S_ 1 := (fun x v => Host.reduce IntOp.andi x v reducesTo_S16384x20_S_d0_1 h_S_) main_v12 main_c_6
  let main_v14 : IVec S_ 1 := andi main_v10 main_v13
  let main_c_7 : IVec S_ 32 := constantI S_ 32 1#32
  fn_part1 (F := F) main_arg4 main_arg5 main_v14 main_c_7
-- ==== Kernel.lean ====
abbrev S16384x20 : Shape := ⟨2, ![16384, 20]⟩
abbrev S16384x1 : Shape := ⟨2, ![16384, 1]⟩
abbrev S512x64 : Shape := ⟨2, ![512, 64]⟩
abbrev S192x64 : Shape := ⟨2, ![192, 64]⟩
abbrev S192 : Shape := ⟨1, ![192]⟩
abbrev S16384 : Shape := ⟨1, ![16384]⟩
abbrev S_ : Shape := ⟨0, ![]⟩
abbrev S1 : Shape := ⟨1, ![1]⟩
abbrev S1x1 : Shape := ⟨2, ![1, 1]⟩
abbrev S20x16384 : Shape := ⟨2, ![20, 16384]⟩
abbrev S20x1x16384 : Shape := ⟨3, ![20, 1, 16384]⟩
abbrev S8 : Shape := ⟨1, ![8]⟩
abbrev S8x1 : Shape := ⟨2, ![8, 1]⟩
abbrev S8x2 : Shape := ⟨2, ![8, 2]⟩
abbrev S1x16384 : Shape := ⟨2, ![1, 16384]⟩
abbrev S64x512 : Shape := ⟨2, ![64, 512]⟩
abbrev S192x1 : Shape := ⟨2, ![192, 1]⟩
abbrev S20x64x16384 : Shape := ⟨3, ![20, 64, 16384]⟩
abbrev S20x1x2048 : Shape := ⟨3, ![20, 1, 2048]⟩
abbrev S1x2048 : Shape := ⟨2, ![1, 2048]⟩
abbrev S20x64x2048 : Shape := ⟨3, ![20, 64, 2048]⟩
abbrev S192x512 : Shape := ⟨2, ![192, 512]⟩
abbrev S512x1 : Shape := ⟨2, ![512, 1]⟩
abbrev S1x512 : Shape := ⟨2, ![1, 512]⟩
abbrev S1x1x512 : Shape := ⟨3, ![1, 1, 512]⟩
abbrev S512x512 : Shape := ⟨2, ![512, 512]⟩
abbrev S128x512 : Shape := ⟨2, ![128, 512]⟩
abbrev S1x64x512 : Shape := ⟨3, ![1, 64, 512]⟩
abbrev S16384x20x64 : Shape := ⟨3, ![16384, 20, 64]⟩

abbrev nBuf : Space → Nat
  | .hbm => 134
  | .vmem => 21
  | .smem => 1
  | _ => 0

abbrev hbmTy0_0 (i : Nat) : BufTy := match i % 128 with
  | 0 => ⟨S16384x20, .i32⟩
  | 1 => ⟨S16384x20, .i32⟩
  | 2 => ⟨S16384x20, .f32⟩
  | 3 => ⟨S16384x20, .f32⟩
  | 4 => ⟨S16384x1, .i32⟩
  | 5 => ⟨S16384x1, .i32⟩
  | 6 => ⟨S512x64, .f32⟩
  | 7 => ⟨S192x64, .f32⟩
  | 8 => ⟨S192x64, .f32⟩
  | 9 => ⟨S192, .f32⟩
  | 10 => ⟨S192, .f32⟩
  | 11 => ⟨S192x64, .f32⟩
  | 12 => ⟨S192x64, .f32⟩
  | 13 => ⟨S192, .f32⟩
  | 14 => ⟨S192, .f32⟩
  | 15 => ⟨S16384, .i32⟩
  | 16 => ⟨S16384, .i32⟩
  | 17 => ⟨S16384, .i32⟩
  | 18 => ⟨S16384, .i32⟩
  | 19 => ⟨S16384, .i32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S16384x1, .i32⟩
  | 28 => ⟨S1, .i32⟩
  | 29 => ⟨S_, .i32⟩
  | 30 => ⟨S16384x1, .i32⟩
  | 31 => ⟨S16384x1, .i1⟩
  | 32 => ⟨S1x1, .i32⟩
  | 33 => ⟨S16384x1, .i32⟩
  | 34 => ⟨S16384x1, .i1⟩
  | 35 => ⟨S16384x1, .i1⟩
  | 36 => ⟨S_, .i1⟩
  | 37 => ⟨S16384, .i1⟩
  | 38 => ⟨S16384x20, .i32⟩
  | 39 => ⟨S16384x20, .i1⟩
  | 40 => ⟨S_, .i32⟩
  | 41 => ⟨S16384x20, .i32⟩
  | 42 => ⟨S16384x20, .i32⟩
  | 43 => ⟨S16384x20, .i16⟩
  | 44 => ⟨S_, .i32⟩
  | 45 => ⟨S16384, .i32⟩
  | 46 => ⟨S16384, .i1⟩
  | 47 => ⟨S_, .i32⟩
  | 48 => ⟨S16384, .i32⟩
  | 49 => ⟨S16384, .i32⟩
  | 50 => ⟨S16384, .i32⟩
  | 51 => ⟨S16384x1, .i32⟩
  | 52 => ⟨S1, .i32⟩
  | 53 => ⟨S_, .i32⟩
  | 54 => ⟨S16384x1, .i32⟩
  | 55 => ⟨S16384x1, .i1⟩
  | 56 => ⟨S1x1, .i32⟩
  | 57 => ⟨S16384x1, .i32⟩
  | 58 => ⟨S16384x1, .i1⟩
  | 59 => ⟨S16384x1, .i1⟩
  | 60 => ⟨S_, .i1⟩
  | 61 => ⟨S16384, .i1⟩
  | 62 => ⟨S16384, .i32⟩
  | 63 => ⟨S_, .i32⟩
  | 64 => ⟨S16384, .i32⟩
  | 65 => ⟨S16384, .i32⟩
  | 66 => ⟨S16384, .i32⟩
  | 67 => ⟨S16384, .i32⟩
  | 68 => ⟨S16384, .i32⟩
  | 69 => ⟨S16384, .i32⟩
  | 70 => ⟨S16384, .i32⟩
  | 71 => ⟨S_, .i32⟩
  | 72 => ⟨S16384, .i32⟩
  | 73 => ⟨S16384, .i1⟩
  | 74 => ⟨S_, .i32⟩
  | 75 => ⟨S16384, .i32⟩
  | 76 => ⟨S16384, .i32⟩
  | 77 => ⟨S16384, .i32⟩
  | 78 => ⟨S16384x1, .i32⟩
  | 79 => ⟨S1, .i32⟩
  | 80 => ⟨S_, .i32⟩
  | 81 => ⟨S16384x1, .i32⟩
  | 82 => ⟨S16384x1, .i1⟩
  | 83 => ⟨S1x1, .i32⟩
  | 84 => ⟨S16384x1, .i32⟩
  | 85 => ⟨S16384x1, .i1⟩
  | 86 => ⟨S16384x1, .i1⟩
  | 87 => ⟨S_, .i1⟩
  | 88 => ⟨S16384, .i1⟩
  | 89 => ⟨S16384x20, .i32⟩
  | 90 => ⟨S16384x20, .i1⟩
  | 91 => ⟨S_, .i32⟩
  | 92 => ⟨S16384x20, .i32⟩
  | 93 => ⟨S16384x20, .i32⟩
  | 94 => ⟨S16384x20, .i16⟩
  | 95 => ⟨S_, .i32⟩
  | 96 => ⟨S16384, .i32⟩
  | 97 => ⟨S16384, .i1⟩
  | 98 => ⟨S_, .i32⟩
  | 99 => ⟨S16384, .i32⟩
  | 100 => ⟨S16384, .i32⟩
  | 101 => ⟨S16384, .i32⟩
  | 102 => ⟨S16384x1, .i32⟩
  | 103 => ⟨S1, .i32⟩
  | 104 => ⟨S_, .i32⟩
  | 105 => ⟨S16384x1, .i32⟩
  | 106 => ⟨S16384x1, .i1⟩
  | 107 => ⟨S1x1, .i32⟩
  | 108 => ⟨S16384x1, .i32⟩
  | 109 => ⟨S16384x1, .i1⟩
  | 110 => ⟨S16384x1, .i1⟩
  | 111 => ⟨S_, .i1⟩
  | 112 => ⟨S16384, .i1⟩
  | 113 => ⟨S16384, .i32⟩
  | 114 => ⟨S_, .i32⟩
  | 115 => ⟨S16384, .i32⟩
  | 116 => ⟨S16384, .i32⟩
  | 117 => ⟨S20x16384, .i16⟩
  | 118 => ⟨S20x1x16384, .i16⟩
  | 119 => ⟨S20x16384, .i16⟩
  | 120 => ⟨S20x1x16384, .i16⟩
  | 121 => ⟨S8, .i32⟩
  | 122 => ⟨S8, .i32⟩
  | 123 => ⟨S8x1, .i32⟩
  | 124 => ⟨S8x1, .i32⟩
  | 125 => ⟨S1x16384, .i32⟩
  | 126 => ⟨S1x16384, .i32⟩
  | 127 => ⟨S64x512, .f32⟩
  | _ => ⟨S16384x20, .i32⟩

abbrev hbmTy0_1 (i : Nat) : BufTy := match i % 128 with
  | 0 => ⟨S192x1, .f32⟩
  | 1 => ⟨S192x1, .f32⟩
  | 2 => ⟨S192x1, .f32⟩
  | 3 => ⟨S192x1, .f32⟩
  | 4 => ⟨S20x64x16384, .f32⟩
  | 5 => ⟨S16384x20x64, .f32⟩
  | _ => ⟨S16384x20, .i32⟩

abbrev hbmTy (i : Nat) : BufTy := match i / 128 with
  | 0 => hbmTy0_0 i
  | 1 => hbmTy0_1 i
  | _ => ⟨S16384x20, .i32⟩

abbrev bufTy : (tb : Table) → Fin (tcTables nBuf tb) → BufTy
  | .hbm, ⟨i, _⟩ => hbmTy i
  | .local _ .vmem, ⟨0, _⟩ => ⟨S20x1x2048, .i16⟩
  | .local _ .vmem, ⟨1, _⟩ => ⟨S20x1x2048, .i16⟩
  | .local _ .vmem, ⟨2, _⟩ => ⟨S1x2048, .i32⟩
  | .local _ .vmem, ⟨3, _⟩ => ⟨S1x2048, .i32⟩
  | .local _ .vmem, ⟨4, _⟩ => ⟨S20x1x2048, .i16⟩
  | .local _ .vmem, ⟨5, _⟩ => ⟨S20x1x2048, .i16⟩
  | .local _ .vmem, ⟨6, _⟩ => ⟨S1x2048, .i32⟩
  | .local _ .vmem, ⟨7, _⟩ => ⟨S1x2048, .i32⟩
  | .local _ .vmem, ⟨8, _⟩ => ⟨S64x512, .f32⟩
  | .local _ .vmem, ⟨9, _⟩ => ⟨S192x64, .f32⟩
  | .local _ .vmem, ⟨10, _⟩ => ⟨S192x64, .f32⟩
  | .local _ .vmem, ⟨11, _⟩ => ⟨S192x1, .f32⟩
  | .local _ .vmem, ⟨12, _⟩ => ⟨S192x64, .f32⟩
  | .local _ .vmem, ⟨13, _⟩ => ⟨S192x64, .f32⟩
  | .local _ .vmem, ⟨14, _⟩ => ⟨S192x1, .f32⟩
  | .local _ .vmem, ⟨15, _⟩ => ⟨S192x1, .f32⟩
  | .local _ .vmem, ⟨16, _⟩ => ⟨S192x1, .f32⟩
  | .local _ .vmem, ⟨17, _⟩ => ⟨S20x64x2048, .f32⟩
  | .local _ .vmem, ⟨18, _⟩ => ⟨S20x64x2048, .f32⟩
  | .local _ .vmem, ⟨19, _⟩ => ⟨S192x512, .bf16⟩
  | .local _ .vmem, ⟨20, _⟩ => ⟨S192x512, .bf16⟩
  | .local _ .smem, ⟨0, _⟩ => ⟨S8x2, .i32⟩
  | _, _ => ⟨S16384x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_call0_v0 : Ref sig .tc := ⟨.hbm, 17, rfl⟩
abbrev main_call0_v1_0 : Ref sig .tc := ⟨.hbm, 18, rfl⟩
abbrev main_v2 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_v14 : Ref sig .tc := ⟨.hbm, 39, rfl⟩
abbrev main_call1_c_4 : Ref sig .tc := ⟨.hbm, 40, rfl⟩
abbrev main_call1_v15 : Ref sig .tc := ⟨.hbm, 41, rfl⟩
abbrev main_v3 : Ref sig .tc := ⟨.hbm, 42, rfl⟩
abbrev main_v4 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_c_1 : Ref sig .tc := ⟨.hbm, 52, rfl⟩
abbrev main_call2_c_2 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_3 : Ref sig .tc := ⟨.hbm, 60, rfl⟩
abbrev main_call2_v12 : Ref sig .tc := ⟨.hbm, 61, rfl⟩
abbrev main_call2_v13 : Ref sig .tc := ⟨.hbm, 62, rfl⟩
abbrev main_call2_c_4 : Ref sig .tc := ⟨.hbm, 63, rfl⟩
abbrev main_call2_v14 : Ref sig .tc := ⟨.hbm, 64, rfl⟩
abbrev main_v5 : Ref sig .tc := ⟨.hbm, 65, rfl⟩
abbrev main_v6 : Ref sig .tc := ⟨.hbm, 66, rfl⟩
abbrev main_v7 : Ref sig .tc := ⟨.hbm, 67, rfl⟩
abbrev main_call3_v0 : Ref sig .tc := ⟨.hbm, 68, rfl⟩
abbrev main_call3_v1_0 : Ref sig .tc := ⟨.hbm, 69, rfl⟩
abbrev main_v8 : Ref sig .tc := ⟨.hbm, 70, rfl⟩
abbrev main_call4_c : Ref sig .tc := ⟨.hbm, 71, rfl⟩
abbrev main_call4_v0 : Ref sig .tc := ⟨.hbm, 72, rfl⟩
abbrev main_call4_v1 : Ref sig .tc := ⟨.hbm, 73, rfl⟩
abbrev main_call4_c_0 : Ref sig .tc := ⟨.hbm, 74, rfl⟩
abbrev main_call4_v2 : Ref sig .tc := ⟨.hbm, 75, rfl⟩
abbrev main_call4_v3 : Ref sig .tc := ⟨.hbm, 76, rfl⟩
abbrev main_call4_v4 : Ref sig .tc := ⟨.hbm, 77, rfl⟩
abbrev main_call4_v5 : Ref sig .tc := ⟨.hbm, 78, rfl⟩
abbrev main_call4_c_1 : Ref sig .tc := ⟨.hbm, 79, rfl⟩
abbrev main_call4_c_2 : Ref sig .tc := ⟨.hbm, 80, rfl⟩
abbrev main_call4_v6 : Ref sig .tc := ⟨.hbm, 81, rfl⟩
abbrev main_call4_v7 : Ref sig .tc := ⟨.hbm, 82, rfl⟩
abbrev main_call4_v8 : Ref sig .tc := ⟨.hbm, 83, rfl⟩
abbrev main_call4_v9 : Ref sig .tc := ⟨.hbm, 84, rfl⟩
abbrev main_call4_v10 : Ref sig .tc := ⟨.hbm, 85, rfl⟩
abbrev main_call4_v11 : Ref sig .tc := ⟨.hbm, 86, rfl⟩
abbrev main_call4_c_3 : Ref sig .tc := ⟨.hbm, 87, rfl⟩
abbrev main_call4_v12 : Ref sig .tc := ⟨.hbm, 88, rfl⟩
abbrev main_call4_v13 : Ref sig .tc := ⟨.hbm, 89, rfl⟩
abbrev main_call4_v14 : Ref sig .tc := ⟨.hbm, 90, rfl⟩
abbrev main_call4_c_4 : Ref sig .tc := ⟨.hbm, 91, rfl⟩
abbrev main_call4_v15 : Ref sig .tc := ⟨.hbm, 92, rfl⟩
abbrev main_v9 : Ref sig .tc := ⟨.hbm, 93, rfl⟩
abbrev main_v10 : Ref sig .tc := ⟨.hbm, 94, rfl⟩
abbrev main_call5_c : Ref sig .tc := ⟨.hbm, 95, rfl⟩
abbrev main_call5_v0 : Ref sig .tc := ⟨.hbm, 96, rfl⟩
abbrev main_call5_v1 : Ref sig .tc := ⟨.hbm, 97, rfl⟩
abbrev main_call5_c_0 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_call5_v5 : Ref sig .tc := ⟨.hbm, 102, rfl⟩
abbrev main_call5_c_1 : Ref sig .tc := ⟨.hbm, 103, rfl⟩
abbrev main_call5_c_2 : Ref sig .tc := ⟨.hbm, 104, rfl⟩
abbrev main_call5_v6 : Ref sig .tc := ⟨.hbm, 105, rfl⟩
abbrev main_call5_v7 : Ref sig .tc := ⟨.hbm, 106, rfl⟩
abbrev main_call5_v8 : Ref sig .tc := ⟨.hbm, 107, rfl⟩
abbrev main_call5_v9 : Ref sig .tc := ⟨.hbm, 108, rfl⟩
abbrev main_call5_v10 : Ref sig .tc := ⟨.hbm, 109, rfl⟩
abbrev main_call5_v11 : Ref sig .tc := ⟨.hbm, 110, rfl⟩
abbrev main_call5_c_3 : Ref sig .tc := ⟨.hbm, 111, rfl⟩
abbrev main_call5_v12 : Ref sig .tc := ⟨.hbm, 112, rfl⟩
abbrev main_call5_v13 : Ref sig .tc := ⟨.hbm, 113, rfl⟩
abbrev main_call5_c_4 : Ref sig .tc := ⟨.hbm, 114, rfl⟩
abbrev main_call5_v14 : Ref sig .tc := ⟨.hbm, 115, rfl⟩
abbrev main_v11 : Ref sig .tc := ⟨.hbm, 116, rfl⟩
abbrev main_v12 : Ref sig .tc := ⟨.hbm, 117, rfl⟩
abbrev main_v13 : Ref sig .tc := ⟨.hbm, 118, rfl⟩
abbrev main_v14 : Ref sig .tc := ⟨.hbm, 119, rfl⟩
abbrev main_v15 : Ref sig .tc := ⟨.hbm, 120, rfl⟩
abbrev main_v16 : Ref sig .tc := ⟨.hbm, 121, rfl⟩
abbrev main_v17 : Ref sig .tc := ⟨.hbm, 122, rfl⟩
abbrev main_v18 : Ref sig .tc := ⟨.hbm, 123, rfl⟩
abbrev main_v19 : Ref sig .tc := ⟨.hbm, 124, rfl⟩
abbrev main_v21 : Ref sig .tc := ⟨.hbm, 125, rfl⟩
abbrev main_v22 : Ref sig .tc := ⟨.hbm, 126, rfl⟩
abbrev main_v23 : Ref sig .tc := ⟨.hbm, 127, rfl⟩
abbrev main_v24 : Ref sig .tc := ⟨.hbm, 128, rfl⟩
abbrev main_v25 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_v20 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v20.idx], fun | 0 => main_v20.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v2 : Index := Scalar.indexCast arg0
  let c1 : Index := 1#32
  ![v2.toNat, 1]
@[reducible] def k0_t1_loop (v1 : BitVec 32) : Scf.Loop 32 :=
  let c0_i32_31 : BitVec 32 := 0#32
  let v43 : BitVec 32 := Scalar.subi v1 c0_i32_31
  let c1_i32 : BitVec 32 := 1#32
  let v45 : BitVec 32 := Scalar.divsi v43 c1_i32
  let v46 : BitVec 32 := Scalar.muli v45 c1_i32
  let v47 : BitVec 32 := Scalar.addi c0_i32_31 v46
  let c1_i32_32 : BitVec 32 := 1#32
  ⟨c0_i32_31, v47, c1_i32_32⟩

def k0_off3 (v1 : BitVec 32) (k0_t1 : Fin (k0_t1_loop v1).trips) : Fin 3 → Nat :=
  let c0_i32_31 : BitVec 32 := 0#32
  let c1_i32_32 : BitVec 32 := 1#32
  let arg18 : BitVec 32 := Scf.iv c0_i32_31 c1_i32_32 k0_t1
  let v57 : Index := Scalar.indexCast arg18
  let c0_40 : Index := 0#32
  let c0_41 : Index := 0#32
  ![v57.toNat, 0, 0]
def k0_off4 (v1 : BitVec 32) (k0_t1 : Fin (k0_t1_loop v1).trips) : Fin 3 → Nat :=
  let c0_i32_31 : BitVec 32 := 0#32
  let c1_i32_32 : BitVec 32 := 1#32
  let arg18 : BitVec 32 := Scf.iv c0_i32_31 c1_i32_32 k0_t1
  let v93 : Index := Scalar.indexCast arg18
  let c0_50 : Index := 0#32
  let c512_51 : Index := 512#32
  ![v93.toNat, 0, 512]
def k0_off5 (v1 : BitVec 32) (k0_t1 : Fin (k0_t1_loop v1).trips) : Fin 3 → Nat :=
  let c0_i32_31 : BitVec 32 := 0#32
  let c1_i32_32 : BitVec 32 := 1#32
  let arg18 : BitVec 32 := Scf.iv c0_i32_31 c1_i32_32 k0_t1
  let v129 : Index := Scalar.indexCast arg18
  let c0_60 : Index := 0#32
  let c1024_61 : Index := 1024#32
  ![v129.toNat, 0, 1024]
def k0_off6 (v1 : BitVec 32) (k0_t1 : Fin (k0_t1_loop v1).trips) : Fin 3 → Nat :=
  let c0_i32_31 : BitVec 32 := 0#32
  let c1_i32_32 : BitVec 32 := 1#32
  let arg18 : BitVec 32 := Scf.iv c0_i32_31 c1_i32_32 k0_t1
  let v165 : Index := Scalar.indexCast arg18
  let c0_70 : Index := 0#32
  let c1536_71 : Index := 1536#32
  ![v165.toNat, 0, 1536]
@[reducible] def k0_t2_loop (v1 : BitVec 32) : Scf.Loop 32 :=
  let c0_i32_31 : BitVec 32 := 0#32
  let v43 : BitVec 32 := Scalar.subi v1 c0_i32_31
  let c1_i32 : BitVec 32 := 1#32
  let v45 : BitVec 32 := Scalar.divsi v43 c1_i32
  let v46 : BitVec 32 := Scalar.muli v45 c1_i32
  let v47 : BitVec 32 := Scalar.addi c0_i32_31 v46
  let v44 : BitVec 32 := Scalar.addi c0_i32_31 v43
  let c1_i32_33 : BitVec 32 := 1#32
  ⟨v47, v44, c1_i32_33⟩
def k0_off7 (v1 : BitVec 32) (k0_t2 : Fin (k0_t2_loop v1).trips) : Fin 3 → Nat :=
  let c0_i32_31 : BitVec 32 := 0#32
  let v43 : BitVec 32 := Scalar.subi v1 c0_i32_31
  let c1_i32 : BitVec 32 := 1#32
  let v45 : BitVec 32 := Scalar.divsi v43 c1_i32
  let v46 : BitVec 32 := Scalar.muli v45 c1_i32
  let v47 : BitVec 32 := Scalar.addi c0_i32_31 v46
  let c1_i32_33 : BitVec 32 := 1#32
  let arg18 : BitVec 32 := Scf.iv v47 c1_i32_33 k0_t2
  let v57 : Index := Scalar.indexCast arg18
  let c0_40 : Index := 0#32
  let c0_41 : Index := 0#32
  ![v57.toNat, 0, 0]
def k0_off8 (v1 : BitVec 32) (k0_t2 : Fin (k0_t2_loop v1).trips) : Fin 3 → Nat :=
  let c0_i32_31 : BitVec 32 := 0#32
  let v43 : BitVec 32 := Scalar.subi v1 c0_i32_31
  let c1_i32 : BitVec 32 := 1#32
  let v45 : BitVec 32 := Scalar.divsi v43 c1_i32
  let v46 : BitVec 32 := Scalar.muli v45 c1_i32
  let v47 : BitVec 32 := Scalar.addi c0_i32_31 v46
  let c1_i32_33 : BitVec 32 := 1#32
  let arg18 : BitVec 32 := Scf.iv v47 c1_i32_33 k0_t2
  let v93 : Index := Scalar.indexCast arg18
  let c0_50 : Index := 0#32
  let c512_51 : Index := 512#32
  ![v93.toNat, 0, 512]
def k0_off9 (v1 : BitVec 32) (k0_t2 : Fin (k0_t2_loop v1).trips) : Fin 3 → Nat :=
  let c0_i32_31 : BitVec 32 := 0#32
  let v43 : BitVec 32 := Scalar.subi v1 c0_i32_31
  let c1_i32 : BitVec 32 := 1#32
  let v45 : BitVec 32 := Scalar.divsi v43 c1_i32
  let v46 : BitVec 32 := Scalar.muli v45 c1_i32
  let v47 : BitVec 32 := Scalar.addi c0_i32_31 v46
  let c1_i32_33 : BitVec 32 := 1#32
  let arg18 : BitVec 32 := Scf.iv v47 c1_i32_33 k0_t2
  let v129 : Index := Scalar.indexCast arg18
  let c0_60 : Index := 0#32
  let c1024_61 : Index := 1024#32
  ![v129.toNat, 0, 1024]
def k0_off10 (v1 : BitVec 32) (k0_t2 : Fin (k0_t2_loop v1).trips) : Fin 3 → Nat :=
  let c0_i32_31 : BitVec 32 := 0#32
  let v43 : BitVec 32 := Scalar.subi v1 c0_i32_31
  let c1_i32 : BitVec 32 := 1#32
  let v45 : BitVec 32 := Scalar.divsi v43 c1_i32
  let v46 : BitVec 32 := Scalar.muli v45 c1_i32
  let v47 : BitVec 32 := Scalar.addi c0_i32_31 v46
  let c1_i32_33 : BitVec 32 := 1#32
  let arg18 : BitVec 32 := Scf.iv v47 c1_i32_33 k0_t2
  let v165 : Index := Scalar.indexCast arg18
  let c0_70 : Index := 0#32
  let c1536_71 : Index := 1536#32
  ![v165.toNat, 0, 1536]

def k0_chk1 (v1 : BitVec 32) : Prop :=
  ((k0_t1_loop v1).OK) ∧
  (∀ k0_t1 : Fin (k0_t1_loop v1).trips, ∀ a, (k0_off3 v1 k0_t1) a + S1x1x512.size a ≤ S20x1x2048.size a) ∧
  (∀ k0_t1 : Fin (k0_t1_loop v1).trips, ∀ a, (k0_off4 v1 k0_t1) a + S1x1x512.size a ≤ S20x1x2048.size a) ∧
  (∀ k0_t1 : Fin (k0_t1_loop v1).trips, ∀ a, (k0_off5 v1 k0_t1) a + S1x1x512.size a ≤ S20x1x2048.size a) ∧
  (∀ k0_t1 : Fin (k0_t1_loop v1).trips, ∀ a, (k0_off6 v1 k0_t1) a + S1x1x512.size a ≤ S20x1x2048.size a) ∧
  ((k0_t2_loop v1).OK) ∧
  (∀ k0_t2 : Fin (k0_t2_loop v1).trips, ∀ a, (k0_off7 v1 k0_t2) a + S1x1x512.size a ≤ S20x1x2048.size a) ∧
  (∀ k0_t2 : Fin (k0_t2_loop v1).trips, ∀ a, (k0_off8 v1 k0_t2) a + S1x1x512.size a ≤ S20x1x2048.size a) ∧
  (∀ k0_t2 : Fin (k0_t2_loop v1).trips, ∀ a, (k0_off9 v1 k0_t2) a + S1x1x512.size a ≤ S20x1x2048.size a) ∧
  (∀ k0_t2 : Fin (k0_t2_loop v1).trips, ∀ a, (k0_off10 v1 k0_t2) a + S1x1x512.size a ≤ S20x1x2048.size a)
theorem k0_t1_ok : ∀ (v1 : BitVec 32) (k0_hw1 : k0_chk1 v1), (k0_t1_loop v1).OK := fun v1 k0_hw1 => k0_hw1.1
theorem k0_off3_inb : ∀ (v1 : BitVec 32) (k0_hw1 : k0_chk1 v1) (k0_t1 : Fin (k0_t1_loop v1).trips), ∀ a, (k0_off3 v1 k0_t1) a + S1x1x512.size a ≤ S20x1x2048.size a := fun v1 k0_hw1 k0_t1 => k0_hw1.2.1 k0_t1
theorem k0_off4_inb : ∀ (v1 : BitVec 32) (k0_hw1 : k0_chk1 v1) (k0_t1 : Fin (k0_t1_loop v1).trips), ∀ a, (k0_off4 v1 k0_t1) a + S1x1x512.size a ≤ S20x1x2048.size a := fun v1 k0_hw1 k0_t1 => k0_hw1.2.2.1 k0_t1
theorem k0_off5_inb : ∀ (v1 : BitVec 32) (k0_hw1 : k0_chk1 v1) (k0_t1 : Fin (k0_t1_loop v1).trips), ∀ a, (k0_off5 v1 k0_t1) a + S1x1x512.size a ≤ S20x1x2048.size a := fun v1 k0_hw1 k0_t1 => k0_hw1.2.2.2.1 k0_t1
theorem k0_off6_inb : ∀ (v1 : BitVec 32) (k0_hw1 : k0_chk1 v1) (k0_t1 : Fin (k0_t1_loop v1).trips), ∀ a, (k0_off6 v1 k0_t1) a + S1x1x512.size a ≤ S20x1x2048.size a := fun v1 k0_hw1 k0_t1 => k0_hw1.2.2.2.2.1 k0_t1
theorem k0_t2_ok : ∀ (v1 : BitVec 32) (k0_hw1 : k0_chk1 v1), (k0_t2_loop v1).OK := fun v1 k0_hw1 => k0_hw1.2.2.2.2.2.1
theorem k0_off7_inb : ∀ (v1 : BitVec 32) (k0_hw1 : k0_chk1 v1) (k0_t2 : Fin (k0_t2_loop v1).trips), ∀ a, (k0_off7 v1 k0_t2) a + S1x1x512.size a ≤ S20x1x2048.size a := fun v1 k0_hw1 k0_t2 => k0_hw1.2.2.2.2.2.2.1 k0_t2
theorem k0_off8_inb : ∀ (v1 : BitVec 32) (k0_hw1 : k0_chk1 v1) (k0_t2 : Fin (k0_t2_loop v1).trips), ∀ a, (k0_off8 v1 k0_t2) a + S1x1x512.size a ≤ S20x1x2048.size a := fun v1 k0_hw1 k0_t2 => k0_hw1.2.2.2.2.2.2.2.1 k0_t2
theorem k0_off9_inb : ∀ (v1 : BitVec 32) (k0_hw1 : k0_chk1 v1) (k0_t2 : Fin (k0_t2_loop v1).trips), ∀ a, (k0_off9 v1 k0_t2) a + S1x1x512.size a ≤ S20x1x2048.size a := fun v1 k0_hw1 k0_t2 => k0_hw1.2.2.2.2.2.2.2.2.1 k0_t2
theorem k0_off10_inb : ∀ (v1 : BitVec 32) (k0_hw1 : k0_chk1 v1) (k0_t2 : Fin (k0_t2_loop v1).trips), ∀ a, (k0_off10 v1 k0_t2) a + S1x1x512.size a ≤ S20x1x2048.size a := fun v1 k0_hw1 k0_t2 => k0_hw1.2.2.2.2.2.2.2.2.2 k0_t2

@[reducible] def k0_t3_loop (v3 : BitVec 32) : Scf.Loop 32 :=
  let c0_i32_36 : BitVec 32 := 0#32
  let v50 : BitVec 32 := Scalar.subi v3 c0_i32_36
  let c1_i32_37 : BitVec 32 := 1#32
  let v52 : BitVec 32 := Scalar.divsi v50 c1_i32_37
  let v53 : BitVec 32 := Scalar.muli v52 c1_i32_37
  let v54 : BitVec 32 := Scalar.addi c0_i32_36 v53
  let c1_i32_38 : BitVec 32 := 1#32
  ⟨c0_i32_36, v54, c1_i32_38⟩

def k0_off11 (v3 : BitVec 32) (k0_t3 : Fin (k0_t3_loop v3).trips) : Fin 3 → Nat :=
  let c0_i32_36 : BitVec 32 := 0#32
  let c1_i32_38 : BitVec 32 := 1#32
  let arg18 : BitVec 32 := Scf.iv c0_i32_36 c1_i32_38 k0_t3
  let v57 : Index := Scalar.indexCast arg18
  let c0_40 : Index := 0#32
  let c0_41 : Index := 0#32
  ![v57.toNat, 0, 0]
def k0_off12 (v3 : BitVec 32) (k0_t3 : Fin (k0_t3_loop v3).trips) : Fin 3 → Nat :=
  let c0_i32_36 : BitVec 32 := 0#32
  let c1_i32_38 : BitVec 32 := 1#32
  let arg18 : BitVec 32 := Scf.iv c0_i32_36 c1_i32_38 k0_t3
  let v93 : Index := Scalar.indexCast arg18
  let c0_50 : Index := 0#32
  let c512_51 : Index := 512#32
  ![v93.toNat, 0, 512]
def k0_off13 (v3 : BitVec 32) (k0_t3 : Fin (k0_t3_loop v3).trips) : Fin 3 → Nat :=
  let c0_i32_36 : BitVec 32 := 0#32
  let c1_i32_38 : BitVec 32 := 1#32
  let arg18 : BitVec 32 := Scf.iv c0_i32_36 c1_i32_38 k0_t3
  let v129 : Index := Scalar.indexCast arg18
  let c0_60 : Index := 0#32
  let c1024_61 : Index := 1024#32
  ![v129.toNat, 0, 1024]
def k0_off14 (v3 : BitVec 32) (k0_t3 : Fin (k0_t3_loop v3).trips) : Fin 3 → Nat :=
  let c0_i32_36 : BitVec 32 := 0#32
  let c1_i32_38 : BitVec 32 := 1#32
  let arg18 : BitVec 32 := Scf.iv c0_i32_36 c1_i32_38 k0_t3
  let v165 : Index := Scalar.indexCast arg18
  let c0_70 : Index := 0#32
  let c1536_71 : Index := 1536#32
  ![v165.toNat, 0, 1536]
def k0_off15 (v3 : BitVec 32) (k0_t3 : Fin (k0_t3_loop v3).trips) : Fin 3 → Nat :=
  let c0_i32_36 : BitVec 32 := 0#32
  let c1_i32_38 : BitVec 32 := 1#32
  let arg18 : BitVec 32 := Scf.iv c0_i32_36 c1_i32_38 k0_t3
  let v214 : Index := Scalar.indexCast arg18
  let c0_81 : Index := 0#32
  let c0_82 : Index := 0#32
  ![v214.toNat, 0, 0]
def k0_off16 (v3 : BitVec 32) (k0_t3 : Fin (k0_t3_loop v3).trips) : Fin 3 → Nat :=
  let c0_i32_36 : BitVec 32 := 0#32
  let c1_i32_38 : BitVec 32 := 1#32
  let arg18 : BitVec 32 := Scf.iv c0_i32_36 c1_i32_38 k0_t3
  let v221 : Index := Scalar.indexCast arg18
  let c0_84 : Index := 0#32
  let c512_85 : Index := 512#32
  ![v221.toNat, 0, 512]
def k0_off17 (v3 : BitVec 32) (k0_t3 : Fin (k0_t3_loop v3).trips) : Fin 3 → Nat :=
  let c0_i32_36 : BitVec 32 := 0#32
  let c1_i32_38 : BitVec 32 := 1#32
  let arg18 : BitVec 32 := Scf.iv c0_i32_36 c1_i32_38 k0_t3
  let v228 : Index := Scalar.indexCast arg18
  let c0_87 : Index := 0#32
  let c1024_88 : Index := 1024#32
  ![v228.toNat, 0, 1024]
def k0_off18 (v3 : BitVec 32) (k0_t3 : Fin (k0_t3_loop v3).trips) : Fin 3 → Nat :=
  let c0_i32_36 : BitVec 32 := 0#32
  let c1_i32_38 : BitVec 32 := 1#32
  let arg18 : BitVec 32 := Scf.iv c0_i32_36 c1_i32_38 k0_t3
  let v235 : Index := Scalar.indexCast arg18
  let c0_90 : Index := 0#32
  let c1536_91 : Index := 1536#32
  ![v235.toNat, 0, 1536]
@[reducible] def k0_t4_loop (v3 : BitVec 32) : Scf.Loop 32 :=
  let c0_i32_36 : BitVec 32 := 0#32
  let v50 : BitVec 32 := Scalar.subi v3 c0_i32_36
  let c1_i32_37 : BitVec 32 := 1#32
  let v52 : BitVec 32 := Scalar.divsi v50 c1_i32_37
  let v53 : BitVec 32 := Scalar.muli v52 c1_i32_37
  let v54 : BitVec 32 := Scalar.addi c0_i32_36 v53
  let v51 : BitVec 32 := Scalar.addi c0_i32_36 v50
  let c1_i32_39 : BitVec 32 := 1#32
  ⟨v54, v51, c1_i32_39⟩
def k0_off19 (v3 : BitVec 32) (k0_t4 : Fin (k0_t4_loop v3).trips) : Fin 3 → Nat :=
  let c0_i32_36 : BitVec 32 := 0#32
  let v50 : BitVec 32 := Scalar.subi v3 c0_i32_36
  let c1_i32_37 : BitVec 32 := 1#32
  let v52 : BitVec 32 := Scalar.divsi v50 c1_i32_37
  let v53 : BitVec 32 := Scalar.muli v52 c1_i32_37
  let v54 : BitVec 32 := Scalar.addi c0_i32_36 v53
  let c1_i32_39 : BitVec 32 := 1#32
  let arg18 : BitVec 32 := Scf.iv v54 c1_i32_39 k0_t4
  let v57 : Index := Scalar.indexCast arg18
  let c0_40 : Index := 0#32
  let c0_41 : Index := 0#32
  ![v57.toNat, 0, 0]
def k0_off20 (v3 : BitVec 32) (k0_t4 : Fin (k0_t4_loop v3).trips) : Fin 3 → Nat :=
  let c0_i32_36 : BitVec 32 := 0#32
  let v50 : BitVec 32 := Scalar.subi v3 c0_i32_36
  let c1_i32_37 : BitVec 32 := 1#32
  let v52 : BitVec 32 := Scalar.divsi v50 c1_i32_37
  let v53 : BitVec 32 := Scalar.muli v52 c1_i32_37
  let v54 : BitVec 32 := Scalar.addi c0_i32_36 v53
  let c1_i32_39 : BitVec 32 := 1#32
  let arg18 : BitVec 32 := Scf.iv v54 c1_i32_39 k0_t4
  let v93 : Index := Scalar.indexCast arg18
  let c0_50 : Index := 0#32
  let c512_51 : Index := 512#32
  ![v93.toNat, 0, 512]
def k0_off21 (v3 : BitVec 32) (k0_t4 : Fin (k0_t4_loop v3).trips) : Fin 3 → Nat :=
  let c0_i32_36 : BitVec 32 := 0#32
  let v50 : BitVec 32 := Scalar.subi v3 c0_i32_36
  let c1_i32_37 : BitVec 32 := 1#32
  let v52 : BitVec 32 := Scalar.divsi v50 c1_i32_37
  let v53 : BitVec 32 := Scalar.muli v52 c1_i32_37
  let v54 : BitVec 32 := Scalar.addi c0_i32_36 v53
  let c1_i32_39 : BitVec 32 := 1#32
  let arg18 : BitVec 32 := Scf.iv v54 c1_i32_39 k0_t4
  let v129 : Index := Scalar.indexCast arg18
  let c0_60 : Index := 0#32
  let c1024_61 : Index := 1024#32
  ![v129.toNat, 0, 1024]
def k0_off22 (v3 : BitVec 32) (k0_t4 : Fin (k0_t4_loop v3).trips) : Fin 3 → Nat :=
  let c0_i32_36 : BitVec 32 := 0#32
  let v50 : BitVec 32 := Scalar.subi v3 c0_i32_36
  let c1_i32_37 : BitVec 32 := 1#32
  let v52 : BitVec 32 := Scalar.divsi v50 c1_i32_37
  let v53 : BitVec 32 := Scalar.muli v52 c1_i32_37
  let v54 : BitVec 32 := Scalar.addi c0_i32_36 v53
  let c1_i32_39 : BitVec 32 := 1#32
  let arg18 : BitVec 32 := Scf.iv v54 c1_i32_39 k0_t4
  let v165 : Index := Scalar.indexCast arg18
  let c0_70 : Index := 0#32
  let c1536_71 : Index := 1536#32
  ![v165.toNat, 0, 1536]
def k0_off23 (v3 : BitVec 32) (k0_t4 : Fin (k0_t4_loop v3).trips) : Fin 3 → Nat :=
  let c0_i32_36 : BitVec 32 := 0#32
  let v50 : BitVec 32 := Scalar.subi v3 c0_i32_36
  let c1_i32_37 : BitVec 32 := 1#32
  let v52 : BitVec 32 := Scalar.divsi v50 c1_i32_37
  let v53 : BitVec 32 := Scalar.muli v52 c1_i32_37
  let v54 : BitVec 32 := Scalar.addi c0_i32_36 v53
  let c1_i32_39 : BitVec 32 := 1#32
  let arg18 : BitVec 32 := Scf.iv v54 c1_i32_39 k0_t4
  let v214 : Index := Scalar.indexCast arg18
  let c0_81 : Index := 0#32
  let c0_82 : Index := 0#32
  ![v214.toNat, 0, 0]
def k0_off24 (v3 : BitVec 32) (k0_t4 : Fin (k0_t4_loop v3).trips) : Fin 3 → Nat :=
  let c0_i32_36 : BitVec 32 := 0#32
  let v50 : BitVec 32 := Scalar.subi v3 c0_i32_36
  let c1_i32_37 : BitVec 32 := 1#32
  let v52 : BitVec 32 := Scalar.divsi v50 c1_i32_37
  let v53 : BitVec 32 := Scalar.muli v52 c1_i32_37
  let v54 : BitVec 32 := Scalar.addi c0_i32_36 v53
  let c1_i32_39 : BitVec 32 := 1#32
  let arg18 : BitVec 32 := Scf.iv v54 c1_i32_39 k0_t4
  let v221 : Index := Scalar.indexCast arg18
  let c0_84 : Index := 0#32
  let c512_85 : Index := 512#32
  ![v221.toNat, 0, 512]
def k0_off25 (v3 : BitVec 32) (k0_t4 : Fin (k0_t4_loop v3).trips) : Fin 3 → Nat :=
  let c0_i32_36 : BitVec 32 := 0#32
  let v50 : BitVec 32 := Scalar.subi v3 c0_i32_36
  let c1_i32_37 : BitVec 32 := 1#32
  let v52 : BitVec 32 := Scalar.divsi v50 c1_i32_37
  let v53 : BitVec 32 := Scalar.muli v52 c1_i32_37
  let v54 : BitVec 32 := Scalar.addi c0_i32_36 v53
  let c1_i32_39 : BitVec 32 := 1#32
  let arg18 : BitVec 32 := Scf.iv v54 c1_i32_39 k0_t4
  let v228 : Index := Scalar.indexCast arg18
  let c0_87 : Index := 0#32
  let c1024_88 : Index := 1024#32
  ![v228.toNat, 0, 1024]
def k0_off26 (v3 : BitVec 32) (k0_t4 : Fin (k0_t4_loop v3).trips) : Fin 3 → Nat :=
  let c0_i32_36 : BitVec 32 := 0#32
  let v50 : BitVec 32 := Scalar.subi v3 c0_i32_36
  let c1_i32_37 : BitVec 32 := 1#32
  let v52 : BitVec 32 := Scalar.divsi v50 c1_i32_37
  let v53 : BitVec 32 := Scalar.muli v52 c1_i32_37
  let v54 : BitVec 32 := Scalar.addi c0_i32_36 v53
  let c1_i32_39 : BitVec 32 := 1#32
  let arg18 : BitVec 32 := Scf.iv v54 c1_i32_39 k0_t4
  let v235 : Index := Scalar.indexCast arg18
  let c0_90 : Index := 0#32
  let c1536_91 : Index := 1536#32
  ![v235.toNat, 0, 1536]

def k0_chk2 (v3 : BitVec 32) : Prop :=
  ((k0_t3_loop v3).OK) ∧
  (∀ k0_t3 : Fin (k0_t3_loop v3).trips, ∀ a, (k0_off11 v3 k0_t3) a + S1x1x512.size a ≤ S20x1x2048.size a) ∧
  (∀ k0_t3 : Fin (k0_t3_loop v3).trips, ∀ a, (k0_off12 v3 k0_t3) a + S1x1x512.size a ≤ S20x1x2048.size a) ∧
  (∀ k0_t3 : Fin (k0_t3_loop v3).trips, ∀ a, (k0_off13 v3 k0_t3) a + S1x1x512.size a ≤ S20x1x2048.size a) ∧
  (∀ k0_t3 : Fin (k0_t3_loop v3).trips, ∀ a, (k0_off14 v3 k0_t3) a + S1x1x512.size a ≤ S20x1x2048.size a) ∧
  (∀ k0_t3 : Fin (k0_t3_loop v3).trips, ∀ a, (k0_off15 v3 k0_t3) a + S1x64x512.size a ≤ S20x64x2048.size a) ∧
  (∀ k0_t3 : Fin (k0_t3_loop v3).trips, ∀ a, (k0_off16 v3 k0_t3) a + S1x64x512.size a ≤ S20x64x2048.size a) ∧
  (∀ k0_t3 : Fin (k0_t3_loop v3).trips, ∀ a, (k0_off17 v3 k0_t3) a + S1x64x512.size a ≤ S20x64x2048.size a) ∧
  (∀ k0_t3 : Fin (k0_t3_loop v3).trips, ∀ a, (k0_off18 v3 k0_t3) a + S1x64x512.size a ≤ S20x64x2048.size a) ∧
  ((k0_t4_loop v3).OK) ∧
  (∀ k0_t4 : Fin (k0_t4_loop v3).trips, ∀ a, (k0_off19 v3 k0_t4) a + S1x1x512.size a ≤ S20x1x2048.size a) ∧
  (∀ k0_t4 : Fin (k0_t4_loop v3).trips, ∀ a, (k0_off20 v3 k0_t4) a + S1x1x512.size a ≤ S20x1x2048.size a) ∧
  (∀ k0_t4 : Fin (k0_t4_loop v3).trips, ∀ a, (k0_off21 v3 k0_t4) a + S1x1x512.size a ≤ S20x1x2048.size a) ∧
  (∀ k0_t4 : Fin (k0_t4_loop v3).trips, ∀ a, (k0_off22 v3 k0_t4) a + S1x1x512.size a ≤ S20x1x2048.size a) ∧
  (∀ k0_t4 : Fin (k0_t4_loop v3).trips, ∀ a, (k0_off23 v3 k0_t4) a + S1x64x512.size a ≤ S20x64x2048.size a) ∧
  (∀ k0_t4 : Fin (k0_t4_loop v3).trips, ∀ a, (k0_off24 v3 k0_t4) a + S1x64x512.size a ≤ S20x64x2048.size a) ∧
  (∀ k0_t4 : Fin (k0_t4_loop v3).trips, ∀ a, (k0_off25 v3 k0_t4) a + S1x64x512.size a ≤ S20x64x2048.size a) ∧
  (∀ k0_t4 : Fin (k0_t4_loop v3).trips, ∀ a, (k0_off26 v3 k0_t4) a + S1x64x512.size a ≤ S20x64x2048.size a)
theorem k0_t3_ok : ∀ (v3 : BitVec 32) (k0_hw2 : k0_chk2 v3), (k0_t3_loop v3).OK := fun v3 k0_hw2 => k0_hw2.1
theorem k0_off11_inb : ∀ (v3 : BitVec 32) (k0_hw2 : k0_chk2 v3) (k0_t3 : Fin (k0_t3_loop v3).trips), ∀ a, (k0_off11 v3 k0_t3) a + S1x1x512.size a ≤ S20x1x2048.size a := fun v3 k0_hw2 k0_t3 => k0_hw2.2.1 k0_t3
theorem k0_off12_inb : ∀ (v3 : BitVec 32) (k0_hw2 : k0_chk2 v3) (k0_t3 : Fin (k0_t3_loop v3).trips), ∀ a, (k0_off12 v3 k0_t3) a + S1x1x512.size a ≤ S20x1x2048.size a := fun v3 k0_hw2 k0_t3 => k0_hw2.2.2.1 k0_t3
theorem k0_off13_inb : ∀ (v3 : BitVec 32) (k0_hw2 : k0_chk2 v3) (k0_t3 : Fin (k0_t3_loop v3).trips), ∀ a, (k0_off13 v3 k0_t3) a + S1x1x512.size a ≤ S20x1x2048.size a := fun v3 k0_hw2 k0_t3 => k0_hw2.2.2.2.1 k0_t3
theorem k0_off14_inb : ∀ (v3 : BitVec 32) (k0_hw2 : k0_chk2 v3) (k0_t3 : Fin (k0_t3_loop v3).trips), ∀ a, (k0_off14 v3 k0_t3) a + S1x1x512.size a ≤ S20x1x2048.size a := fun v3 k0_hw2 k0_t3 => k0_hw2.2.2.2.2.1 k0_t3
theorem k0_off15_inb : ∀ (v3 : BitVec 32) (k0_hw2 : k0_chk2 v3) (k0_t3 : Fin (k0_t3_loop v3).trips), ∀ a, (k0_off15 v3 k0_t3) a + S1x64x512.size a ≤ S20x64x2048.size a := fun v3 k0_hw2 k0_t3 => k0_hw2.2.2.2.2.2.1 k0_t3
theorem k0_off16_inb : ∀ (v3 : BitVec 32) (k0_hw2 : k0_chk2 v3) (k0_t3 : Fin (k0_t3_loop v3).trips), ∀ a, (k0_off16 v3 k0_t3) a + S1x64x512.size a ≤ S20x64x2048.size a := fun v3 k0_hw2 k0_t3 => k0_hw2.2.2.2.2.2.2.1 k0_t3
theorem k0_off17_inb : ∀ (v3 : BitVec 32) (k0_hw2 : k0_chk2 v3) (k0_t3 : Fin (k0_t3_loop v3).trips), ∀ a, (k0_off17 v3 k0_t3) a + S1x64x512.size a ≤ S20x64x2048.size a := fun v3 k0_hw2 k0_t3 => k0_hw2.2.2.2.2.2.2.2.1 k0_t3
theorem k0_off18_inb : ∀ (v3 : BitVec 32) (k0_hw2 : k0_chk2 v3) (k0_t3 : Fin (k0_t3_loop v3).trips), ∀ a, (k0_off18 v3 k0_t3) a + S1x64x512.size a ≤ S20x64x2048.size a := fun v3 k0_hw2 k0_t3 => k0_hw2.2.2.2.2.2.2.2.2.1 k0_t3
theorem k0_t4_ok : ∀ (v3 : BitVec 32) (k0_hw2 : k0_chk2 v3), (k0_t4_loop v3).OK := fun v3 k0_hw2 => k0_hw2.2.2.2.2.2.2.2.2.2.1
theorem k0_off19_inb : ∀ (v3 : BitVec 32) (k0_hw2 : k0_chk2 v3) (k0_t4 : Fin (k0_t4_loop v3).trips), ∀ a, (k0_off19 v3 k0_t4) a + S1x1x512.size a ≤ S20x1x2048.size a := fun v3 k0_hw2 k0_t4 => k0_hw2.2.2.2.2.2.2.2.2.2.2.1 k0_t4
theorem k0_off20_inb : ∀ (v3 : BitVec 32) (k0_hw2 : k0_chk2 v3) (k0_t4 : Fin (k0_t4_loop v3).trips), ∀ a, (k0_off20 v3 k0_t4) a + S1x1x512.size a ≤ S20x1x2048.size a := fun v3 k0_hw2 k0_t4 => k0_hw2.2.2.2.2.2.2.2.2.2.2.2.1 k0_t4
theorem k0_off21_inb : ∀ (v3 : BitVec 32) (k0_hw2 : k0_chk2 v3) (k0_t4 : Fin (k0_t4_loop v3).trips), ∀ a, (k0_off21 v3 k0_t4) a + S1x1x512.size a ≤ S20x1x2048.size a := fun v3 k0_hw2 k0_t4 => k0_hw2.2.2.2.2.2.2.2.2.2.2.2.2.1 k0_t4
theorem k0_off22_inb : ∀ (v3 : BitVec 32) (k0_hw2 : k0_chk2 v3) (k0_t4 : Fin (k0_t4_loop v3).trips), ∀ a, (k0_off22 v3 k0_t4) a + S1x1x512.size a ≤ S20x1x2048.size a := fun v3 k0_hw2 k0_t4 => k0_hw2.2.2.2.2.2.2.2.2.2.2.2.2.2.1 k0_t4
theorem k0_off23_inb : ∀ (v3 : BitVec 32) (k0_hw2 : k0_chk2 v3) (k0_t4 : Fin (k0_t4_loop v3).trips), ∀ a, (k0_off23 v3 k0_t4) a + S1x64x512.size a ≤ S20x64x2048.size a := fun v3 k0_hw2 k0_t4 => k0_hw2.2.2.2.2.2.2.2.2.2.2.2.2.2.2.1 k0_t4
theorem k0_off24_inb : ∀ (v3 : BitVec 32) (k0_hw2 : k0_chk2 v3) (k0_t4 : Fin (k0_t4_loop v3).trips), ∀ a, (k0_off24 v3 k0_t4) a + S1x64x512.size a ≤ S20x64x2048.size a := fun v3 k0_hw2 k0_t4 => k0_hw2.2.2.2.2.2.2.2.2.2.2.2.2.2.2.2.1 k0_t4
theorem k0_off25_inb : ∀ (v3 : BitVec 32) (k0_hw2 : k0_chk2 v3) (k0_t4 : Fin (k0_t4_loop v3).trips), ∀ a, (k0_off25 v3 k0_t4) a + S1x64x512.size a ≤ S20x64x2048.size a := fun v3 k0_hw2 k0_t4 => k0_hw2.2.2.2.2.2.2.2.2.2.2.2.2.2.2.2.2.1 k0_t4
theorem k0_off26_inb : ∀ (v3 : BitVec 32) (k0_hw2 : k0_chk2 v3) (k0_t4 : Fin (k0_t4_loop v3).trips), ∀ a, (k0_off26 v3 k0_t4) a + S1x64x512.size a ≤ S20x64x2048.size a := fun v3 k0_hw2 k0_t4 => k0_hw2.2.2.2.2.2.2.2.2.2.2.2.2.2.2.2.2.2 k0_t4

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S20x1x2048 .i16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20x1x2048 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S192x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S192x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S192x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S192x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S192x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S192x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S20x64x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S16384x20 : Shape := ⟨2, ![16384, 20]⟩
abbrev S16384x1 : Shape := ⟨2, ![16384, 1]⟩
abbrev S512x64 : Shape := ⟨2, ![512, 64]⟩
abbrev S192x64 : Shape := ⟨2, ![192, 64]⟩
abbrev S192 : Shape := ⟨1, ![192]⟩
abbrev S16384 : Shape := ⟨1, ![16384]⟩
abbrev S_ : Shape := ⟨0, ![]⟩
abbrev S1 : Shape := ⟨1, ![1]⟩
abbrev S1x1 : Shape := ⟨2, ![1, 1]⟩
abbrev S16384x20x1 : Shape := ⟨3, ![16384, 20, 1]⟩
abbrev S1x1x1 : Shape := ⟨3, ![1, 1, 1]⟩
abbrev S16384x20x64 : Shape := ⟨3, ![16384, 20, 64]⟩
abbrev S16384x64 : Shape := ⟨2, ![16384, 64]⟩
abbrev S20x16384x64 : Shape := ⟨3, ![20, 16384, 64]⟩
abbrev S20 : Shape := ⟨1, ![20]⟩
abbrev S1x16384x64 : Shape := ⟨3, ![1, 16384, 64]⟩
abbrev S64x192 : Shape := ⟨2, ![64, 192]⟩
abbrev S16384x192 : Shape := ⟨2, ![16384, 192]⟩
abbrev S1x192 : Shape := ⟨2, ![1, 192]⟩

abbrev nBuf : Space → Nat
  | .hbm => 327
  | .vmem => 0
  | .smem => 0
  | _ => 0

abbrev hbmTy0_0 (i : Nat) : BufTy := match i % 128 with
  | 0 => ⟨S16384x20, .i32⟩
  | 1 => ⟨S16384x20, .i32⟩
  | 2 => ⟨S16384x20, .f32⟩
  | 3 => ⟨S16384x20, .f32⟩
  | 4 => ⟨S16384x1, .i32⟩
  | 5 => ⟨S16384x1, .i32⟩
  | 6 => ⟨S512x64, .f32⟩
  | 7 => ⟨S192x64, .f32⟩
  | 8 => ⟨S192x64, .f32⟩
  | 9 => ⟨S192, .f32⟩
  | 10 => ⟨S192, .f32⟩
  | 11 => ⟨S192x64, .f32⟩
  | 12 => ⟨S192x64, .f32⟩
  | 13 => ⟨S192, .f32⟩
  | 14 => ⟨S192, .f32⟩
  | 15 => ⟨S16384, .i32⟩
  | 16 => ⟨S16384, .i32⟩
  | 17 => ⟨S16384, .i32⟩
  | 18 => ⟨S16384, .i32⟩
  | 19 => ⟨S16384, .i32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S16384x1, .i32⟩
  | 28 => ⟨S1, .i32⟩
  | 29 => ⟨S_, .i32⟩
  | 30 => ⟨S16384x1, .i32⟩
  | 31 => ⟨S16384x1, .i1⟩
  | 32 => ⟨S1x1, .i32⟩
  | 33 => ⟨S16384x1, .i32⟩
  | 34 => ⟨S16384x1, .i1⟩
  | 35 => ⟨S16384x1, .i1⟩
  | 36 => ⟨S_, .i1⟩
  | 37 => ⟨S16384, .i1⟩
  | 38 => ⟨S16384x20, .i32⟩
  | 39 => ⟨S16384x20, .i1⟩
  | 40 => ⟨S_, .i32⟩
  | 41 => ⟨S16384x20, .i32⟩
  | 42 => ⟨S16384x20, .i32⟩
  | 43 => ⟨S_, .i32⟩
  | 44 => ⟨S16384, .i32⟩
  | 45 => ⟨S16384, .i1⟩
  | 46 => ⟨S_, .i32⟩
  | 47 => ⟨S16384, .i32⟩
  | 48 => ⟨S16384, .i32⟩
  | 49 => ⟨S16384, .i32⟩
  | 50 => ⟨S16384x1, .i32⟩
  | 51 => ⟨S1, .i32⟩
  | 52 => ⟨S_, .i32⟩
  | 53 => ⟨S16384x1, .i32⟩
  | 54 => ⟨S16384x1, .i1⟩
  | 55 => ⟨S1x1, .i32⟩
  | 56 => ⟨S16384x1, .i32⟩
  | 57 => ⟨S16384x1, .i1⟩
  | 58 => ⟨S16384x1, .i1⟩
  | 59 => ⟨S_, .i1⟩
  | 60 => ⟨S16384, .i1⟩
  | 61 => ⟨S16384, .i32⟩
  | 62 => ⟨S_, .i32⟩
  | 63 => ⟨S16384, .i32⟩
  | 64 => ⟨S16384, .i32⟩
  | 65 => ⟨S_, .i32⟩
  | 66 => ⟨S16384x20, .i32⟩
  | 67 => ⟨S16384x20, .i1⟩
  | 68 => ⟨S_, .i32⟩
  | 69 => ⟨S16384x20, .i32⟩
  | 70 => ⟨S16384x20, .i32⟩
  | 71 => ⟨S16384x20, .i32⟩
  | 72 => ⟨S16384x20x1, .i32⟩
  | 73 => ⟨S1, .i32⟩
  | 74 => ⟨S_, .i32⟩
  | 75 => ⟨S16384x20x1, .i32⟩
  | 76 => ⟨S16384x20x1, .i1⟩
  | 77 => ⟨S1x1x1, .i32⟩
  | 78 => ⟨S16384x20x1, .i32⟩
  | 79 => ⟨S16384x20x1, .i1⟩
  | 80 => ⟨S16384x20x1, .i1⟩
  | 81 => ⟨S_, .i1⟩
  | 82 => ⟨S16384x20, .i1⟩
  | 83 => ⟨S16384x20x64, .f32⟩
  | 84 => ⟨S16384x20x64, .i1⟩
  | 85 => ⟨S_, .f32⟩
  | 86 => ⟨S16384x20x64, .f32⟩
  | 87 => ⟨S16384x20x64, .f32⟩
  | 88 => ⟨S_, .f32⟩
  | 89 => ⟨S16384x64, .f32⟩
  | 90 => ⟨S20x16384x64, .f32⟩
  | 91 => ⟨S20, .i32⟩
  | 92 => ⟨S_, .f32⟩
  | 93 => ⟨S20x16384x64, .f32⟩
  | 94 => ⟨S_, .i32⟩
  | 95 => ⟨S20x16384x64, .f32⟩
  | 96 => ⟨S20, .i32⟩
  | 97 => ⟨S192x64, .f32⟩
  | 98 => ⟨S192, .f32⟩
  | 99 => ⟨S192x64, .f32⟩
  | 100 => ⟨S192, .f32⟩
  | 101 => ⟨S16384, .i32⟩
  | 102 => ⟨S_, .i32⟩
  | 103 => ⟨S16384x64, .f32⟩
  | 104 => ⟨S20x16384x64, .f32⟩
  | 105 => ⟨S_, .i32⟩
  | 106 => ⟨S_, .i1⟩
  | 107 => ⟨S_, .i32⟩
  | 108 => ⟨S_, .i32⟩
  | 109 => ⟨S1x16384x64, .f32⟩
  | 110 => ⟨S16384x64, .f32⟩
  | 111 => ⟨S1, .i32⟩
  | 112 => ⟨S_, .i32⟩
  | 113 => ⟨S64x192, .f32⟩
  | 114 => ⟨S16384x192, .f32⟩
  | 115 => ⟨S1x192, .f32⟩
  | 116 => ⟨S16384x192, .f32⟩
  | 117 => ⟨S16384x192, .f32⟩
  | 118 => ⟨S64x192, .f32⟩
  | 119 => ⟨S16384x192, .f32⟩
  | 120 => ⟨S1x192, .f32⟩
  | 121 => ⟨S16384x192, .f32⟩
  | 122 => ⟨S16384x192, .f32⟩
  | 123 => ⟨S16384x64, .f32⟩
  | 124 => ⟨S16384x64, .f32⟩
  | 125 => ⟨S16384x64, .f32⟩
  | 126 => ⟨S16384x64, .f32⟩
  | 127 => ⟨S16384x64, .f32⟩
  | _ => ⟨S16384x20, .i32⟩

abbrev hbmTy0_1 (i : Nat) : BufTy := match i % 128 with
  | 0 => ⟨S16384x64, .f32⟩
  | 1 => ⟨S16384x64, .f32⟩
  | 2 => ⟨S16384x64, .f32⟩
  | 3 => ⟨S16384x64, .f32⟩
  | 4 => ⟨S_, .f32⟩
  | 5 => ⟨S16384x64, .f32⟩
  | 6 => ⟨S16384x64, .f32⟩
  | 7 => ⟨S_, .f32⟩
  | 8 => ⟨S16384x64, .f32⟩
  | 9 => ⟨S16384x64, .f32⟩
  | 10 => ⟨S16384x64, .f32⟩
  | 11 => ⟨S16384x64, .f32⟩
  | 12 => ⟨S16384x64, .f32⟩
  | 13 => ⟨S_, .f32⟩
  | 14 => ⟨S16384x64, .f32⟩
  | 15 => ⟨S16384x64, .f32⟩
  | 16 => ⟨S_, .f32⟩
  | 17 => ⟨S16384x64, .f32⟩
  | 18 => ⟨S16384x64, .f32⟩
  | 19 => ⟨S16384x64, .f32⟩
  | 20 => ⟨S16384x64, .f32⟩
  | 21 => ⟨S16384x64, .f32⟩
  | 22 => ⟨S_, .f32⟩
  | 23 => ⟨S16384x64, .f32⟩
  | 24 => ⟨S16384x64, .f32⟩
  | 25 => ⟨S16384x64, .f32⟩
  | 26 => ⟨S16384x64, .f32⟩
  | 27 => ⟨S16384x64, .f32⟩
  | 28 => ⟨S16384, .i32⟩
  | 29 => ⟨S16384, .i1⟩
  | 30 => ⟨S16384x1, .i1⟩
  | 31 => ⟨S16384x64, .i1⟩
  | 32 => ⟨S16384x64, .f32⟩
  | 33 => ⟨S_, .f32⟩
  | 34 => ⟨S16384x64, .f32⟩
  | 35 => ⟨S16384x64, .i1⟩
  | 36 => ⟨S16384x64, .f32⟩
  | 37 => ⟨S1x16384x64, .f32⟩
  | 38 => ⟨S_, .i32⟩
  | 39 => ⟨S_, .i32⟩
  | 40 => ⟨S20x16384x64, .f32⟩
  | 41 => ⟨S_, .i32⟩
  | 42 => ⟨S_, .i32⟩
  | 43 => ⟨S16384x20x64, .f32⟩
  | 44 => ⟨S16384, .i32⟩
  | 45 => ⟨S16384, .i32⟩
  | 46 => ⟨S16384, .i32⟩
  | 47 => ⟨S16384, .i32⟩
  | 48 => ⟨S16384, .i32⟩
  | 49 => ⟨S_, .i32⟩
  | 50 => ⟨S16384, .i32⟩
  | 51 => ⟨S16384, .i1⟩
  | 52 => ⟨S_, .i32⟩
  | 53 => ⟨S16384, .i32⟩
  | 54 => ⟨S16384, .i32⟩
  | 55 => ⟨S16384, .i32⟩
  | 56 => ⟨S16384x1, .i32⟩
  | 57 => ⟨S1, .i32⟩
  | 58 => ⟨S_, .i32⟩
  | 59 => ⟨S16384x1, .i32⟩
  | 60 => ⟨S16384x1, .i1⟩
  | 61 => ⟨S1x1, .i32⟩
  | 62 => ⟨S16384x1, .i32⟩
  | 63 => ⟨S16384x1, .i1⟩
  | 64 => ⟨S16384x1, .i1⟩
  | 65 => ⟨S_, .i1⟩
  | 66 => ⟨S16384, .i1⟩
  | 67 => ⟨S16384x20, .i32⟩
  | 68 => ⟨S16384x20, .i1⟩
  | 69 => ⟨S_, .i32⟩
  | 70 => ⟨S16384x20, .i32⟩
  | 71 => ⟨S16384x20, .i32⟩
  | 72 => ⟨S_, .i32⟩
  | 73 => ⟨S16384, .i32⟩
  | 74 => ⟨S16384, .i1⟩
  | 75 => ⟨S_, .i32⟩
  | 76 => ⟨S16384, .i32⟩
  | 77 => ⟨S16384, .i32⟩
  | 78 => ⟨S16384, .i32⟩
  | 79 => ⟨S16384x1, .i32⟩
  | 80 => ⟨S1, .i32⟩
  | 81 => ⟨S_, .i32⟩
  | 82 => ⟨S16384x1, .i32⟩
  | 83 => ⟨S16384x1, .i1⟩
  | 84 => ⟨S1x1, .i32⟩
  | 85 => ⟨S16384x1, .i32⟩
  | 86 => ⟨S16384x1, .i1⟩
  | 87 => ⟨S16384x1, .i1⟩
  | 88 => ⟨S_, .i1⟩
  | 89 => ⟨S16384, .i1⟩
  | 90 => ⟨S16384, .i32⟩
  | 91 => ⟨S_, .i32⟩
  | 92 => ⟨S16384, .i32⟩
  | 93 => ⟨S16384, .i32⟩
  | 94 => ⟨S_, .i32⟩
  | 95 => ⟨S16384x20, .i32⟩
  | 96 => ⟨S16384x20, .i1⟩
  | 97 => ⟨S_, .i32⟩
  | 98 => ⟨S16384x20, .i32⟩
  | 99 => ⟨S16384x20, .i32⟩
  | 100 => ⟨S16384x20, .i32⟩
  | 101 => ⟨S16384x20x1, .i32⟩
  | 102 => ⟨S1, .i32⟩
  | 103 => ⟨S_, .i32⟩
  | 104 => ⟨S16384x20x1, .i32⟩
  | 105 => ⟨S16384x20x1, .i1⟩
  | 106 => ⟨S1x1x1, .i32⟩
  | 107 => ⟨S16384x20x1, .i32⟩
  | 108 => ⟨S16384x20x1, .i1⟩
  | 109 => ⟨S16384x20x1, .i1⟩
  | 110 => ⟨S_, .i1⟩
  | 111 => ⟨S16384x20, .i1⟩
  | 112 => ⟨S16384x20x64, .f32⟩
  | 113 => ⟨S16384x20x64, .i1⟩
  | 114 => ⟨S_, .f32⟩
  | 115 => ⟨S16384x20x64, .f32⟩
  | 116 => ⟨S16384x20x64, .f32⟩
  | 117 => ⟨S20x16384x64, .f32⟩
  | 118 => ⟨S20, .i32⟩
  | 119 => ⟨S_, .f32⟩
  | 120 => ⟨S20x16384x64, .f32⟩
  | 121 => ⟨S_, .i32⟩
  | 122 => ⟨S20x16384x64, .f32⟩
  | 123 => ⟨S20, .i32⟩
  | 124 => ⟨S192x64, .f32⟩
  | 125 => ⟨S192, .f32⟩
  | 126 => ⟨S192x64, .f32⟩
  | 127 => ⟨S192, .f32⟩
  | _ => ⟨S16384x20, .i32⟩

abbrev hbmTy0_2 (i : Nat) : BufTy := match i % 128 with
  | 0 => ⟨S16384, .i32⟩
  | 1 => ⟨S_, .i32⟩
  | 2 => ⟨S16384x64, .f32⟩
  | 3 => ⟨S20x16384x64, .f32⟩
  | 4 => ⟨S_, .i32⟩
  | 5 => ⟨S_, .i1⟩
  | 6 => ⟨S_, .i32⟩
  | 7 => ⟨S_, .i32⟩
  | 8 => ⟨S1x16384x64, .f32⟩
  | 9 => ⟨S16384x64, .f32⟩
  | 10 => ⟨S1, .i32⟩
  | 11 => ⟨S_, .i32⟩
  | 12 => ⟨S64x192, .f32⟩
  | 13 => ⟨S16384x192, .f32⟩
  | 14 => ⟨S1x192, .f32⟩
  | 15 => ⟨S16384x192, .f32⟩
  | 16 => ⟨S16384x192, .f32⟩
  | 17 => ⟨S64x192, .f32⟩
  | 18 => ⟨S16384x192, .f32⟩
  | 19 => ⟨S1x192, .f32⟩
  | 20 => ⟨S16384x192, .f32⟩
  | 21 => ⟨S16384x192, .f32⟩
  | 22 => ⟨S16384x64, .f32⟩
  | 23 => ⟨S16384x64, .f32⟩
  | 24 => ⟨S16384x64, .f32⟩
  | 25 => ⟨S16384x64, .f32⟩
  | 26 => ⟨S16384x64, .f32⟩
  | 27 => ⟨S16384x64, .f32⟩
  | 28 => ⟨S16384x64, .f32⟩
  | 29 => ⟨S16384x64, .f32⟩
  | 30 => ⟨S16384x64, .f32⟩
  | 31 => ⟨S_, .f32⟩
  | 32 => ⟨S16384x64, .f32⟩
  | 33 => ⟨S16384x64, .f32⟩
  | 34 => ⟨S_, .f32⟩
  | 35 => ⟨S16384x64, .f32⟩
  | 36 => ⟨S16384x64, .f32⟩
  | 37 => ⟨S16384x64, .f32⟩
  | 38 => ⟨S16384x64, .f32⟩
  | 39 => ⟨S16384x64, .f32⟩
  | 40 => ⟨S_, .f32⟩
  | 41 => ⟨S16384x64, .f32⟩
  | 42 => ⟨S16384x64, .f32⟩
  | 43 => ⟨S_, .f32⟩
  | 44 => ⟨S16384x64, .f32⟩
  | 45 => ⟨S16384x64, .f32⟩
  | 46 => ⟨S16384x64, .f32⟩
  | 47 => ⟨S16384x64, .f32⟩
  | 48 => ⟨S16384x64, .f32⟩
  | 49 => ⟨S_, .f32⟩
  | 50 => ⟨S16384x64, .f32⟩
  | 51 => ⟨S16384x64, .f32⟩
  | 52 => ⟨S16384x64, .f32⟩
  | 53 => ⟨S16384x64, .f32⟩
  | 54 => ⟨S16384x64, .f32⟩
  | 55 => ⟨S16384, .i32⟩
  | 56 => ⟨S16384, .i1⟩
  | 57 => ⟨S16384x1, .i1⟩
  | 58 => ⟨S16384x64, .i1⟩
  | 59 => ⟨S16384x64, .f32⟩
  | 60 => ⟨S_, .f32⟩
  | 61 => ⟨S16384x64, .f32⟩
  | 62 => ⟨S16384x64, .i1⟩
  | 63 => ⟨S16384x64, .f32⟩
  | 64 => ⟨S1x16384x64, .f32⟩
  | 65 => ⟨S_, .i32⟩
  | 66 => ⟨S_, .i32⟩
  | 67 => ⟨S20x16384x64, .f32⟩
  | 68 => ⟨S_, .i32⟩
  | 69 => ⟨S_, .i32⟩
  | 70 => ⟨S16384x20x64, .f32⟩
  | _ => ⟨S16384x20, .i32⟩

abbrev hbmTy (i : Nat) : BufTy := match i / 128 with
  | 0 => hbmTy0_0 i
  | 1 => hbmTy0_1 i
  | 2 => hbmTy0_2 i
  | _ => ⟨S16384x20, .i32⟩

abbrev bufTy : (tb : Table) → Fin (tcTables nBuf tb) → BufTy
  | .hbm, ⟨i, _⟩ => hbmTy i
  | _, _ => ⟨S16384x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_call0_v0 : Ref sig .tc := ⟨.hbm, 17, rfl⟩
abbrev main_call0_v1_0 : Ref sig .tc := ⟨.hbm, 18, rfl⟩
abbrev main_v2 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_v14 : Ref sig .tc := ⟨.hbm, 39, rfl⟩
abbrev main_call1_c_4 : Ref sig .tc := ⟨.hbm, 40, rfl⟩
abbrev main_call1_v15 : Ref sig .tc := ⟨.hbm, 41, rfl⟩
abbrev main_v3 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_c_4 : Ref sig .tc := ⟨.hbm, 62, rfl⟩
abbrev main_call2_v14 : Ref sig .tc := ⟨.hbm, 63, rfl⟩
abbrev main_v4 : Ref sig .tc := ⟨.hbm, 64, rfl⟩
abbrev main_call3_c : Ref sig .tc := ⟨.hbm, 65, rfl⟩
abbrev main_call3_v0 : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_c_1 : Ref sig .tc := ⟨.hbm, 73, rfl⟩
abbrev main_call3_c_2 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_c_3 : Ref sig .tc := ⟨.hbm, 81, rfl⟩
abbrev main_call3_v12 : Ref sig .tc := ⟨.hbm, 82, rfl⟩
abbrev main_call3_v13 : Ref sig .tc := ⟨.hbm, 83, rfl⟩
abbrev main_call3_v14 : Ref sig .tc := ⟨.hbm, 84, rfl⟩
abbrev main_call3_cst : Ref sig .tc := ⟨.hbm, 85, rfl⟩
abbrev main_call3_v15 : Ref sig .tc := ⟨.hbm, 86, rfl⟩
abbrev main_v5 : Ref sig .tc := ⟨.hbm, 87, rfl⟩
abbrev main_cst : Ref sig .tc := ⟨.hbm, 88, rfl⟩
abbrev main_v6 : Ref sig .tc := ⟨.hbm, 89, rfl⟩
abbrev main_v7 : Ref sig .tc := ⟨.hbm, 90, rfl⟩
abbrev main_v8 : Ref sig .tc := ⟨.hbm, 91, rfl⟩
abbrev main_cst_0 : Ref sig .tc := ⟨.hbm, 92, rfl⟩
abbrev main_v9 : Ref sig .tc := ⟨.hbm, 93, rfl⟩
abbrev main_c : Ref sig .tc := ⟨.hbm, 94, rfl⟩
abbrev main_v10_0 : Ref sig .tc := ⟨.hbm, 95, rfl⟩
abbrev main_v10_1 : Ref sig .tc := ⟨.hbm, 96, rfl⟩
abbrev main_v10_2 : Ref sig .tc := ⟨.hbm, 97, rfl⟩
abbrev main_v10_3 : Ref sig .tc := ⟨.hbm, 98, rfl⟩
abbrev main_v10_4 : Ref sig .tc := ⟨.hbm, 99, rfl⟩
abbrev main_v10_5 : Ref sig .tc := ⟨.hbm, 100, rfl⟩
abbrev main_v10_6 : Ref sig .tc := ⟨.hbm, 101, rfl⟩
abbrev main_v10_7 : Ref sig .tc := ⟨.hbm, 102, rfl⟩
abbrev main_v10_8 : Ref sig .tc := ⟨.hbm, 103, rfl⟩
abbrev main_v10_9 : Ref sig .tc := ⟨.hbm, 104, rfl⟩
abbrev main_while0c_c_12 : Ref sig .tc := ⟨.hbm, 105, rfl⟩
abbrev main_while0c_v23 : Ref sig .tc := ⟨.hbm, 106, rfl⟩
abbrev main_while0b_call4_c : Ref sig .tc := ⟨.hbm, 107, rfl⟩
abbrev main_while0b_call4_c_0 : Ref sig .tc := ⟨.hbm, 108, rfl⟩
abbrev main_while0b_call4_v0 : Ref sig .tc := ⟨.hbm, 109, rfl⟩
abbrev main_while0b_v23 : Ref sig .tc := ⟨.hbm, 110, rfl⟩
abbrev main_while0b_call5_v0 : Ref sig .tc := ⟨.hbm, 111, rfl⟩
abbrev main_while0b_v24 : Ref sig .tc := ⟨.hbm, 112, rfl⟩
abbrev main_while0b_v25 : Ref sig .tc := ⟨.hbm, 113, rfl⟩
abbrev main_while0b_v26 : Ref sig .tc := ⟨.hbm, 114, rfl⟩
abbrev main_while0b_v27 : Ref sig .tc := ⟨.hbm, 115, rfl⟩
abbrev main_while0b_v28 : Ref sig .tc := ⟨.hbm, 116, rfl⟩
abbrev main_while0b_v29 : Ref sig .tc := ⟨.hbm, 117, rfl⟩
abbrev main_while0b_v30 : Ref sig .tc := ⟨.hbm, 118, rfl⟩
abbrev main_while0b_v31 : Ref sig .tc := ⟨.hbm, 119, rfl⟩
abbrev main_while0b_v32 : Ref sig .tc := ⟨.hbm, 120, rfl⟩
abbrev main_while0b_v33 : Ref sig .tc := ⟨.hbm, 121, rfl⟩
abbrev main_while0b_v34 : Ref sig .tc := ⟨.hbm, 122, rfl⟩
abbrev main_while0b_v35 : Ref sig .tc := ⟨.hbm, 123, rfl⟩
abbrev main_while0b_v36 : Ref sig .tc := ⟨.hbm, 124, rfl⟩
abbrev main_while0b_v37 : Ref sig .tc := ⟨.hbm, 125, rfl⟩
abbrev main_while0b_v38 : Ref sig .tc := ⟨.hbm, 126, rfl⟩
abbrev main_while0b_v39 : Ref sig .tc := ⟨.hbm, 127, rfl⟩
abbrev main_while0b_v40 : Ref sig .tc := ⟨.hbm, 128, rfl⟩
abbrev main_while0b_v41 : Ref sig .tc := ⟨.hbm, 129, rfl⟩
abbrev main_while0b_v42 : Ref sig .tc := ⟨.hbm, 130, rfl⟩
abbrev main_while0b_v43 : Ref sig .tc := ⟨.hbm, 131, rfl⟩
abbrev main_while0b_cst_12 : Ref sig .tc := ⟨.hbm, 132, rfl⟩
abbrev main_while0b_v44 : Ref sig .tc := ⟨.hbm, 133, rfl⟩
abbrev main_while0b_v45 : Ref sig .tc := ⟨.hbm, 134, rfl⟩
abbrev main_while0b_cst_13 : Ref sig .tc := ⟨.hbm, 135, rfl⟩
abbrev main_while0b_v46 : Ref sig .tc := ⟨.hbm, 136, rfl⟩
abbrev main_while0b_v47 : Ref sig .tc := ⟨.hbm, 137, rfl⟩
abbrev main_while0b_v48 : Ref sig .tc := ⟨.hbm, 138, rfl⟩
abbrev main_while0b_v49 : Ref sig .tc := ⟨.hbm, 139, rfl⟩
abbrev main_while0b_v50 : Ref sig .tc := ⟨.hbm, 140, rfl⟩
abbrev main_while0b_cst_14 : Ref sig .tc := ⟨.hbm, 141, rfl⟩
abbrev main_while0b_v51 : Ref sig .tc := ⟨.hbm, 142, rfl⟩
abbrev main_while0b_v52 : Ref sig .tc := ⟨.hbm, 143, rfl⟩
abbrev main_while0b_cst_15 : Ref sig .tc := ⟨.hbm, 144, rfl⟩
abbrev main_while0b_v53 : Ref sig .tc := ⟨.hbm, 145, rfl⟩
abbrev main_while0b_v54 : Ref sig .tc := ⟨.hbm, 146, rfl⟩
abbrev main_while0b_v55 : Ref sig .tc := ⟨.hbm, 147, rfl⟩
abbrev main_while0b_v56 : Ref sig .tc := ⟨.hbm, 148, rfl⟩
abbrev main_while0b_v57 : Ref sig .tc := ⟨.hbm, 149, rfl⟩
abbrev main_while0b_cst_16 : Ref sig .tc := ⟨.hbm, 150, rfl⟩
abbrev main_while0b_v58 : Ref sig .tc := ⟨.hbm, 151, rfl⟩
abbrev main_while0b_v59 : Ref sig .tc := ⟨.hbm, 152, rfl⟩
abbrev main_while0b_v60 : Ref sig .tc := ⟨.hbm, 153, rfl⟩
abbrev main_while0b_v61 : Ref sig .tc := ⟨.hbm, 154, rfl⟩
abbrev main_while0b_v62 : Ref sig .tc := ⟨.hbm, 155, rfl⟩
abbrev main_while0b_v63 : Ref sig .tc := ⟨.hbm, 156, rfl⟩
abbrev main_while0b_v64 : Ref sig .tc := ⟨.hbm, 157, rfl⟩
abbrev main_while0b_v65 : Ref sig .tc := ⟨.hbm, 158, rfl⟩
abbrev main_while0b_call6_v0 : Ref sig .tc := ⟨.hbm, 159, rfl⟩
abbrev main_while0b_v66 : Ref sig .tc := ⟨.hbm, 160, rfl⟩
abbrev main_while0b_cst_17 : Ref sig .tc := ⟨.hbm, 161, rfl⟩
abbrev main_while0b_v67 : Ref sig .tc := ⟨.hbm, 162, rfl⟩
abbrev main_while0b_call7_v0 : Ref sig .tc := ⟨.hbm, 163, rfl⟩
abbrev main_while0b_v68 : Ref sig .tc := ⟨.hbm, 164, rfl⟩
abbrev main_while0b_call8_v0 : Ref sig .tc := ⟨.hbm, 165, rfl⟩
abbrev main_while0b_call8_c : Ref sig .tc := ⟨.hbm, 166, rfl⟩
abbrev main_while0b_call8_c_0 : Ref sig .tc := ⟨.hbm, 167, rfl⟩
abbrev main_while0b_v69 : Ref sig .tc := ⟨.hbm, 168, rfl⟩
abbrev main_while0b_c_18 : Ref sig .tc := ⟨.hbm, 169, rfl⟩
abbrev main_while0b_v70 : Ref sig .tc := ⟨.hbm, 170, rfl⟩
abbrev main_v11 : Ref sig .tc := ⟨.hbm, 171, rfl⟩
abbrev main_v12 : Ref sig .tc := ⟨.hbm, 172, rfl⟩
abbrev main_v13 : Ref sig .tc := ⟨.hbm, 173, rfl⟩
abbrev main_call9_v0 : Ref sig .tc := ⟨.hbm, 174, rfl⟩
abbrev main_call9_v1_0 : Ref sig .tc := ⟨.hbm, 175, rfl⟩
abbrev main_v14 : Ref sig .tc := ⟨.hbm, 176, rfl⟩
abbrev main_call10_c : Ref sig .tc := ⟨.hbm, 177, rfl⟩
abbrev main_call10_v0 : Ref sig .tc := ⟨.hbm, 178, rfl⟩
abbrev main_call10_v1 : Ref sig .tc := ⟨.hbm, 179, rfl⟩
abbrev main_call10_c_0 : Ref sig .tc := ⟨.hbm, 180, rfl⟩
abbrev main_call10_v2 : Ref sig .tc := ⟨.hbm, 181, rfl⟩
abbrev main_call10_v3 : Ref sig .tc := ⟨.hbm, 182, rfl⟩
abbrev main_call10_v4 : Ref sig .tc := ⟨.hbm, 183, rfl⟩
abbrev main_call10_v5 : Ref sig .tc := ⟨.hbm, 184, rfl⟩
abbrev main_call10_c_1 : Ref sig .tc := ⟨.hbm, 185, rfl⟩
abbrev main_call10_c_2 : Ref sig .tc := ⟨.hbm, 186, rfl⟩
abbrev main_call10_v6 : Ref sig .tc := ⟨.hbm, 187, rfl⟩
abbrev main_call10_v7 : Ref sig .tc := ⟨.hbm, 188, rfl⟩
abbrev main_call10_v8 : Ref sig .tc := ⟨.hbm, 189, rfl⟩
abbrev main_call10_v9 : Ref sig .tc := ⟨.hbm, 190, rfl⟩
abbrev main_call10_v10 : Ref sig .tc := ⟨.hbm, 191, rfl⟩
abbrev main_call10_v11 : Ref sig .tc := ⟨.hbm, 192, rfl⟩
abbrev main_call10_c_3 : Ref sig .tc := ⟨.hbm, 193, rfl⟩
abbrev main_call10_v12 : Ref sig .tc := ⟨.hbm, 194, rfl⟩
abbrev main_call10_v13 : Ref sig .tc := ⟨.hbm, 195, rfl⟩
abbrev main_call10_v14 : Ref sig .tc := ⟨.hbm, 196, rfl⟩
abbrev main_call10_c_4 : Ref sig .tc := ⟨.hbm, 197, rfl⟩
abbrev main_call10_v15 : Ref sig .tc := ⟨.hbm, 198, rfl⟩
abbrev main_v15 : Ref sig .tc := ⟨.hbm, 199, rfl⟩
abbrev main_call11_c : Ref sig .tc := ⟨.hbm, 200, rfl⟩
abbrev main_call11_v0 : Ref sig .tc := ⟨.hbm, 201, rfl⟩
abbrev main_call11_v1 : Ref sig .tc := ⟨.hbm, 202, rfl⟩
abbrev main_call11_c_0 : Ref sig .tc := ⟨.hbm, 203, rfl⟩
abbrev main_call11_v2 : Ref sig .tc := ⟨.hbm, 204, rfl⟩
abbrev main_call11_v3 : Ref sig .tc := ⟨.hbm, 205, rfl⟩
abbrev main_call11_v4 : Ref sig .tc := ⟨.hbm, 206, rfl⟩
abbrev main_call11_v5 : Ref sig .tc := ⟨.hbm, 207, rfl⟩
abbrev main_call11_c_1 : Ref sig .tc := ⟨.hbm, 208, rfl⟩
abbrev main_call11_c_2 : Ref sig .tc := ⟨.hbm, 209, rfl⟩
abbrev main_call11_v6 : Ref sig .tc := ⟨.hbm, 210, rfl⟩
abbrev main_call11_v7 : Ref sig .tc := ⟨.hbm, 211, rfl⟩
abbrev main_call11_v8 : Ref sig .tc := ⟨.hbm, 212, rfl⟩
abbrev main_call11_v9 : Ref sig .tc := ⟨.hbm, 213, rfl⟩
abbrev main_call11_v10 : Ref sig .tc := ⟨.hbm, 214, rfl⟩
abbrev main_call11_v11 : Ref sig .tc := ⟨.hbm, 215, rfl⟩
abbrev main_call11_c_3 : Ref sig .tc := ⟨.hbm, 216, rfl⟩
abbrev main_call11_v12 : Ref sig .tc := ⟨.hbm, 217, rfl⟩
abbrev main_call11_v13 : Ref sig .tc := ⟨.hbm, 218, rfl⟩
abbrev main_call11_c_4 : Ref sig .tc := ⟨.hbm, 219, rfl⟩
abbrev main_call11_v14 : Ref sig .tc := ⟨.hbm, 220, rfl⟩
abbrev main_v16 : Ref sig .tc := ⟨.hbm, 221, rfl⟩
abbrev main_call12_c : Ref sig .tc := ⟨.hbm, 222, rfl⟩
abbrev main_call12_v0 : Ref sig .tc := ⟨.hbm, 223, rfl⟩
abbrev main_call12_v1 : Ref sig .tc := ⟨.hbm, 224, rfl⟩
abbrev main_call12_c_0 : Ref sig .tc := ⟨.hbm, 225, rfl⟩
abbrev main_call12_v2 : Ref sig .tc := ⟨.hbm, 226, rfl⟩
abbrev main_call12_v3 : Ref sig .tc := ⟨.hbm, 227, rfl⟩
abbrev main_call12_v4 : Ref sig .tc := ⟨.hbm, 228, rfl⟩
abbrev main_call12_v5 : Ref sig .tc := ⟨.hbm, 229, rfl⟩
abbrev main_call12_c_1 : Ref sig .tc := ⟨.hbm, 230, rfl⟩
abbrev main_call12_c_2 : Ref sig .tc := ⟨.hbm, 231, rfl⟩
abbrev main_call12_v6 : Ref sig .tc := ⟨.hbm, 232, rfl⟩
abbrev main_call12_v7 : Ref sig .tc := ⟨.hbm, 233, rfl⟩
abbrev main_call12_v8 : Ref sig .tc := ⟨.hbm, 234, rfl⟩
abbrev main_call12_v9 : Ref sig .tc := ⟨.hbm, 235, rfl⟩
abbrev main_call12_v10 : Ref sig .tc := ⟨.hbm, 236, rfl⟩
abbrev main_call12_v11 : Ref sig .tc := ⟨.hbm, 237, rfl⟩
abbrev main_call12_c_3 : Ref sig .tc := ⟨.hbm, 238, rfl⟩
abbrev main_call12_v12 : Ref sig .tc := ⟨.hbm, 239, rfl⟩
abbrev main_call12_v13 : Ref sig .tc := ⟨.hbm, 240, rfl⟩
abbrev main_call12_v14 : Ref sig .tc := ⟨.hbm, 241, rfl⟩
abbrev main_call12_cst : Ref sig .tc := ⟨.hbm, 242, rfl⟩
abbrev main_call12_v15 : Ref sig .tc := ⟨.hbm, 243, rfl⟩
abbrev main_v17 : Ref sig .tc := ⟨.hbm, 244, rfl⟩
abbrev main_v18 : Ref sig .tc := ⟨.hbm, 245, rfl⟩
abbrev main_v19 : Ref sig .tc := ⟨.hbm, 246, rfl⟩
abbrev main_cst_1 : Ref sig .tc := ⟨.hbm, 247, rfl⟩
abbrev main_v20 : Ref sig .tc := ⟨.hbm, 248, rfl⟩
abbrev main_c_2 : Ref sig .tc := ⟨.hbm, 249, rfl⟩
abbrev main_v21_0 : Ref sig .tc := ⟨.hbm, 250, rfl⟩
abbrev main_v21_1 : Ref sig .tc := ⟨.hbm, 251, rfl⟩
abbrev main_v21_2 : Ref sig .tc := ⟨.hbm, 252, rfl⟩
abbrev main_v21_3 : Ref sig .tc := ⟨.hbm, 253, rfl⟩
abbrev main_v21_4 : Ref sig .tc := ⟨.hbm, 254, rfl⟩
abbrev main_v21_5 : Ref sig .tc := ⟨.hbm, 255, rfl⟩
abbrev main_v21_6 : Ref sig .tc := ⟨.hbm, 256, rfl⟩
abbrev main_v21_7 : Ref sig .tc := ⟨.hbm, 257, rfl⟩
abbrev main_v21_8 : Ref sig .tc := ⟨.hbm, 258, rfl⟩
abbrev main_v21_9 : Ref sig .tc := ⟨.hbm, 259, rfl⟩
abbrev main_while1c_c_12 : Ref sig .tc := ⟨.hbm, 260, rfl⟩
abbrev main_while1c_v23 : Ref sig .tc := ⟨.hbm, 261, rfl⟩
abbrev main_while1b_call13_c : Ref sig .tc := ⟨.hbm, 262, rfl⟩
abbrev main_while1b_call13_c_0 : Ref sig .tc := ⟨.hbm, 263, rfl⟩
abbrev main_while1b_call13_v0 : Ref sig .tc := ⟨.hbm, 264, rfl⟩
abbrev main_while1b_v23 : Ref sig .tc := ⟨.hbm, 265, rfl⟩
abbrev main_while1b_call14_v0 : Ref sig .tc := ⟨.hbm, 266, rfl⟩
abbrev main_while1b_v24 : Ref sig .tc := ⟨.hbm, 267, rfl⟩
abbrev main_while1b_v25 : Ref sig .tc := ⟨.hbm, 268, rfl⟩
abbrev main_while1b_v26 : Ref sig .tc := ⟨.hbm, 269, rfl⟩
abbrev main_while1b_v27 : Ref sig .tc := ⟨.hbm, 270, rfl⟩
abbrev main_while1b_v28 : Ref sig .tc := ⟨.hbm, 271, rfl⟩
abbrev main_while1b_v29 : Ref sig .tc := ⟨.hbm, 272, rfl⟩
abbrev main_while1b_v30 : Ref sig .tc := ⟨.hbm, 273, rfl⟩
abbrev main_while1b_v31 : Ref sig .tc := ⟨.hbm, 274, rfl⟩
abbrev main_while1b_v32 : Ref sig .tc := ⟨.hbm, 275, rfl⟩
abbrev main_while1b_v33 : Ref sig .tc := ⟨.hbm, 276, rfl⟩
abbrev main_while1b_v34 : Ref sig .tc := ⟨.hbm, 277, rfl⟩
abbrev main_while1b_v35 : Ref sig .tc := ⟨.hbm, 278, rfl⟩
abbrev main_while1b_v36 : Ref sig .tc := ⟨.hbm, 279, rfl⟩
abbrev main_while1b_v37 : Ref sig .tc := ⟨.hbm, 280, rfl⟩
abbrev main_while1b_v38 : Ref sig .tc := ⟨.hbm, 281, rfl⟩
abbrev main_while1b_v39 : Ref sig .tc := ⟨.hbm, 282, rfl⟩
abbrev main_while1b_v40 : Ref sig .tc := ⟨.hbm, 283, rfl⟩
abbrev main_while1b_v41 : Ref sig .tc := ⟨.hbm, 284, rfl⟩
abbrev main_while1b_v42 : Ref sig .tc := ⟨.hbm, 285, rfl⟩
abbrev main_while1b_v43 : Ref sig .tc := ⟨.hbm, 286, rfl⟩
abbrev main_while1b_cst_12 : Ref sig .tc := ⟨.hbm, 287, rfl⟩
abbrev main_while1b_v44 : Ref sig .tc := ⟨.hbm, 288, rfl⟩
abbrev main_while1b_v45 : Ref sig .tc := ⟨.hbm, 289, rfl⟩
abbrev main_while1b_cst_13 : Ref sig .tc := ⟨.hbm, 290, rfl⟩
abbrev main_while1b_v46 : Ref sig .tc := ⟨.hbm, 291, rfl⟩
abbrev main_while1b_v47 : Ref sig .tc := ⟨.hbm, 292, rfl⟩
abbrev main_while1b_v48 : Ref sig .tc := ⟨.hbm, 293, rfl⟩
abbrev main_while1b_v49 : Ref sig .tc := ⟨.hbm, 294, rfl⟩
abbrev main_while1b_v50 : Ref sig .tc := ⟨.hbm, 295, rfl⟩
abbrev main_while1b_cst_14 : Ref sig .tc := ⟨.hbm, 296, rfl⟩
abbrev main_while1b_v51 : Ref sig .tc := ⟨.hbm, 297, rfl⟩
abbrev main_while1b_v52 : Ref sig .tc := ⟨.hbm, 298, rfl⟩
abbrev main_while1b_cst_15 : Ref sig .tc := ⟨.hbm, 299, rfl⟩
abbrev main_while1b_v53 : Ref sig .tc := ⟨.hbm, 300, rfl⟩
abbrev main_while1b_v54 : Ref sig .tc := ⟨.hbm, 301, rfl⟩
abbrev main_while1b_v55 : Ref sig .tc := ⟨.hbm, 302, rfl⟩
abbrev main_while1b_v56 : Ref sig .tc := ⟨.hbm, 303, rfl⟩
abbrev main_while1b_v57 : Ref sig .tc := ⟨.hbm, 304, rfl⟩
abbrev main_while1b_cst_16 : Ref sig .tc := ⟨.hbm, 305, rfl⟩
abbrev main_while1b_v58 : Ref sig .tc := ⟨.hbm, 306, rfl⟩
abbrev main_while1b_v59 : Ref sig .tc := ⟨.hbm, 307, rfl⟩
abbrev main_while1b_v60 : Ref sig .tc := ⟨.hbm, 308, rfl⟩
abbrev main_while1b_v61 : Ref sig .tc := ⟨.hbm, 309, rfl⟩
abbrev main_while1b_v62 : Ref sig .tc := ⟨.hbm, 310, rfl⟩
abbrev main_while1b_v63 : Ref sig .tc := ⟨.hbm, 311, rfl⟩
abbrev main_while1b_v64 : Ref sig .tc := ⟨.hbm, 312, rfl⟩
abbrev main_while1b_v65 : Ref sig .tc := ⟨.hbm, 313, rfl⟩
abbrev main_while1b_call15_v0 : Ref sig .tc := ⟨.hbm, 314, rfl⟩
abbrev main_while1b_v66 : Ref sig .tc := ⟨.hbm, 315, rfl⟩
abbrev main_while1b_cst_17 : Ref sig .tc := ⟨.hbm, 316, rfl⟩
abbrev main_while1b_v67 : Ref sig .tc := ⟨.hbm, 317, rfl⟩
abbrev main_while1b_call16_v0 : Ref sig .tc := ⟨.hbm, 318, rfl⟩
abbrev main_while1b_v68 : Ref sig .tc := ⟨.hbm, 319, rfl⟩
abbrev main_while1b_call17_v0 : Ref sig .tc := ⟨.hbm, 320, rfl⟩
abbrev main_while1b_call17_c : Ref sig .tc := ⟨.hbm, 321, rfl⟩
abbrev main_while1b_call17_c_0 : Ref sig .tc := ⟨.hbm, 322, rfl⟩
abbrev main_while1b_v69 : Ref sig .tc := ⟨.hbm, 323, rfl⟩
abbrev main_while1b_c_18 : Ref sig .tc := ⟨.hbm, 324, rfl⟩
abbrev main_while1b_v70 : Ref sig .tc := ⟨.hbm, 325, rfl⟩
abbrev main_v22 : Ref sig .tc := ⟨.hbm, 326, rfl⟩

abbrev nD : Nat := 1
abbrev τ : Topo := Topo.v7x

variable {F : FTy → Type} [FloatOps F]

abbrev main_while0_count : Scf.Loop 32 := ⟨0#32, 20#32, 1#32⟩

abbrev main_while1_count : Scf.Loop 32 := ⟨0#32, 20#32, 1#32⟩
-- ==== Proof.HostValue.lean ====
/- What the host's integer operations compute, over any contents: the sorting order of a vector of lengths, the rows and
   entries taken along an order, the rows of the embedding named by a rectangle of ids. -/
module

public import proofs.«01_k».proof.ReferenceIdeal
public import proofs.«01_k».proof.Proof.Gen.ReferenceIdeal
public import Idealize.ShloMosaic.Lib.SortFacts
public import Idealize.ShloMosaic.Lib.ReduceAll
public import Idealize.ShloMosaic.Lib.WordCmp
public import Idealize.ShloMosaic.Lib.ValueIdx
public import Idealize.ShloMosaic.Lib.Pipeline.Value

@[expose] public section

noncomputable section

namespace Cert.Gru

open Idealize.ShloMosaic Idealize.ShloMosaic.ValueIdx
open Cert.ReferenceIdeal Cert.ReferenceIdeal.Gen

/-- The order that sorts the lengths from the greatest to the least. -/
def order (len : IVec S16384 32) : IVec S16384 32 :=
  (Host.sort2 S16384 0 comparator_i32_i32_d0 (negi len) (iotaInDim S16384 32 0)).2

/-- A negative position counts from the end. -/
def wrapPos (p : IVec S16384 32) : IVec S16384x1 32 :=
  broadcastInDim S16384x1 ![0] bcast_S16384_S16384x1_0
    (select (cmpi .slt p (broadcastInDim S16384 ![] bcast_S_S16384 (constantI S_ 32 0#32)))
      (addi p (broadcastInDim S16384 ![] bcast_S_S16384 (constantI S_ 32 16384#32))) p)

/-- Whether each position lies in the array. -/
def posIn (q : IVec S16384x1 32) : IVec S16384 1 :=
  Host.reduce IntOp.andi
    (andi (cmpi .sge q (broadcastInDim S16384x1 ![] bcast_S_S16384x1 (constantI S_ 32 0#32)))
      (cmpi .sle q (broadcastInDim S16384x1 ![0, 1] bcast_S1x1_S16384x1_0_1 (broadcastInDim S1x1 ![1] bcast_S1_S1x1_1 (constantI S1 32 16383#32)))))
    (constantI S_ 1 1#1) reducesTo_S16384x1_S16384_d1 h_S_

/-- The rows of `x` along the positions `p`. -/
def takeRows (x : IVec S16384x20 32) (p : IVec S16384 32) : IVec S16384x20 32 :=
  select (broadcastInDim S16384x20 ![0] bcast_S16384_S16384x20_0 (posIn (wrapPos p)))
    (Host.gather gather_S16384x20_S16384x1_S16384x20_1_0_n_n_0_1_120 x (wrapPos p))
    (broadcastInDim S16384x20 ![] bcast_S_S16384x20 (constantI S_ 32 2147483648#32))

/-- The entries of `x` along the positions `p`. -/
def takeVec (x : IVec S16384 32) (p : IVec S16384 32) : IVec S16384 32 :=
  select (posIn (wrapPos p)) (Host.gather gather_S16384_S16384x1_S16384_n_0_n_n_0_1_1 x (wrapPos p))
    (broadcastInDim S16384 ![] bcast_S_S16384 (constantI S_ 32 2147483648#32))

/-- A negative id counts from the end. -/
def wrapId (ids : IVec S16384x20 32) : IVec S16384x20x1 32 :=
  broadcastInDim S16384x20x1 ![0, 1] bcast_S16384x20_S16384x20x1_0_1
    (select (cmpi .slt ids (broadcastInDim S16384x20 ![] bcast_S_S16384x20 (constantI S_ 32 0#32)))
      (addi ids (broadcastInDim S16384x20 ![] bcast_S_S16384x20 (constantI S_ 32 512#32))) ids)

/-- Whether each id names a row of the embedding. -/
def idIn (q : IVec S16384x20x1 32) : IVec S16384x20 1 :=
  Host.reduce IntOp.andi
    (andi (cmpi .sge q (broadcastInDim S16384x20x1 ![] bcast_S_S16384x20x1 (constantI S_ 32 0#32)))
      (cmpi .sle q (broadcastInDim S16384x20x1 ![0, 1, 2] bcast_S1x1x1_S16384x20x1_0_1_2 (broadcastInDim S1x1x1 ![2] bcast_S1_S1x1x1_2 (constantI S1 32 511#32)))))
    (constantI S_ 1 1#1) reducesTo_S16384x20x1_S16384x20_d2 h_S_

/-- The rows of the embedding that the ids name. -/
def takeEmb {F : FTy → Type} [FloatOps F] (emb : FVec F S512x64 .f32) (ids : IVec S16384x20 32) : FVec F S16384x20x64 .f32 :=
  select (broadcastInDim S16384x20x64 ![0, 1] bcast_S16384x20_S16384x20x64_0_1 (idIn (wrapId ids)))
    (Host.gather gather_S512x64_S16384x20x1_S16384x20x64_2_0_n_n_0_2_164 emb (wrapId ids))
    (broadcastInDim S16384x20x64 ![] bcast_S_S16384x20x64 (constant S_ .f32 0x7FC00000#32))

/-- The row that the sorted place `i` comes from. -/
def rowOf (len : IVec S16384 32) : Fin 16384 → Fin 16384 :=
  sortedFrom fun k k' => IntOp.cmpi .slt (IntOp.subi 0#32 (len (ix1 k))) (IntOp.subi 0#32 (len (ix1 k'))) == 1#1

/-! ## The gathers at an index, over any extents -/

section Gathers
variable {α : Type} {N C R w : Nat}

/-- Rows of a matrix named by a column of positions. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_rows (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (i : Fin R) (t : Fin C) (n : Fin N)
    (h : (idx (ix2 i 0)).toInt.toNat = n.val) : Host.gather (rowsDims N C R wf) x idx (ix2 i t) = x (ix2 n t) := by
  unfold Host.gather
  congr 1
  funext a
  refine Fin.ext ?_
  have hn := n.isLt
  match a with
  | ⟨0, _⟩ =>
    show min (idx ((rowsDims N C R wf).siIdx (ix2 i t) ⟨0, Nat.one_pos⟩)).toInt.toNat (N - 1) + 0 + 0 = n.val
    have e : (rowsDims N C R wf).siIdx (ix2 i t) ⟨0, Nat.one_pos⟩ = ix2 i 0 := by
      funext b; refine Fin.ext ?_
      match b with
      | ⟨0, _⟩ => rfl
      | ⟨1, _⟩ => rfl
    rw [e, h]; omega
  | ⟨1, _⟩ =>
    show 0 + 0 + t.val = t.val
    omega

/-- Entries of a vector named by a column of positions. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

theorem gather_vec (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (i : Fin R) (n : Fin N)
    (h : (idx (ix2 i 0)).toInt.toNat = n.val) : Host.gather (vecDims N R wf) x idx (ix1 i) = x (ix1 n) := by
  unfold Host.gather
  congr 1
  funext a
  refine Fin.ext ?_
  have hn := n.isLt
  match a with
  | ⟨0, _⟩ =>
    show min (idx ((vecDims N R wf).siIdx (ix1 i) ⟨0, Nat.one_pos⟩)).toInt.toNat (N - 1) + 0 + 0 = n.val
    have e : (vecDims N R wf).siIdx (ix1 i) ⟨0, Nat.one_pos⟩ = ix2 i 0 := by
      funext b; refine Fin.ext ?_
      match b with
      | ⟨0, _⟩ => rfl
      | ⟨1, _⟩ => rfl
    rw [e, h]; omega

/-- Rows of a matrix named by a rectangle of ids. -/
abbrev embDims (N C R T : Nat) (wf : GatherDims.WF ⟨2, ![N, C]⟩ ⟨3, ![R, T, 1]⟩ ⟨3, ![R, T, C]⟩ [2] [0] [] [0] [] 2 ![1, C]) :
    GatherDims ⟨2, ![N, C]⟩ ⟨3, ![R, T, 1]⟩ ⟨3, ![R, T, C]⟩ where
  offsetDims := [2]
  collapsedSliceDims := [0]
  operandBatchingDims := []
  startIndicesBatchingDims := []
  startIndexMap := [0]
  indexVectorDim := 2
  sliceSizes := ![1, C]
  wf := wf

theorem gather_emb {T : Nat} (wf : GatherDims.WF ⟨2, ![N, C]⟩ ⟨3, ![R, T, 1]⟩ ⟨3, ![R, T, C]⟩ [2] [0] [] [0] [] 2 ![1, C])
    (x : (⟨2, ![N, C]⟩ : Shape).Idx → α) (idx : IVec ⟨3, ![R, T, 1]⟩ w) (i : Fin R) (t : Fin T) (e : Fin C) (n : Fin N)
    (h : (idx (ix3 i t 0)).toInt.toNat = n.val) : Host.gather (embDims N C R T wf) x idx (ix3 i t e) = x (ix2 n e) := by
  unfold Host.gather
  congr 1
  funext a
  refine Fin.ext ?_
  have hn := n.isLt
  match a with
  | ⟨0, _⟩ =>
    show min (idx ((embDims N C R T wf).siIdx (ix3 i t e) ⟨0, Nat.one_pos⟩)).toInt.toNat (N - 1) + 0 + 0 = n.val
    have e : (embDims N C R T wf).siIdx (ix3 i t e) ⟨0, Nat.one_pos⟩ = ix3 i t 0 := by
      funext b; refine Fin.ext ?_
      match b with
      | ⟨0, _⟩ => rfl
      | ⟨1, _⟩ => rfl
      | ⟨2, _⟩ => rfl
    rw [e, h]; omega
  | ⟨1, _⟩ =>
    show 0 + 0 + e.val = e.val
    omega

end Gathers

theorem toInt_small {n : Nat} (h : n < 2147483648) : (BitVec.ofNat 32 n).toInt = n := by
  rw [BitVec.toInt_eq_toNat_of_lt (by simp; omega)]; simp; omega

theorem ofFin_eq {n : Nat} (k : Fin n) : Shape.Idx.ofFin k = ix1 k := by
  exact (Shape.Idx.eq_ofFin (ix1 k)).symm

theorem along_ix1 {n : Nat} (i k : Fin n) (h : 0 < 1) : Shape.Idx.along (s := ⟨1, ![n]⟩) (ix1 i) ⟨0, h⟩ k = ix1 k :=
  (Shape.Idx.along_rank1 (ix1 i) k).trans (ofFin_eq k)

theorem sort2_snd {n : Nat} {α β : Type} (cmp : α × β → α × β → BitVec 1) (x : (⟨1, ![n]⟩ : Shape).Idx → α)
    (y : (⟨1, ![n]⟩ : Shape).Idx → β) (i : Fin n) :
    (Host.sort2 ⟨1, ![n]⟩ 0 cmp x y).2 (ix1 i)
      = y (ix1 (sortedFrom (fun k k' => cmp (x (ix1 k), y (ix1 k)) (x (ix1 k'), y (ix1 k')) == 1#1) i)) := by
  have e : ∀ k, Shape.Idx.along (s := ⟨1, ![n]⟩) (ix1 i) ⟨0, Nat.one_pos⟩ k = ix1 k := fun k => along_ix1 i k _
  unfold Host.sort2
  rw [dif_pos (show (0 : Nat) < (⟨1, ![n]⟩ : Shape).rank from Nat.one_pos)]
  refine (congrArg y (along_ix1 i _ _)).trans ?_
  refine congrArg (fun R => y (ix1 (sortedFrom R i))) ?_
  funext k k'
  show (cmp (x (Shape.Idx.along (ix1 i) _ k), y (Shape.Idx.along (ix1 i) _ k)) (x (Shape.Idx.along (ix1 i) _ k'), y (Shape.Idx.along (ix1 i) _ k')) == 1#1) = _
  rw [e k, e k']
  rfl

theorem order_apply (len : IVec S16384 32) (i : Fin 16384) : order len (ix1 i) = BitVec.ofNat 32 (rowOf len i).val :=
  sort2_snd (n := 16384) _ _ _ i

theorem rowOf_sorted (len : IVec S16384 32) (h : ∀ i, 1 ≤ (len i).toInt ∧ (len i).toInt ≤ 20) (i j : Fin 16384) (hij : i ≤ j) :
    (len (ix1 (rowOf len j))).toInt ≤ (len (ix1 (rowOf len i))).toInt := by
  rcases Nat.lt_or_ge i.val j.val with hlt | hge
  · have neg : ∀ k, (IntOp.subi 0#32 (len k)).toInt = -(len k).toInt := by
      intro k
      have := h k
      show (0#32 - len k).toInt = _
      rw [BitVec.toInt_sub, Int.bmod_eq_of_le] <;> simp <;> omega
    have key := sortedFrom_noInversion (n := 16384)
      (fun k k' => IntOp.cmpi .slt (IntOp.subi 0#32 (len (ix1 k))) (IntOp.subi 0#32 (len (ix1 k'))) == 1#1)
      (fun k k' => IntOp.cmpi .slt (IntOp.subi 0#32 (len (ix1 k))) (IntOp.subi 0#32 (len (ix1 k'))) == 1#1)
      (by
        intro a b hab
        rw [beq_iff_eq, IntOp.cmpi_slt, neg, neg] at hab
        rw [beq_eq_false_iff_ne, Ne, IntOp.cmpi_slt, neg, neg]; omega)
      (fun _ _ h => h)
      (by
        intro a b c hab hbc
        rw [beq_eq_false_iff_ne, Ne, IntOp.cmpi_slt, neg, neg] at hab hbc ⊢; omega) i j hlt
    rw [beq_eq_false_iff_ne, Ne, IntOp.cmpi_slt, neg, neg] at key
    unfold rowOf; omega
  · rw [Fin.le_antisymm hij hge]

theorem wrapPos_apply (p : IVec S16384 32) (f : Fin 16384 → Fin 16384) (hp : ∀ i, p (ix1 i) = BitVec.ofNat 32 (f i).val)
    (i : Fin 16384) (z : Fin 1) : wrapPos p (ix2 i z) = BitVec.ofNat 32 (f i).val := by
  have e : wrapPos p (ix2 i z) = if IntOp.cmpi .slt (p (ix1 i)) 0#32 = 1#1 then IntOp.addi (p (ix1 i)) 16384#32 else p (ix1 i) := by
    unfold wrapPos
    rw [broadcastInDim_apply _ _ _ _ (ix1 i) (fun a => by match a with | ⟨0, _⟩ => rfl)]
    rfl
  rw [e, hp i, if_neg]
  have := (f i).isLt
  rw [IntOp.cmpi_slt, toInt_small (by omega)]
  simp

theorem posIn_one (p : IVec S16384 32) (f : Fin 16384 → Fin 16384) (hp : ∀ i, p (ix1 i) = BitVec.ofNat 32 (f i).val)
    (j : S16384.Idx) : posIn (wrapPos p) j = 1#1 := by
  refine Host.reduce_andi_one _ _ _ _ j rfl fun q => ?_
  obtain ⟨i, z, rfl⟩ : ∃ i z, q = ix2 i z := ⟨q 0, q 1, eq_ix2 q⟩
  have := (f i).isLt
  show IntOp.andi (IntOp.cmpi .sge (wrapPos p (ix2 i z)) 0#32) (IntOp.cmpi .sle (wrapPos p (ix2 i z)) 16383#32) = 1#1
  rw [wrapPos_apply p f hp, IntOp.cmpi_sge.2 ?_, IntOp.cmpi_sle.2 ?_]
  · rfl
  · rw [toInt_small (by omega), show (16383#32 : BitVec 32).toInt = 16383 from rfl]; omega
  · rw [toInt_small (n := (f i).val) (by omega)]; simp

theorem takeRows_apply (x : IVec S16384x20 32) (p : IVec S16384 32) (f : Fin 16384 → Fin 16384)
    (hp : ∀ i, p (ix1 i) = BitVec.ofNat 32 (f i).val) (i : Fin 16384) (t : Fin 20) :
    takeRows x p (ix2 i t) = x (ix2 (f i) t) := by
  have := (f i).isLt
  unfold takeRows
  refine (WordCmp.select_of_eq_one (posIn_one p f hp _) _ _).trans ?_
  exact gather_rows _ x _ i t (f i) (by rw [wrapPos_apply p f hp, toInt_small (by omega)]; rfl)

theorem takeVec_apply (x : IVec S16384 32) (p : IVec S16384 32) (f : Fin 16384 → Fin 16384)
    (hp : ∀ i, p (ix1 i) = BitVec.ofNat 32 (f i).val) (i : Fin 16384) :
    takeVec x p (ix1 i) = x (ix1 (f i)) := by
  have := (f i).isLt
  unfold takeVec
  refine (WordCmp.select_of_eq_one (posIn_one p f hp _) _ _).trans ?_
  exact gather_vec _ x _ i (f i) (by rw [wrapPos_apply p f hp, toInt_small (by omega)]; rfl)

theorem wrapId_apply (ids : IVec S16384x20 32) (f : Fin 16384 → Fin 20 → Fin 512)
    (hp : ∀ i t, ids (ix2 i t) = BitVec.ofNat 32 (f i t).val) (i : Fin 16384) (t : Fin 20) (z : Fin 1) :
    wrapId ids (ix3 i t z) = BitVec.ofNat 32 (f i t).val := by
  have e : wrapId ids (ix3 i t z) = if IntOp.cmpi .slt (ids (ix2 i t)) 0#32 = 1#1 then IntOp.addi (ids (ix2 i t)) 512#32 else ids (ix2 i t) := by
    unfold wrapId
    rw [broadcastInDim_apply _ _ _ _ (ix2 i t) (fun a => by match a with | ⟨0, _⟩ => rfl | ⟨1, _⟩ => rfl)]
    rfl
  rw [e, hp i t, if_neg]
  have := (f i t).isLt
  rw [IntOp.cmpi_slt, toInt_small (by omega)]
  simp

theorem idIn_one (ids : IVec S16384x20 32) (f : Fin 16384 → Fin 20 → Fin 512)
    (hp : ∀ i t, ids (ix2 i t) = BitVec.ofNat 32 (f i t).val) (j : S16384x20.Idx) : idIn (wrapId ids) j = 1#1 := by
  refine Host.reduce_andi_one _ _ _ _ j rfl fun q => ?_
  obtain ⟨i, t, z, rfl⟩ : ∃ i t z, q = ix3 i t z := ⟨q 0, q 1, q 2, eq_ix3 q⟩
  have := (f i t).isLt
  show IntOp.andi (IntOp.cmpi .sge (wrapId ids (ix3 i t z)) 0#32) (IntOp.cmpi .sle (wrapId ids (ix3 i t z)) 511#32) = 1#1
  rw [wrapId_apply ids f hp, IntOp.cmpi_sge.2 ?_, IntOp.cmpi_sle.2 ?_]
  · rfl
  · rw [toInt_small (by omega), show (511#32 : BitVec 32).toInt = 511 from rfl]; omega
  · rw [toInt_small (n := (f i t).val) (by omega)]; simp

theorem takeEmb_apply {F : FTy → Type} [FloatOps F] (emb : FVec F S512x64 .f32) (ids : IVec S16384x20 32)
    (f : Fin 16384 → Fin 20 → Fin 512) (hp : ∀ i t, ids (ix2 i t) = BitVec.ofNat 32 (f i t).val) (i : Fin 16384) (t : Fin 20)
    (e : Fin 64) : takeEmb emb ids (ix3 i t e) = emb (ix2 (f i t) e) := by
  have := (f i t).isLt
  unfold takeEmb
  refine (WordCmp.select_of_eq_one (idIn_one ids f hp _) _ _).trans ?_
  exact gather_emb _ emb _ i t e (f i t) (by rw [wrapId_apply ids f hp, toInt_small (by omega)]; rfl)

end Cert.Gru

end
-- ==== Proof.HostReads.lean ====
/- The arrays the idealised program's kernel is launched on, as functions of the arguments. -/
module

public import proofs.«01_k».proof.Proof.HostValue
public import proofs.«01_k».proof.Proof.Gen.KernelIdeal.Frame.Runs
public import Idealize.ShloMosaic.Lib.StableHlo.RunRead
public import Idealize.ShloMosaic.Lib.StableHlo.RunLoop

@[expose] public section

set_option maxRecDepth 8192

noncomputable section

namespace Cert.KernelIdeal.Gru

open Idealize.ShloMosaic Idealize.ShloMosaic.TcCoe Idealize.ShloMosaic.StableHlo
open Cert.KernelIdeal Cert.KernelIdeal.Gen

variable {F : FTy → Type} [FloatOps F]
variable (m : (ℓ : Loc nD τ sig) → Buf (Elt F) ℓ)

/-- A column of lengths as a vector. -/
abbrev flat (a : IVec S16384x1 32) : IVec S16384 32 := shapeCast S16384 a shapeCasts_S16384x1_S16384

/-- The two columns of loop bounds: every 2048th of the sorted lengths. -/
def bounds (e d : IVec S16384 32) : IVec S8x2 32 :=
  concatenate S8x2 1 [⟨S8x1, broadcastInDim S8x1 ![0] bcast_S8_S8x1_0 (Host.slice S8 ![0] ![2048] e slicesBy_S16384_S8_0s2048)⟩,
    ⟨S8x1, broadcastInDim S8x1 ![0] bcast_S8_S8x1_0 (Host.slice S8 ![0] ![2048] d slicesBy_S16384_S8_0s2048)⟩] concatenates_S8x1_S8x1_S8x2_d1

/-- A rectangle of ids by batch place, laid out by step. -/
def layout (x : IVec S16384x20 16) : IVec S20x1x16384 16 :=
  shapeCast S20x1x16384 (transpose S20x16384 [1, 0] x transposes_S16384x20_S20x16384_1_0) shapeCasts_S20x16384_S20x1x16384

/-- The ids laid out by step, a row of batch places each. -/
abbrev byStep (x : IVec S16384x20 32) : IVec S20x1x16384 16 := layout (trunci 16 x natLt_16_32)

abbrev encLens (c : Dev nD) : IVec S16384 32 := flat (m ((c.tc : Thread nD τ).loc main_arg4))
abbrev decLens (c : Dev nD) : IVec S16384 32 := flat (m ((c.tc : Thread nD τ).loc main_arg5))
abbrev encSorted (c : Dev nD) : IVec S16384 32 := Cert.Gru.takeVec (encLens m c) (Cert.Gru.order (encLens m c))
abbrev decSorted (c : Dev nD) : IVec S16384 32 := Cert.Gru.takeVec (decLens m c) (Cert.Gru.order (decLens m c))
abbrev encIds (c : Dev nD) : IVec S16384x20 32 := Cert.Gru.takeRows (m ((c.tc : Thread nD τ).loc main_arg0)) (Cert.Gru.order (encLens m c))
abbrev decIds (c : Dev nD) : IVec S16384x20 32 := Cert.Gru.takeRows (m ((c.tc : Thread nD τ).loc main_arg1)) (Cert.Gru.order (decLens m c))

/-! ## What each stretch of host operations leaves in one buffer -/

section Stretches
variable (X : Valuation τ sig (Elt F))

theorem s0_v0 : after hostOps0 X (Proc.devRef .tc main_v0) = flat (X (Proc.devRef .tc main_arg4)) := by
  after_reads_simp
  all_goals rfl

theorem s0_v1 : after hostOps0 X (Proc.devRef .tc main_v1) = negi (flat (X (Proc.devRef .tc main_arg4))) := by
  after_reads_simp
  all_goals rfl

theorem s1_v2 : after hostOps0_1 X (Proc.devRef .tc main_v2) = (Host.sort2 S16384 0 comparator_i32_i32_d0 (X (Proc.devRef .tc main_v1)) (iotaInDim S16384 32 0)).2 := by
  after_reads_simp
  simp only [TRef.ofBuf_toBuf, TRef.toBuf, TRef.ofBuf, cast_eq]

theorem s2_v3 : after hostOps0_2 X (Proc.devRef .tc main_v3) = Cert.Gru.takeRows (X (Proc.devRef .tc main_arg0)) (X (Proc.devRef .tc main_v2)) := by
  after_reads_simp
  simp only [TRef.ofBuf_toBuf, TRef.toBuf, TRef.ofBuf, cast_eq]
  unfold Cert.Gru.takeRows Cert.Gru.posIn Cert.Gru.wrapPos
  rfl

theorem s3_v4 : after hostOps0_3 X (Proc.devRef .tc main_v4) = trunci 16 (show IVec S16384x20 32 from (X (Proc.devRef .tc main_v3))) natLt_16_32 := by
  after_reads_simp
  all_goals rfl

theorem s4_v5 : after hostOps0_4 X (Proc.devRef .tc main_v5) = Cert.Gru.takeVec (X (Proc.devRef .tc main_v0)) (X (Proc.devRef .tc main_v2)) := by
  after_reads_simp
  simp only [TRef.ofBuf_toBuf, TRef.toBuf, TRef.ofBuf, cast_eq]
  unfold Cert.Gru.takeVec Cert.Gru.posIn Cert.Gru.wrapPos
  rfl

theorem s5_v6 : after hostOps0_5 X (Proc.devRef .tc main_v6) = flat (X (Proc.devRef .tc main_arg5)) := by
  after_reads_simp
  all_goals rfl

theorem s5_v7 : after hostOps0_5 X (Proc.devRef .tc main_v7) = negi (flat (X (Proc.devRef .tc main_arg5))) := by
  after_reads_simp
  all_goals rfl

theorem s6_v8 : after hostOps0_6 X (Proc.devRef .tc main_v8) = (Host.sort2 S16384 0 comparator_i32_i32_d0 (X (Proc.devRef .tc main_v7)) (iotaInDim S16384 32 0)).2 := by
  after_reads_simp
  simp only [TRef.ofBuf_toBuf, TRef.toBuf, TRef.ofBuf, cast_eq]

theorem s7_v9 : after hostOps0_7 X (Proc.devRef .tc main_v9) = Cert.Gru.takeRows (X (Proc.devRef .tc main_arg1)) (X (Proc.devRef .tc main_v8)) := by
  after_reads_simp
  simp only [TRef.ofBuf_toBuf, TRef.toBuf, TRef.ofBuf, cast_eq]
  unfold Cert.Gru.takeRows Cert.Gru.posIn Cert.Gru.wrapPos
  rfl

theorem s8_v10 : after hostOps0_8 X (Proc.devRef .tc main_v10) = trunci 16 (show IVec S16384x20 32 from (X (Proc.devRef .tc main_v9))) natLt_16_32 := by
  after_reads_simp
  all_goals rfl

theorem s9_v11 : after hostOps0_9 X (Proc.devRef .tc main_v11) = Cert.Gru.takeVec (X (Proc.devRef .tc main_v6)) (X (Proc.devRef .tc main_v8)) := by
  after_reads_simp
  simp only [TRef.ofBuf_toBuf, TRef.toBuf, TRef.ofBuf, cast_eq]
  unfold Cert.Gru.takeVec Cert.Gru.posIn Cert.Gru.wrapPos
  rfl

theorem s10_v20 : after hostOps0_10 X (Proc.devRef .tc main_v20) = bounds (X (Proc.devRef .tc main_v5)) (X (Proc.devRef .tc main_v11)) := by
  after_reads_simp
  all_goals rfl

theorem s10_v13 : after hostOps0_10 X (Proc.devRef .tc main_v13) = layout (X (Proc.devRef .tc main_v4)) := by
  after_reads_simp
  all_goals rfl

theorem s10_v15 : after hostOps0_10 X (Proc.devRef .tc main_v15) = layout (X (Proc.devRef .tc main_v10)) := by
  after_reads_simp
  all_goals rfl

theorem s10_v21 : after hostOps0_10 X (Proc.devRef .tc main_v21) = broadcastInDim S1x16384 ![1] bcast_S16384_S1x16384_1 (X (Proc.devRef .tc main_v5)) := by
  after_reads_simp
  all_goals rfl

theorem s10_v22 : after hostOps0_10 X (Proc.devRef .tc main_v22) = broadcastInDim S1x16384 ![1] bcast_S16384_S1x16384_1 (X (Proc.devRef .tc main_v11)) := by
  after_reads_simp
  all_goals rfl

theorem s10_v23 : after hostOps0_10 X (Proc.devRef .tc main_v23) = transpose S64x512 [1, 0] (X (Proc.devRef .tc main_arg6)) transposes_S512x64_S64x512_1_0 := by
  after_reads_simp
  all_goals rfl

theorem s10_v24 : after hostOps0_10 X (Proc.devRef .tc main_v24) = shapeCast S192x1 (X (Proc.devRef .tc main_arg9)) shapeCasts_S192_S192x1 := by
  after_reads_simp
  all_goals rfl

theorem s10_v25 : after hostOps0_10 X (Proc.devRef .tc main_v25) = shapeCast S192x1 (X (Proc.devRef .tc main_arg13)) shapeCasts_S192_S192x1 := by
  after_reads_simp
  all_goals rfl

theorem s10_v26 : after hostOps0_10 X (Proc.devRef .tc main_v26) = shapeCast S192x1 (X (Proc.devRef .tc main_arg10)) shapeCasts_S192_S192x1 := by
  after_reads_simp
  all_goals rfl

theorem s10_v27 : after hostOps0_10 X (Proc.devRef .tc main_v27) = shapeCast S192x1 (X (Proc.devRef .tc main_arg14)) shapeCasts_S192_S192x1 := by
  after_reads_simp
  all_goals rfl

theorem s1_keep_v0 : after hostOps0_1 X (Proc.devRef .tc main_v0) = (X (Proc.devRef .tc main_v0)) := by after_reads_simp

theorem s2_keep_v0 : after hostOps0_2 X (Proc.devRef .tc main_v0) = (X (Proc.devRef .tc main_v0)) := by after_reads_simp

theorem s3_keep_v0 : after hostOps0_3 X (Proc.devRef .tc main_v0) = (X (Proc.devRef .tc main_v0)) := by after_reads_simp

theorem s2_keep_v2 : after hostOps0_2 X (Proc.devRef .tc main_v2) = (X (Proc.devRef .tc main_v2)) := by after_reads_simp

theorem s3_keep_v2 : after hostOps0_3 X (Proc.devRef .tc main_v2) = (X (Proc.devRef .tc main_v2)) := by after_reads_simp

theorem s4_keep_v4 : after hostOps0_4 X (Proc.devRef .tc main_v4) = (X (Proc.devRef .tc main_v4)) := by after_reads_simp

theorem s5_keep_v4 : after hostOps0_5 X (Proc.devRef .tc main_v4) = (X (Proc.devRef .tc main_v4)) := by after_reads_simp

theorem s6_keep_v4 : after hostOps0_6 X (Proc.devRef .tc main_v4) = (X (Proc.devRef .tc main_v4)) := by after_reads_simp

theorem s7_keep_v4 : after hostOps0_7 X (Proc.devRef .tc main_v4) = (X (Proc.devRef .tc main_v4)) := by after_reads_simp

theorem s8_keep_v4 : after hostOps0_8 X (Proc.devRef .tc main_v4) = (X (Proc.devRef .tc main_v4)) := by after_reads_simp

theorem s9_keep_v4 : after hostOps0_9 X (Proc.devRef .tc main_v4) = (X (Proc.devRef .tc main_v4)) := by after_reads_simp

theorem s5_keep_v5 : after hostOps0_5 X (Proc.devRef .tc main_v5) = (X (Proc.devRef .tc main_v5)) := by after_reads_simp

theorem s6_keep_v5 : after hostOps0_6 X (Proc.devRef .tc main_v5) = (X (Proc.devRef .tc main_v5)) := by after_reads_simp

theorem s7_keep_v5 : after hostOps0_7 X (Proc.devRef .tc main_v5) = (X (Proc.devRef .tc main_v5)) := by after_reads_simp

theorem s8_keep_v5 : after hostOps0_8 X (Proc.devRef .tc main_v5) = (X (Proc.devRef .tc main_v5)) := by after_reads_simp

theorem s9_keep_v5 : after hostOps0_9 X (Proc.devRef .tc main_v5) = (X (Proc.devRef .tc main_v5)) := by after_reads_simp

theorem s6_keep_v6 : after hostOps0_6 X (Proc.devRef .tc main_v6) = (X (Proc.devRef .tc main_v6)) := by after_reads_simp

theorem s7_keep_v6 : after hostOps0_7 X (Proc.devRef .tc main_v6) = (X (Proc.devRef .tc main_v6)) := by after_reads_simp

theorem s8_keep_v6 : after hostOps0_8 X (Proc.devRef .tc main_v6) = (X (Proc.devRef .tc main_v6)) := by after_reads_simp

theorem s7_keep_v8 : after hostOps0_7 X (Proc.devRef .tc main_v8) = (X (Proc.devRef .tc main_v8)) := by after_reads_simp

theorem s8_keep_v8 : after hostOps0_8 X (Proc.devRef .tc main_v8) = (X (Proc.devRef .tc main_v8)) := by after_reads_simp

theorem s9_keep_v10 : after hostOps0_9 X (Proc.devRef .tc main_v10) = (X (Proc.devRef .tc main_v10)) := by after_reads_simp

theorem s0_keep_arg0 : after hostOps0 X (Proc.devRef .tc main_arg0) = (X (Proc.devRef .tc main_arg0)) := by after_reads_simp

theorem s1_keep_arg0 : after hostOps0_1 X (Proc.devRef .tc main_arg0) = (X (Proc.devRef .tc main_arg0)) := by after_reads_simp

theorem s0_keep_arg1 : after hostOps0 X (Proc.devRef .tc main_arg1) = (X (Proc.devRef .tc main_arg1)) := by after_reads_simp

theorem s1_keep_arg1 : after hostOps0_1 X (Proc.devRef .tc main_arg1) = (X (Proc.devRef .tc main_arg1)) := by after_reads_simp

theorem s2_keep_arg1 : after hostOps0_2 X (Proc.devRef .tc main_arg1) = (X (Proc.devRef .tc main_arg1)) := by after_reads_simp

theorem s3_keep_arg1 : after hostOps0_3 X (Proc.devRef .tc main_arg1) = (X (Proc.devRef .tc main_arg1)) := by after_reads_simp

theorem s4_keep_arg1 : after hostOps0_4 X (Proc.devRef .tc main_arg1) = (X (Proc.devRef .tc main_arg1)) := by after_reads_simp

theorem s5_keep_arg1 : after hostOps0_5 X (Proc.devRef .tc main_arg1) = (X (Proc.devRef .tc main_arg1)) := by after_reads_simp

theorem s6_keep_arg1 : after hostOps0_6 X (Proc.devRef .tc main_arg1) = (X (Proc.devRef .tc main_arg1)) := by after_reads_simp

theorem s0_keep_arg5 : after hostOps0 X (Proc.devRef .tc main_arg5) = (X (Proc.devRef .tc main_arg5)) := by after_reads_simp

theorem s1_keep_arg5 : after hostOps0_1 X (Proc.devRef .tc main_arg5) = (X (Proc.devRef .tc main_arg5)) := by after_reads_simp

theorem s2_keep_arg5 : after hostOps0_2 X (Proc.devRef .tc main_arg5) = (X (Proc.devRef .tc main_arg5)) := by after_reads_simp

theorem s3_keep_arg5 : after hostOps0_3 X (Proc.devRef .tc main_arg5) = (X (Proc.devRef .tc main_arg5)) := by after_reads_simp

theorem s4_keep_arg5 : after hostOps0_4 X (Proc.devRef .tc main_arg5) = (X (Proc.devRef .tc main_arg5)) := by after_reads_simp

theorem s0_keep_arg6 : after hostOps0 X (Proc.devRef .tc main_arg6) = (X (Proc.devRef .tc main_arg6)) := by after_reads_simp

theorem s1_keep_arg6 : after hostOps0_1 X (Proc.devRef .tc main_arg6) = (X (Proc.devRef .tc main_arg6)) := by after_reads_simp

theorem s2_keep_arg6 : after hostOps0_2 X (Proc.devRef .tc main_arg6) = (X (Proc.devRef .tc main_arg6)) := by after_reads_simp

theorem s3_keep_arg6 : after hostOps0_3 X (Proc.devRef .tc main_arg6) = (X (Proc.devRef .tc main_arg6)) := by after_reads_simp

theorem s4_keep_arg6 : after hostOps0_4 X (Proc.devRef .tc main_arg6) = (X (Proc.devRef .tc main_arg6)) := by after_reads_simp

theorem s5_keep_arg6 : after hostOps0_5 X (Proc.devRef .tc main_arg6) = (X (Proc.devRef .tc main_arg6)) := by after_reads_simp

theorem s6_keep_arg6 : after hostOps0_6 X (Proc.devRef .tc main_arg6) = (X (Proc.devRef .tc main_arg6)) := by after_reads_simp

theorem s7_keep_arg6 : after hostOps0_7 X (Proc.devRef .tc main_arg6) = (X (Proc.devRef .tc main_arg6)) := by after_reads_simp

theorem s8_keep_arg6 : after hostOps0_8 X (Proc.devRef .tc main_arg6) = (X (Proc.devRef .tc main_arg6)) := by after_reads_simp

theorem s9_keep_arg6 : after hostOps0_9 X (Proc.devRef .tc main_arg6) = (X (Proc.devRef .tc main_arg6)) := by after_reads_simp

theorem s0_keep_arg9 : after hostOps0 X (Proc.devRef .tc main_arg9) = (X (Proc.devRef .tc main_arg9)) := by after_reads_simp

theorem s1_keep_arg9 : after hostOps0_1 X (Proc.devRef .tc main_arg9) = (X (Proc.devRef .tc main_arg9)) := by after_reads_simp

theorem s2_keep_arg9 : after hostOps0_2 X (Proc.devRef .tc main_arg9) = (X (Proc.devRef .tc main_arg9)) := by after_reads_simp

theorem s3_keep_arg9 : after hostOps0_3 X (Proc.devRef .tc main_arg9) = (X (Proc.devRef .tc main_arg9)) := by after_reads_simp

theorem s4_keep_arg9 : after hostOps0_4 X (Proc.devRef .tc main_arg9) = (X (Proc.devRef .tc main_arg9)) := by after_reads_simp

theorem s5_keep_arg9 : after hostOps0_5 X (Proc.devRef .tc main_arg9) = (X (Proc.devRef .tc main_arg9)) := by after_reads_simp

theorem s6_keep_arg9 : after hostOps0_6 X (Proc.devRef .tc main_arg9) = (X (Proc.devRef .tc main_arg9)) := by after_reads_simp

theorem s7_keep_arg9 : after hostOps0_7 X (Proc.devRef .tc main_arg9) = (X (Proc.devRef .tc main_arg9)) := by after_reads_simp

theorem s8_keep_arg9 : after hostOps0_8 X (Proc.devRef .tc main_arg9) = (X (Proc.devRef .tc main_arg9)) := by after_reads_simp

theorem s9_keep_arg9 : after hostOps0_9 X (Proc.devRef .tc main_arg9) = (X (Proc.devRef .tc main_arg9)) := by after_reads_simp

theorem s0_keep_arg10 : after hostOps0 X (Proc.devRef .tc main_arg10) = (X (Proc.devRef .tc main_arg10)) := by after_reads_simp

theorem s1_keep_arg10 : after hostOps0_1 X (Proc.devRef .tc main_arg10) = (X (Proc.devRef .tc main_arg10)) := by after_reads_simp

theorem s2_keep_arg10 : after hostOps0_2 X (Proc.devRef .tc main_arg10) = (X (Proc.devRef .tc main_arg10)) := by after_reads_simp

theorem s3_keep_arg10 : after hostOps0_3 X (Proc.devRef .tc main_arg10) = (X (Proc.devRef .tc main_arg10)) := by after_reads_simp

theorem s4_keep_arg10 : after hostOps0_4 X (Proc.devRef .tc main_arg10) = (X (Proc.devRef .tc main_arg10)) := by after_reads_simp

theorem s5_keep_arg10 : after hostOps0_5 X (Proc.devRef .tc main_arg10) = (X (Proc.devRef .tc main_arg10)) := by after_reads_simp

theorem s6_keep_arg10 : after hostOps0_6 X (Proc.devRef .tc main_arg10) = (X (Proc.devRef .tc main_arg10)) := by after_reads_simp

theorem s7_keep_arg10 : after hostOps0_7 X (Proc.devRef .tc main_arg10) = (X (Proc.devRef .tc main_arg10)) := by after_reads_simp

theorem s8_keep_arg10 : after hostOps0_8 X (Proc.devRef .tc main_arg10) = (X (Proc.devRef .tc main_arg10)) := by after_reads_simp

theorem s9_keep_arg10 : after hostOps0_9 X (Proc.devRef .tc main_arg10) = (X (Proc.devRef .tc main_arg10)) := by after_reads_simp

theorem s0_keep_arg13 : after hostOps0 X (Proc.devRef .tc main_arg13) = (X (Proc.devRef .tc main_arg13)) := by after_reads_simp

theorem s1_keep_arg13 : after hostOps0_1 X (Proc.devRef .tc main_arg13) = (X (Proc.devRef .tc main_arg13)) := by after_reads_simp

theorem s2_keep_arg13 : after hostOps0_2 X (Proc.devRef .tc main_arg13) = (X (Proc.devRef .tc main_arg13)) := by after_reads_simp

theorem s3_keep_arg13 : after hostOps0_3 X (Proc.devRef .tc main_arg13) = (X (Proc.devRef .tc main_arg13)) := by after_reads_simp

theorem s4_keep_arg13 : after hostOps0_4 X (Proc.devRef .tc main_arg13) = (X (Proc.devRef .tc main_arg13)) := by after_reads_simp

theorem s5_keep_arg13 : after hostOps0_5 X (Proc.devRef .tc main_arg13) = (X (Proc.devRef .tc main_arg13)) := by after_reads_simp

theorem s6_keep_arg13 : after hostOps0_6 X (Proc.devRef .tc main_arg13) = (X (Proc.devRef .tc main_arg13)) := by after_reads_simp

theorem s7_keep_arg13 : after hostOps0_7 X (Proc.devRef .tc main_arg13) = (X (Proc.devRef .tc main_arg13)) := by after_reads_simp

theorem s8_keep_arg13 : after hostOps0_8 X (Proc.devRef .tc main_arg13) = (X (Proc.devRef .tc main_arg13)) := by after_reads_simp

theorem s9_keep_arg13 : after hostOps0_9 X (Proc.devRef .tc main_arg13) = (X (Proc.devRef .tc main_arg13)) := by after_reads_simp

theorem s0_keep_arg14 : after hostOps0 X (Proc.devRef .tc main_arg14) = (X (Proc.devRef .tc main_arg14)) := by after_reads_simp

theorem s1_keep_arg14 : after hostOps0_1 X (Proc.devRef .tc main_arg14) = (X (Proc.devRef .tc main_arg14)) := by after_reads_simp

theorem s2_keep_arg14 : after hostOps0_2 X (Proc.devRef .tc main_arg14) = (X (Proc.devRef .tc main_arg14)) := by after_reads_simp

theorem s3_keep_arg14 : after hostOps0_3 X (Proc.devRef .tc main_arg14) = (X (Proc.devRef .tc main_arg14)) := by after_reads_simp

theorem s4_keep_arg14 : after hostOps0_4 X (Proc.devRef .tc main_arg14) = (X (Proc.devRef .tc main_arg14)) := by after_reads_simp

theorem s5_keep_arg14 : after hostOps0_5 X (Proc.devRef .tc main_arg14) = (X (Proc.devRef .tc main_arg14)) := by after_reads_simp

theorem s6_keep_arg14 : after hostOps0_6 X (Proc.devRef .tc main_arg14) = (X (Proc.devRef .tc main_arg14)) := by after_reads_simp

theorem s7_keep_arg14 : after hostOps0_7 X (Proc.devRef .tc main_arg14) = (X (Proc.devRef .tc main_arg14)) := by after_reads_simp

theorem s8_keep_arg14 : after hostOps0_8 X (Proc.devRef .tc main_arg14) = (X (Proc.devRef .tc main_arg14)) := by after_reads_simp

theorem s9_keep_arg14 : after hostOps0_9 X (Proc.devRef .tc main_arg14) = (X (Proc.devRef .tc main_arg14)) := by after_reads_simp

end Stretches

/-! ## The arrays the kernel is launched on -/

/-- The columns of loop bounds. -/
theorem V_v20 (c : Dev nD) : V m c main_v20 = bounds (encSorted m c) (decSorted m c) := by
  unfold V V0
  rw [← afterL_eq_after_flatten]
  simp only [afterL_cons, afterL_nil]
  rw [s10_v20, s9_keep_v5, s8_keep_v5, s7_keep_v5, s6_keep_v5, s5_keep_v5, s4_v5, s3_keep_v0, s2_keep_v0, s1_keep_v0, s0_v0, s3_keep_v2, s2_keep_v2, s1_v2, s0_v1, s9_v11, s8_keep_v6, s7_keep_v6, s6_keep_v6, s5_v6, s4_keep_arg5, s3_keep_arg5, s2_keep_arg5, s1_keep_arg5, s0_keep_arg5, s8_keep_v8, s7_keep_v8, s6_v8, s5_v7]
  rfl

/-- The encoder's ids, by step. -/
theorem V_v13 (c : Dev nD) : V m c main_v13 = byStep (encIds m c) := by
  unfold V V0
  rw [← afterL_eq_after_flatten]
  simp only [afterL_cons, afterL_nil]
  rw [s10_v13, s9_keep_v4, s8_keep_v4, s7_keep_v4, s6_keep_v4, s5_keep_v4, s4_keep_v4, s3_v4, s2_v3, s1_keep_arg0, s0_keep_arg0, s1_v2, s0_v1]
  rfl

/-- The decoder's ids, by step. -/
theorem V_v15 (c : Dev nD) : V m c main_v15 = byStep (decIds m c) := by
  unfold V V0
  rw [← afterL_eq_after_flatten]
  simp only [afterL_cons, afterL_nil]
  rw [s10_v15, s9_keep_v10, s8_v10, s7_v9, s6_keep_arg1, s5_keep_arg1, s4_keep_arg1, s3_keep_arg1, s2_keep_arg1, s1_keep_arg1, s0_keep_arg1, s6_v8, s5_v7, s4_keep_arg5, s3_keep_arg5, s2_keep_arg5, s1_keep_arg5, s0_keep_arg5]
  rfl

/-- The encoder's sorted lengths, as a row. -/
theorem V_v21 (c : Dev nD) : V m c main_v21 = broadcastInDim S1x16384 ![1] bcast_S16384_S1x16384_1 (encSorted m c) := by
  unfold V V0
  rw [← afterL_eq_after_flatten]
  simp only [afterL_cons, afterL_nil]
  rw [s10_v21, s9_keep_v5, s8_keep_v5, s7_keep_v5, s6_keep_v5, s5_keep_v5, s4_v5, s3_keep_v0, s2_keep_v0, s1_keep_v0, s0_v0, s3_keep_v2, s2_keep_v2, s1_v2, s0_v1]
  rfl

/-- The decoder's sorted lengths, as a row. -/
theorem V_v22 (c : Dev nD) : V m c main_v22 = broadcastInDim S1x16384 ![1] bcast_S16384_S1x16384_1 (decSorted m c) := by
  unfold V V0
  rw [← afterL_eq_after_flatten]
  simp only [afterL_cons, afterL_nil]
  rw [s10_v22, s9_v11, s8_keep_v6, s7_keep_v6, s6_keep_v6, s5_v6, s4_keep_arg5, s3_keep_arg5, s2_keep_arg5, s1_keep_arg5, s0_keep_arg5, s8_keep_v8, s7_keep_v8, s6_v8, s5_v7]
  rfl

/-- The embedding, transposed. -/
theorem V_v23 (c : Dev nD) : V m c main_v23 = transpose S64x512 [1, 0] (m ((c.tc : Thread nD τ).loc main_arg6)) transposes_S512x64_S64x512_1_0 := by
  unfold V V0
  rw [← afterL_eq_after_flatten]
  simp only [afterL_cons, afterL_nil]
  rw [s10_v23, s9_keep_arg6, s8_keep_arg6, s7_keep_arg6, s6_keep_arg6, s5_keep_arg6, s4_keep_arg6, s3_keep_arg6, s2_keep_arg6, s1_keep_arg6, s0_keep_arg6]

/-- A bias, as a column. -/
theorem V_v24 (c : Dev nD) : V m c main_v24 = shapeCast S192x1 (m ((c.tc : Thread nD τ).loc main_arg9)) shapeCasts_S192_S192x1 := by
  unfold V V0
  rw [← afterL_eq_after_flatten]
  simp only [afterL_cons, afterL_nil]
  rw [s10_v24, s9_keep_arg9, s8_keep_arg9, s7_keep_arg9, s6_keep_arg9, s5_keep_arg9, s4_keep_arg9, s3_keep_arg9, s2_keep_arg9, s1_keep_arg9, s0_keep_arg9]

/-- A bias, as a column. -/
theorem V_v25 (c : Dev nD) : V m c main_v25 = shapeCast S192x1 (m ((c.tc : Thread nD τ).loc main_arg13)) shapeCasts_S192_S192x1 := by
  unfold V V0
  rw [← afterL_eq_after_flatten]
  simp only [afterL_cons, afterL_nil]
  rw [s10_v25, s9_keep_arg13, s8_keep_arg13, s7_keep_arg13, s6_keep_arg13, s5_keep_arg13, s4_keep_arg13, s3_keep_arg13, s2_keep_arg13, s1_keep_arg13, s0_keep_arg13]

/-- A bias, as a column. -/
theorem V_v26 (c : Dev nD) : V m c main_v26 = shapeCast S192x1 (m ((c.tc : Thread nD τ).loc main_arg10)) shapeCasts_S192_S192x1 := by
  unfold V V0
  rw [← afterL_eq_after_flatten]
  simp only [afterL_cons, afterL_nil]
  rw [s10_v26, s9_keep_arg10, s8_keep_arg10, s7_keep_arg10, s6_keep_arg10, s5_keep_arg10, s4_keep_arg10, s3_keep_arg10, s2_keep_arg10, s1_keep_arg10, s0_keep_arg10]

/-- A bias, as a column. -/
theorem V_v27 (c : Dev nD) : V m c main_v27 = shapeCast S192x1 (m ((c.tc : Thread nD τ).loc main_arg14)) shapeCasts_S192_S192x1 := by
  unfold V V0
  rw [← afterL_eq_after_flatten]
  simp only [afterL_cons, afterL_nil]
  rw [s10_v27, s9_keep_arg14, s8_keep_arg14, s7_keep_arg14, s6_keep_arg14, s5_keep_arg14, s4_keep_arg14, s3_keep_arg14, s2_keep_arg14, s1_keep_arg14, s0_keep_arg14]

end Cert.KernelIdeal.Gru

end
-- ==== Proof.InRange.lean ====
/- The precondition read at each entry: ids in [0, 512), lengths in [1, 20]. -/
module

public import proofs.«01_k».proof.Pre_in_range
public import proofs.«01_k».proof.Proof.Gen.Pre_in_range
public import Idealize.ShloMosaic.Lib.ReduceAll

@[expose] public section

namespace Cert.Gru

open Idealize.ShloMosaic
open Cert.Pre_in_range Cert.Pre_in_range.Gen

/-- Ids name rows of the embedding and lengths name a number of steps. -/
structure InRange (a0 a1 : IVec S16384x20 32) (a4 a5 : IVec S16384x1 32) : Prop where
  id0 : ∀ j, 0 ≤ (a0 j).toInt ∧ (a0 j).toInt < 512
  id1 : ∀ j, 0 ≤ (a1 j).toInt ∧ (a1 j).toInt < 512
  len0 : ∀ j, 1 ≤ (a4 j).toInt ∧ (a4 j).toInt ≤ 20
  len1 : ∀ j, 1 ≤ (a5 j).toInt ∧ (a5 j).toInt ≤ 20

theorem andi_one {p q : BitVec 1} (h : IntOp.andi p q = 1#1) : p = 1#1 ∧ q = 1#1 := by
  revert h; revert p q; decide

instance : Subsingleton S_.Idx := ⟨fun a b => funext fun k => k.elim0⟩

theorem inRange_of_pre {F : FTy → Type} [FloatOps F] (a0 a1 : IVec S16384x20 32) (a2 a3 : FVec F S16384x20 .f32)
    (a4 a5 : IVec S16384x1 32) (a6 : FVec F S512x64 .f32) (a7 a8 : FVec F S192x64 .f32) (a9 a10 : FVec F S192 .f32)
    (a11 a12 : FVec F S192x64 .f32) (a13 a14 : FVec F S192 .f32)
    (h : Cert.Pre_in_range.fn (F := F) a0 a1 a2 a3 a4 a5 a6 a7 a8 a9 a10 a11 a12 a13 a14 = fun _ => 1#1) : InRange a0 a1 a4 a5 := by
  have e := congrFun h (fun k => k.elim0)
  unfold Cert.Pre_in_range.fn Cert.Pre_in_range.fn_part1 at e
  obtain ⟨e, h7⟩ := andi_one e
  obtain ⟨e, h6⟩ := andi_one e
  obtain ⟨e, h5⟩ := andi_one e
  obtain ⟨e, h4⟩ := andi_one e
  obtain ⟨e, h3⟩ := andi_one e
  obtain ⟨e, h2⟩ := andi_one e
  obtain ⟨h0, h1⟩ := andi_one e
  exact ⟨fun j => ⟨IntOp.cmpi_sge.1 (Host.reduce_andi_all _ _ _ _ _ h0 j), IntOp.cmpi_slt.1 (Host.reduce_andi_all _ _ _ _ _ h1 j)⟩,
    fun j => ⟨IntOp.cmpi_sge.1 (Host.reduce_andi_all _ _ _ _ _ h2 j), IntOp.cmpi_slt.1 (Host.reduce_andi_all _ _ _ _ _ h3 j)⟩,
    fun j => ⟨IntOp.cmpi_sge.1 (Host.reduce_andi_all _ _ _ _ _ h4 j), IntOp.cmpi_sle.1 (Host.reduce_andi_all _ _ _ _ _ h5 j)⟩,
    fun j => ⟨IntOp.cmpi_sge.1 (Host.reduce_andi_all _ _ _ _ _ h6 j), IntOp.cmpi_sle.1 (Host.reduce_andi_all _ _ _ _ _ h7 j)⟩⟩

end Cert.Gru
-- ==== Proof.HypsOfPre.lean ====
/- The precondition implies what the idealised body assumes of the loop bounds it reads: each is a length between 1 and 20. -/
module

public import proofs.«01_k».proof.Proof.HostReads
public import proofs.«01_k».proof.Proof.InRange
public import proofs.«01_k».proof.Defs
public import Idealize.ShloMosaic.Lib.Pointwise

@[expose] public section

noncomputable section

namespace Cert.KernelIdeal.Gru

open Idealize.ShloMosaic Idealize.ShloMosaic.TcCoe Idealize.ShloMosaic.ValueIdx
open Cert.KernelIdeal Cert.KernelIdeal.Gen

theorem chk1_small : ∀ n : Fin 21, k0_chk1 (BitVec.ofNat 32 n.val) := by decide +kernel

theorem chk2_small : ∀ n : Fin 21, k0_chk2 (BitVec.ofNat 32 n.val) := by decide +kernel

theorem word_small {w : BitVec 32} (h : 1 ≤ w.toInt ∧ w.toInt ≤ 20) : ∃ n : Fin 21, w = BitVec.ofNat 32 n.val := by
  have hn : w.toNat < 21 := by
    have := BitVec.toInt_eq_toNat_cond w
    have := w.isLt
    split at * <;> omega
  exact ⟨⟨w.toNat, hn⟩, by simp⟩

variable {F : FTy → Type} [FloatOps F]
variable (m : (ℓ : Loc nD τ sig) → Buf (Elt F) ℓ)

/-- The arguments' ranges at one chip's memory. -/
abbrev MemInRange (c : Dev nD) : Prop :=
  Cert.Gru.InRange (m ((c.tc : Thread nD τ).loc main_arg0)) (m ((c.tc : Thread nD τ).loc main_arg1))
    (m ((c.tc : Thread nD τ).loc main_arg4)) (m ((c.tc : Thread nD τ).loc main_arg5))

/-- The encoder's `i`th longest length is that of the row it comes from. -/
theorem encSorted_apply (c : Dev nD) (i : Fin 16384) :
    encSorted m c (ValueIdx.ix1 i) = encLens m c (ValueIdx.ix1 (Cert.Gru.rowOf (encLens m c) i)) :=
  Cert.Gru.takeVec_apply _ _ _ (Cert.Gru.order_apply _) i

theorem decSorted_apply (c : Dev nD) (i : Fin 16384) :
    decSorted m c (ValueIdx.ix1 i) = decLens m c (ValueIdx.ix1 (Cert.Gru.rowOf (decLens m c) i)) :=
  Cert.Gru.takeVec_apply _ _ _ (Cert.Gru.order_apply _) i

variable {m}

theorem encLens_range {c : Dev nD} (h : MemInRange m c) (j : S16384.Idx) : 1 ≤ (encLens m c j).toInt ∧ (encLens m c j).toInt ≤ 20 :=
  h.len0 _

theorem decLens_range {c : Dev nD} (h : MemInRange m c) (j : S16384.Idx) : 1 ≤ (decLens m c j).toInt ∧ (decLens m c j).toInt ≤ 20 :=
  h.len1 _

/-- The place of the block's first column in the batch. -/
abbrev first (b : Fin 8) : Fin 16384 := ⟨2048 * b.val, by have := b.isLt; omega⟩

theorem bounds_enc (e d : IVec S16384 32) (b : Fin 8) : bounds e d (ValueIdx.ix2 b 0) = e (ValueIdx.ix1 (first b)) := by
  unfold bounds
  pointwise
  rfl

theorem bounds_dec (e d : IVec S16384 32) (b : Fin 8) : bounds e d (ValueIdx.ix2 b 1) = d (ValueIdx.ix1 (first b)) := by
  unfold bounds
  pointwise
  rfl

/-- The point's coordinate as a block number. -/
abbrev blockAt (i : grid0.Coords) : Fin 8 := ⟨(i 0).val, (i 0).isLt⟩

theorem off1_eq (i : grid0.Coords) : k0_off1 i = ![(i 0).val, 0] := by
  have h : (i 0).val < 8 := (i 0).isLt
  have e : (Scalar.indexCast (BitVec.ofNat 32 (i 0).val)).toNat = (i 0).val := by
    simp [Scalar.indexCast]; omega
  show ![(Scalar.indexCast (BitVec.ofNat 32 (i 0).val)).toNat, 0] = _
  rw [e]

theorem off2_eq (i : grid0.Coords) : k0_off2 i = ![(i 0).val, 1] := by
  have h : (i 0).val < 8 := (i 0).isLt
  have e : (Scalar.indexCast (BitVec.ofNat 32 (i 0).val)).toNat = (i 0).val := by
    simp [Scalar.indexCast]; omega
  show ![(Scalar.indexCast (BitVec.ofNat 32 (i 0).val)).toNat, 1] = _
  rw [e]

variable (m)

/-- The encoder's loop bound at a point: its first column's length, the longest of the block. -/
theorem word_enc (i : grid0.Coords) :
    tbM0_0.view.readAt (Elt F) (Rect.unit (s := S8x2) (k0_off1 i) S1x1.size (k0_off1_inb i)).toLoadRect (tbl m 0) (Shape.Idx.first (numel1_S1x1.symm ▸ Nat.one_pos))
      = encSorted m 0 (ValueIdx.ix1 (first (blockAt i))) := by
  rw [← bounds_enc (encSorted m 0) (decSorted m 0), ← V_v20]
  refine (show _ = V m 0 main_v20 ((Rect.unit (s := S8x2) (k0_off1 i) S1x1.size (k0_off1_inb i)).toLoadRect.idx (Shape.Idx.first (numel1_S1x1.symm ▸ Nat.one_pos))) from rfl).trans ?_
  refine congrArg (V m 0 main_v20) (funext fun a => Fin.ext ?_)
  match a with
  | ⟨0, _⟩ => exact congrFun (off1_eq i) 0
  | ⟨1, _⟩ => exact congrFun (off1_eq i) 1

theorem word_dec (i : grid0.Coords) :
    tbM0_0.view.readAt (Elt F) (Rect.unit (s := S8x2) (k0_off2 i) S1x1.size (k0_off2_inb i)).toLoadRect (tbl m 0) (Shape.Idx.first (numel1_S1x1.symm ▸ Nat.one_pos))
      = decSorted m 0 (ValueIdx.ix1 (first (blockAt i))) := by
  rw [← bounds_dec (encSorted m 0) (decSorted m 0), ← V_v20]
  refine (show _ = V m 0 main_v20 ((Rect.unit (s := S8x2) (k0_off2 i) S1x1.size (k0_off2_inb i)).toLoadRect.idx (Shape.Idx.first (numel1_S1x1.symm ▸ Nat.one_pos))) from rfl).trans ?_
  refine congrArg (V m 0 main_v20) (funext fun a => Fin.ext ?_)
  match a with
  | ⟨0, _⟩ => exact congrFun (off2_eq i) 0
  | ⟨1, _⟩ => exact congrFun (off2_eq i) 1

theorem hyps_of_range (hO : Ok m) (h : MemInRange m 0) : Hyps m hO := by
  refine Hyps.of (fun c t => ?_) (fun c t => ?_)
  · unfold Hyps.p0
    rw [word_enc]
    obtain ⟨n, e⟩ := word_small (by rw [encSorted_apply]; exact encLens_range h _ : 1 ≤ (encSorted m 0 (ValueIdx.ix1 (first (blockAt (grid0.coords t))))).toInt ∧ _)
    rw [e]
    exact chk1_small n
  · unfold Hyps.p1
    rw [word_dec]
    obtain ⟨n, e⟩ := word_small (by rw [decSorted_apply]; exact decLens_range h _ : 1 ≤ (decSorted m 0 (ValueIdx.ix1 (first (blockAt (grid0.coords t))))).toInt ∧ _)
    rw [e]
    exact chk2_small n

/-- The ranges, from the certificate's precondition. -/
theorem range_of_pre (m : (ℓ : Loc nD τ sig) → Buf (Elt Ideal) ℓ) (h : Cert.Pre_KernelIdeal m) (c : Dev nD) : MemInRange m c :=
  Cert.Gru.inRange_of_pre _ _ _ _ _ _ _ _ _ _ _ _ _ _ _ (h c)

end Cert.KernelIdeal.Gru

end
-- ==== Proof.HostReadsK.lean ====
/- The arrays the program's kernel is launched on, as functions of the arguments. -/
module

public import proofs.«01_k».proof.Proof.HostValue
public import proofs.«01_k».proof.Proof.Gen.Kernel.Frame.Runs
public import Idealize.ShloMosaic.Lib.StableHlo.RunRead
public import Idealize.ShloMosaic.Lib.StableHlo.RunLoop
public import Idealize.ShloMosaic.Lib.StableHlo.RunLoop

@[expose] public section

set_option maxRecDepth 8192

noncomputable section

namespace Cert.Kernel.Gru

open Idealize.ShloMosaic Idealize.ShloMosaic.TcCoe Idealize.ShloMosaic.StableHlo
open Cert.Kernel Cert.Kernel.Gen

variable {F : FTy → Type} [FloatOps F]
variable (m : (ℓ : Loc nD τ sig) → Buf (Elt F) ℓ)

/-- A column of lengths as a vector. -/
abbrev flat (a : IVec S16384x1 32) : IVec S16384 32 := shapeCast S16384 a shapeCasts_S16384x1_S16384

/-- The two columns of loop bounds: every 2048th of the sorted lengths. -/
def bounds (e d : IVec S16384 32) : IVec S8x2 32 :=
  concatenate S8x2 1 [⟨S8x1, broadcastInDim S8x1 ![0] bcast_S8_S8x1_0 (Host.slice S8 ![0] ![2048] e slicesBy_S16384_S8_0s2048)⟩,
    ⟨S8x1, broadcastInDim S8x1 ![0] bcast_S8_S8x1_0 (Host.slice S8 ![0] ![2048] d slicesBy_S16384_S8_0s2048)⟩] concatenates_S8x1_S8x1_S8x2_d1

abbrev encLens (c : Dev nD) : IVec S16384 32 := flat (m ((c.tc : Thread nD τ).loc main_arg4))
abbrev decLens (c : Dev nD) : IVec S16384 32 := flat (m ((c.tc : Thread nD τ).loc main_arg5))
abbrev encSorted (c : Dev nD) : IVec S16384 32 := Cert.Gru.takeVec (encLens m c) (Cert.Gru.order (encLens m c))
abbrev decSorted (c : Dev nD) : IVec S16384 32 := Cert.Gru.takeVec (decLens m c) (Cert.Gru.order (decLens m c))
/-! ## What each stretch of host operations leaves in one buffer -/

section Stretches
variable (X : Valuation τ sig (Elt F))

theorem s0_v0 : after hostOps0 X (Proc.devRef .tc main_v0) = flat (X (Proc.devRef .tc main_arg4)) := by
  after_reads_simp
  all_goals rfl

theorem s0_v1 : after hostOps0 X (Proc.devRef .tc main_v1) = negi (flat (X (Proc.devRef .tc main_arg4))) := by
  after_reads_simp
  all_goals rfl

theorem s1_v2 : after hostOps0_1 X (Proc.devRef .tc main_v2) = (Host.sort2 S16384 0 comparator_i32_i32_d0 (X (Proc.devRef .tc main_v1)) (iotaInDim S16384 32 0)).2 := by
  after_reads_simp
  simp only [TRef.ofBuf_toBuf, TRef.toBuf, TRef.ofBuf, cast_eq]

theorem s4_v5 : after hostOps0_4 X (Proc.devRef .tc main_v5) = Cert.Gru.takeVec (X (Proc.devRef .tc main_v0)) (X (Proc.devRef .tc main_v2)) := by
  after_reads_simp
  simp only [TRef.ofBuf_toBuf, TRef.toBuf, TRef.ofBuf, cast_eq]
  unfold Cert.Gru.takeVec Cert.Gru.posIn Cert.Gru.wrapPos
  rfl

theorem s5_v6 : after hostOps0_5 X (Proc.devRef .tc main_v6) = flat (X (Proc.devRef .tc main_arg5)) := by
  after_reads_simp
  all_goals rfl

theorem s5_v7 : after hostOps0_5 X (Proc.devRef .tc main_v7) = negi (flat (X (Proc.devRef .tc main_arg5))) := by
  after_reads_simp
  all_goals rfl

theorem s6_v8 : after hostOps0_6 X (Proc.devRef .tc main_v8) = (Host.sort2 S16384 0 comparator_i32_i32_d0 (X (Proc.devRef .tc main_v7)) (iotaInDim S16384 32 0)).2 := by
  after_reads_simp
  simp only [TRef.ofBuf_toBuf, TRef.toBuf, TRef.ofBuf, cast_eq]

theorem s9_v11 : after hostOps0_9 X (Proc.devRef .tc main_v11) = Cert.Gru.takeVec (X (Proc.devRef .tc main_v6)) (X (Proc.devRef .tc main_v8)) := by
  after_reads_simp
  simp only [TRef.ofBuf_toBuf, TRef.toBuf, TRef.ofBuf, cast_eq]
  unfold Cert.Gru.takeVec Cert.Gru.posIn Cert.Gru.wrapPos
  rfl

theorem s10_v20 : after hostOps0_10 X (Proc.devRef .tc main_v20) = bounds (X (Proc.devRef .tc main_v5)) (X (Proc.devRef .tc main_v11)) := by
  after_reads_simp
  all_goals rfl

theorem s1_keep_v0 : after hostOps0_1 X (Proc.devRef .tc main_v0) = (X (Proc.devRef .tc main_v0)) := by after_reads_simp

theorem s2_keep_v0 : after hostOps0_2 X (Proc.devRef .tc main_v0) = (X (Proc.devRef .tc main_v0)) := by after_reads_simp

theorem s3_keep_v0 : after hostOps0_3 X (Proc.devRef .tc main_v0) = (X (Proc.devRef .tc main_v0)) := by after_reads_simp

theorem s2_keep_v2 : after hostOps0_2 X (Proc.devRef .tc main_v2) = (X (Proc.devRef .tc main_v2)) := by after_reads_simp

theorem s3_keep_v2 : after hostOps0_3 X (Proc.devRef .tc main_v2) = (X (Proc.devRef .tc main_v2)) := by after_reads_simp

theorem s5_keep_v5 : after hostOps0_5 X (Proc.devRef .tc main_v5) = (X (Proc.devRef .tc main_v5)) := by after_reads_simp

theorem s6_keep_v5 : after hostOps0_6 X (Proc.devRef .tc main_v5) = (X (Proc.devRef .tc main_v5)) := by after_reads_simp

theorem s7_keep_v5 : after hostOps0_7 X (Proc.devRef .tc main_v5) = (X (Proc.devRef .tc main_v5)) := by after_reads_simp

theorem s8_keep_v5 : after hostOps0_8 X (Proc.devRef .tc main_v5) = (X (Proc.devRef .tc main_v5)) := by after_reads_simp

theorem s9_keep_v5 : after hostOps0_9 X (Proc.devRef .tc main_v5) = (X (Proc.devRef .tc main_v5)) := by after_reads_simp

theorem s6_keep_v6 : after hostOps0_6 X (Proc.devRef .tc main_v6) = (X (Proc.devRef .tc main_v6)) := by after_reads_simp

theorem s7_keep_v6 : after hostOps0_7 X (Proc.devRef .tc main_v6) = (X (Proc.devRef .tc main_v6)) := by after_reads_simp

theorem s8_keep_v6 : after hostOps0_8 X (Proc.devRef .tc main_v6) = (X (Proc.devRef .tc main_v6)) := by after_reads_simp

theorem s7_keep_v8 : after hostOps0_7 X (Proc.devRef .tc main_v8) = (X (Proc.devRef .tc main_v8)) := by after_reads_simp

theorem s8_keep_v8 : after hostOps0_8 X (Proc.devRef .tc main_v8) = (X (Proc.devRef .tc main_v8)) := by after_reads_simp

theorem s0_keep_arg5 : after hostOps0 X (Proc.devRef .tc main_arg5) = (X (Proc.devRef .tc main_arg5)) := by after_reads_simp

theorem s1_keep_arg5 : after hostOps0_1 X (Proc.devRef .tc main_arg5) = (X (Proc.devRef .tc main_arg5)) := by after_reads_simp

theorem s2_keep_arg5 : after hostOps0_2 X (Proc.devRef .tc main_arg5) = (X (Proc.devRef .tc main_arg5)) := by after_reads_simp

theorem s3_keep_arg5 : after hostOps0_3 X (Proc.devRef .tc main_arg5) = (X (Proc.devRef .tc main_arg5)) := by after_reads_simp

theorem s4_keep_arg5 : after hostOps0_4 X (Proc.devRef .tc main_arg5) = (X (Proc.devRef .tc main_arg5)) := by after_reads_simp

end Stretches

/-! ## The arrays the kernel is launched on -/

/-- The columns of loop bounds. -/
theorem V_v20 (c : Dev nD) : V m c main_v20 = bounds (encSorted m c) (decSorted m c) := by
  unfold V V0
  rw [← afterL_eq_after_flatten]
  simp only [afterL_cons, afterL_nil]
  rw [s10_v20, s9_keep_v5, s8_keep_v5, s7_keep_v5, s6_keep_v5, s5_keep_v5, s4_v5, s3_keep_v0, s2_keep_v0, s1_keep_v0, s0_v0, s3_keep_v2, s2_keep_v2, s1_v2, s0_v1, s9_v11, s8_keep_v6, s7_keep_v6, s6_keep_v6, s5_v6, s4_keep_arg5, s3_keep_arg5, s2_keep_arg5, s1_keep_arg5, s0_keep_arg5, s8_keep_v8, s7_keep_v8, s6_v8, s5_v7]
  rfl

end Cert.Kernel.Gru

end
-- ==== Proof.Frames.lean ====
/- The two kernels' frames: every argument array ends as it began and every counter at zero. -/
module

public import proofs.«01_k».proof.Proof.HypsOfPre
public import proofs.«01_k».proof.Proof.HypsOfPreK
public import proofs.«01_k».proof.Proof.Gen.KernelIdeal.Frame
public import proofs.«01_k».proof.Proof.Gen.Kernel.Frame
public import proofs.«01_k».proof.Proof.Gen.Pre_in_range

@[expose] public section

noncomputable section

namespace Cert.Gru

open Idealize.ShloMosaic

theorem frame_kernel : Cert.quiescent_Kernel (hKernel := Cert.Kernel.Gen.facts) (hPre_in_range := Cert.Pre_in_range.Gen.facts) :=
  fun m g h => Cert.Kernel.Gen.frame m g trivial (Cert.Kernel.Gru.hyps_of_range m trivial (Cert.Kernel.Gru.range_of_pre m h 0))

theorem frame_ideal : Cert.quiescent_KernelIdeal (hKernelIdeal := Cert.KernelIdeal.Gen.facts) (hPre_in_range := Cert.Pre_in_range.Gen.facts) :=
  fun m g h => Cert.KernelIdeal.Gen.frame m g trivial (Cert.KernelIdeal.Gru.hyps_of_range m trivial (Cert.KernelIdeal.Gru.range_of_pre m h 0))

end Cert.Gru

end
-- ==== Proof.RefOps.lean ====
/- The reference's operations outside its two loops, as lists of operations, and @main as their chain. -/
module

public import proofs.«01_k».proof.Proof.Gen.ReferenceIdeal
public import Idealize.ShloMosaic.Lib.Pipeline.Regions
public import Idealize.ShloMosaic.Lib.StableHlo.RunLoop

@[expose] public section

set_option maxRecDepth 1200

noncomputable section

namespace Cert.Gru

open Idealize.ShloMosaic Idealize.ShloMosaic.TcCoe
open Idealize.SL Idealize.SL.RA Idealize.SL.BI
open scoped Idealize.SL.BI
open Idealize.SL.BI.BIBase Idealize.SL.Sem
open Cert.ReferenceIdeal Cert.ReferenceIdeal.Gen

variable {F : FTy → Type} [FloatOps F]

/-- 2 host operations of @main, in order. -/
abbrev h0 : List (HloOp τ sig (Elt F)) :=
  [ StableHlo.reshape main_arg4 main_v0 (rfl : (.i32 : EltTy) = .i32) shapeCasts_S16384x1_S16384,
    StableHlo.unary main_v0 main_v1 (negi : (⟨S16384, .i32⟩ : BufTy).Contents (Elt F) → (⟨S16384, .i32⟩ : BufTy).Contents (Elt F)) ]
theorem h0_sub : (h0 : List (HloOp τ sig (Elt F))).Forall fun op => op.bufs ⊆ StableHlo.tcRefs τ sig :=
  ⟨StableHlo.reshape_bufs_sub .., StableHlo.unary_bufs_sub ..⟩
/-- 3 host operations of @argsort (main_call0), in order. -/
abbrev h1 : List (HloOp τ sig (Elt F)) :=
  [ StableHlo.TRef.nullary (.of main_call0_v0 : StableHlo.TRef sig ⟨S16384, .i32⟩) (iotaInDim S16384 32 0),
    StableHlo.TRef.binary (.of main_v1 : StableHlo.TRef sig ⟨S16384, .i32⟩) (.of main_call0_v0 : StableHlo.TRef sig ⟨S16384, .i32⟩) (.of main_call0_v1_0 : StableHlo.TRef sig ⟨S16384, .i32⟩) (fun x y => (Host.sort2 S16384 0 comparator_i32_i32_d0 x y).1),
    StableHlo.TRef.binary (.of main_v1 : StableHlo.TRef sig ⟨S16384, .i32⟩) (.of main_call0_v0 : StableHlo.TRef sig ⟨S16384, .i32⟩) (.of main_v2 : StableHlo.TRef sig ⟨S16384, .i32⟩) (fun x y => (Host.sort2 S16384 0 comparator_i32_i32_d0 x y).2) ]
theorem h1_sub : (h1 : List (HloOp τ sig (Elt F))).Forall fun op => op.bufs ⊆ StableHlo.tcRefs τ sig :=
  ⟨StableHlo.nullary_bufs_sub .., StableHlo.binary_bufs_sub .., StableHlo.binary_bufs_sub ..⟩
/-- 23 host operations of @_take (main_call1), in order. -/
abbrev h2 : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S16384, .i32⟩) (broadcastInDim S16384 ![] bcast_S_S16384),
    StableHlo.TRef.binary (.of main_v2 : StableHlo.TRef sig ⟨S16384, .i32⟩) (.of main_call1_v0 : StableHlo.TRef sig ⟨S16384, .i32⟩) (.of main_call1_v1 : StableHlo.TRef sig ⟨S16384, .i1⟩) (cmpi .slt),
    StableHlo.TRef.nullary (.of main_call1_c_0 : StableHlo.TRef sig ⟨S_, .i32⟩) (constantI S_ 32 16384#32),
    StableHlo.TRef.unary (.of main_call1_c_0 : StableHlo.TRef sig ⟨S_, .i32⟩) (.of main_call1_v2 : StableHlo.TRef sig ⟨S16384, .i32⟩) (broadcastInDim S16384 ![] bcast_S_S16384),
    StableHlo.TRef.binary (.of main_v2 : StableHlo.TRef sig ⟨S16384, .i32⟩) (.of main_call1_v2 : StableHlo.TRef sig ⟨S16384, .i32⟩) (.of main_call1_v3 : StableHlo.TRef sig ⟨S16384, .i32⟩) addi,
    StableHlo.TRef.ternary (.of main_call1_v1 : StableHlo.TRef sig ⟨S16384, .i1⟩) (.of main_call1_v3 : StableHlo.TRef sig ⟨S16384, .i32⟩) (.of main_v2 : StableHlo.TRef sig ⟨S16384, .i32⟩) (.of main_call1_v4 : StableHlo.TRef sig ⟨S16384, .i32⟩) select,
    StableHlo.TRef.unary (.of main_call1_v4 : StableHlo.TRef sig ⟨S16384, .i32⟩) (.of main_call1_v5 : StableHlo.TRef sig ⟨S16384x1, .i32⟩) (broadcastInDim S16384x1 ![0] bcast_S16384_S16384x1_0),
    StableHlo.TRef.nullary (.of main_call1_c_1 : StableHlo.TRef sig ⟨S1, .i32⟩) (constantI S1 32 16383#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S16384x1, .i32⟩) (broadcastInDim S16384x1 ![] bcast_S_S16384x1),
    StableHlo.TRef.binary (.of main_call1_v5 : StableHlo.TRef sig ⟨S16384x1, .i32⟩) (.of main_call1_v6 : StableHlo.TRef sig ⟨S16384x1, .i32⟩) (.of main_call1_v7 : StableHlo.TRef sig ⟨S16384x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S16384x1, .i32⟩) (broadcastInDim S16384x1 ![0, 1] bcast_S1x1_S16384x1_0_1),
    StableHlo.TRef.binary (.of main_call1_v5 : StableHlo.TRef sig ⟨S16384x1, .i32⟩) (.of main_call1_v9 : StableHlo.TRef sig ⟨S16384x1, .i32⟩) (.of main_call1_v10 : StableHlo.TRef sig ⟨S16384x1, .i1⟩) (cmpi .sle),
    StableHlo.TRef.binary (.of main_call1_v7 : StableHlo.TRef sig ⟨S16384x1, .i1⟩) (.of main_call1_v10 : StableHlo.TRef sig ⟨S16384x1, .i1⟩) (.of main_call1_v11 : StableHlo.TRef sig ⟨S16384x1, .i1⟩) andi,
    StableHlo.TRef.nullary (.of main_call1_c_3 : StableHlo.TRef sig ⟨S_, .i1⟩) (constantI S_ 1 1#1),
    StableHlo.TRef.binary (.of main_call1_v11 : StableHlo.TRef sig ⟨S16384x1, .i1⟩) (.of main_call1_c_3 : StableHlo.TRef sig ⟨S_, .i1⟩) (.of main_call1_v12 : StableHlo.TRef sig ⟨S16384, .i1⟩) (fun x v => Host.reduce IntOp.andi x v reducesTo_S16384x1_S16384_d1 h_S_),
    StableHlo.TRef.binary (.of main_arg0 : StableHlo.TRef sig ⟨S16384x20, .i32⟩) (.of main_call1_v5 : StableHlo.TRef sig ⟨S16384x1, .i32⟩) (.of main_call1_v13 : StableHlo.TRef sig ⟨S16384x20, .i32⟩) (fun x i => Host.gather gather_S16384x20_S16384x1_S16384x20_1_0_n_n_0_1_120 x i),
    StableHlo.TRef.unary (.of main_call1_v12 : StableHlo.TRef sig ⟨S16384, .i1⟩) (.of main_call1_v14 : StableHlo.TRef sig ⟨S16384x20, .i1⟩) (broadcastInDim S16384x20 ![0] bcast_S16384_S16384x20_0),
    StableHlo.TRef.nullary (.of main_call1_c_4 : StableHlo.TRef sig ⟨S_, .i32⟩) (constantI S_ 32 2147483648#32),
    StableHlo.TRef.unary (.of main_call1_c_4 : StableHlo.TRef sig ⟨S_, .i32⟩) (.of main_call1_v15 : StableHlo.TRef sig ⟨S16384x20, .i32⟩) (broadcastInDim S16384x20 ![] bcast_S_S16384x20),
    StableHlo.TRef.ternary (.of main_call1_v14 : StableHlo.TRef sig ⟨S16384x20, .i1⟩) (.of main_call1_v13 : StableHlo.TRef sig ⟨S16384x20, .i32⟩) (.of main_call1_v15 : StableHlo.TRef sig ⟨S16384x20, .i32⟩) (.of main_v3 : StableHlo.TRef sig ⟨S16384x20, .i32⟩) select ]
theorem h2_sub : (h2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 22 host operations of @_take_0 (main_call2), in order. -/
abbrev h3 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S16384, .i32⟩) (broadcastInDim S16384 ![] bcast_S_S16384),
    StableHlo.TRef.binary (.of main_v2 : StableHlo.TRef sig ⟨S16384, .i32⟩) (.of main_call2_v0 : StableHlo.TRef sig ⟨S16384, .i32⟩) (.of main_call2_v1 : StableHlo.TRef sig ⟨S16384, .i1⟩) (cmpi .slt),
    StableHlo.TRef.nullary (.of main_call2_c_0 : StableHlo.TRef sig ⟨S_, .i32⟩) (constantI S_ 32 16384#32),
    StableHlo.TRef.unary (.of main_call2_c_0 : StableHlo.TRef sig ⟨S_, .i32⟩) (.of main_call2_v2 : StableHlo.TRef sig ⟨S16384, .i32⟩) (broadcastInDim S16384 ![] bcast_S_S16384),
    StableHlo.TRef.binary (.of main_v2 : StableHlo.TRef sig ⟨S16384, .i32⟩) (.of main_call2_v2 : StableHlo.TRef sig ⟨S16384, .i32⟩) (.of main_call2_v3 : StableHlo.TRef sig ⟨S16384, .i32⟩) addi,
    StableHlo.TRef.ternary (.of main_call2_v1 : StableHlo.TRef sig ⟨S16384, .i1⟩) (.of main_call2_v3 : StableHlo.TRef sig ⟨S16384, .i32⟩) (.of main_v2 : StableHlo.TRef sig ⟨S16384, .i32⟩) (.of main_call2_v4 : StableHlo.TRef sig ⟨S16384, .i32⟩) select,
    StableHlo.TRef.unary (.of main_call2_v4 : StableHlo.TRef sig ⟨S16384, .i32⟩) (.of main_call2_v5 : StableHlo.TRef sig ⟨S16384x1, .i32⟩) (broadcastInDim S16384x1 ![0] bcast_S16384_S16384x1_0),
    StableHlo.TRef.nullary (.of main_call2_c_1 : StableHlo.TRef sig ⟨S1, .i32⟩) (constantI S1 32 16383#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S16384x1, .i32⟩) (broadcastInDim S16384x1 ![] bcast_S_S16384x1),
    StableHlo.TRef.binary (.of main_call2_v5 : StableHlo.TRef sig ⟨S16384x1, .i32⟩) (.of main_call2_v6 : StableHlo.TRef sig ⟨S16384x1, .i32⟩) (.of main_call2_v7 : StableHlo.TRef sig ⟨S16384x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S16384x1, .i32⟩) (broadcastInDim S16384x1 ![0, 1] bcast_S1x1_S16384x1_0_1),
    StableHlo.TRef.binary (.of main_call2_v5 : StableHlo.TRef sig ⟨S16384x1, .i32⟩) (.of main_call2_v9 : StableHlo.TRef sig ⟨S16384x1, .i32⟩) (.of main_call2_v10 : StableHlo.TRef sig ⟨S16384x1, .i1⟩) (cmpi .sle),
    StableHlo.TRef.binary (.of main_call2_v7 : StableHlo.TRef sig ⟨S16384x1, .i1⟩) (.of main_call2_v10 : StableHlo.TRef sig ⟨S16384x1, .i1⟩) (.of main_call2_v11 : StableHlo.TRef sig ⟨S16384x1, .i1⟩) andi,
    StableHlo.TRef.nullary (.of main_call2_c_3 : StableHlo.TRef sig ⟨S_, .i1⟩) (constantI S_ 1 1#1),
    StableHlo.TRef.binary (.of main_call2_v11 : StableHlo.TRef sig ⟨S16384x1, .i1⟩) (.of main_call2_c_3 : StableHlo.TRef sig ⟨S_, .i1⟩) (.of main_call2_v12 : StableHlo.TRef sig ⟨S16384, .i1⟩) (fun x v => Host.reduce IntOp.andi x v reducesTo_S16384x1_S16384_d1 h_S_),
    StableHlo.TRef.binary (.of main_v0 : StableHlo.TRef sig ⟨S16384, .i32⟩) (.of main_call2_v5 : StableHlo.TRef sig ⟨S16384x1, .i32⟩) (.of main_call2_v13 : StableHlo.TRef sig ⟨S16384, .i32⟩) (fun x i => Host.gather gather_S16384_S16384x1_S16384_n_0_n_n_0_1_1 x i),
    StableHlo.TRef.nullary (.of main_call2_c_4 : StableHlo.TRef sig ⟨S_, .i32⟩) (constantI S_ 32 2147483648#32),
    StableHlo.TRef.unary (.of main_call2_c_4 : StableHlo.TRef sig ⟨S_, .i32⟩) (.of main_call2_v14 : StableHlo.TRef sig ⟨S16384, .i32⟩) (broadcastInDim S16384 ![] bcast_S_S16384),
    StableHlo.TRef.ternary (.of main_call2_v12 : StableHlo.TRef sig ⟨S16384, .i1⟩) (.of main_call2_v13 : StableHlo.TRef sig ⟨S16384, .i32⟩) (.of main_call2_v14 : StableHlo.TRef sig ⟨S16384, .i32⟩) (.of main_v4 : StableHlo.TRef sig ⟨S16384, .i32⟩) select ]
theorem h3_sub : (h3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- 23 host operations of @_take_1 (main_call3), in order. -/
abbrev h4 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S16384x20, .i32⟩) (broadcastInDim S16384x20 ![] bcast_S_S16384x20),
    StableHlo.TRef.binary (.of main_v3 : StableHlo.TRef sig ⟨S16384x20, .i32⟩) (.of main_call3_v0 : StableHlo.TRef sig ⟨S16384x20, .i32⟩) (.of main_call3_v1 : StableHlo.TRef sig ⟨S16384x20, .i1⟩) (cmpi .slt),
    StableHlo.TRef.nullary (.of main_call3_c_0 : StableHlo.TRef sig ⟨S_, .i32⟩) (constantI S_ 32 512#32),
    StableHlo.TRef.unary (.of main_call3_c_0 : StableHlo.TRef sig ⟨S_, .i32⟩) (.of main_call3_v2 : StableHlo.TRef sig ⟨S16384x20, .i32⟩) (broadcastInDim S16384x20 ![] bcast_S_S16384x20),
    StableHlo.TRef.binary (.of main_v3 : StableHlo.TRef sig ⟨S16384x20, .i32⟩) (.of main_call3_v2 : StableHlo.TRef sig ⟨S16384x20, .i32⟩) (.of main_call3_v3 : StableHlo.TRef sig ⟨S16384x20, .i32⟩) addi,
    StableHlo.TRef.ternary (.of main_call3_v1 : StableHlo.TRef sig ⟨S16384x20, .i1⟩) (.of main_call3_v3 : StableHlo.TRef sig ⟨S16384x20, .i32⟩) (.of main_v3 : StableHlo.TRef sig ⟨S16384x20, .i32⟩) (.of main_call3_v4 : StableHlo.TRef sig ⟨S16384x20, .i32⟩) select,
    StableHlo.TRef.unary (.of main_call3_v4 : StableHlo.TRef sig ⟨S16384x20, .i32⟩) (.of main_call3_v5 : StableHlo.TRef sig ⟨S16384x20x1, .i32⟩) (broadcastInDim S16384x20x1 ![0, 1] bcast_S16384x20_S16384x20x1_0_1),
    StableHlo.TRef.nullary (.of main_call3_c_1 : StableHlo.TRef sig ⟨S1, .i32⟩) (constantI S1 32 511#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S16384x20x1, .i32⟩) (broadcastInDim S16384x20x1 ![] bcast_S_S16384x20x1),
    StableHlo.TRef.binary (.of main_call3_v5 : StableHlo.TRef sig ⟨S16384x20x1, .i32⟩) (.of main_call3_v6 : StableHlo.TRef sig ⟨S16384x20x1, .i32⟩) (.of main_call3_v7 : StableHlo.TRef sig ⟨S16384x20x1, .i1⟩) (cmpi .sge),
    StableHlo.TRef.unary (.of main_call3_c_1 : StableHlo.TRef sig ⟨S1, .i32⟩) (.of main_call3_v8 : StableHlo.TRef sig ⟨S1x1x1, .i32⟩) (broadcastInDim S1x1x1 ![2] bcast_S1_S1x1x1_2),
    StableHlo.TRef.unary (.of main_call3_v8 : StableHlo.TRef sig ⟨S1x1x1, .i32⟩) (.of main_call3_v9 : StableHlo.TRef sig ⟨S16384x20x1, .i32⟩) (broadcastInDim S16384x20x1 ![0, 1, 2] bcast_S1x1x1_S16384x20x1_0_1_2),
    StableHlo.TRef.binary (.of main_call3_v5 : StableHlo.TRef sig ⟨S16384x20x1, .i32⟩) (.of main_call3_v9 : StableHlo.TRef sig ⟨S16384x20x1, .i32⟩) (.of main_call3_v10 : StableHlo.TRef sig ⟨S16384x20x1, .i1⟩) (cmpi .sle),
    StableHlo.TRef.binary (.of main_call3_v7 : StableHlo.TRef sig ⟨S16384x20x1, .i1⟩) (.of main_call3_v10 : StableHlo.TRef sig ⟨S16384x20x1, .i1⟩) (.of main_call3_v11 : StableHlo.TRef sig ⟨S16384x20x1, .i1⟩) andi,
    StableHlo.TRef.nullary (.of main_call3_c_3 : StableHlo.TRef sig ⟨S_, .i1⟩) (constantI S_ 1 1#1),
    StableHlo.TRef.binary (.of main_call3_v11 : StableHlo.TRef sig ⟨S16384x20x1, .i1⟩) (.of main_call3_c_3 : StableHlo.TRef sig ⟨S_, .i1⟩) (.of main_call3_v12 : StableHlo.TRef sig ⟨S16384x20, .i1⟩) (fun x v => Host.reduce IntOp.andi x v reducesTo_S16384x20x1_S16384x20_d2 h_S_),
    StableHlo.TRef.binary (.of main_arg6 : StableHlo.TRef sig ⟨S512x64, .f32⟩) (.of main_call3_v5 : StableHlo.TRef sig ⟨S16384x20x1, .i32⟩) (.of main_call3_v13 : StableHlo.TRef sig ⟨S16384x20x64, .f32⟩) (fun x i => Host.gather gather_S512x64_S16384x20x1_S16384x20x64_2_0_n_n_0_2_164 x i),
    StableHlo.TRef.unary (.of main_call3_v12 : StableHlo.TRef sig ⟨S16384x20, .i1⟩) (.of main_call3_v14 : StableHlo.TRef sig ⟨S16384x20x64, .i1⟩) (broadcastInDim S16384x20x64 ![0, 1] bcast_S16384x20_S16384x20x64_0_1),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v15 : StableHlo.TRef sig ⟨S16384x20x64, .f32⟩) (broadcastInDim S16384x20x64 ![] bcast_S_S16384x20x64),
    StableHlo.TRef.ternary (.of main_call3_v14 : StableHlo.TRef sig ⟨S16384x20x64, .i1⟩) (.of main_call3_v13 : StableHlo.TRef sig ⟨S16384x20x64, .f32⟩) (.of main_call3_v15 : StableHlo.TRef sig ⟨S16384x20x64, .f32⟩) (.of main_v5 : StableHlo.TRef sig ⟨S16384x20x64, .f32⟩) select ]
theorem h4_sub : (h4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 17 host operations of @main, in order. -/
abbrev h5 : List (HloOp τ sig (Elt F)) :=
  [ StableHlo.nullary main_cst (constant S_ .f32 0x00000000#32),
    StableHlo.unary main_cst main_v6 (broadcastInDim S16384x64 ![] bcast_S_S16384x64 : (⟨S_, .f32⟩ : BufTy).Contents (Elt F) → (⟨S16384x64, .f32⟩ : BufTy).Contents (Elt F)),
    StableHlo.unary main_v5 main_v7 ((transpose S20x16384x64 [1, 0, 2] · transposes_S16384x20x64_S20x16384x64_1_0_2) : (⟨S16384x20x64, .f32⟩ : BufTy).Contents (Elt F) → (⟨S20x16384x64, .f32⟩ : BufTy).Contents (Elt F)),
    StableHlo.nullary main_v8 (iotaInDim S20 32 0),
    StableHlo.nullary main_cst_0 (constant S_ .f32 0x00000000#32),
    StableHlo.unary main_cst_0 main_v9 (broadcastInDim S20x16384x64 ![] bcast_S_S20x16384x64 : (⟨S_, .f32⟩ : BufTy).Contents (Elt F) → (⟨S20x16384x64, .f32⟩ : BufTy).Contents (Elt F)),
    StableHlo.nullary main_c (constantI S_ 32 0#32),
    StableHlo.unary main_v7 main_v10_0 id,
    StableHlo.unary main_v8 main_v10_1 id,
    StableHlo.unary main_arg7 main_v10_2 id,
    StableHlo.unary main_arg9 main_v10_3 id,
    StableHlo.unary main_arg8 main_v10_4 id,
    StableHlo.unary main_arg10 main_v10_5 id,
    StableHlo.unary main_v4 main_v10_6 id,
    StableHlo.unary main_c main_v10_7 id,
    StableHlo.unary main_v6 main_v10_8 id,
    StableHlo.unary main_v9 main_v10_9 id ]
theorem h5_sub : (h5 : List (HloOp τ sig (Elt F))).Forall fun op => op.bufs ⊆ StableHlo.tcRefs τ sig :=
  ⟨StableHlo.nullary_bufs_sub .., StableHlo.unary_bufs_sub .., StableHlo.unary_bufs_sub .., StableHlo.nullary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 3 host operations of @main, in order. -/
abbrev h6 : List (HloOp τ sig (Elt F)) :=
  [ StableHlo.unary main_v10_9 main_v11 ((transpose S16384x20x64 [1, 0, 2] · transposes_S20x16384x64_S16384x20x64_1_0_2) : (⟨S20x16384x64, .f32⟩ : BufTy).Contents (Elt F) → (⟨S16384x20x64, .f32⟩ : BufTy).Contents (Elt F)),
    StableHlo.reshape main_arg5 main_v12 (rfl : (.i32 : EltTy) = .i32) shapeCasts_S16384x1_S16384,
    StableHlo.unary main_v12 main_v13 (negi : (⟨S16384, .i32⟩ : BufTy).Contents (Elt F) → (⟨S16384, .i32⟩ : BufTy).Contents (Elt F)) ]
theorem h6_sub : (h6 : List (HloOp τ sig (Elt F))).Forall fun op => op.bufs ⊆ StableHlo.tcRefs τ sig :=
  ⟨StableHlo.unary_bufs_sub .., StableHlo.reshape_bufs_sub .., StableHlo.unary_bufs_sub ..⟩
/-- 3 host operations of @argsort (main_call9), in order. -/
abbrev h7 : List (HloOp τ sig (Elt F)) :=
  [ StableHlo.TRef.nullary (.of main_call9_v0 : StableHlo.TRef sig ⟨S16384, .i32⟩) (iotaInDim S16384 32 0),
    StableHlo.TRef.binary (.of main_v13 : StableHlo.TRef sig ⟨S16384, .i32⟩) (.of main_call9_v0 : StableHlo.TRef sig ⟨S16384, .i32⟩) (.of main_call9_v1_0 : StableHlo.TRef sig ⟨S16384, .i32⟩) (fun x y => (Host.sort2 S16384 0 comparator_i32_i32_d0 x y).1),
    StableHlo.TRef.binary (.of main_v13 : StableHlo.TRef sig ⟨S16384, .i32⟩) (.of main_call9_v0 : StableHlo.TRef sig ⟨S16384, .i32⟩) (.of main_v14 : StableHlo.TRef sig ⟨S16384, .i32⟩) (fun x y => (Host.sort2 S16384 0 comparator_i32_i32_d0 x y).2) ]
theorem h7_sub : (h7 : List (HloOp τ sig (Elt F))).Forall fun op => op.bufs ⊆ StableHlo.tcRefs τ sig :=
  ⟨StableHlo.nullary_bufs_sub .., StableHlo.binary_bufs_sub .., StableHlo.binary_bufs_sub ..⟩
/-- 23 host operations of @_take (main_call10), in order. -/
abbrev h8 : List (HloOp τ sig (Elt F)) :=
  [ StableHlo.TRef.nullary (.of main_call10_c : StableHlo.TRef sig ⟨S_, .i32⟩) (constantI S_ 32 0#32),
    StableHlo.TRef.unary (.of main_call10_c : StableHlo.TRef sig ⟨S_, .i32⟩) (.of main_call10_v0 : StableHlo.TRef sig ⟨S16384, .i32⟩) (broadcastInDim S16384 ![] bcast_S_S16384),
    StableHlo.TRef.binary (.of main_v14 : StableHlo.TRef sig ⟨S16384, .i32⟩) (.of main_call10_v0 : StableHlo.TRef sig ⟨S16384, .i32⟩) (.of main_call10_v1 : StableHlo.TRef sig ⟨S16384, .i1⟩) (cmpi .slt),
    StableHlo.TRef.nullary (.of main_call10_c_0 : StableHlo.TRef sig ⟨S_, .i32⟩) (constantI S_ 32 16384#32),
    StableHlo.TRef.unary (.of main_call10_c_0 : StableHlo.TRef sig ⟨S_, .i32⟩) (.of main_call10_v2 : StableHlo.TRef sig ⟨S16384, .i32⟩) (broadcastInDim S16384 ![] bcast_S_S16384),
    StableHlo.TRef.binary (.of main_v14 : StableHlo.TRef sig ⟨S16384, .i32⟩) (.of main_call10_v2 : StableHlo.TRef sig ⟨S16384, .i32⟩) (.of main_call10_v3 : StableHlo.TRef sig ⟨S16384, .i32⟩) addi,
    StableHlo.TRef.ternary (.of main_call10_v1 : StableHlo.TRef sig ⟨S16384, .i1⟩) (.of main_call10_v3 : StableHlo.TRef sig ⟨S16384, .i32⟩) (.of main_v14 : StableHlo.TRef sig ⟨S16384, .i32⟩) (.of main_call10_v4 : StableHlo.TRef sig ⟨S16384, .i32⟩) select,
    StableHlo.TRef.unary (.of main_call10_v4 : StableHlo.TRef sig ⟨S16384, .i32⟩) (.of main_call10_v5 : StableHlo.TRef sig ⟨S16384x1, .i32⟩) (broadcastInDim S16384x1 ![0] bcast_S16384_S16384x1_0),
    StableHlo.TRef.nullary (.of main_call10_c_1 : StableHlo.TRef sig ⟨S1, .i32⟩) (constantI S1 32 16383#32),
    StableHlo.TRef.nullary (.of main_call10_c_2 : StableHlo.TRef sig ⟨S_, .i32⟩) (constantI S_ 32 0#32),
    StableHlo.TRef.unary (.of main_call10_c_2 : StableHlo.TRef sig ⟨S_, .i32⟩) (.of main_call10_v6 : StableHlo.TRef sig ⟨S16384x1, .i32⟩) (broadcastInDim S16384x1 ![] bcast_S_S16384x1),
    StableHlo.TRef.binary (.of main_call10_v5 : StableHlo.TRef sig ⟨S16384x1, .i32⟩) (.of main_call10_v6 : StableHlo.TRef sig ⟨S16384x1, .i32⟩) (.of main_call10_v7 : StableHlo.TRef sig ⟨S16384x1, .i1⟩) (cmpi .sge),
    StableHlo.TRef.unary (.of main_call10_c_1 : StableHlo.TRef sig ⟨S1, .i32⟩) (.of main_call10_v8 : StableHlo.TRef sig ⟨S1x1, .i32⟩) (broadcastInDim S1x1 ![1] bcast_S1_S1x1_1),
    StableHlo.TRef.unary (.of main_call10_v8 : StableHlo.TRef sig ⟨S1x1, .i32⟩) (.of main_call10_v9 : StableHlo.TRef sig ⟨S16384x1, .i32⟩) (broadcastInDim S16384x1 ![0, 1] bcast_S1x1_S16384x1_0_1),
    StableHlo.TRef.binary (.of main_call10_v5 : StableHlo.TRef sig ⟨S16384x1, .i32⟩) (.of main_call10_v9 : StableHlo.TRef sig ⟨S16384x1, .i32⟩) (.of main_call10_v10 : StableHlo.TRef sig ⟨S16384x1, .i1⟩) (cmpi .sle),
    StableHlo.TRef.binary (.of main_call10_v7 : StableHlo.TRef sig ⟨S16384x1, .i1⟩) (.of main_call10_v10 : StableHlo.TRef sig ⟨S16384x1, .i1⟩) (.of main_call10_v11 : StableHlo.TRef sig ⟨S16384x1, .i1⟩) andi,
    StableHlo.TRef.nullary (.of main_call10_c_3 : StableHlo.TRef sig ⟨S_, .i1⟩) (constantI S_ 1 1#1),
    StableHlo.TRef.binary (.of main_call10_v11 : StableHlo.TRef sig ⟨S16384x1, .i1⟩) (.of main_call10_c_3 : StableHlo.TRef sig ⟨S_, .i1⟩) (.of main_call10_v12 : StableHlo.TRef sig ⟨S16384, .i1⟩) (fun x v => Host.reduce IntOp.andi x v reducesTo_S16384x1_S16384_d1 h_S_),
    StableHlo.TRef.binary (.of main_arg1 : StableHlo.TRef sig ⟨S16384x20, .i32⟩) (.of main_call10_v5 : StableHlo.TRef sig ⟨S16384x1, .i32⟩) (.of main_call10_v13 : StableHlo.TRef sig ⟨S16384x20, .i32⟩) (fun x i => Host.gather gather_S16384x20_S16384x1_S16384x20_1_0_n_n_0_1_120 x i),
    StableHlo.TRef.unary (.of main_call10_v12 : StableHlo.TRef sig ⟨S16384, .i1⟩) (.of main_call10_v14 : StableHlo.TRef sig ⟨S16384x20, .i1⟩) (broadcastInDim S16384x20 ![0] bcast_S16384_S16384x20_0),
    StableHlo.TRef.nullary (.of main_call10_c_4 : StableHlo.TRef sig ⟨S_, .i32⟩) (constantI S_ 32 2147483648#32),
    StableHlo.TRef.unary (.of main_call10_c_4 : StableHlo.TRef sig ⟨S_, .i32⟩) (.of main_call10_v15 : StableHlo.TRef sig ⟨S16384x20, .i32⟩) (broadcastInDim S16384x20 ![] bcast_S_S16384x20),
    StableHlo.TRef.ternary (.of main_call10_v14 : StableHlo.TRef sig ⟨S16384x20, .i1⟩) (.of main_call10_v13 : StableHlo.TRef sig ⟨S16384x20, .i32⟩) (.of main_call10_v15 : StableHlo.TRef sig ⟨S16384x20, .i32⟩) (.of main_v15 : StableHlo.TRef sig ⟨S16384x20, .i32⟩) select ]
theorem h8_sub : (h8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 22 host operations of @_take_0 (main_call11), in order. -/
abbrev h9 : List (HloOp τ sig (Elt F)) :=
  [ StableHlo.TRef.nullary (.of main_call11_c : StableHlo.TRef sig ⟨S_, .i32⟩) (constantI S_ 32 0#32),
    StableHlo.TRef.unary (.of main_call11_c : StableHlo.TRef sig ⟨S_, .i32⟩) (.of main_call11_v0 : StableHlo.TRef sig ⟨S16384, .i32⟩) (broadcastInDim S16384 ![] bcast_S_S16384),
    StableHlo.TRef.binary (.of main_v14 : StableHlo.TRef sig ⟨S16384, .i32⟩) (.of main_call11_v0 : StableHlo.TRef sig ⟨S16384, .i32⟩) (.of main_call11_v1 : StableHlo.TRef sig ⟨S16384, .i1⟩) (cmpi .slt),
    StableHlo.TRef.nullary (.of main_call11_c_0 : StableHlo.TRef sig ⟨S_, .i32⟩) (constantI S_ 32 16384#32),
    StableHlo.TRef.unary (.of main_call11_c_0 : StableHlo.TRef sig ⟨S_, .i32⟩) (.of main_call11_v2 : StableHlo.TRef sig ⟨S16384, .i32⟩) (broadcastInDim S16384 ![] bcast_S_S16384),
    StableHlo.TRef.binary (.of main_v14 : StableHlo.TRef sig ⟨S16384, .i32⟩) (.of main_call11_v2 : StableHlo.TRef sig ⟨S16384, .i32⟩) (.of main_call11_v3 : StableHlo.TRef sig ⟨S16384, .i32⟩) addi,
    StableHlo.TRef.ternary (.of main_call11_v1 : StableHlo.TRef sig ⟨S16384, .i1⟩) (.of main_call11_v3 : StableHlo.TRef sig ⟨S16384, .i32⟩) (.of main_v14 : StableHlo.TRef sig ⟨S16384, .i32⟩) (.of main_call11_v4 : StableHlo.TRef sig ⟨S16384, .i32⟩) select,
    StableHlo.TRef.unary (.of main_call11_v4 : StableHlo.TRef sig ⟨S16384, .i32⟩) (.of main_call11_v5 : StableHlo.TRef sig ⟨S16384x1, .i32⟩) (broadcastInDim S16384x1 ![0] bcast_S16384_S16384x1_0),
    StableHlo.TRef.nullary (.of main_call11_c_1 : StableHlo.TRef sig ⟨S1, .i32⟩) (constantI S1 32 16383#32),
    StableHlo.TRef.nullary (.of main_call11_c_2 : StableHlo.TRef sig ⟨S_, .i32⟩) (constantI S_ 32 0#32),
    StableHlo.TRef.unary (.of main_call11_c_2 : StableHlo.TRef sig ⟨S_, .i32⟩) (.of main_call11_v6 : StableHlo.TRef sig ⟨S16384x1, .i32⟩) (broadcastInDim S16384x1 ![] bcast_S_S16384x1),
    StableHlo.TRef.binary (.of main_call11_v5 : StableHlo.TRef sig ⟨S16384x1, .i32⟩) (.of main_call11_v6 : StableHlo.TRef sig ⟨S16384x1, .i32⟩) (.of main_call11_v7 : StableHlo.TRef sig ⟨S16384x1, .i1⟩) (cmpi .sge),
    StableHlo.TRef.unary (.of main_call11_c_1 : StableHlo.TRef sig ⟨S1, .i32⟩) (.of main_call11_v8 : StableHlo.TRef sig ⟨S1x1, .i32⟩) (broadcastInDim S1x1 ![1] bcast_S1_S1x1_1),
    StableHlo.TRef.unary (.of main_call11_v8 : StableHlo.TRef sig ⟨S1x1, .i32⟩) (.of main_call11_v9 : StableHlo.TRef sig ⟨S16384x1, .i32⟩) (broadcastInDim S16384x1 ![0, 1] bcast_S1x1_S16384x1_0_1),
    StableHlo.TRef.binary (.of main_call11_v5 : StableHlo.TRef sig ⟨S16384x1, .i32⟩) (.of main_call11_v9 : StableHlo.TRef sig ⟨S16384x1, .i32⟩) (.of main_call11_v10 : StableHlo.TRef sig ⟨S16384x1, .i1⟩) (cmpi .sle),
    StableHlo.TRef.binary (.of main_call11_v7 : StableHlo.TRef sig ⟨S16384x1, .i1⟩) (.of main_call11_v10 : StableHlo.TRef sig ⟨S16384x1, .i1⟩) (.of main_call11_v11 : StableHlo.TRef sig ⟨S16384x1, .i1⟩) andi,
    StableHlo.TRef.nullary (.of main_call11_c_3 : StableHlo.TRef sig ⟨S_, .i1⟩) (constantI S_ 1 1#1),
    StableHlo.TRef.binary (.of main_call11_v11 : StableHlo.TRef sig ⟨S16384x1, .i1⟩) (.of main_call11_c_3 : StableHlo.TRef sig ⟨S_, .i1⟩) (.of main_call11_v12 : StableHlo.TRef sig ⟨S16384, .i1⟩) (fun x v => Host.reduce IntOp.andi x v reducesTo_S16384x1_S16384_d1 h_S_),
    StableHlo.TRef.binary (.of main_v12 : StableHlo.TRef sig ⟨S16384, .i32⟩) (.of main_call11_v5 : StableHlo.TRef sig ⟨S16384x1, .i32⟩) (.of main_call11_v13 : StableHlo.TRef sig ⟨S16384, .i32⟩) (fun x i => Host.gather gather_S16384_S16384x1_S16384_n_0_n_n_0_1_1 x i),
    StableHlo.TRef.nullary (.of main_call11_c_4 : StableHlo.TRef sig ⟨S_, .i32⟩) (constantI S_ 32 2147483648#32),
    StableHlo.TRef.unary (.of main_call11_c_4 : StableHlo.TRef sig ⟨S_, .i32⟩) (.of main_call11_v14 : StableHlo.TRef sig ⟨S16384, .i32⟩) (broadcastInDim S16384 ![] bcast_S_S16384),
    StableHlo.TRef.ternary (.of main_call11_v12 : StableHlo.TRef sig ⟨S16384, .i1⟩) (.of main_call11_v13 : StableHlo.TRef sig ⟨S16384, .i32⟩) (.of main_call11_v14 : StableHlo.TRef sig ⟨S16384, .i32⟩) (.of main_v16 : StableHlo.TRef sig ⟨S16384, .i32⟩) select ]
theorem h9_sub : (h9 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- 23 host operations of @_take_1 (main_call12), in order. -/
abbrev h10 : List (HloOp τ sig (Elt F)) :=
  [ StableHlo.TRef.nullary (.of main_call12_c : StableHlo.TRef sig ⟨S_, .i32⟩) (constantI S_ 32 0#32),
    StableHlo.TRef.unary (.of main_call12_c : StableHlo.TRef sig ⟨S_, .i32⟩) (.of main_call12_v0 : StableHlo.TRef sig ⟨S16384x20, .i32⟩) (broadcastInDim S16384x20 ![] bcast_S_S16384x20),
    StableHlo.TRef.binary (.of main_v15 : StableHlo.TRef sig ⟨S16384x20, .i32⟩) (.of main_call12_v0 : StableHlo.TRef sig ⟨S16384x20, .i32⟩) (.of main_call12_v1 : StableHlo.TRef sig ⟨S16384x20, .i1⟩) (cmpi .slt),
    StableHlo.TRef.nullary (.of main_call12_c_0 : StableHlo.TRef sig ⟨S_, .i32⟩) (constantI S_ 32 512#32),
    StableHlo.TRef.unary (.of main_call12_c_0 : StableHlo.TRef sig ⟨S_, .i32⟩) (.of main_call12_v2 : StableHlo.TRef sig ⟨S16384x20, .i32⟩) (broadcastInDim S16384x20 ![] bcast_S_S16384x20),
    StableHlo.TRef.binary (.of main_v15 : StableHlo.TRef sig ⟨S16384x20, .i32⟩) (.of main_call12_v2 : StableHlo.TRef sig ⟨S16384x20, .i32⟩) (.of main_call12_v3 : StableHlo.TRef sig ⟨S16384x20, .i32⟩) addi,
    StableHlo.TRef.ternary (.of main_call12_v1 : StableHlo.TRef sig ⟨S16384x20, .i1⟩) (.of main_call12_v3 : StableHlo.TRef sig ⟨S16384x20, .i32⟩) (.of main_v15 : StableHlo.TRef sig ⟨S16384x20, .i32⟩) (.of main_call12_v4 : StableHlo.TRef sig ⟨S16384x20, .i32⟩) select,
    StableHlo.TRef.unary (.of main_call12_v4 : StableHlo.TRef sig ⟨S16384x20, .i32⟩) (.of main_call12_v5 : StableHlo.TRef sig ⟨S16384x20x1, .i32⟩) (broadcastInDim S16384x20x1 ![0, 1] bcast_S16384x20_S16384x20x1_0_1),
    StableHlo.TRef.nullary (.of main_call12_c_1 : StableHlo.TRef sig ⟨S1, .i32⟩) (constantI S1 32 511#32),
    StableHlo.TRef.nullary (.of main_call12_c_2 : StableHlo.TRef sig ⟨S_, .i32⟩) (constantI S_ 32 0#32),
    StableHlo.TRef.unary (.of main_call12_c_2 : StableHlo.TRef sig ⟨S_, .i32⟩) (.of main_call12_v6 : StableHlo.TRef sig ⟨S16384x20x1, .i32⟩) (broadcastInDim S16384x20x1 ![] bcast_S_S16384x20x1),
    StableHlo.TRef.binary (.of main_call12_v5 : StableHlo.TRef sig ⟨S16384x20x1, .i32⟩) (.of main_call12_v6 : StableHlo.TRef sig ⟨S16384x20x1, .i32⟩) (.of main_call12_v7 : StableHlo.TRef sig ⟨S16384x20x1, .i1⟩) (cmpi .sge),
    StableHlo.TRef.unary (.of main_call12_c_1 : StableHlo.TRef sig ⟨S1, .i32⟩) (.of main_call12_v8 : StableHlo.TRef sig ⟨S1x1x1, .i32⟩) (broadcastInDim S1x1x1 ![2] bcast_S1_S1x1x1_2),
    StableHlo.TRef.unary (.of main_call12_v8 : StableHlo.TRef sig ⟨S1x1x1, .i32⟩) (.of main_call12_v9 : StableHlo.TRef sig ⟨S16384x20x1, .i32⟩) (broadcastInDim S16384x20x1 ![0, 1, 2] bcast_S1x1x1_S16384x20x1_0_1_2),
    StableHlo.TRef.binary (.of main_call12_v5 : StableHlo.TRef sig ⟨S16384x20x1, .i32⟩) (.of main_call12_v9 : StableHlo.TRef sig ⟨S16384x20x1, .i32⟩) (.of main_call12_v10 : StableHlo.TRef sig ⟨S16384x20x1, .i1⟩) (cmpi .sle),
    StableHlo.TRef.binary (.of main_call12_v7 : StableHlo.TRef sig ⟨S16384x20x1, .i1⟩) (.of main_call12_v10 : StableHlo.TRef sig ⟨S16384x20x1, .i1⟩) (.of main_call12_v11 : StableHlo.TRef sig ⟨S16384x20x1, .i1⟩) andi,
    StableHlo.TRef.nullary (.of main_call12_c_3 : StableHlo.TRef sig ⟨S_, .i1⟩) (constantI S_ 1 1#1),
    StableHlo.TRef.binary (.of main_call12_v11 : StableHlo.TRef sig ⟨S16384x20x1, .i1⟩) (.of main_call12_c_3 : StableHlo.TRef sig ⟨S_, .i1⟩) (.of main_call12_v12 : StableHlo.TRef sig ⟨S16384x20, .i1⟩) (fun x v => Host.reduce IntOp.andi x v reducesTo_S16384x20x1_S16384x20_d2 h_S_),
    StableHlo.TRef.binary (.of main_arg6 : StableHlo.TRef sig ⟨S512x64, .f32⟩) (.of main_call12_v5 : StableHlo.TRef sig ⟨S16384x20x1, .i32⟩) (.of main_call12_v13 : StableHlo.TRef sig ⟨S16384x20x64, .f32⟩) (fun x i => Host.gather gather_S512x64_S16384x20x1_S16384x20x64_2_0_n_n_0_2_164 x i),
    StableHlo.TRef.unary (.of main_call12_v12 : StableHlo.TRef sig ⟨S16384x20, .i1⟩) (.of main_call12_v14 : StableHlo.TRef sig ⟨S16384x20x64, .i1⟩) (broadcastInDim S16384x20x64 ![0, 1] bcast_S16384x20_S16384x20x64_0_1),
    StableHlo.TRef.nullary (.of main_call12_cst : StableHlo.TRef sig ⟨S_, .f32⟩) (constant S_ .f32 0x7FC00000#32),
    StableHlo.TRef.unary (.of main_call12_cst : StableHlo.TRef sig ⟨S_, .f32⟩) (.of main_call12_v15 : StableHlo.TRef sig ⟨S16384x20x64, .f32⟩) (broadcastInDim S16384x20x64 ![] bcast_S_S16384x20x64),
    StableHlo.TRef.ternary (.of main_call12_v14 : StableHlo.TRef sig ⟨S16384x20x64, .i1⟩) (.of main_call12_v13 : StableHlo.TRef sig ⟨S16384x20x64, .f32⟩) (.of main_call12_v15 : StableHlo.TRef sig ⟨S16384x20x64, .f32⟩) (.of main_v17 : StableHlo.TRef sig ⟨S16384x20x64, .f32⟩) select ]
theorem h10_sub : (h10 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 15 host operations of @main, in order. -/
abbrev h11 : List (HloOp τ sig (Elt F)) :=
  [ StableHlo.unary main_v17 main_v18 ((transpose S20x16384x64 [1, 0, 2] · transposes_S16384x20x64_S20x16384x64_1_0_2) : (⟨S16384x20x64, .f32⟩ : BufTy).Contents (Elt F) → (⟨S20x16384x64, .f32⟩ : BufTy).Contents (Elt F)),
    StableHlo.nullary main_v19 (iotaInDim S20 32 0),
    StableHlo.nullary main_cst_1 (constant S_ .f32 0x00000000#32),
    StableHlo.unary main_cst_1 main_v20 (broadcastInDim S20x16384x64 ![] bcast_S_S20x16384x64 : (⟨S_, .f32⟩ : BufTy).Contents (Elt F) → (⟨S20x16384x64, .f32⟩ : BufTy).Contents (Elt F)),
    StableHlo.nullary main_c_2 (constantI S_ 32 0#32),
    StableHlo.unary main_v18 main_v21_0 id,
    StableHlo.unary main_v19 main_v21_1 id,
    StableHlo.unary main_arg11 main_v21_2 id,
    StableHlo.unary main_arg13 main_v21_3 id,
    StableHlo.unary main_arg12 main_v21_4 id,
    StableHlo.unary main_arg14 main_v21_5 id,
    StableHlo.unary main_v16 main_v21_6 id,
    StableHlo.unary main_c_2 main_v21_7 id,
    StableHlo.unary main_v10_8 main_v21_8 id,
    StableHlo.unary main_v20 main_v21_9 id ]
theorem h11_sub : (h11 : List (HloOp τ sig (Elt F))).Forall fun op => op.bufs ⊆ StableHlo.tcRefs τ sig :=
  ⟨StableHlo.unary_bufs_sub .., StableHlo.nullary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @main, in order. -/
abbrev h12 : List (HloOp τ sig (Elt F)) :=
  [ StableHlo.unary main_v21_9 main_v22 ((transpose S16384x20x64 [1, 0, 2] · transposes_S20x16384x64_S16384x20x64_1_0_2) : (⟨S20x16384x64, .f32⟩ : BufTy).Contents (Elt F) → (⟨S16384x20x64, .f32⟩ : BufTy).Contents (Elt F)) ]
theorem h12_sub : (h12 : List (HloOp τ sig (Elt F))).Forall fun op => op.bufs ⊆ StableHlo.tcRefs τ sig :=
  StableHlo.unary_bufs_sub ..
/-- The reference is its stretches of operations and its two loops, in order. -/
theorem main_chain (c : Dev nD) : main (F := F) c = (Pipeline.chain
  [ StableHlo.seq h0,
    StableHlo.seq h1,
    StableHlo.seq h2,
    StableHlo.seq h3,
    StableHlo.seq h4,
    StableHlo.seq h5,
    HostLoop.enter 0,
    StableHlo.seq h6,
    StableHlo.seq h7,
    StableHlo.seq h8,
    StableHlo.seq h9,
    StableHlo.seq h10,
    StableHlo.seq h11,
    HostLoop.enter 1,
    StableHlo.seq h12 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, StableHlo.chain_seq_cons, Pipeline.chain_cons, StableHlo.chain_seq_cons, Pipeline.chain_cons, Pipeline.chain_cons, Pipeline.chain_cons, Pipeline.chain_cons, StableHlo.chain_seq_cons, Pipeline.chain_cons, StableHlo.chain_seq_cons]
  chain_rfl

end Cert.Gru

end
-- ==== Proof.RefTrips.lean ====
/- The operations of one trip of each of the reference's two loops, as lists, and each trip as their chain. -/
module

public import proofs.«01_k».proof.Proof.Gen.ReferenceIdeal
public import Idealize.ShloMosaic.Lib.Pipeline.Regions
public import Idealize.ShloMosaic.Lib.StableHlo.RunLoop

@[expose] public section

set_option maxRecDepth 1200

noncomputable section

namespace Cert.Gru

open Idealize.ShloMosaic Idealize.ShloMosaic.TcCoe
open Idealize.SL Idealize.SL.RA Idealize.SL.BI
open scoped Idealize.SL.BI
open Idealize.SL.BI.BIBase Idealize.SL.Sem
open Cert.ReferenceIdeal Cert.ReferenceIdeal.Gen

variable {F : FTy → Type} [FloatOps F]

/-- 4 host operations of @dynamic_index_in_dim (main_while0b_call4), in order. -/
abbrev e0 : List (HloOp τ sig (Elt F)) :=
  [ StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.unaryIndexed (.of main_v10_0 : StableHlo.TRef sig ⟨S20x16384x64, .f32⟩) ![(.of main_v10_7 : StableHlo.TRef sig ⟨S_, .i32⟩), (.of main_while0b_call4_c : StableHlo.TRef sig ⟨S_, .i32⟩), (.of main_while0b_call4_c_0 : StableHlo.TRef sig ⟨S_, .i32⟩)] (.of main_while0b_call4_v0 : StableHlo.TRef sig ⟨S1x16384x64, .f32⟩) (fun x i => Host.dynamicSlice S1x16384x64 x (fun k => (i k (Shape.Idx.first h_S_)).toInt) sliceFits_S20x16384x64_S1x16384x64),
    StableHlo.TRef.reshape (.of main_while0b_call4_v0 : StableHlo.TRef sig ⟨S1x16384x64, .f32⟩) (.of main_while0b_v23 : StableHlo.TRef sig ⟨S16384x64, .f32⟩) (rfl : (.f32 : EltTy) = .f32) shapeCasts_S1x16384x64_S16384x64 ]
theorem e0_sub : (e0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 2 host operations of @dynamic_index_in_dim_3 (main_while0b_call5), in order. -/
abbrev e1 : List (HloOp τ sig (Elt F)) :=
  [ StableHlo.TRef.unaryIndexed (.of main_v10_1 : StableHlo.TRef sig ⟨S20, .i32⟩) ![(.of main_v10_7 : StableHlo.TRef sig ⟨S_, .i32⟩)] (.of main_while0b_call5_v0 : StableHlo.TRef sig ⟨S1, .i32⟩) (fun x i => Host.dynamicSlice S1 x (fun k => (i k (Shape.Idx.first h_S_)).toInt) sliceFits_S20_S1),
    StableHlo.TRef.reshape (.of main_while0b_call5_v0 : StableHlo.TRef sig ⟨S1, .i32⟩) (.of main_while0b_v24 : StableHlo.TRef sig ⟨S_, .i32⟩) (rfl : (.i32 : EltTy) = .i32) shapeCasts_S1_S_ ]
theorem e1_sub : (e1 : List (HloOp τ sig (Elt F))).Forall fun op => op.bufs ⊆ StableHlo.tcRefs τ sig :=
  ⟨StableHlo.unaryIndexed_bufs_sub .., StableHlo.reshape_bufs_sub ..⟩
/-- 46 host operations of host loop 0's body region, in order. -/
abbrev e2 : List (HloOp τ sig (Elt F)) :=
  ( StableHlo.unary main_v10_2 main_while0b_v25 ((transpose S64x192 [1, 0] · transposes_S192x64_S64x192_1_0) : (⟨S192x64, .f32⟩ : BufTy).Contents (Elt F) → (⟨S64x192, .f32⟩ : BufTy).Contents (Elt F))
  :: StableHlo.binary main_while0b_v23 main_while0b_v25 main_while0b_v26 ((fun l r => Host.dotGeneral dot_S16384x64_S64x192_S16384x192_1_0_0_1_n_n none l r) : (⟨S16384x64, .f32⟩ : BufTy).Contents (Elt F) → (⟨S64x192, .f32⟩ : BufTy).Contents (Elt F) → (⟨S16384x192, .f32⟩ : BufTy).Contents (Elt F))
  :: StableHlo.unary main_v10_3 main_while0b_v27 (broadcastInDim S1x192 ![1] bcast_S192_S1x192_1 : (⟨S192, .f32⟩ : BufTy).Contents (Elt F) → (⟨S1x192, .f32⟩ : BufTy).Contents (Elt F))
  :: StableHlo.unary main_while0b_v27 main_while0b_v28 (broadcastInDim S16384x192 ![0, 1] bcast_S1x192_S16384x192_0_1 : (⟨S1x192, .f32⟩ : BufTy).Contents (Elt F) → (⟨S16384x192, .f32⟩ : BufTy).Contents (Elt F))
  :: StableHlo.binary main_while0b_v26 main_while0b_v28 main_while0b_v29 (addf : (⟨S16384x192, .f32⟩ : BufTy).Contents (Elt F) → (⟨S16384x192, .f32⟩ : BufTy).Contents (Elt F) → (⟨S16384x192, .f32⟩ : BufTy).Contents (Elt F))
  :: StableHlo.unary main_v10_4 main_while0b_v30 ((transpose S64x192 [1, 0] · transposes_S192x64_S64x192_1_0) : (⟨S192x64, .f32⟩ : BufTy).Contents (Elt F) → (⟨S64x192, .f32⟩ : BufTy).Contents (Elt F))
  :: StableHlo.binary main_v10_8 main_while0b_v30 main_while0b_v31 ((fun l r => Host.dotGeneral dot_S16384x64_S64x192_S16384x192_1_0_0_1_n_n none l r) : (⟨S16384x64, .f32⟩ : BufTy).Contents (Elt F) → (⟨S64x192, .f32⟩ : BufTy).Contents (Elt F) → (⟨S16384x192, .f32⟩ : BufTy).Contents (Elt F))
  :: StableHlo.unary main_v10_5 main_while0b_v32 (broadcastInDim S1x192 ![1] bcast_S192_S1x192_1 : (⟨S192, .f32⟩ : BufTy).Contents (Elt F) → (⟨S1x192, .f32⟩ : BufTy).Contents (Elt F))
  :: StableHlo.unary main_while0b_v32 main_while0b_v33 (broadcastInDim S16384x192 ![0, 1] bcast_S1x192_S16384x192_0_1 : (⟨S1x192, .f32⟩ : BufTy).Contents (Elt F) → (⟨S16384x192, .f32⟩ : BufTy).Contents (Elt F))
  :: StableHlo.binary main_while0b_v31 main_while0b_v33 main_while0b_v34 (addf : (⟨S16384x192, .f32⟩ : BufTy).Contents (Elt F) → (⟨S16384x192, .f32⟩ : BufTy).Contents (Elt F) → (⟨S16384x192, .f32⟩ : BufTy).Contents (Elt F))
  :: StableHlo.unary main_while0b_v29 main_while0b_v35 ((extractStridedSlice S16384x64 ![0, 0] · slices_S16384x192_S16384x64_0_0) : (⟨S16384x192, .f32⟩ : BufTy).Contents (Elt F) → (⟨S16384x64, .f32⟩ : BufTy).Contents (Elt F))
  :: StableHlo.unary main_while0b_v29 main_while0b_v36 ((extractStridedSlice S16384x64 ![0, 64] · slices_S16384x192_S16384x64_0_64) : (⟨S16384x192, .f32⟩ : BufTy).Contents (Elt F) → (⟨S16384x64, .f32⟩ : BufTy).Contents (Elt F))
  :: StableHlo.unary main_while0b_v29 main_while0b_v37 ((extractStridedSlice S16384x64 ![0, 128] · slices_S16384x192_S16384x64_0_128) : (⟨S16384x192, .f32⟩ : BufTy).Contents (Elt F) → (⟨S16384x64, .f32⟩ : BufTy).Contents (Elt F))
  :: StableHlo.unary main_while0b_v34 main_while0b_v38 ((extractStridedSlice S16384x64 ![0, 0] · slices_S16384x192_S16384x64_0_0) : (⟨S16384x192, .f32⟩ : BufTy).Contents (Elt F) → (⟨S16384x64, .f32⟩ : BufTy).Contents (Elt F))
  :: StableHlo.unary main_while0b_v34 main_while0b_v39 ((extractStridedSlice S16384x64 ![0, 64] · slices_S16384x192_S16384x64_0_64) : (⟨S16384x192, .f32⟩ : BufTy).Contents (Elt F) → (⟨S16384x64, .f32⟩ : BufTy).Contents (Elt F))
  :: StableHlo.unary main_while0b_v34 main_while0b_v40 ((extractStridedSlice S16384x64 ![0, 128] · slices_S16384x192_S16384x64_0_128) : (⟨S16384x192, .f32⟩ : BufTy).Contents (Elt F) → (⟨S16384x64, .f32⟩ : BufTy).Contents (Elt F))
  :: StableHlo.binary main_while0b_v35 main_while0b_v38 main_while0b_v41 (addf : (⟨S16384x64, .f32⟩ : BufTy).Contents (Elt F) → (⟨S16384x64, .f32⟩ : BufTy).Contents (Elt F) → (⟨S16384x64, .f32⟩ : BufTy).Contents (Elt F))
  :: StableHlo.unary main_while0b_v41 main_while0b_v42 (Host.negf : (⟨S16384x64, .f32⟩ : BufTy).Contents (Elt F) → (⟨S16384x64, .f32⟩ : BufTy).Contents (Elt F))
  :: StableHlo.unary main_while0b_v42 main_while0b_v43 (Host.exp : (⟨S16384x64, .f32⟩ : BufTy).Contents (Elt F) → (⟨S16384x64, .f32⟩ : BufTy).Contents (Elt F))
  :: StableHlo.nullary main_while0b_cst_12 (constant S_ .f32 0x3F800000#32)
  :: StableHlo.unary main_while0b_cst_12 main_while0b_v44 (broadcastInDim S16384x64 ![] bcast_S_S16384x64 : (⟨S_, .f32⟩ : BufTy).Contents (Elt F) → (⟨S16384x64, .f32⟩ : BufTy).Contents (Elt F))
  :: StableHlo.binary main_while0b_v44 main_while0b_v43 main_while0b_v45 (addf : (⟨S16384x64, .f32⟩ : BufTy).Contents (Elt F) → (⟨S16384x64, .f32⟩ : BufTy).Contents (Elt F) → (⟨S16384x64, .f32⟩ : BufTy).Contents (Elt F))
  :: StableHlo.nullary main_while0b_cst_13 (constant S_ .f32 0x3F800000#32)
  :: StableHlo.unary main_while0b_cst_13 main_while0b_v46 (broadcastInDim S16384x64 ![] bcast_S_S16384x64 : (⟨S_, .f32⟩ : BufTy).Contents (Elt F) → (⟨S16384x64, .f32⟩ : BufTy).Contents (Elt F))
  :: StableHlo.binary main_while0b_v46 main_while0b_v45 main_while0b_v47 (Host.divf : (⟨S16384x64, .f32⟩ : BufTy).Contents (Elt F) → (⟨S16384x64, .f32⟩ : BufTy).Contents (Elt F) → (⟨S16384x64, .f32⟩ : BufTy).Contents (Elt F))
  :: StableHlo.binary main_while0b_v36 main_while0b_v39 main_while0b_v48 (addf : (⟨S16384x64, .f32⟩ : BufTy).Contents (Elt F) → (⟨S16384x64, .f32⟩ : BufTy).Contents (Elt F) → (⟨S16384x64, .f32⟩ : BufTy).Contents (Elt F))
  :: StableHlo.unary main_while0b_v48 main_while0b_v49 (Host.negf : (⟨S16384x64, .f32⟩ : BufTy).Contents (Elt F) → (⟨S16384x64, .f32⟩ : BufTy).Contents (Elt F))
  :: StableHlo.unary main_while0b_v49 main_while0b_v50 (Host.exp : (⟨S16384x64, .f32⟩ : BufTy).Contents (Elt F) → (⟨S16384x64, .f32⟩ : BufTy).Contents (Elt F))
  :: StableHlo.nullary main_while0b_cst_14 (constant S_ .f32 0x3F800000#32)
  :: StableHlo.unary main_while0b_cst_14 main_while0b_v51 (broadcastInDim S16384x64 ![] bcast_S_S16384x64 : (⟨S_, .f32⟩ : BufTy).Contents (Elt F) → (⟨S16384x64, .f32⟩ : BufTy).Contents (Elt F))
  :: StableHlo.binary main_while0b_v51 main_while0b_v50 main_while0b_v52 (addf : (⟨S16384x64, .f32⟩ : BufTy).Contents (Elt F) → (⟨S16384x64, .f32⟩ : BufTy).Contents (Elt F) → (⟨S16384x64, .f32⟩ : BufTy).Contents (Elt F))
  :: StableHlo.nullary main_while0b_cst_15 (constant S_ .f32 0x3F800000#32)
  :: StableHlo.unary main_while0b_cst_15 main_while0b_v53 (broadcastInDim S16384x64 ![] bcast_S_S16384x64 : (⟨S_, .f32⟩ : BufTy).Contents (Elt F) → (⟨S16384x64, .f32⟩ : BufTy).Contents (Elt F))
  :: StableHlo.binary main_while0b_v53 main_while0b_v52 main_while0b_v54 (Host.divf : (⟨S16384x64, .f32⟩ : BufTy).Contents (Elt F) → (⟨S16384x64, .f32⟩ : BufTy).Contents (Elt F) → (⟨S16384x64, .f32⟩ : BufTy).Contents (Elt F))
  :: StableHlo.binary main_while0b_v47 main_while0b_v40 main_while0b_v55 (mulf : (⟨S16384x64, .f32⟩ : BufTy).Contents (Elt F) → (⟨S16384x64, .f32⟩ : BufTy).Contents (Elt F) → (⟨S16384x64, .f32⟩ : BufTy).Contents (Elt F))
  :: StableHlo.binary main_while0b_v37 main_while0b_v55 main_while0b_v56 (addf : (⟨S16384x64, .f32⟩ : BufTy).Contents (Elt F) → (⟨S16384x64, .f32⟩ : BufTy).Contents (Elt F) → (⟨S16384x64, .f32⟩ : BufTy).Contents (Elt F))
  :: StableHlo.unary main_while0b_v56 main_while0b_v57 (Host.tanh : (⟨S16384x64, .f32⟩ : BufTy).Contents (Elt F) → (⟨S16384x64, .f32⟩ : BufTy).Contents (Elt F))
  :: StableHlo.nullary main_while0b_cst_16 (constant S_ .f32 0x3F800000#32)
  :: StableHlo.unary main_while0b_cst_16 main_while0b_v58 (broadcastInDim S16384x64 ![] bcast_S_S16384x64 : (⟨S_, .f32⟩ : BufTy).Contents (Elt F) → (⟨S16384x64, .f32⟩ : BufTy).Contents (Elt F))
  :: StableHlo.binary main_while0b_v58 main_while0b_v54 main_while0b_v59 (subf : (⟨S16384x64, .f32⟩ : BufTy).Contents (Elt F) → (⟨S16384x64, .f32⟩ : BufTy).Contents (Elt F) → (⟨S16384x64, .f32⟩ : BufTy).Contents (Elt F))
  :: StableHlo.binary main_while0b_v59 main_while0b_v57 main_while0b_v60 (mulf : (⟨S16384x64, .f32⟩ : BufTy).Contents (Elt F) → (⟨S16384x64, .f32⟩ : BufTy).Contents (Elt F) → (⟨S16384x64, .f32⟩ : BufTy).Contents (Elt F))
  :: StableHlo.binary main_while0b_v54 main_v10_8 main_while0b_v61 (mulf : (⟨S16384x64, .f32⟩ : BufTy).Contents (Elt F) → (⟨S16384x64, .f32⟩ : BufTy).Contents (Elt F) → (⟨S16384x64, .f32⟩ : BufTy).Contents (Elt F))
  :: StableHlo.binary main_while0b_v60 main_while0b_v61 main_while0b_v62 (addf : (⟨S16384x64, .f32⟩ : BufTy).Contents (Elt F) → (⟨S16384x64, .f32⟩ : BufTy).Contents (Elt F) → (⟨S16384x64, .f32⟩ : BufTy).Contents (Elt F))
  :: StableHlo.unary main_while0b_v24 main_while0b_v63 (broadcastInDim S16384 ![] bcast_S_S16384 : (⟨S_, .i32⟩ : BufTy).Contents (Elt F) → (⟨S16384, .i32⟩ : BufTy).Contents (Elt F))
  :: StableHlo.binary main_while0b_v63 main_v10_6 main_while0b_v64 (cmpi .slt : (⟨S16384, .i32⟩ : BufTy).Contents (Elt F) → (⟨S16384, .i32⟩ : BufTy).Contents (Elt F) → (⟨S16384, .i1⟩ : BufTy).Contents (Elt F))
  :: StableHlo.unary main_while0b_v64 main_while0b_v65 (broadcastInDim S16384x1 ![0] bcast_S16384_S16384x1_0 : (⟨S16384, .i1⟩ : BufTy).Contents (Elt F) → (⟨S16384x1, .i1⟩ : BufTy).Contents (Elt F))
  :: [] )
theorem e2_sub : (e2 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub .., StableHlo.unary_bufs_sub ..⟩
/-- 2 host operations of @_where_4 (main_while0b_call6), in order. -/
abbrev e3 : List (HloOp τ sig (Elt F)) :=
  [ StableHlo.TRef.unary (.of main_while0b_v65 : StableHlo.TRef sig ⟨S16384x1, .i1⟩) (.of main_while0b_call6_v0 : StableHlo.TRef sig ⟨S16384x64, .i1⟩) (broadcastInDim S16384x64 ![0, 1] bcast_S16384x1_S16384x64_0_1),
    StableHlo.TRef.ternary (.of main_while0b_call6_v0 : StableHlo.TRef sig ⟨S16384x64, .i1⟩) (.of main_while0b_v62 : StableHlo.TRef sig ⟨S16384x64, .f32⟩) (.of main_v10_8 : StableHlo.TRef sig ⟨S16384x64, .f32⟩) (.of main_while0b_v66 : StableHlo.TRef sig ⟨S16384x64, .f32⟩) select ]
theorem e3_sub : (e3 : List (HloOp τ sig (Elt F))).Forall fun op => op.bufs ⊆ StableHlo.tcRefs τ sig :=
  ⟨StableHlo.unary_bufs_sub .., StableHlo.ternary_bufs_sub ..⟩
/-- 2 host operations of host loop 0's body region, in order. -/
abbrev e4 : List (HloOp τ sig (Elt F)) :=
  [ StableHlo.nullary main_while0b_cst_17 (constant S_ .f32 0x00000000#32),
    StableHlo.unary main_while0b_cst_17 main_while0b_v67 (broadcastInDim S16384x64 ![] bcast_S_S16384x64 : (⟨S_, .f32⟩ : BufTy).Contents (Elt F) → (⟨S16384x64, .f32⟩ : BufTy).Contents (Elt F)) ]
theorem e4_sub : (e4 : List (HloOp τ sig (Elt F))).Forall fun op => op.bufs ⊆ StableHlo.tcRefs τ sig :=
  ⟨StableHlo.nullary_bufs_sub .., StableHlo.unary_bufs_sub ..⟩
/-- 2 host operations of @_where_4 (main_while0b_call7), in order. -/
abbrev e5 : List (HloOp τ sig (Elt F)) :=
  [ StableHlo.TRef.unary (.of main_while0b_v65 : StableHlo.TRef sig ⟨S16384x1, .i1⟩) (.of main_while0b_call7_v0 : StableHlo.TRef sig ⟨S16384x64, .i1⟩) (broadcastInDim S16384x64 ![0, 1] bcast_S16384x1_S16384x64_0_1),
    StableHlo.TRef.ternary (.of main_while0b_call7_v0 : StableHlo.TRef sig ⟨S16384x64, .i1⟩) (.of main_while0b_v62 : StableHlo.TRef sig ⟨S16384x64, .f32⟩) (.of main_while0b_v67 : StableHlo.TRef sig ⟨S16384x64, .f32⟩) (.of main_while0b_v68 : StableHlo.TRef sig ⟨S16384x64, .f32⟩) select ]
theorem e5_sub : (e5 : List (HloOp τ sig (Elt F))).Forall fun op => op.bufs ⊆ StableHlo.tcRefs τ sig :=
  ⟨StableHlo.unary_bufs_sub .., StableHlo.ternary_bufs_sub ..⟩
/-- 4 host operations of @dynamic_update_index_in_dim (main_while0b_call8), in order. -/
abbrev e6 : List (HloOp τ sig (Elt F)) :=
  [ StableHlo.TRef.unary (.of main_while0b_v68 : StableHlo.TRef sig ⟨S16384x64, .f32⟩) (.of main_while0b_call8_v0 : StableHlo.TRef sig ⟨S1x16384x64, .f32⟩) (broadcastInDim S1x16384x64 ![1, 2] bcast_S16384x64_S1x16384x64_1_2),
    StableHlo.TRef.nullary (.of main_while0b_call8_c : StableHlo.TRef sig ⟨S_, .i32⟩) (constantI S_ 32 0#32),
    StableHlo.TRef.nullary (.of main_while0b_call8_c_0 : StableHlo.TRef sig ⟨S_, .i32⟩) (constantI S_ 32 0#32),
    StableHlo.TRef.binaryIndexed (.of main_v10_9 : StableHlo.TRef sig ⟨S20x16384x64, .f32⟩) (.of main_while0b_call8_v0 : StableHlo.TRef sig ⟨S1x16384x64, .f32⟩) ![(.of main_v10_7 : StableHlo.TRef sig ⟨S_, .i32⟩), (.of main_while0b_call8_c : StableHlo.TRef sig ⟨S_, .i32⟩), (.of main_while0b_call8_c_0 : StableHlo.TRef sig ⟨S_, .i32⟩)] (.of main_while0b_v69 : StableHlo.TRef sig ⟨S20x16384x64, .f32⟩) (fun x u i => Host.dynamicUpdateSlice x u (fun k => (i k (Shape.Idx.first h_S_)).toInt) updateFits_S20x16384x64_S1x16384x64) ]
theorem e6_sub : (e6 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 5 host operations of host loop 0's body region, in order. -/
abbrev e7 : List (HloOp τ sig (Elt F)) :=
  [ StableHlo.nullary main_while0b_c_18 (constantI S_ 32 1#32),
    StableHlo.binary main_v10_7 main_while0b_c_18 main_while0b_v70 (addi : (⟨S_, .i32⟩ : BufTy).Contents (Elt F) → (⟨S_, .i32⟩ : BufTy).Contents (Elt F) → (⟨S_, .i32⟩ : BufTy).Contents (Elt F)),
    StableHlo.unary main_while0b_v70 main_v10_7 id,
    StableHlo.unary main_while0b_v66 main_v10_8 id,
    StableHlo.unary main_while0b_v69 main_v10_9 id ]
theorem e7_sub : (e7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- The encoder's trip is its stretches of operations, in order. -/
theorem while0_body_chain : main_while0_body (F := F) = (Pipeline.chain
  [ StableHlo.seq e0,
    StableHlo.seq e1,
    StableHlo.seq e2,
    StableHlo.seq e3,
    StableHlo.seq e4,
    StableHlo.seq e5,
    StableHlo.seq e6,
    StableHlo.seq e7 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, StableHlo.chain_seq_cons, Pipeline.chain_cons, Pipeline.chain_cons, StableHlo.chain_seq_cons]
  chain_rfl

/-- 4 host operations of @dynamic_index_in_dim (main_while1b_call13), in order. -/
abbrev d0 : List (HloOp τ sig (Elt F)) :=
  [ StableHlo.TRef.nullary (.of main_while1b_call13_c : StableHlo.TRef sig ⟨S_, .i32⟩) (constantI S_ 32 0#32),
    StableHlo.TRef.nullary (.of main_while1b_call13_c_0 : StableHlo.TRef sig ⟨S_, .i32⟩) (constantI S_ 32 0#32),
    StableHlo.TRef.unaryIndexed (.of main_v21_0 : StableHlo.TRef sig ⟨S20x16384x64, .f32⟩) ![(.of main_v21_7 : StableHlo.TRef sig ⟨S_, .i32⟩), (.of main_while1b_call13_c : StableHlo.TRef sig ⟨S_, .i32⟩), (.of main_while1b_call13_c_0 : StableHlo.TRef sig ⟨S_, .i32⟩)] (.of main_while1b_call13_v0 : StableHlo.TRef sig ⟨S1x16384x64, .f32⟩) (fun x i => Host.dynamicSlice S1x16384x64 x (fun k => (i k (Shape.Idx.first h_S_)).toInt) sliceFits_S20x16384x64_S1x16384x64),
    StableHlo.TRef.reshape (.of main_while1b_call13_v0 : StableHlo.TRef sig ⟨S1x16384x64, .f32⟩) (.of main_while1b_v23 : StableHlo.TRef sig ⟨S16384x64, .f32⟩) (rfl : (.f32 : EltTy) = .f32) shapeCasts_S1x16384x64_S16384x64 ]
theorem d0_sub : (d0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 2 host operations of @dynamic_index_in_dim_3 (main_while1b_call14), in order. -/
abbrev d1 : List (HloOp τ sig (Elt F)) :=
  [ StableHlo.TRef.unaryIndexed (.of main_v21_1 : StableHlo.TRef sig ⟨S20, .i32⟩) ![(.of main_v21_7 : StableHlo.TRef sig ⟨S_, .i32⟩)] (.of main_while1b_call14_v0 : StableHlo.TRef sig ⟨S1, .i32⟩) (fun x i => Host.dynamicSlice S1 x (fun k => (i k (Shape.Idx.first h_S_)).toInt) sliceFits_S20_S1),
    StableHlo.TRef.reshape (.of main_while1b_call14_v0 : StableHlo.TRef sig ⟨S1, .i32⟩) (.of main_while1b_v24 : StableHlo.TRef sig ⟨S_, .i32⟩) (rfl : (.i32 : EltTy) = .i32) shapeCasts_S1_S_ ]
theorem d1_sub : (d1 : List (HloOp τ sig (Elt F))).Forall fun op => op.bufs ⊆ StableHlo.tcRefs τ sig :=
  ⟨StableHlo.unaryIndexed_bufs_sub .., StableHlo.reshape_bufs_sub ..⟩
/-- 46 host operations of host loop 1's body region, in order. -/
abbrev d2 : List (HloOp τ sig (Elt F)) :=
  ( StableHlo.unary main_v21_2 main_while1b_v25 ((transpose S64x192 [1, 0] · transposes_S192x64_S64x192_1_0) : (⟨S192x64, .f32⟩ : BufTy).Contents (Elt F) → (⟨S64x192, .f32⟩ : BufTy).Contents (Elt F))
  :: StableHlo.binary main_while1b_v23 main_while1b_v25 main_while1b_v26 ((fun l r => Host.dotGeneral dot_S16384x64_S64x192_S16384x192_1_0_0_1_n_n none l r) : (⟨S16384x64, .f32⟩ : BufTy).Contents (Elt F) → (⟨S64x192, .f32⟩ : BufTy).Contents (Elt F) → (⟨S16384x192, .f32⟩ : BufTy).Contents (Elt F))
  :: StableHlo.unary main_v21_3 main_while1b_v27 (broadcastInDim S1x192 ![1] bcast_S192_S1x192_1 : (⟨S192, .f32⟩ : BufTy).Contents (Elt F) → (⟨S1x192, .f32⟩ : BufTy).Contents (Elt F))
  :: StableHlo.unary main_while1b_v27 main_while1b_v28 (broadcastInDim S16384x192 ![0, 1] bcast_S1x192_S16384x192_0_1 : (⟨S1x192, .f32⟩ : BufTy).Contents (Elt F) → (⟨S16384x192, .f32⟩ : BufTy).Contents (Elt F))
  :: StableHlo.binary main_while1b_v26 main_while1b_v28 main_while1b_v29 (addf : (⟨S16384x192, .f32⟩ : BufTy).Contents (Elt F) → (⟨S16384x192, .f32⟩ : BufTy).Contents (Elt F) → (⟨S16384x192, .f32⟩ : BufTy).Contents (Elt F))
  :: StableHlo.unary main_v21_4 main_while1b_v30 ((transpose S64x192 [1, 0] · transposes_S192x64_S64x192_1_0) : (⟨S192x64, .f32⟩ : BufTy).Contents (Elt F) → (⟨S64x192, .f32⟩ : BufTy).Contents (Elt F))
  :: StableHlo.binary main_v21_8 main_while1b_v30 main_while1b_v31 ((fun l r => Host.dotGeneral dot_S16384x64_S64x192_S16384x192_1_0_0_1_n_n none l r) : (⟨S16384x64, .f32⟩ : BufTy).Contents (Elt F) → (⟨S64x192, .f32⟩ : BufTy).Contents (Elt F) → (⟨S16384x192, .f32⟩ : BufTy).Contents (Elt F))
  :: StableHlo.unary main_v21_5 main_while1b_v32 (broadcastInDim S1x192 ![1] bcast_S192_S1x192_1 : (⟨S192, .f32⟩ : BufTy).Contents (Elt F) → (⟨S1x192, .f32⟩ : BufTy).Contents (Elt F))
  :: StableHlo.unary main_while1b_v32 main_while1b_v33 (broadcastInDim S16384x192 ![0, 1] bcast_S1x192_S16384x192_0_1 : (⟨S1x192, .f32⟩ : BufTy).Contents (Elt F) → (⟨S16384x192, .f32⟩ : BufTy).Contents (Elt F))
  :: StableHlo.binary main_while1b_v31 main_while1b_v33 main_while1b_v34 (addf : (⟨S16384x192, .f32⟩ : BufTy).Contents (Elt F) → (⟨S16384x192, .f32⟩ : BufTy).Contents (Elt F) → (⟨S16384x192, .f32⟩ : BufTy).Contents (Elt F))
  :: StableHlo.unary main_while1b_v29 main_while1b_v35 ((extractStridedSlice S16384x64 ![0, 0] · slices_S16384x192_S16384x64_0_0) : (⟨S16384x192, .f32⟩ : BufTy).Contents (Elt F) → (⟨S16384x64, .f32⟩ : BufTy).Contents (Elt F))
  :: StableHlo.unary main_while1b_v29 main_while1b_v36 ((extractStridedSlice S16384x64 ![0, 64] · slices_S16384x192_S16384x64_0_64) : (⟨S16384x192, .f32⟩ : BufTy).Contents (Elt F) → (⟨S16384x64, .f32⟩ : BufTy).Contents (Elt F))
  :: StableHlo.unary main_while1b_v29 main_while1b_v37 ((extractStridedSlice S16384x64 ![0, 128] · slices_S16384x192_S16384x64_0_128) : (⟨S16384x192, .f32⟩ : BufTy).Contents (Elt F) → (⟨S16384x64, .f32⟩ : BufTy).Contents (Elt F))
  :: StableHlo.unary main_while1b_v34 main_while1b_v38 ((extractStridedSlice S16384x64 ![0, 0] · slices_S16384x192_S16384x64_0_0) : (⟨S16384x192, .f32⟩ : BufTy).Contents (Elt F) → (⟨S16384x64, .f32⟩ : BufTy).Contents (Elt F))
  :: StableHlo.unary main_while1b_v34 main_while1b_v39 ((extractStridedSlice S16384x64 ![0, 64] · slices_S16384x192_S16384x64_0_64) : (⟨S16384x192, .f32⟩ : BufTy).Contents (Elt F) → (⟨S16384x64, .f32⟩ : BufTy).Contents (Elt F))
  :: StableHlo.unary main_while1b_v34 main_while1b_v40 ((extractStridedSlice S16384x64 ![0, 128] · slices_S16384x192_S16384x64_0_128) : (⟨S16384x192, .f32⟩ : BufTy).Contents (Elt F) → (⟨S16384x64, .f32⟩ : BufTy).Contents (Elt F))
  :: StableHlo.binary main_while1b_v35 main_while1b_v38 main_while1b_v41 (addf : (⟨S16384x64, .f32⟩ : BufTy).Contents (Elt F) → (⟨S16384x64, .f32⟩ : BufTy).Contents (Elt F) → (⟨S16384x64, .f32⟩ : BufTy).Contents (Elt F))
  :: StableHlo.unary main_while1b_v41 main_while1b_v42 (Host.negf : (⟨S16384x64, .f32⟩ : BufTy).Contents (Elt F) → (⟨S16384x64, .f32⟩ : BufTy).Contents (Elt F))
  :: StableHlo.unary main_while1b_v42 main_while1b_v43 (Host.exp : (⟨S16384x64, .f32⟩ : BufTy).Contents (Elt F) → (⟨S16384x64, .f32⟩ : BufTy).Contents (Elt F))
  :: StableHlo.nullary main_while1b_cst_12 (constant S_ .f32 0x3F800000#32)
  :: StableHlo.unary main_while1b_cst_12 main_while1b_v44 (broadcastInDim S16384x64 ![] bcast_S_S16384x64 : (⟨S_, .f32⟩ : BufTy).Contents (Elt F) → (⟨S16384x64, .f32⟩ : BufTy).Contents (Elt F))
  :: StableHlo.binary main_while1b_v44 main_while1b_v43 main_while1b_v45 (addf : (⟨S16384x64, .f32⟩ : BufTy).Contents (Elt F) → (⟨S16384x64, .f32⟩ : BufTy).Contents (Elt F) → (⟨S16384x64, .f32⟩ : BufTy).Contents (Elt F))
  :: StableHlo.nullary main_while1b_cst_13 (constant S_ .f32 0x3F800000#32)
  :: StableHlo.unary main_while1b_cst_13 main_while1b_v46 (broadcastInDim S16384x64 ![] bcast_S_S16384x64 : (⟨S_, .f32⟩ : BufTy).Contents (Elt F) → (⟨S16384x64, .f32⟩ : BufTy).Contents (Elt F))
  :: StableHlo.binary main_while1b_v46 main_while1b_v45 main_while1b_v47 (Host.divf : (⟨S16384x64, .f32⟩ : BufTy).Contents (Elt F) → (⟨S16384x64, .f32⟩ : BufTy).Contents (Elt F) → (⟨S16384x64, .f32⟩ : BufTy).Contents (Elt F))
  :: StableHlo.binary main_while1b_v36 main_while1b_v39 main_while1b_v48 (addf : (⟨S16384x64, .f32⟩ : BufTy).Contents (Elt F) → (⟨S16384x64, .f32⟩ : BufTy).Contents (Elt F) → (⟨S16384x64, .f32⟩ : BufTy).Contents (Elt F))
  :: StableHlo.unary main_while1b_v48 main_while1b_v49 (Host.negf : (⟨S16384x64, .f32⟩ : BufTy).Contents (Elt F) → (⟨S16384x64, .f32⟩ : BufTy).Contents (Elt F))
  :: StableHlo.unary main_while1b_v49 main_while1b_v50 (Host.exp : (⟨S16384x64, .f32⟩ : BufTy).Contents (Elt F) → (⟨S16384x64, .f32⟩ : BufTy).Contents (Elt F))
  :: StableHlo.nullary main_while1b_cst_14 (constant S_ .f32 0x3F800000#32)
  :: StableHlo.unary main_while1b_cst_14 main_while1b_v51 (broadcastInDim S16384x64 ![] bcast_S_S16384x64 : (⟨S_, .f32⟩ : BufTy).Contents (Elt F) → (⟨S16384x64, .f32⟩ : BufTy).Contents (Elt F))
  :: StableHlo.binary main_while1b_v51 main_while1b_v50 main_while1b_v52 (addf : (⟨S16384x64, .f32⟩ : BufTy).Contents (Elt F) → (⟨S16384x64, .f32⟩ : BufTy).Contents (Elt F) → (⟨S16384x64, .f32⟩ : BufTy).Contents (Elt F))
  :: StableHlo.nullary main_while1b_cst_15 (constant S_ .f32 0x3F800000#32)
  :: StableHlo.unary main_while1b_cst_15 main_while1b_v53 (broadcastInDim S16384x64 ![] bcast_S_S16384x64 : (⟨S_, .f32⟩ : BufTy).Contents (Elt F) → (⟨S16384x64, .f32⟩ : BufTy).Contents (Elt F))
  :: StableHlo.binary main_while1b_v53 main_while1b_v52 main_while1b_v54 (Host.divf : (⟨S16384x64, .f32⟩ : BufTy).Contents (Elt F) → (⟨S16384x64, .f32⟩ : BufTy).Contents (Elt F) → (⟨S16384x64, .f32⟩ : BufTy).Contents (Elt F))
  :: StableHlo.binary main_while1b_v47 main_while1b_v40 main_while1b_v55 (mulf : (⟨S16384x64, .f32⟩ : BufTy).Contents (Elt F) → (⟨S16384x64, .f32⟩ : BufTy).Contents (Elt F) → (⟨S16384x64, .f32⟩ : BufTy).Contents (Elt F))
  :: StableHlo.binary main_while1b_v37 main_while1b_v55 main_while1b_v56 (addf : (⟨S16384x64, .f32⟩ : BufTy).Contents (Elt F) → (⟨S16384x64, .f32⟩ : BufTy).Contents (Elt F) → (⟨S16384x64, .f32⟩ : BufTy).Contents (Elt F))
  :: StableHlo.unary main_while1b_v56 main_while1b_v57 (Host.tanh : (⟨S16384x64, .f32⟩ : BufTy).Contents (Elt F) → (⟨S16384x64, .f32⟩ : BufTy).Contents (Elt F))
  :: StableHlo.nullary main_while1b_cst_16 (constant S_ .f32 0x3F800000#32)
  :: StableHlo.unary main_while1b_cst_16 main_while1b_v58 (broadcastInDim S16384x64 ![] bcast_S_S16384x64 : (⟨S_, .f32⟩ : BufTy).Contents (Elt F) → (⟨S16384x64, .f32⟩ : BufTy).Contents (Elt F))
  :: StableHlo.binary main_while1b_v58 main_while1b_v54 main_while1b_v59 (subf : (⟨S16384x64, .f32⟩ : BufTy).Contents (Elt F) → (⟨S16384x64, .f32⟩ : BufTy).Contents (Elt F) → (⟨S16384x64, .f32⟩ : BufTy).Contents (Elt F))
  :: StableHlo.binary main_while1b_v59 main_while1b_v57 main_while1b_v60 (mulf : (⟨S16384x64, .f32⟩ : BufTy).Contents (Elt F) → (⟨S16384x64, .f32⟩ : BufTy).Contents (Elt F) → (⟨S16384x64, .f32⟩ : BufTy).Contents (Elt F))
  :: StableHlo.binary main_while1b_v54 main_v21_8 main_while1b_v61 (mulf : (⟨S16384x64, .f32⟩ : BufTy).Contents (Elt F) → (⟨S16384x64, .f32⟩ : BufTy).Contents (Elt F) → (⟨S16384x64, .f32⟩ : BufTy).Contents (Elt F))
  :: StableHlo.binary main_while1b_v60 main_while1b_v61 main_while1b_v62 (addf : (⟨S16384x64, .f32⟩ : BufTy).Contents (Elt F) → (⟨S16384x64, .f32⟩ : BufTy).Contents (Elt F) → (⟨S16384x64, .f32⟩ : BufTy).Contents (Elt F))
  :: StableHlo.unary main_while1b_v24 main_while1b_v63 (broadcastInDim S16384 ![] bcast_S_S16384 : (⟨S_, .i32⟩ : BufTy).Contents (Elt F) → (⟨S16384, .i32⟩ : BufTy).Contents (Elt F))
  :: StableHlo.binary main_while1b_v63 main_v21_6 main_while1b_v64 (cmpi .slt : (⟨S16384, .i32⟩ : BufTy).Contents (Elt F) → (⟨S16384, .i32⟩ : BufTy).Contents (Elt F) → (⟨S16384, .i1⟩ : BufTy).Contents (Elt F))
  :: StableHlo.unary main_while1b_v64 main_while1b_v65 (broadcastInDim S16384x1 ![0] bcast_S16384_S16384x1_0 : (⟨S16384, .i1⟩ : BufTy).Contents (Elt F) → (⟨S16384x1, .i1⟩ : BufTy).Contents (Elt F))
  :: [] )
theorem d2_sub : (d2 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub .., StableHlo.unary_bufs_sub ..⟩
/-- 2 host operations of @_where_4 (main_while1b_call15), in order. -/
abbrev d3 : List (HloOp τ sig (Elt F)) :=
  [ StableHlo.TRef.unary (.of main_while1b_v65 : StableHlo.TRef sig ⟨S16384x1, .i1⟩) (.of main_while1b_call15_v0 : StableHlo.TRef sig ⟨S16384x64, .i1⟩) (broadcastInDim S16384x64 ![0, 1] bcast_S16384x1_S16384x64_0_1),
    StableHlo.TRef.ternary (.of main_while1b_call15_v0 : StableHlo.TRef sig ⟨S16384x64, .i1⟩) (.of main_while1b_v62 : StableHlo.TRef sig ⟨S16384x64, .f32⟩) (.of main_v21_8 : StableHlo.TRef sig ⟨S16384x64, .f32⟩) (.of main_while1b_v66 : StableHlo.TRef sig ⟨S16384x64, .f32⟩) select ]
theorem d3_sub : (d3 : List (HloOp τ sig (Elt F))).Forall fun op => op.bufs ⊆ StableHlo.tcRefs τ sig :=
  ⟨StableHlo.unary_bufs_sub .., StableHlo.ternary_bufs_sub ..⟩
/-- 2 host operations of host loop 1's body region, in order. -/
abbrev d4 : List (HloOp τ sig (Elt F)) :=
  [ StableHlo.nullary main_while1b_cst_17 (constant S_ .f32 0x00000000#32),
    StableHlo.unary main_while1b_cst_17 main_while1b_v67 (broadcastInDim S16384x64 ![] bcast_S_S16384x64 : (⟨S_, .f32⟩ : BufTy).Contents (Elt F) → (⟨S16384x64, .f32⟩ : BufTy).Contents (Elt F)) ]
theorem d4_sub : (d4 : List (HloOp τ sig (Elt F))).Forall fun op => op.bufs ⊆ StableHlo.tcRefs τ sig :=
  ⟨StableHlo.nullary_bufs_sub .., StableHlo.unary_bufs_sub ..⟩
/-- 2 host operations of @_where_4 (main_while1b_call16), in order. -/
abbrev d5 : List (HloOp τ sig (Elt F)) :=
  [ StableHlo.TRef.unary (.of main_while1b_v65 : StableHlo.TRef sig ⟨S16384x1, .i1⟩) (.of main_while1b_call16_v0 : StableHlo.TRef sig ⟨S16384x64, .i1⟩) (broadcastInDim S16384x64 ![0, 1] bcast_S16384x1_S16384x64_0_1),
    StableHlo.TRef.ternary (.of main_while1b_call16_v0 : StableHlo.TRef sig ⟨S16384x64, .i1⟩) (.of main_while1b_v62 : StableHlo.TRef sig ⟨S16384x64, .f32⟩) (.of main_while1b_v67 : StableHlo.TRef sig ⟨S16384x64, .f32⟩) (.of main_while1b_v68 : StableHlo.TRef sig ⟨S16384x64, .f32⟩) select ]
theorem d5_sub : (d5 : List (HloOp τ sig (Elt F))).Forall fun op => op.bufs ⊆ StableHlo.tcRefs τ sig :=
  ⟨StableHlo.unary_bufs_sub .., StableHlo.ternary_bufs_sub ..⟩
/-- 4 host operations of @dynamic_update_index_in_dim (main_while1b_call17), in order. -/
abbrev d6 : List (HloOp τ sig (Elt F)) :=
  [ StableHlo.TRef.unary (.of main_while1b_v68 : StableHlo.TRef sig ⟨S16384x64, .f32⟩) (.of main_while1b_call17_v0 : StableHlo.TRef sig ⟨S1x16384x64, .f32⟩) (broadcastInDim S1x16384x64 ![1, 2] bcast_S16384x64_S1x16384x64_1_2),
    StableHlo.TRef.nullary (.of main_while1b_call17_c : StableHlo.TRef sig ⟨S_, .i32⟩) (constantI S_ 32 0#32),
    StableHlo.TRef.nullary (.of main_while1b_call17_c_0 : StableHlo.TRef sig ⟨S_, .i32⟩) (constantI S_ 32 0#32),
    StableHlo.TRef.binaryIndexed (.of main_v21_9 : StableHlo.TRef sig ⟨S20x16384x64, .f32⟩) (.of main_while1b_call17_v0 : StableHlo.TRef sig ⟨S1x16384x64, .f32⟩) ![(.of main_v21_7 : StableHlo.TRef sig ⟨S_, .i32⟩), (.of main_while1b_call17_c : StableHlo.TRef sig ⟨S_, .i32⟩), (.of main_while1b_call17_c_0 : StableHlo.TRef sig ⟨S_, .i32⟩)] (.of main_while1b_v69 : StableHlo.TRef sig ⟨S20x16384x64, .f32⟩) (fun x u i => Host.dynamicUpdateSlice x u (fun k => (i k (Shape.Idx.first h_S_)).toInt) updateFits_S20x16384x64_S1x16384x64) ]
theorem d6_sub : (d6 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 5 host operations of host loop 1's body region, in order. -/
abbrev d7 : List (HloOp τ sig (Elt F)) :=
  [ StableHlo.nullary main_while1b_c_18 (constantI S_ 32 1#32),
    StableHlo.binary main_v21_7 main_while1b_c_18 main_while1b_v70 (addi : (⟨S_, .i32⟩ : BufTy).Contents (Elt F) → (⟨S_, .i32⟩ : BufTy).Contents (Elt F) → (⟨S_, .i32⟩ : BufTy).Contents (Elt F)),
    StableHlo.unary main_while1b_v70 main_v21_7 id,
    StableHlo.unary main_while1b_v66 main_v21_8 id,
    StableHlo.unary main_while1b_v69 main_v21_9 id ]
theorem d7_sub : (d7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- The decoder's trip is its stretches of operations, in order. -/
theorem while1_body_chain : main_while1_body (F := F) = (Pipeline.chain
  [ StableHlo.seq d0,
    StableHlo.seq d1,
    StableHlo.seq d2,
    StableHlo.seq d3,
    StableHlo.seq d4,
    StableHlo.seq d5,
    StableHlo.seq d6,
    StableHlo.seq d7 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, StableHlo.chain_seq_cons, Pipeline.chain_cons, Pipeline.chain_cons, StableHlo.chain_seq_cons]
  chain_rfl

end Cert.Gru

end
-- ==== Proof.RefTripValue.lean ====
/- What one trip of each of the reference's loops leaves, from any contents: the gated cell's new state where the row is
   still running and the old state elsewhere, the outputs' slice `t`, the counter one more, everything else as it was. -/
module

public import proofs.«01_k».proof.Proof.RefTrips
public import Idealize.ShloMosaic.Lib.StableHlo.RunRead

@[expose] public section

set_option maxRecDepth 8192

noncomputable section

namespace Cert.Gru

open Idealize.ShloMosaic Idealize.ShloMosaic.TcCoe Idealize.ShloMosaic.StableHlo
open Cert.ReferenceIdeal Cert.ReferenceIdeal.Gen

variable {F : FTy → Type} [FloatOps F]

/-- The condition's operations: the bound, then the comparison. -/
abbrev eCond : List (HloOp τ sig (Elt F)) :=
  [ StableHlo.nullary main_while0c_c_12 (constantI S_ 32 20#32),
    StableHlo.binary main_v10_7 main_while0c_c_12 main_while0c_v23 (cmpi .slt : (⟨S_, .i32⟩ : BufTy).Contents (Elt F) → (⟨S_, .i32⟩ : BufTy).Contents (Elt F) → (⟨S_, .i1⟩ : BufTy).Contents (Elt F)) ]

abbrev dCond : List (HloOp τ sig (Elt F)) :=
  [ StableHlo.nullary main_while1c_c_12 (constantI S_ 32 20#32),
    StableHlo.binary main_v21_7 main_while1c_c_12 main_while1c_v23 (cmpi .slt : (⟨S_, .i32⟩ : BufTy).Contents (Elt F) → (⟨S_, .i32⟩ : BufTy).Contents (Elt F) → (⟨S_, .i1⟩ : BufTy).Contents (Elt F)) ]

abbrev eTrip : List (List (HloOp τ sig (Elt F))) := [e0, e1, e2, e3, e4, e5, e6, e7]
abbrev dTrip : List (List (HloOp τ sig (Elt F))) := [d0, d1, d2, d3, d4, d5, d6, d7]

/-- A row block times a weight matrix, transposed, plus its bias: the three gates' inputs side by side. -/
def gates (x : (⟨S16384x64, .f32⟩ : BufTy).Contents (Elt F)) (w : (⟨S192x64, .f32⟩ : BufTy).Contents (Elt F))
    (b : (⟨S192, .f32⟩ : BufTy).Contents (Elt F)) : (⟨S16384x192, .f32⟩ : BufTy).Contents (Elt F) :=
  addf (Host.dotGeneral dot_S16384x64_S64x192_S16384x192_1_0_0_1_n_n none x (transpose S64x192 [1, 0] w transposes_S192x64_S64x192_1_0))
    (broadcastInDim S16384x192 ![0, 1] bcast_S1x192_S16384x192_0_1 (broadcastInDim S1x192 ![1] bcast_S192_S1x192_1 b))

/-- One everywhere. -/
def ones : (⟨S16384x64, .f32⟩ : BufTy).Contents (Elt F) := broadcastInDim S16384x64 ![] bcast_S_S16384x64 (constant S_ .f32 0x3F800000#32)
/-- Zero everywhere. -/
def zeros : (⟨S16384x64, .f32⟩ : BufTy).Contents (Elt F) := broadcastInDim S16384x64 ![] bcast_S_S16384x64 (constant S_ .f32 0x00000000#32)

/-- The logistic function, element by element. -/
def logistic (x : (⟨S16384x64, .f32⟩ : BufTy).Contents (Elt F)) : (⟨S16384x64, .f32⟩ : BufTy).Contents (Elt F) :=
  Host.divf ones (addf ones (Host.exp (Host.negf x)))

def third0 (g : (⟨S16384x192, .f32⟩ : BufTy).Contents (Elt F)) : (⟨S16384x64, .f32⟩ : BufTy).Contents (Elt F) :=
  extractStridedSlice S16384x64 ![0, 0] g slices_S16384x192_S16384x64_0_0
def third1 (g : (⟨S16384x192, .f32⟩ : BufTy).Contents (Elt F)) : (⟨S16384x64, .f32⟩ : BufTy).Contents (Elt F) :=
  extractStridedSlice S16384x64 ![0, 64] g slices_S16384x192_S16384x64_0_64
def third2 (g : (⟨S16384x192, .f32⟩ : BufTy).Contents (Elt F)) : (⟨S16384x64, .f32⟩ : BufTy).Contents (Elt F) :=
  extractStridedSlice S16384x64 ![0, 128] g slices_S16384x192_S16384x64_0_128

/-- The gated cell from the two sides' gate inputs and the state. -/
def cell (gi gh : (⟨S16384x192, .f32⟩ : BufTy).Contents (Elt F)) (h : (⟨S16384x64, .f32⟩ : BufTy).Contents (Elt F)) :
    (⟨S16384x64, .f32⟩ : BufTy).Contents (Elt F) :=
  addf (mulf (subf ones (logistic (addf (third1 gi) (third1 gh))))
      (Host.tanh (addf (third2 gi) (mulf (logistic (addf (third0 gi) (third0 gh))) (third2 gh)))))
    (mulf (logistic (addf (third1 gi) (third1 gh))) h)

/-- Step `t`'s inputs. -/
def xAt (xs : (⟨S20x16384x64, .f32⟩ : BufTy).Contents (Elt F)) (t : (⟨S_, .i32⟩ : BufTy).Contents (Elt F)) : (⟨S16384x64, .f32⟩ : BufTy).Contents (Elt F) :=
  shapeCast S16384x64 (Host.dynamicSlice S1x16384x64 xs (fun k => ((![t, constantI S_ 32 0#32, constantI S_ 32 0#32] : Fin 3 → (⟨S_, .i32⟩ : BufTy).Contents (Elt F)) k (Shape.Idx.first h_S_)).toInt) sliceFits_S20x16384x64_S1x16384x64) shapeCasts_S1x16384x64_S16384x64

/-- The row's mask at step `t`: is `t` below the row's length? -/
def maskAt (ts : (⟨S20, .i32⟩ : BufTy).Contents (Elt F)) (len : (⟨S16384, .i32⟩ : BufTy).Contents (Elt F)) (t : (⟨S_, .i32⟩ : BufTy).Contents (Elt F)) :
    (⟨S16384x64, .i1⟩ : BufTy).Contents (Elt F) :=
  broadcastInDim S16384x64 ![0, 1] bcast_S16384x1_S16384x64_0_1 (broadcastInDim S16384x1 ![0] bcast_S16384_S16384x1_0
    (cmpi .slt (broadcastInDim S16384 ![] bcast_S_S16384
      (shapeCast S_ (Host.dynamicSlice S1 ts (fun k => ((![t] : Fin 1 → (⟨S_, .i32⟩ : BufTy).Contents (Elt F)) k (Shape.Idx.first h_S_)).toInt) sliceFits_S20_S1) shapeCasts_S1_S_)) len))

/-- The outputs with slice `t` overwritten. -/
def putAt (ys : (⟨S20x16384x64, .f32⟩ : BufTy).Contents (Elt F)) (y : (⟨S16384x64, .f32⟩ : BufTy).Contents (Elt F)) (t : (⟨S_, .i32⟩ : BufTy).Contents (Elt F)) :
    (⟨S20x16384x64, .f32⟩ : BufTy).Contents (Elt F) :=
  Host.dynamicUpdateSlice ys (broadcastInDim S1x16384x64 ![1, 2] bcast_S16384x64_S1x16384x64_1_2 y)
    (fun k => ((![t, constantI S_ 32 0#32, constantI S_ 32 0#32] : Fin 3 → (⟨S_, .i32⟩ : BufTy).Contents (Elt F)) k (Shape.Idx.first h_S_)).toInt) updateFits_S20x16384x64_S1x16384x64

variable (X : Valuation τ sig (Elt F))

/-! The encoder. -/

theorem eTrip_ctr : afterL eTrip (after eCond X) (Proc.devRef .tc main_v10_7) = addi (X (Proc.devRef .tc main_v10_7)) (constantI S_ 32 1#32) := by
  rw [afterL_eq_after_flatten]; after_reads_simp; rfl
theorem eTrip_0 : afterL eTrip (after eCond X) (Proc.devRef .tc main_v10_0) = (X (Proc.devRef .tc main_v10_0)) := by
  rw [afterL_eq_after_flatten]; after_reads_simp
theorem eTrip_1 : afterL eTrip (after eCond X) (Proc.devRef .tc main_v10_1) = (X (Proc.devRef .tc main_v10_1)) := by
  rw [afterL_eq_after_flatten]; after_reads_simp
theorem eTrip_2 : afterL eTrip (after eCond X) (Proc.devRef .tc main_v10_2) = (X (Proc.devRef .tc main_v10_2)) := by
  rw [afterL_eq_after_flatten]; after_reads_simp
theorem eTrip_3 : afterL eTrip (after eCond X) (Proc.devRef .tc main_v10_3) = (X (Proc.devRef .tc main_v10_3)) := by
  rw [afterL_eq_after_flatten]; after_reads_simp
theorem eTrip_4 : afterL eTrip (after eCond X) (Proc.devRef .tc main_v10_4) = (X (Proc.devRef .tc main_v10_4)) := by
  rw [afterL_eq_after_flatten]; after_reads_simp
theorem eTrip_5 : afterL eTrip (after eCond X) (Proc.devRef .tc main_v10_5) = (X (Proc.devRef .tc main_v10_5)) := by
  rw [afterL_eq_after_flatten]; after_reads_simp
theorem eTrip_6 : afterL eTrip (after eCond X) (Proc.devRef .tc main_v10_6) = (X (Proc.devRef .tc main_v10_6)) := by
  rw [afterL_eq_after_flatten]; after_reads_simp

theorem eTrip_h : afterL eTrip (after eCond X) (Proc.devRef .tc main_v10_8)
    = select (maskAt (F := F) (X (Proc.devRef .tc main_v10_1)) (X (Proc.devRef .tc main_v10_6)) (X (Proc.devRef .tc main_v10_7))) (cell (gates (xAt (X (Proc.devRef .tc main_v10_0)) (X (Proc.devRef .tc main_v10_7))) (X (Proc.devRef .tc main_v10_2)) (X (Proc.devRef .tc main_v10_3))) (gates (X (Proc.devRef .tc main_v10_8)) (X (Proc.devRef .tc main_v10_4)) (X (Proc.devRef .tc main_v10_5))) (X (Proc.devRef .tc main_v10_8))) (X (Proc.devRef .tc main_v10_8)) := by
  rw [afterL_eq_after_flatten]; after_reads_simp [unaryIndexed_result_read, binaryIndexed_result_read, indexContents_tref_cons, indexContents_tref_empty]; rfl

theorem eTrip_y : afterL eTrip (after eCond X) (Proc.devRef .tc main_v10_9)
    = putAt (X (Proc.devRef .tc main_v10_9)) (select (maskAt (F := F) (X (Proc.devRef .tc main_v10_1)) (X (Proc.devRef .tc main_v10_6)) (X (Proc.devRef .tc main_v10_7))) (cell (gates (xAt (X (Proc.devRef .tc main_v10_0)) (X (Proc.devRef .tc main_v10_7))) (X (Proc.devRef .tc main_v10_2)) (X (Proc.devRef .tc main_v10_3))) (gates (X (Proc.devRef .tc main_v10_8)) (X (Proc.devRef .tc main_v10_4)) (X (Proc.devRef .tc main_v10_5))) (X (Proc.devRef .tc main_v10_8))) zeros) (X (Proc.devRef .tc main_v10_7)) := by
  rw [afterL_eq_after_flatten]; after_reads_simp [unaryIndexed_result_read, binaryIndexed_result_read, indexContents_tref_cons, indexContents_tref_empty]; rfl

/-! The decoder. -/

theorem dTrip_ctr : afterL dTrip (after dCond X) (Proc.devRef .tc main_v21_7) = addi (X (Proc.devRef .tc main_v21_7)) (constantI S_ 32 1#32) := by
  rw [afterL_eq_after_flatten]; after_reads_simp; rfl
theorem dTrip_0 : afterL dTrip (after dCond X) (Proc.devRef .tc main_v21_0) = (X (Proc.devRef .tc main_v21_0)) := by
  rw [afterL_eq_after_flatten]; after_reads_simp
theorem dTrip_1 : afterL dTrip (after dCond X) (Proc.devRef .tc main_v21_1) = (X (Proc.devRef .tc main_v21_1)) := by
  rw [afterL_eq_after_flatten]; after_reads_simp
theorem dTrip_2 : afterL dTrip (after dCond X) (Proc.devRef .tc main_v21_2) = (X (Proc.devRef .tc main_v21_2)) := by
  rw [afterL_eq_after_flatten]; after_reads_simp
theorem dTrip_3 : afterL dTrip (after dCond X) (Proc.devRef .tc main_v21_3) = (X (Proc.devRef .tc main_v21_3)) := by
  rw [afterL_eq_after_flatten]; after_reads_simp
theorem dTrip_4 : afterL dTrip (after dCond X) (Proc.devRef .tc main_v21_4) = (X (Proc.devRef .tc main_v21_4)) := by
  rw [afterL_eq_after_flatten]; after_reads_simp
theorem dTrip_5 : afterL dTrip (after dCond X) (Proc.devRef .tc main_v21_5) = (X (Proc.devRef .tc main_v21_5)) := by
  rw [afterL_eq_after_flatten]; after_reads_simp
theorem dTrip_6 : afterL dTrip (after dCond X) (Proc.devRef .tc main_v21_6) = (X (Proc.devRef .tc main_v21_6)) := by
  rw [afterL_eq_after_flatten]; after_reads_simp

theorem dTrip_h : afterL dTrip (after dCond X) (Proc.devRef .tc main_v21_8)
    = select (maskAt (F := F) (X (Proc.devRef .tc main_v21_1)) (X (Proc.devRef .tc main_v21_6)) (X (Proc.devRef .tc main_v21_7))) (cell (gates (xAt (X (Proc.devRef .tc main_v21_0)) (X (Proc.devRef .tc main_v21_7))) (X (Proc.devRef .tc main_v21_2)) (X (Proc.devRef .tc main_v21_3))) (gates (X (Proc.devRef .tc main_v21_8)) (X (Proc.devRef .tc main_v21_4)) (X (Proc.devRef .tc main_v21_5))) (X (Proc.devRef .tc main_v21_8))) (X (Proc.devRef .tc main_v21_8)) := by
  rw [afterL_eq_after_flatten]; after_reads_simp [unaryIndexed_result_read, binaryIndexed_result_read, indexContents_tref_cons, indexContents_tref_empty]; rfl

theorem dTrip_y : afterL dTrip (after dCond X) (Proc.devRef .tc main_v21_9)
    = putAt (X (Proc.devRef .tc main_v21_9)) (select (maskAt (F := F) (X (Proc.devRef .tc main_v21_1)) (X (Proc.devRef .tc main_v21_6)) (X (Proc.devRef .tc main_v21_7))) (cell (gates (xAt (X (Proc.devRef .tc main_v21_0)) (X (Proc.devRef .tc main_v21_7))) (X (Proc.devRef .tc main_v21_2)) (X (Proc.devRef .tc main_v21_3))) (gates (X (Proc.devRef .tc main_v21_8)) (X (Proc.devRef .tc main_v21_4)) (X (Proc.devRef .tc main_v21_5))) (X (Proc.devRef .tc main_v21_8))) zeros) (X (Proc.devRef .tc main_v21_7)) := by
  rw [afterL_eq_after_flatten]; after_reads_simp [unaryIndexed_result_read, binaryIndexed_result_read, indexContents_tref_cons, indexContents_tref_empty]; rfl

end Cert.Gru

end
-- ==== Proof.TwoLoops.lean ====
/- A program of host operations with two counted loops: stretches, a loop, stretches, a second loop, stretches.
   `run2`: every weakly fair execution ends, and every TensorCore buffer that holds a tensor value of the program ends at
   the fold of the stretches, the loops' trips in their places. -/
module

public import Idealize.ShloMosaic.Lib.StableHlo.RunLoop
public import Idealize.ShloMosaic.Lib.Pipeline.RegionsLoop
public import Idealize.ShloMosaic.Lib.Pipeline.Frame

@[expose] public section

noncomputable section

namespace Cert.Gru

open Idealize.ShloMosaic Idealize.ShloMosaic.StableHlo Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs unscopedBufs_held sub_ucRefs)

variable {nD : Nat} {τ : Topo} {sig : RefSig} {F : FTy → Type} {Λ₀ : Idealize.SL.Sem.Labels}

local notation "𝕄" => MT nD τ sig Unit (Elt F) ℕ (Option PUnit) ℕ

/-- A loop's data beside its label: how the condition and the trip run, and how often. -/
structure LoopData (τ : Topo) (sig : RefSig) (F : FTy → Type) where
  cond : List (HloOp τ sig (Elt F))
  trip : List (List (HloOp τ sig (Elt F)))
  n : ℕ

/-- What a loop leaves from the contents `W`. -/
def LoopData.exit {nD : Nat} (L : LoopData τ sig F) (W : Dev nD → Valuation τ sig (Elt F)) (c : Dev nD) : Valuation τ sig (Elt F) :=
  after L.cond (atTrip L.cond L.trip W L.n c)

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

abbrev noAdm : (p : Fin 0) → (pcs p).Adm := fun p => p.elim0
abbrev noTk : Fin 0 → Ticket (Ix := Unit) (Name := ℕ) (U := Option PUnit) (Lvl := ℕ) (nD := nD) (τ := τ) pcs (noAdm pcs) := fun j => j.elim0
abbrev noL : GSem nD τ sig → Finset Unit := fun _ => ∅
abbrev noLv : GSem nD τ sig → Unit → ℕ := fun _ _ => 0

theorem noCells : Function.Injective (Pipeline.cellOf (nD := nD) (τ := τ) (Pipeline.pin pcs (noAdm pcs))) :=
  fun k => k.1.elim0

/-- Beside the buffers a core carries what it owes, untouched. -/
abbrev Owed (c : Dev nD) : sProp 𝕄 := iprop(∃ W, owes (c : Thread nD τ) (0 : CellTallies nD τ sig Unit) W)

variable {pcs defs₀ loops}

/-- A condition's behaviour with what the core owes carried through it. -/
theorem carryOwed {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))} {W₀ : Dev nD → Valuation τ sig (Elt F)} {n : ℕ}
    (h : CondSpec pcs defs₀ loops cond condOps bodyI W₀ n) :
    LoopCond pcs defs₀ Variants.none loops Owed cond condOps bodyI W₀ n := by
  intro k hk c bd
  have hpost : ∀ v : Elt F .i1,
      iprop(iprop(⌜v = 1#1 ↔ k < n⌝ ∗ boundary (c : Thread nD τ) ∗ held (c : Thread nD τ) (ucRefs τ sig) (after condOps (atTrip condOps bodyI W₀ k c))) ∗ Owed c)
        ⊢ iprop(⌜v = 1#1 ↔ k < n⌝ ∗ boundary (c : Thread nD τ) ∗ held (c : Thread nD τ) (ucRefs τ sig) (after condOps (atTrip condOps bodyI W₀ k c)) ∗ Owed c) := fun v => by
    iintro ⟨⟨%hv, Hb, Hh⟩, HO⟩
    isplitr; · ipureintro; exact hv
    isplitl [Hb]; · iexact Hb
    isplitl [Hh] <;> iassumption
  refine BIBase.Entails.trans ?_ (((sep_mono_left (h k hk c bd)).trans (wp_frame_r _ _ _)).trans (wp_mono _ _ _ hpost))
  iintro ⟨Hb, Hh, HO⟩
  isplitl [Hb Hh]; · isplitl [Hb] <;> iassumption
  iexact HO

/-- The run of `pre ; loop ; mid ; loop ; post`. -/
theorem run2 [∀ e, Nonempty (Elt F e)]
    (main : Dev nD → Prog (TpuEff nD τ sig (Elt F) (HostLoop.Sig (Pipeline.Sig Λ₀ (Fin 0) fun p => (pcs p).Adm) nL) .tc) PUnit)
    (l₁ l₂ : Fin nL)
    (cond₁ cond₂ : Prog (TpuEff nD τ sig (Elt F) (HostLoop.Sig (Pipeline.Sig Λ₀ (Fin 0) fun p => (pcs p).Adm) nL) .tc) (Elt F .i1))
    (body₁ body₂ : Prog (TpuEff nD τ sig (Elt F) (HostLoop.Sig (Pipeline.Sig Λ₀ (Fin 0) fun p => (pcs p).Adm) nL) .tc) PUnit)
    (hl₁ : loops l₁ = HostLoop.step l₁ cond₁ body₁) (hl₂ : loops l₂ = HostLoop.step l₂ cond₂ body₂)
    (pre mid post : List (List (HloOp τ sig (Elt F)))) (L₁ L₂ : LoopData τ sig F)
    (hpre : Plain pre) (hmid : Plain mid) (hpost : Plain post) (ht₁ : Plain L₁.trip) (ht₂ : Plain L₂.trip)
    (hmain : ∀ c, main c = Pipeline.chain ((pre.map fun ops => (seq ops : Prog _ PUnit)) ++ HostLoop.enter l₁
      :: ((mid.map fun ops => (seq ops : Prog _ PUnit)) ++ HostLoop.enter l₂ :: post.map fun ops => (seq ops : Prog _ PUnit))))
    (hb₁ : body₁ = Pipeline.chain (L₁.trip.map fun ops => (seq ops : Prog _ PUnit)))
    (hb₂ : body₂ = Pipeline.chain (L₂.trip.map fun ops => (seq ops : Prog _ PUnit)))
    (m : (ℓ : Loc nD τ sig) → Buf (Elt F) ℓ) (ρ : Dev nD → PrngReg)
    (hc₁ : CondSpec pcs defs₀ loops cond₁ L₁.cond L₁.trip (fun c => afterL pre (launchContents m c)) L₁.n)
    (hc₂ : CondSpec pcs defs₀ loops cond₂ L₂.cond L₂.trip (fun c => afterL mid (L₁.exit (fun c => afterL pre (launchContents m c)) c)) L₂.n) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b)
          = afterL post (L₂.exit (fun c => afterL mid (L₁.exit (fun c => afterL pre (launchContents m c)) c)) c) (Proc.devRef .tc b)) := by
  let W₁ : Dev nD → Valuation τ sig (Elt F) := fun c => afterL pre (launchContents m c)
  let W₂ : Dev nD → Valuation τ sig (Elt F) := fun c => afterL mid (L₁.exit W₁ c)
  let W₃ : Dev nD → Valuation τ sig (Elt F) := fun c => afterL post (L₂.exit W₂ c)
  let segs : List (CSeg pcs (noAdm pcs) defs₀ Variants.none noL noLv loops (noTk pcs)) :=
    segsOf _ _ _ _ _ _ _ _ Owed pre hpre (launchContents m)
      ++ loopSeg _ _ _ _ _ _ _ _ l₁ cond₁ body₁ hl₁ L₁.cond L₁.trip ht₁ hb₁ L₁.n W₁ Owed (carryOwed hc₁)
        :: (segsOf _ _ _ _ _ _ _ _ Owed mid hmid (L₁.exit W₁)
          ++ loopSeg _ _ _ _ _ _ _ _ l₂ cond₂ body₂ hl₂ L₂.cond L₂.trip ht₂ hb₂ L₂.n W₂ Owed (carryOwed hc₂)
            :: segsOf _ _ _ _ _ _ _ _ Owed post hpost (L₂.exit W₂))
  have hprog : segs.map CSeg.prog = (pre.map fun ops => (seq ops : Prog _ PUnit)) ++ HostLoop.enter l₁
      :: ((mid.map fun ops => (seq ops : Prog _ PUnit)) ++ HostLoop.enter l₂ :: post.map fun ops => (seq ops : Prog _ PUnit)) := by
    show List.map CSeg.prog (_ ++ _ :: (_ ++ _ :: _)) = _
    rw [List.map_append, List.map_cons, List.map_append, List.map_cons, segsOf_prog, segsOf_prog, segsOf_prog]
    rfl
  have hchains : CSeg.Chains (fun c => iprop(held (c : Thread nD τ) (ucRefs τ sig) (launchContents m c) ∗ Owed c)) segs
      (fun c => iprop(iprop(held (c : Thread nD τ) (ucRefs τ sig) (W₃ c)) ∗ ∃ W, owes (c : Thread nD τ) (0 : CellTallies nD τ sig Unit) W)) :=
    CSeg.Chains.append (segsOf_chains _ _ _ _ _ _ _ _ Owed pre hpre _)
      ⟨fun _ => .rfl, CSeg.Chains.append (segsOf_chains _ _ _ _ _ _ _ _ Owed mid hmid _)
        ⟨fun _ => .rfl, segsOf_chains _ _ _ _ _ _ _ _ Owed post hpost _⟩⟩
  exact Pipeline.θ_run_regions_loop_kit (Ix := Unit) (Name := ℕ) (U := Option PUnit) (Lvl := ℕ) (J := Fin 0) (P := Fin 0) (Val := Elt F)
    pcs (noAdm pcs) (noCells pcs) defs₀ Variants.none noL noLv loops (noTk pcs) m ρ main segs
    (fun c Q => by
      rw [hmain c]
      show wp _ _ _ (Pipeline.chain (segs.map CSeg.prog)) Q ⊢ _
      rw [hprog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Owed c))
    (Tₙ := fun c => iprop(held (c : Thread nD τ) (ucRefs τ sig) (W₃ c)))
    (hch := hchains)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = W₃ c b)
    (hfin := fun c s' => by
      unfold held
      iintro ⟨Hh, HSI⟩
      ihave Hr := (pointsTo_read_all (ucRefs τ sig) (fun b => ((c : Dev nD), b)) (fun b => W₃ c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.Gru

end
-- ==== Proof.RefRun.lean ====
/- The reference's run: its stretches and its two loops of twenty trips, from any memory; every buffer that holds a tensor
   value ends at the fold of the operations. -/
module

public import proofs.«01_k».proof.Proof.RefOps
public import proofs.«01_k».proof.Proof.RefTripValue
public import proofs.«01_k».proof.Proof.TwoLoops
public import Idealize.ShloMosaic.Lib.Quiescent
public import proofs.«01_k».proof.Defs

@[expose] public section

set_option maxRecDepth 8192

noncomputable section

namespace Cert.Gru

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs)
open Cert.ReferenceIdeal Cert.ReferenceIdeal.Gen

variable {F : FTy → Type} [FloatOps F]

abbrev preOps : List (List (HloOp τ sig (Elt F))) := [h0, h1, h2, h3, h4, h5]
abbrev midOps : List (List (HloOp τ sig (Elt F))) := [h6, h7, h8, h9, h10, h11]
abbrev postOps : List (List (HloOp τ sig (Elt F))) := [h12]

theorem pre_plain : Plain (preOps (F := F)) :=
  .cons h0_sub <| .cons h1_sub <| .cons h2_sub <| .cons h3_sub <| .cons h4_sub <| .cons h5_sub .nil
theorem mid_plain : Plain (midOps (F := F)) :=
  .cons h6_sub <| .cons h7_sub <| .cons h8_sub <| .cons h9_sub <| .cons h10_sub <| .cons h11_sub .nil
theorem post_plain : Plain (postOps (F := F)) := .cons h12_sub .nil
theorem e_plain : Plain (eTrip (F := F)) :=
  .cons e0_sub <| .cons e1_sub <| .cons e2_sub <| .cons e3_sub <| .cons e4_sub <| .cons e5_sub <| .cons e6_sub <| .cons e7_sub .nil
theorem d_plain : Plain (dTrip (F := F)) :=
  .cons d0_sub <| .cons d1_sub <| .cons d2_sub <| .cons d3_sub <| .cons d4_sub <| .cons d5_sub <| .cons d6_sub <| .cons d7_sub .nil

def encLoop : LoopData τ sig F := ⟨eCond, eTrip, 20⟩
def decLoop : LoopData τ sig F := ⟨dCond, dTrip, 20⟩

theorem slt20 : ∀ k : ℕ, k ≤ 20 → (IntOp.cmpi .slt (BitVec.ofNat 32 k) 20#32 = 1#1 ↔ k < 20) := by
  intro k hk
  interval_cases k <;> decide

theorem addOne (k : ℕ) : addi (constantI S_ 32 (BitVec.ofNat 32 k)) (constantI S_ 32 1#32) = constantI S_ 32 (BitVec.ofNat 32 (k + 1)) := by
  funext i
  show BitVec.ofNat 32 k + 1#32 = BitVec.ofNat 32 (k + 1)
  rw [BitVec.ofNat_add]

/-- Before the encoder's trip `k` the counter is `k`. -/
theorem e_ctr (W : Dev nD → Valuation τ sig (Elt F)) (h0 : ∀ c, W c (Proc.devRef .tc main_v10_7) = constantI S_ 32 0#32) (c : Dev nD) :
    ∀ k, atTrip eCond eTrip W k c (Proc.devRef .tc main_v10_7) = constantI S_ 32 (BitVec.ofNat 32 k)
  | 0 => h0 c
  | k + 1 => by rw [atTrip_succ, eTrip_ctr, e_ctr W h0 c k, addOne]

/-- Before the decoder's trip `k` the counter is `k`. -/
theorem d_ctr (W : Dev nD → Valuation τ sig (Elt F)) (h0 : ∀ c, W c (Proc.devRef .tc main_v21_7) = constantI S_ 32 0#32) (c : Dev nD) :
    ∀ k, atTrip dCond dTrip W k c (Proc.devRef .tc main_v21_7) = constantI S_ 32 (BitVec.ofNat 32 k)
  | 0 => h0 c
  | k + 1 => by rw [atTrip_succ, dTrip_ctr, d_ctr W h0 c k, addOne]

set_option backward.isDefEq.respectTransparency.types false in
theorem e_cond (W : Dev nD → Valuation τ sig (Elt F)) (h0 : ∀ c, W c (Proc.devRef .tc main_v10_7) = constantI S_ 32 0#32) :
    CondSpec (pcfgs (F := F)) defs₀ loops (main_while0_cond (F := F)) eCond eTrip W 20 := by
  intro k hk c bd
  have hctr := e_ctr W h0 c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip eCond eTrip W k c) (Proc.devRef .tc main_v10_7) HostLoop.idx0)
        (HloOp.result _ (atTrip eCond eTrip W k c) (Proc.devRef .tc main_while0c_c_12) HostLoop.idx0) = 1#1) (k < 20)
    rw [nullary_result_ne _ _ _ _ (by decide), nullary_result, hctr]
    exact slt20 k hk
  isplitl [Hb]; · iexact Hb
  rw [after_cons, after_cons, after_nil]; iexact Hh

set_option backward.isDefEq.respectTransparency.types false in
theorem d_cond (W : Dev nD → Valuation τ sig (Elt F)) (h0 : ∀ c, W c (Proc.devRef .tc main_v21_7) = constantI S_ 32 0#32) :
    CondSpec (pcfgs (F := F)) defs₀ loops (main_while1_cond (F := F)) dCond dTrip W 20 := by
  intro k hk c bd
  have hctr := d_ctr W h0 c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip dCond dTrip W k c) (Proc.devRef .tc main_v21_7) HostLoop.idx0)
        (HloOp.result _ (atTrip dCond dTrip W k c) (Proc.devRef .tc main_while1c_c_12) HostLoop.idx0) = 1#1) (k < 20)
    rw [nullary_result_ne _ _ _ _ (by decide), nullary_result, hctr]
    exact slt20 k hk
  isplitl [Hb]; · iexact Hb
  rw [after_cons, after_cons, after_nil]; iexact Hh

/-- The contents the encoder's loop starts from, -/
def atEnc (m : (ℓ : Loc nD τ sig) → Buf (Elt F) ℓ) (c : Dev nD) : Valuation τ sig (Elt F) := afterL preOps (launchContents m c)
/-- the contents the decoder's loop starts from, -/
def atDec (m : (ℓ : Loc nD τ sig) → Buf (Elt F) ℓ) (c : Dev nD) : Valuation τ sig (Elt F) := afterL midOps (encLoop.exit (atEnc m) c)
/-- and the contents at the end. -/
def atEnd (m : (ℓ : Loc nD τ sig) → Buf (Elt F) ℓ) (c : Dev nD) : Valuation τ sig (Elt F) := afterL postOps (decLoop.exit (atDec m) c)

theorem pre_ctr (X : Valuation τ sig (Elt F)) : afterL preOps X (Proc.devRef .tc main_v10_7) = constantI S_ 32 0#32 := by
  rw [afterL_eq_after_flatten]; after_reads_simp; rfl
theorem mid_ctr (X : Valuation τ sig (Elt F)) : afterL midOps X (Proc.devRef .tc main_v21_7) = constantI S_ 32 0#32 := by
  rw [afterL_eq_after_flatten]; after_reads_simp; rfl

theorem ref_run (m : (ℓ : Loc nD τ sig) → Buf (Elt F) ℓ) (ρ : Dev nD → PrngReg) :
    θ_run (defs (F := F)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = atEnd m c (Proc.devRef .tc b)) :=
  run2 (F := F) main 0 1 main_while0_cond main_while1_cond main_while0_body main_while1_body rfl rfl
    preOps midOps postOps encLoop decLoop pre_plain mid_plain post_plain e_plain d_plain
    (fun c => by rw [main_chain]; rfl) (by rw [while0_body_chain]; rfl) (by rw [while1_body_chain]; rfl) m ρ
    (e_cond _ fun c => pre_ctr _) (d_cond _ fun c => mid_ctr _)

/-! The arguments end as they began. -/

/-- The program's arguments. -/
abbrev args : List (Ref sig .tc) := [main_arg0, main_arg1, main_arg2, main_arg3, main_arg4, main_arg5, main_arg6, main_arg7, main_arg8, main_arg9, main_arg10, main_arg11, main_arg12, main_arg13, main_arg14]

theorem pre_args (X : Valuation τ sig (Elt F)) : ∀ b ∈ args, afterL preOps X (Proc.devRef .tc b) = X (Proc.devRef .tc b) := by
  intro b hb
  fin_cases hb <;> (rw [afterL_eq_after_flatten]; after_reads_simp)
theorem mid_args (X : Valuation τ sig (Elt F)) : ∀ b ∈ args, afterL midOps X (Proc.devRef .tc b) = X (Proc.devRef .tc b) := by
  intro b hb
  fin_cases hb <;> (rw [afterL_eq_after_flatten]; after_reads_simp)
theorem post_args (X : Valuation τ sig (Elt F)) : ∀ b ∈ args, afterL postOps X (Proc.devRef .tc b) = X (Proc.devRef .tc b) := by
  intro b hb
  fin_cases hb <;> (rw [afterL_eq_after_flatten]; after_reads_simp)
theorem e_args (X : Valuation τ sig (Elt F)) : ∀ b ∈ args, afterL eTrip (after eCond X) (Proc.devRef .tc b) = X (Proc.devRef .tc b) := by
  intro b hb
  fin_cases hb <;> (rw [afterL_eq_after_flatten]; after_reads_simp)
theorem d_args (X : Valuation τ sig (Elt F)) : ∀ b ∈ args, afterL dTrip (after dCond X) (Proc.devRef .tc b) = X (Proc.devRef .tc b) := by
  intro b hb
  fin_cases hb <;> (rw [afterL_eq_after_flatten]; after_reads_simp)
theorem eCond_keep (X : Valuation τ sig (Elt F)) (b : Ref sig .tc) (hb : b ≠ main_while0c_c_12 ∧ b ≠ main_while0c_v23) :
    after eCond X (Proc.devRef .tc b) = X (Proc.devRef .tc b) := by
  rw [after_cons, after_cons, after_nil, binary_result_ne _ _ _ _ _ _ _ _ hb.2, nullary_result_ne _ _ _ _ hb.1]
theorem dCond_keep (X : Valuation τ sig (Elt F)) (b : Ref sig .tc) (hb : b ≠ main_while1c_c_12 ∧ b ≠ main_while1c_v23) :
    after dCond X (Proc.devRef .tc b) = X (Proc.devRef .tc b) := by
  rw [after_cons, after_cons, after_nil, binary_result_ne _ _ _ _ _ _ _ _ hb.2, nullary_result_ne _ _ _ _ hb.1]

theorem e_trips_args (W : Dev nD → Valuation τ sig (Elt F)) (c : Dev nD) (b : Ref sig .tc) (hb : b ∈ args) :
    ∀ k, atTrip eCond eTrip W k c (Proc.devRef .tc b) = W c (Proc.devRef .tc b)
  | 0 => rfl
  | k + 1 => by rw [atTrip_succ, e_args _ b hb, e_trips_args W c b hb k]
theorem d_trips_args (W : Dev nD → Valuation τ sig (Elt F)) (c : Dev nD) (b : Ref sig .tc) (hb : b ∈ args) :
    ∀ k, atTrip dCond dTrip W k c (Proc.devRef .tc b) = W c (Proc.devRef .tc b)
  | 0 => rfl
  | k + 1 => by rw [atTrip_succ, d_args _ b hb, d_trips_args W c b hb k]

theorem args_ne : ∀ b ∈ args, (b ≠ main_while0c_c_12 ∧ b ≠ main_while0c_v23) ∧ (b ≠ main_while1c_c_12 ∧ b ≠ main_while1c_v23) := by
  intro b hb
  fin_cases hb <;> decide

theorem atEnc_args (m : (ℓ : Loc nD τ sig) → Buf (Elt F) ℓ) (c : Dev nD) (b : Ref sig .tc) (hb : b ∈ args) :
    atEnc m c (Proc.devRef .tc b) = m ((c.tc : Thread nD τ).loc b) := pre_args _ b hb
theorem atDec_args (m : (ℓ : Loc nD τ sig) → Buf (Elt F) ℓ) (c : Dev nD) (b : Ref sig .tc) (hb : b ∈ args) :
    atDec m c (Proc.devRef .tc b) = m ((c.tc : Thread nD τ).loc b) := by
  unfold atDec
  rw [mid_args _ b hb]
  show after eCond (atTrip eCond eTrip (atEnc m) 20 c) _ = _
  rw [eCond_keep _ b (args_ne b hb).1, e_trips_args _ c b hb, atEnc_args m c b hb]
theorem atEnd_args (m : (ℓ : Loc nD τ sig) → Buf (Elt F) ℓ) (c : Dev nD) (b : Ref sig .tc) (hb : b ∈ args) :
    atEnd m c (Proc.devRef .tc b) = m ((c.tc : Thread nD τ).loc b) := by
  unfold atEnd
  rw [post_args _ b hb]
  show after dCond (atTrip dCond dTrip (atDec m) 20 c) _ = _
  rw [dCond_keep _ b (args_ne b hb).2, d_trips_args _ c b hb, atDec_args m c b hb]

theorem args_unscoped : ∀ b ∈ args, (Proc.devRef .tc b : DevRef τ sig).isScoped = false := by
  intro b hb
  fin_cases hb <;> rfl

/-- The run with the result at the fold's contents and the arguments unchanged. -/
theorem ref_run_args (m : (ℓ : Loc nD τ sig) → Buf (Elt F) ℓ) (ρ : Dev nD → PrngReg) :
    θ_run (defs (F := F)) (onTc (τ := τ) (main (F := F))) ⟨m, fun _ => 0, ρ⟩
      (fun r => ∀ c : Dev nD, r.2.mem ((c.tc : Thread nD τ).loc main_v22) = atEnd m c (Proc.devRef .tc main_v22)
        ∧ ∀ b ∈ args, r.2.mem ((c.tc : Thread nD τ).loc b) = m ((c.tc : Thread nD τ).loc b)) :=
  (θ_run _ _ _).mono (fun _ h c => ⟨h c main_v22 rfl, fun b hb => (h c b (args_unscoped b hb)).trans (atEnd_args m c b hb)⟩) (ref_run m ρ)

end Cert.Gru

end
-- ==== Proof.RefFrame.lean ====
/- The reference leaves its arguments as they were, whatever they hold. -/
module

public import proofs.«01_k».proof.Proof.RefRun
public import proofs.«01_k».proof.Proof.Gen.Pre_in_range

@[expose] public section

noncomputable section

namespace Cert.Gru

open Idealize.ShloMosaic Idealize.ShloMosaic.TcCoe Idealize.SL.Sem
open Cert.ReferenceIdeal Cert.ReferenceIdeal.Gen

/-- The reference's run at the ideal instance: the result at the fold's contents, each argument unchanged, every counter at zero. -/
theorem ref_final (m : (ℓ : Loc nD τ sig) → Buf (Elt Ideal) ℓ) (g : Dev nD → PrngReg) :
    θ_run (defs (F := Ideal)) (onTc (τ := τ) (main (F := Ideal))) ⟨m, fun _ => 0, g⟩
      (fun r => (∀ c : Dev nD, r.2.mem ((c.tc : Thread nD τ).loc main_v22) = atEnd m c (Proc.devRef .tc main_v22)
        ∧ ∀ b ∈ args, r.2.mem ((c.tc : Thread nD τ).loc b) = m ((c.tc : Thread nD τ).loc b)) ∧ r.2.sem = fun _ => 0) :=
  (θ_run _ _ _).mono (fun r h => ⟨h, sem_eq_zero_of_no_sems (by decide) r.2⟩) (ref_run_args m g)

theorem frame_ref : Cert.quiescent_ReferenceIdeal (hReferenceIdeal := Cert.ReferenceIdeal.Gen.facts) := fun m g _ =>
  (θ_run _ _ _).mono (fun r h => ⟨fun c => by
    have k := (h.1 c).2
    refine ⟨k _ ?_, k _ ?_, k _ ?_, k _ ?_, k _ ?_, k _ ?_, k _ ?_, k _ ?_, k _ ?_, k _ ?_, k _ ?_, k _ ?_, k _ ?_, k _ ?_, k _ ?_⟩ <;>
      simp [args], h.2⟩) (ref_final m g)

end Cert.Gru

end
-- ==== Proof.KTrips.lean ====
module

public import proofs.«01_k».proof.Proof.Gen.KernelIdeal.Loops

/-! # One trip of each of the kernel's two loops

Each trip computes the same step for four strips of 512 columns.  The step is written once, from the
printed pieces of the first strip, and a trip is this step at the four strips. -/

@[expose] public section
set_option maxRecDepth 16384
noncomputable section
namespace Cert.KernelIdeal.Gru

open Idealize.ShloMosaic Idealize.ShloMosaic.TcCoe
open Cert.KernelIdeal Cert.KernelIdeal.Gen

variable {F : FTy → Type} [FloatOps F]

/-- What one strip carries from trip to trip: a state of 64 rows and 512 columns. -/
abbrev Strip (F : FTy → Type) [FloatOps F] := FVec F S64x512 .f32

/-- The new state of a strip before the length is looked at. -/
def freshOf (v8 : IVec S512x1 16) (w : FVec F S192x64 .bf16) (b : FVec F S192x512 .f32) (c1 c0 : F .bf16)
    (h : Strip F) (ids : Vec F S1x1x512 .i16) (tab : Vec F S192x512 .bf16) : Strip F :=
  k0_pay23 v8 w b c1 c0 h ids tab

/-- One step of one strip: the new state where the length exceeds `t`, the old one elsewhere. -/
def stepOf (v8 : IVec S512x1 16) (w : FVec F S192x64 .bf16) (b : FVec F S192x512 .f32) (c1 c0 : F .bf16)
    (len : IVec S1x512 32) (t : BitVec 32) (h : Strip F) (ids : Vec F S1x1x512 .i16) (tab : Vec F S192x512 .bf16) : Strip F :=
  k0_pay9 len h t (freshOf v8 w b c1 c0 h ids tab)

/-- What a decoder step writes to the output for one strip. -/
def putOf (v8 : IVec S512x1 16) (w : FVec F S192x64 .bf16) (b : FVec F S192x512 .f32) (c1 c0 : F .bf16)
    (len : IVec S1x512 32) (t : BitVec 32) (h : Strip F) (ids : Vec F S1x1x512 .i16) (tab : Vec F S192x512 .bf16) : Vec F S1x64x512 .f32 :=
  k0_pay64 len t (freshOf v8 w b c1 c0 h ids tab)

theorem encTrip (𝒱 : Variants) (c : Dev nD) (bd : Option 𝒱.V) (i : grid0.Coords) (arg1 : Memref sig .tc .smem S8x2 .i32) (harg1 : arg1.IsWhole) (arg2 : Memref sig .tc .vmem S20x1x2048 .i16) (harg2 : arg2.IsWhole) (arg3 : Memref sig .tc .vmem S1x2048 .i32) (harg3 : arg3.IsWhole) (arg4 : Memref sig .tc .vmem S20x1x2048 .i16) (harg4 : arg4.IsWhole) (arg5 : Memref sig .tc .vmem S1x2048 .i32) (harg5 : arg5.IsWhole) (arg6 : Memref sig .tc .vmem S64x512 .f32) (harg6 : arg6.IsWhole) (arg7 : Memref sig .tc .vmem S192x64 .f32) (harg7 : arg7.IsWhole) (arg8 : Memref sig .tc .vmem S192x64 .f32) (harg8 : arg8.IsWhole) (arg9 : Memref sig .tc .vmem S192x1 .f32) (harg9 : arg9.IsWhole) (arg10 : Memref sig .tc .vmem S192x64 .f32) (harg10 : arg10.IsWhole) (arg11 : Memref sig .tc .vmem S192x64 .f32) (harg11 : arg11.IsWhole) (arg12 : Memref sig .tc .vmem S192x1 .f32) (harg12 : arg12.IsWhole) (arg13 : Memref sig .tc .vmem S192x1 .f32) (harg13 : arg13.IsWhole) (arg14 : Memref sig .tc .vmem S192x1 .f32) (harg14 : arg14.IsWhole) (arg15 : Memref sig .tc .vmem S20x64x2048 .f32) (harg15 : arg15.IsWhole) (arg16 : Memref sig .tc .vmem S192x512 .bf16) (harg16 : arg16.IsWhole) (arg17 : Memref sig .tc .vmem S192x512 .bf16) (harg17 : arg17.IsWhole) (v1 : Elt F .i32) (k0_hw1 : k0_chk1 v1) (v8 : IVec S512x1 16) (v10 : FVec F S192x64 .bf16) (v16 : FVec F S192x512 .f32) (v22 : IVec S1x512 32) (v24 : IVec S1x512 32) (v26 : IVec S1x512 32) (v28 : IVec S1x512 32) (cst_29 : F .bf16) (cst_30 : F .bf16) (X_arg2 : BufTy.Contents (Elt F) arg2.view.ty) (X_arg16 : BufTy.Contents (Elt F) arg16.view.ty) (k : Fin (k0_t1_loop v1).trips) (acc : Strip F × Strip F × Strip F × Strip F) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw1 v8 v10 v16 v22 v24 v26 v28 cst_29 cst_30 X_arg2 X_arg16 k acc = (
      stepOf v8 v10 v16 cst_29 cst_30 v22 (Scf.iv 0#32 1#32 k) acc.1 (arg2.view.readAt (Elt F) (Rect.unit (s := S20x1x2048) (k0_off3 v1 k) S1x1x512.size (k0_off3_inb v1 k0_hw1 k)).toLoadRect X_arg2) (arg16.view.readAt (Elt F) (Rect.unit (s := S192x512) ![0, 0] S192x512.size inb_S192x512_S192x512_0_0).toLoadRect X_arg16),
      stepOf v8 v10 v16 cst_29 cst_30 v24 (Scf.iv 0#32 1#32 k) acc.2.1 (arg2.view.readAt (Elt F) (Rect.unit (s := S20x1x2048) (k0_off4 v1 k) S1x1x512.size (k0_off4_inb v1 k0_hw1 k)).toLoadRect X_arg2) (arg16.view.readAt (Elt F) (Rect.unit (s := S192x512) ![0, 0] S192x512.size inb_S192x512_S192x512_0_0).toLoadRect X_arg16),
      stepOf v8 v10 v16 cst_29 cst_30 v26 (Scf.iv 0#32 1#32 k) acc.2.2.1 (arg2.view.readAt (Elt F) (Rect.unit (s := S20x1x2048) (k0_off5 v1 k) S1x1x512.size (k0_off5_inb v1 k0_hw1 k)).toLoadRect X_arg2) (arg16.view.readAt (Elt F) (Rect.unit (s := S192x512) ![0, 0] S192x512.size inb_S192x512_S192x512_0_0).toLoadRect X_arg16),
      stepOf v8 v10 v16 cst_29 cst_30 v28 (Scf.iv 0#32 1#32 k) acc.2.2.2 (arg2.view.readAt (Elt F) (Rect.unit (s := S20x1x2048) (k0_off6 v1 k) S1x1x512.size (k0_off6_inb v1 k0_hw1 k)).toLoadRect X_arg2) (arg16.view.readAt (Elt F) (Rect.unit (s := S192x512) ![0, 0] S192x512.size inb_S192x512_S192x512_0_0).toLoadRect X_arg16)) := by
  unfold tripR_k0_t1 trip_k0_t1
  rfl

theorem decTrip (𝒱 : Variants) (c : Dev nD) (bd : Option 𝒱.V) (i : grid0.Coords) (arg1 : Memref sig .tc .smem S8x2 .i32) (harg1 : arg1.IsWhole) (arg2 : Memref sig .tc .vmem S20x1x2048 .i16) (harg2 : arg2.IsWhole) (arg3 : Memref sig .tc .vmem S1x2048 .i32) (harg3 : arg3.IsWhole) (arg4 : Memref sig .tc .vmem S20x1x2048 .i16) (harg4 : arg4.IsWhole) (arg5 : Memref sig .tc .vmem S1x2048 .i32) (harg5 : arg5.IsWhole) (arg6 : Memref sig .tc .vmem S64x512 .f32) (harg6 : arg6.IsWhole) (arg7 : Memref sig .tc .vmem S192x64 .f32) (harg7 : arg7.IsWhole) (arg8 : Memref sig .tc .vmem S192x64 .f32) (harg8 : arg8.IsWhole) (arg9 : Memref sig .tc .vmem S192x1 .f32) (harg9 : arg9.IsWhole) (arg10 : Memref sig .tc .vmem S192x64 .f32) (harg10 : arg10.IsWhole) (arg11 : Memref sig .tc .vmem S192x64 .f32) (harg11 : arg11.IsWhole) (arg12 : Memref sig .tc .vmem S192x1 .f32) (harg12 : arg12.IsWhole) (arg13 : Memref sig .tc .vmem S192x1 .f32) (harg13 : arg13.IsWhole) (arg14 : Memref sig .tc .vmem S192x1 .f32) (harg14 : arg14.IsWhole) (arg15 : Memref sig .tc .vmem S20x64x2048 .f32) (harg15 : arg15.IsWhole) (arg16 : Memref sig .tc .vmem S192x512 .bf16) (harg16 : arg16.IsWhole) (arg17 : Memref sig .tc .vmem S192x512 .bf16) (harg17 : arg17.IsWhole) (v3 : Elt F .i32) (k0_hw2 : k0_chk2 v3) (v8 : IVec S512x1 16) (v12 : FVec F S192x64 .bf16) (v20 : FVec F S192x512 .f32) (v30 : IVec S1x512 32) (v31 : Vec F S1x512 .i32) (v33 : Vec F S1x512 .i32) (v35 : Vec F S1x512 .i32) (cst_34 : F .bf16) (cst_35 : F .bf16) (X_arg4 : BufTy.Contents (Elt F) arg4.view.ty) (X_arg17 : BufTy.Contents (Elt F) arg17.view.ty) (k : Fin (k0_t3_loop v3).trips) (acc : Strip F × Strip F × Strip F × Strip F) :
    tripR_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw2 v8 v12 v20 v30 v31 v33 v35 cst_34 cst_35 X_arg4 X_arg17 k acc = (
      stepOf v8 v12 v20 cst_34 cst_35 v30 (Scf.iv 0#32 1#32 k) acc.1 (arg4.view.readAt (Elt F) (Rect.unit (s := S20x1x2048) (k0_off11 v3 k) S1x1x512.size (k0_off11_inb v3 k0_hw2 k)).toLoadRect X_arg4) (arg17.view.readAt (Elt F) (Rect.unit (s := S192x512) ![0, 0] S192x512.size inb_S192x512_S192x512_0_0).toLoadRect X_arg17),
      stepOf v8 v12 v20 cst_34 cst_35 (k0_pay1 v31) (Scf.iv 0#32 1#32 k) acc.2.1 (arg4.view.readAt (Elt F) (Rect.unit (s := S20x1x2048) (k0_off12 v3 k) S1x1x512.size (k0_off12_inb v3 k0_hw2 k)).toLoadRect X_arg4) (arg17.view.readAt (Elt F) (Rect.unit (s := S192x512) ![0, 0] S192x512.size inb_S192x512_S192x512_0_0).toLoadRect X_arg17),
      stepOf v8 v12 v20 cst_34 cst_35 (k0_pay2 v33) (Scf.iv 0#32 1#32 k) acc.2.2.1 (arg4.view.readAt (Elt F) (Rect.unit (s := S20x1x2048) (k0_off13 v3 k) S1x1x512.size (k0_off13_inb v3 k0_hw2 k)).toLoadRect X_arg4) (arg17.view.readAt (Elt F) (Rect.unit (s := S192x512) ![0, 0] S192x512.size inb_S192x512_S192x512_0_0).toLoadRect X_arg17),
      stepOf v8 v12 v20 cst_34 cst_35 (k0_pay3 v35) (Scf.iv 0#32 1#32 k) acc.2.2.2 (arg4.view.readAt (Elt F) (Rect.unit (s := S20x1x2048) (k0_off14 v3 k) S1x1x512.size (k0_off14_inb v3 k0_hw2 k)).toLoadRect X_arg4) (arg17.view.readAt (Elt F) (Rect.unit (s := S192x512) ![0, 0] S192x512.size inb_S192x512_S192x512_0_0).toLoadRect X_arg17)) := by
  unfold tripR_k0_t3 trip_k0_t3
  rfl

theorem decPieces (𝒱 : Variants) (c : Dev nD) (bd : Option 𝒱.V) (i : grid0.Coords) (arg1 : Memref sig .tc .smem S8x2 .i32) (harg1 : arg1.IsWhole) (arg2 : Memref sig .tc .vmem S20x1x2048 .i16) (harg2 : arg2.IsWhole) (arg3 : Memref sig .tc .vmem S1x2048 .i32) (harg3 : arg3.IsWhole) (arg4 : Memref sig .tc .vmem S20x1x2048 .i16) (harg4 : arg4.IsWhole) (arg5 : Memref sig .tc .vmem S1x2048 .i32) (harg5 : arg5.IsWhole) (arg6 : Memref sig .tc .vmem S64x512 .f32) (harg6 : arg6.IsWhole) (arg7 : Memref sig .tc .vmem S192x64 .f32) (harg7 : arg7.IsWhole) (arg8 : Memref sig .tc .vmem S192x64 .f32) (harg8 : arg8.IsWhole) (arg9 : Memref sig .tc .vmem S192x1 .f32) (harg9 : arg9.IsWhole) (arg10 : Memref sig .tc .vmem S192x64 .f32) (harg10 : arg10.IsWhole) (arg11 : Memref sig .tc .vmem S192x64 .f32) (harg11 : arg11.IsWhole) (arg12 : Memref sig .tc .vmem S192x1 .f32) (harg12 : arg12.IsWhole) (arg13 : Memref sig .tc .vmem S192x1 .f32) (harg13 : arg13.IsWhole) (arg14 : Memref sig .tc .vmem S192x1 .f32) (harg14 : arg14.IsWhole) (arg15 : Memref sig .tc .vmem S20x64x2048 .f32) (harg15 : arg15.IsWhole) (arg16 : Memref sig .tc .vmem S192x512 .bf16) (harg16 : arg16.IsWhole) (arg17 : Memref sig .tc .vmem S192x512 .bf16) (harg17 : arg17.IsWhole) (v3 : Elt F .i32) (k0_hw2 : k0_chk2 v3) (v8 : IVec S512x1 16) (v12 : FVec F S192x64 .bf16) (v20 : FVec F S192x512 .f32) (v30 : IVec S1x512 32) (v31 : Vec F S1x512 .i32) (v33 : Vec F S1x512 .i32) (v35 : Vec F S1x512 .i32) (cst_34 : F .bf16) (cst_35 : F .bf16) (X_arg4 : BufTy.Contents (Elt F) arg4.view.ty) (X_arg17 : BufTy.Contents (Elt F) arg17.view.ty) (k : Fin (k0_t3_loop v3).trips) (acc : Strip F × Strip F × Strip F × Strip F) :
    tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw2 v8 v12 v20 v30 v31 v33 v35 cst_34 cst_35 X_arg4 X_arg17 k acc = [
      ⟨Rect.unit (s := S20x64x2048) (k0_off18 v3 k) S1x64x512.size (k0_off18_inb v3 k0_hw2 k), putOf v8 v12 v20 cst_34 cst_35 (k0_pay3 v35) (Scf.iv 0#32 1#32 k) acc.2.2.2 (arg4.view.readAt (Elt F) (Rect.unit (s := S20x1x2048) (k0_off14 v3 k) S1x1x512.size (k0_off14_inb v3 k0_hw2 k)).toLoadRect X_arg4) (arg17.view.readAt (Elt F) (Rect.unit (s := S192x512) ![0, 0] S192x512.size inb_S192x512_S192x512_0_0).toLoadRect X_arg17)⟩,
      ⟨Rect.unit (s := S20x64x2048) (k0_off17 v3 k) S1x64x512.size (k0_off17_inb v3 k0_hw2 k), putOf v8 v12 v20 cst_34 cst_35 (k0_pay2 v33) (Scf.iv 0#32 1#32 k) acc.2.2.1 (arg4.view.readAt (Elt F) (Rect.unit (s := S20x1x2048) (k0_off13 v3 k) S1x1x512.size (k0_off13_inb v3 k0_hw2 k)).toLoadRect X_arg4) (arg17.view.readAt (Elt F) (Rect.unit (s := S192x512) ![0, 0] S192x512.size inb_S192x512_S192x512_0_0).toLoadRect X_arg17)⟩,
      ⟨Rect.unit (s := S20x64x2048) (k0_off16 v3 k) S1x64x512.size (k0_off16_inb v3 k0_hw2 k), putOf v8 v12 v20 cst_34 cst_35 (k0_pay1 v31) (Scf.iv 0#32 1#32 k) acc.2.1 (arg4.view.readAt (Elt F) (Rect.unit (s := S20x1x2048) (k0_off12 v3 k) S1x1x512.size (k0_off12_inb v3 k0_hw2 k)).toLoadRect X_arg4) (arg17.view.readAt (Elt F) (Rect.unit (s := S192x512) ![0, 0] S192x512.size inb_S192x512_S192x512_0_0).toLoadRect X_arg17)⟩,
      ⟨Rect.unit (s := S20x64x2048) (k0_off15 v3 k) S1x64x512.size (k0_off15_inb v3 k0_hw2 k), putOf v8 v12 v20 cst_34 cst_35 v30 (Scf.iv 0#32 1#32 k) acc.1 (arg4.view.readAt (Elt F) (Rect.unit (s := S20x1x2048) (k0_off11 v3 k) S1x1x512.size (k0_off11_inb v3 k0_hw2 k)).toLoadRect X_arg4) (arg17.view.readAt (Elt F) (Rect.unit (s := S192x512) ![0, 0] S192x512.size inb_S192x512_S192x512_0_0).toLoadRect X_arg17)⟩] := by
  unfold tripL_k0_t3 trip_k0_t3
  rfl

end Cert.KernelIdeal.Gru
-- ==== Proof.KPieces.lean ====
module

public import proofs.«01_k».proof.Proof.KTrips
public import proofs.«01_k».proof.Proof.Gen.KernelIdeal.Frame

@[expose] public section
set_option maxRecDepth 16384
noncomputable section
namespace Cert.KernelIdeal.Gru

open Idealize.ShloMosaic Idealize.ShloMosaic.TcCoe Idealize.ShloMosaic.Tactic
open Cert.KernelIdeal Cert.KernelIdeal.Gen

variable {F : FTy → Type} [FloatOps F]

/-- A tuple of four, component by component. -/
abbrev et (s : Strip F × Strip F × Strip F × Strip F) : Strip F × Strip F × Strip F × Strip F := (s.1, s.2.1, s.2.2.1, s.2.2.2)

theorem et_eq (s : Strip F × Strip F × Strip F × Strip F) : et s = s := rfl

theorem pieces_A (c : Dev nD) (i : grid0.Coords) (arg2 : Memref sig .tc .vmem S20x1x2048 .i16) (harg2 : arg2.IsWhole) (arg3 : Memref sig .tc .vmem S1x2048 .i32) (harg3 : arg3.IsWhole) (arg4 : Memref sig .tc .vmem S20x1x2048 .i16) (harg4 : arg4.IsWhole) (arg5 : Memref sig .tc .vmem S1x2048 .i32) (harg5 : arg5.IsWhole) (arg6 : Memref sig .tc .vmem S64x512 .f32) (harg6 : arg6.IsWhole) (arg7 : Memref sig .tc .vmem S192x64 .f32) (harg7 : arg7.IsWhole) (arg8 : Memref sig .tc .vmem S192x64 .f32) (harg8 : arg8.IsWhole) (arg9 : Memref sig .tc .vmem S192x1 .f32) (harg9 : arg9.IsWhole) (arg10 : Memref sig .tc .vmem S192x64 .f32) (harg10 : arg10.IsWhole) (arg11 : Memref sig .tc .vmem S192x64 .f32) (harg11 : arg11.IsWhole) (arg12 : Memref sig .tc .vmem S192x1 .f32) (harg12 : arg12.IsWhole) (arg13 : Memref sig .tc .vmem S192x1 .f32) (harg13 : arg13.IsWhole) (arg14 : Memref sig .tc .vmem S192x1 .f32) (harg14 : arg14.IsWhole) (arg15 : Memref sig .tc .vmem S20x64x2048 .f32) (harg15 : arg15.IsWhole) (arg16 : Memref sig .tc .vmem S192x512 .bf16) (harg16 : arg16.IsWhole) (arg17 : Memref sig .tc .vmem S192x512 .bf16) (harg17 : arg17.IsWhole) (hc0 : cond0_0 i) (x0 : Vec F S20x1x2048 .i16) (x1 : Vec F S1x2048 .i32) (x2 : Vec F S20x1x2048 .i16) (x3 : Vec F S1x2048 .i32) (x4 : Vec F S64x512 .f32) (x5 : Vec F S192x64 .f32) (x6 : Vec F S192x64 .f32) (x7 : Vec F S192x1 .f32) (x8 : Vec F S192x64 .f32) (x9 : Vec F S192x64 .f32) (x10 : Vec F S192x1 .f32) (x11 : Vec F S192x1 .f32) (x12 : Vec F S192x1 .f32) (xt0 : TbBuf0 (F := F) c tbM0_0) (k0_hw1 : k0_chk1 (tbM0_0.view.readAt (Elt F) (Rect.unit (s := S8x2) (k0_off1 i) S1x1.size (k0_off1_inb i)).toLoadRect xt0 (Shape.Idx.first (numel1_S1x1.symm ▸ Nat.one_pos)))) (k0_hw2 : k0_chk2 (tbM0_0.view.readAt (Elt F) (Rect.unit (s := S8x2) (k0_off2 i) S1x1.size (k0_off2_inb i)).toLoadRect xt0 (Shape.Idx.first (numel1_S1x1.symm ▸ Nat.one_pos)))) :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xt0 k0_hw1 k0_hw2).1 = (st_k0_t4 (F := F) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (tbM0_0.view.readAt (Elt F) (Rect.unit (s := S8x2) (k0_off2 i) S1x1.size (k0_off2_inb i)).toLoadRect xt0 (Shape.Idx.first (numel1_S1x1.symm ▸ Nat.one_pos))) k0_hw2 k0_pay94 (k0_pay96 (arg11.view.readAt (Elt F) (Rect.unit (s := S192x64) ![0, 0] S192x64.size inb_S192x64_S192x64_0_0).toLoadRect (harg11.unread x9))) (k0_pay98 (arg14.view.readAt (Elt F) (Rect.unit (s := S192x1) ![0, 0] S192x1.size inb_S192x1_S192x1_0_0).toLoadRect (harg14.unread x12))) (k0_pay103 (arg5.view.readAt (Elt F) (Rect.unit (s := S1x2048) ![0, 0] S1x512.size inb_S1x2048_S1x512_0_0).toLoadRect (harg5.unread x3))) (arg5.view.readAt (Elt F) (Rect.unit (s := S1x2048) ![0, 512] S1x512.size inb_S1x2048_S1x512_0_512).toLoadRect (harg5.unread x3)) (arg5.view.readAt (Elt F) (Rect.unit (s := S1x2048) ![0, 1024] S1x512.size inb_S1x2048_S1x512_0_1024).toLoadRect (harg5.unread x3)) (arg5.view.readAt (Elt F) (Rect.unit (s := S1x2048) ![0, 1536] S1x512.size inb_S1x2048_S1x512_0_1536).toLoadRect (harg5.unread x3)) (FloatOps.ofBits FTy.bf16 16256#16) (FloatOps.ofBits FTy.bf16 0#16) (k0_t3_loop (tbM0_0.view.readAt (Elt F) (Rect.unit (s := S8x2) (k0_off2 i) S1x1.size (k0_off2_inb i)).toLoadRect xt0 (Shape.Idx.first (numel1_S1x1.symm ▸ Nat.one_pos)))).ub (harg4.unread x2) (arg17.view.writes (Elt F) arg17.view.junk [⟨Rect.unit (s := S192x512) ![0, 0] S192x512.size inb_S192x512_S192x512_0_0, k0_pay93 (arg6.view.readAt (Elt F) (Rect.unit (s := S64x512) ![0, 0] S64x512.size inb_S64x512_S64x512_0_0).toLoadRect (harg6.unread x4)) (arg10.view.readAt (Elt F) (Rect.unit (s := S192x64) ![0, 0] S192x64.size inb_S192x64_S192x64_0_0).toLoadRect (harg10.unread x8)) (arg12.view.readAt (Elt F) (Rect.unit (s := S192x1) ![0, 0] S192x1.size inb_S192x1_S192x1_0_0).toLoadRect (harg12.unread x10))⟩]) (et (st_k0_t3 (F := F) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (tbM0_0.view.readAt (Elt F) (Rect.unit (s := S8x2) (k0_off2 i) S1x1.size (k0_off2_inb i)).toLoadRect xt0 (Shape.Idx.first (numel1_S1x1.symm ▸ Nat.one_pos))) k0_hw2 k0_pay94 (k0_pay96 (arg11.view.readAt (Elt F) (Rect.unit (s := S192x64) ![0, 0] S192x64.size inb_S192x64_S192x64_0_0).toLoadRect (harg11.unread x9))) (k0_pay98 (arg14.view.readAt (Elt F) (Rect.unit (s := S192x1) ![0, 0] S192x1.size inb_S192x1_S192x1_0_0).toLoadRect (harg14.unread x12))) (k0_pay103 (arg5.view.readAt (Elt F) (Rect.unit (s := S1x2048) ![0, 0] S1x512.size inb_S1x2048_S1x512_0_0).toLoadRect (harg5.unread x3))) (arg5.view.readAt (Elt F) (Rect.unit (s := S1x2048) ![0, 512] S1x512.size inb_S1x2048_S1x512_0_512).toLoadRect (harg5.unread x3)) (arg5.view.readAt (Elt F) (Rect.unit (s := S1x2048) ![0, 1024] S1x512.size inb_S1x2048_S1x512_0_1024).toLoadRect (harg5.unread x3)) (arg5.view.readAt (Elt F) (Rect.unit (s := S1x2048) ![0, 1536] S1x512.size inb_S1x2048_S1x512_0_1536).toLoadRect (harg5.unread x3)) (FloatOps.ofBits FTy.bf16 16256#16) (FloatOps.ofBits FTy.bf16 0#16) (harg4.unread x2) (arg17.view.writes (Elt F) arg17.view.junk [⟨Rect.unit (s := S192x512) ![0, 0] S192x512.size inb_S192x512_S192x512_0_0, k0_pay93 (arg6.view.readAt (Elt F) (Rect.unit (s := S64x512) ![0, 0] S64x512.size inb_S64x512_S64x512_0_0).toLoadRect (harg6.unread x4)) (arg10.view.readAt (Elt F) (Rect.unit (s := S192x64) ![0, 0] S192x64.size inb_S192x64_S192x64_0_0).toLoadRect (harg10.unread x8)) (arg12.view.readAt (Elt F) (Rect.unit (s := S192x1) ![0, 0] S192x1.size inb_S192x1_S192x1_0_0).toLoadRect (harg12.unread x10))⟩]) (et (st_k0_t2 (F := F) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (tbM0_0.view.readAt (Elt F) (Rect.unit (s := S8x2) (k0_off1 i) S1x1.size (k0_off1_inb i)).toLoadRect xt0 (Shape.Idx.first (numel1_S1x1.symm ▸ Nat.one_pos))) k0_hw1 k0_pay94 (k0_pay95 (arg8.view.readAt (Elt F) (Rect.unit (s := S192x64) ![0, 0] S192x64.size inb_S192x64_S192x64_0_0).toLoadRect (harg8.unread x6))) (k0_pay97 (arg13.view.readAt (Elt F) (Rect.unit (s := S192x1) ![0, 0] S192x1.size inb_S192x1_S192x1_0_0).toLoadRect (harg13.unread x11))) (k0_pay99 (arg3.view.readAt (Elt F) (Rect.unit (s := S1x2048) ![0, 0] S1x512.size inb_S1x2048_S1x512_0_0).toLoadRect (harg3.unread x1))) (k0_pay100 (arg3.view.readAt (Elt F) (Rect.unit (s := S1x2048) ![0, 512] S1x512.size inb_S1x2048_S1x512_0_512).toLoadRect (harg3.unread x1))) (k0_pay101 (arg3.view.readAt (Elt F) (Rect.unit (s := S1x2048) ![0, 1024] S1x512.size inb_S1x2048_S1x512_0_1024).toLoadRect (harg3.unread x1))) (k0_pay102 (arg3.view.readAt (Elt F) (Rect.unit (s := S1x2048) ![0, 1536] S1x512.size inb_S1x2048_S1x512_0_1536).toLoadRect (harg3.unread x1))) (FloatOps.ofBits FTy.bf16 16256#16) (FloatOps.ofBits FTy.bf16 0#16) (k0_t1_loop (tbM0_0.view.readAt (Elt F) (Rect.unit (s := S8x2) (k0_off1 i) S1x1.size (k0_off1_inb i)).toLoadRect xt0 (Shape.Idx.first (numel1_S1x1.symm ▸ Nat.one_pos)))).ub (harg2.unread x0) (arg16.view.writes (Elt F) arg16.view.junk [⟨Rect.unit (s := S192x512) ![0, 0] S192x512.size inb_S192x512_S192x512_0_0, k0_pay92 (arg6.view.readAt (Elt F) (Rect.unit (s := S64x512) ![0, 0] S64x512.size inb_S64x512_S64x512_0_0).toLoadRect (harg6.unread x4)) (arg7.view.readAt (Elt F) (Rect.unit (s := S192x64) ![0, 0] S192x64.size inb_S192x64_S192x64_0_0).toLoadRect (harg7.unread x5)) (arg9.view.readAt (Elt F) (Rect.unit (s := S192x1) ![0, 0] S192x1.size inb_S192x1_S192x1_0_0).toLoadRect (harg9.unread x7))⟩]) (et (st_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (tbM0_0.view.readAt (Elt F) (Rect.unit (s := S8x2) (k0_off1 i) S1x1.size (k0_off1_inb i)).toLoadRect xt0 (Shape.Idx.first (numel1_S1x1.symm ▸ Nat.one_pos))) k0_hw1 k0_pay94 (k0_pay95 (arg8.view.readAt (Elt F) (Rect.unit (s := S192x64) ![0, 0] S192x64.size inb_S192x64_S192x64_0_0).toLoadRect (harg8.unread x6))) (k0_pay97 (arg13.view.readAt (Elt F) (Rect.unit (s := S192x1) ![0, 0] S192x1.size inb_S192x1_S192x1_0_0).toLoadRect (harg13.unread x11))) (k0_pay99 (arg3.view.readAt (Elt F) (Rect.unit (s := S1x2048) ![0, 0] S1x512.size inb_S1x2048_S1x512_0_0).toLoadRect (harg3.unread x1))) (k0_pay100 (arg3.view.readAt (Elt F) (Rect.unit (s := S1x2048) ![0, 512] S1x512.size inb_S1x2048_S1x512_0_512).toLoadRect (harg3.unread x1))) (k0_pay101 (arg3.view.readAt (Elt F) (Rect.unit (s := S1x2048) ![0, 1024] S1x512.size inb_S1x2048_S1x512_0_1024).toLoadRect (harg3.unread x1))) (k0_pay102 (arg3.view.readAt (Elt F) (Rect.unit (s := S1x2048) ![0, 1536] S1x512.size inb_S1x2048_S1x512_0_1536).toLoadRect (harg3.unread x1))) (FloatOps.ofBits FTy.bf16 16256#16) (FloatOps.ofBits FTy.bf16 0#16) (harg2.unread x0) (arg16.view.writes (Elt F) arg16.view.junk [⟨Rect.unit (s := S192x512) ![0, 0] S192x512.size inb_S192x512_S192x512_0_0, k0_pay92 (arg6.view.readAt (Elt F) (Rect.unit (s := S64x512) ![0, 0] S64x512.size inb_S64x512_S64x512_0_0).toLoadRect (harg6.unread x4)) (arg7.view.readAt (Elt F) (Rect.unit (s := S192x64) ![0, 0] S192x64.size inb_S192x64_S192x64_0_0).toLoadRect (harg7.unread x5)) (arg9.view.readAt (Elt F) (Rect.unit (s := S192x1) ![0, 0] S192x1.size inb_S192x1_S192x1_0_0).toLoadRect (harg9.unread x7))⟩]) (k0_pay5, k0_pay6, k0_pay7, k0_pay8) (k0_t1_loop (tbM0_0.view.readAt (Elt F) (Rect.unit (s := S8x2) (k0_off1 i) S1x1.size (k0_off1_inb i)).toLoadRect xt0 (Shape.Idx.first (numel1_S1x1.symm ▸ Nat.one_pos)))).trips)) (k0_t2_loop (tbM0_0.view.readAt (Elt F) (Rect.unit (s := S8x2) (k0_off1 i) S1x1.size (k0_off1_inb i)).toLoadRect xt0 (Shape.Idx.first (numel1_S1x1.symm ▸ Nat.one_pos)))).trips)) (k0_t3_loop (tbM0_0.view.readAt (Elt F) (Rect.unit (s := S8x2) (k0_off2 i) S1x1.size (k0_off2_inb i)).toLoadRect xt0 (Shape.Idx.first (numel1_S1x1.symm ▸ Nat.one_pos)))).trips).1) (k0_t4_loop (tbM0_0.view.readAt (Elt F) (Rect.unit (s := S8x2) (k0_off2 i) S1x1.size (k0_off2_inb i)).toLoadRect xt0 (Shape.Idx.first (numel1_S1x1.symm ▸ Nat.one_pos)))).trips).2 ++ ((st_k0_t3 (F := F) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (tbM0_0.view.readAt (Elt F) (Rect.unit (s := S8x2) (k0_off2 i) S1x1.size (k0_off2_inb i)).toLoadRect xt0 (Shape.Idx.first (numel1_S1x1.symm ▸ Nat.one_pos))) k0_hw2 k0_pay94 (k0_pay96 (arg11.view.readAt (Elt F) (Rect.unit (s := S192x64) ![0, 0] S192x64.size inb_S192x64_S192x64_0_0).toLoadRect (harg11.unread x9))) (k0_pay98 (arg14.view.readAt (Elt F) (Rect.unit (s := S192x1) ![0, 0] S192x1.size inb_S192x1_S192x1_0_0).toLoadRect (harg14.unread x12))) (k0_pay103 (arg5.view.readAt (Elt F) (Rect.unit (s := S1x2048) ![0, 0] S1x512.size inb_S1x2048_S1x512_0_0).toLoadRect (harg5.unread x3))) (arg5.view.readAt (Elt F) (Rect.unit (s := S1x2048) ![0, 512] S1x512.size inb_S1x2048_S1x512_0_512).toLoadRect (harg5.unread x3)) (arg5.view.readAt (Elt F) (Rect.unit (s := S1x2048) ![0, 1024] S1x512.size inb_S1x2048_S1x512_0_1024).toLoadRect (harg5.unread x3)) (arg5.view.readAt (Elt F) (Rect.unit (s := S1x2048) ![0, 1536] S1x512.size inb_S1x2048_S1x512_0_1536).toLoadRect (harg5.unread x3)) (FloatOps.ofBits FTy.bf16 16256#16) (FloatOps.ofBits FTy.bf16 0#16) (harg4.unread x2) (arg17.view.writes (Elt F) arg17.view.junk [⟨Rect.unit (s := S192x512) ![0, 0] S192x512.size inb_S192x512_S192x512_0_0, k0_pay93 (arg6.view.readAt (Elt F) (Rect.unit (s := S64x512) ![0, 0] S64x512.size inb_S64x512_S64x512_0_0).toLoadRect (harg6.unread x4)) (arg10.view.readAt (Elt F) (Rect.unit (s := S192x64) ![0, 0] S192x64.size inb_S192x64_S192x64_0_0).toLoadRect (harg10.unread x8)) (arg12.view.readAt (Elt F) (Rect.unit (s := S192x1) ![0, 0] S192x1.size inb_S192x1_S192x1_0_0).toLoadRect (harg12.unread x10))⟩]) (et (st_k0_t2 (F := F) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (tbM0_0.view.readAt (Elt F) (Rect.unit (s := S8x2) (k0_off1 i) S1x1.size (k0_off1_inb i)).toLoadRect xt0 (Shape.Idx.first (numel1_S1x1.symm ▸ Nat.one_pos))) k0_hw1 k0_pay94 (k0_pay95 (arg8.view.readAt (Elt F) (Rect.unit (s := S192x64) ![0, 0] S192x64.size inb_S192x64_S192x64_0_0).toLoadRect (harg8.unread x6))) (k0_pay97 (arg13.view.readAt (Elt F) (Rect.unit (s := S192x1) ![0, 0] S192x1.size inb_S192x1_S192x1_0_0).toLoadRect (harg13.unread x11))) (k0_pay99 (arg3.view.readAt (Elt F) (Rect.unit (s := S1x2048) ![0, 0] S1x512.size inb_S1x2048_S1x512_0_0).toLoadRect (harg3.unread x1))) (k0_pay100 (arg3.view.readAt (Elt F) (Rect.unit (s := S1x2048) ![0, 512] S1x512.size inb_S1x2048_S1x512_0_512).toLoadRect (harg3.unread x1))) (k0_pay101 (arg3.view.readAt (Elt F) (Rect.unit (s := S1x2048) ![0, 1024] S1x512.size inb_S1x2048_S1x512_0_1024).toLoadRect (harg3.unread x1))) (k0_pay102 (arg3.view.readAt (Elt F) (Rect.unit (s := S1x2048) ![0, 1536] S1x512.size inb_S1x2048_S1x512_0_1536).toLoadRect (harg3.unread x1))) (FloatOps.ofBits FTy.bf16 16256#16) (FloatOps.ofBits FTy.bf16 0#16) (k0_t1_loop (tbM0_0.view.readAt (Elt F) (Rect.unit (s := S8x2) (k0_off1 i) S1x1.size (k0_off1_inb i)).toLoadRect xt0 (Shape.Idx.first (numel1_S1x1.symm ▸ Nat.one_pos)))).ub (harg2.unread x0) (arg16.view.writes (Elt F) arg16.view.junk [⟨Rect.unit (s := S192x512) ![0, 0] S192x512.size inb_S192x512_S192x512_0_0, k0_pay92 (arg6.view.readAt (Elt F) (Rect.unit (s := S64x512) ![0, 0] S64x512.size inb_S64x512_S64x512_0_0).toLoadRect (harg6.unread x4)) (arg7.view.readAt (Elt F) (Rect.unit (s := S192x64) ![0, 0] S192x64.size inb_S192x64_S192x64_0_0).toLoadRect (harg7.unread x5)) (arg9.view.readAt (Elt F) (Rect.unit (s := S192x1) ![0, 0] S192x1.size inb_S192x1_S192x1_0_0).toLoadRect (harg9.unread x7))⟩]) (et (st_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (tbM0_0.view.readAt (Elt F) (Rect.unit (s := S8x2) (k0_off1 i) S1x1.size (k0_off1_inb i)).toLoadRect xt0 (Shape.Idx.first (numel1_S1x1.symm ▸ Nat.one_pos))) k0_hw1 k0_pay94 (k0_pay95 (arg8.view.readAt (Elt F) (Rect.unit (s := S192x64) ![0, 0] S192x64.size inb_S192x64_S192x64_0_0).toLoadRect (harg8.unread x6))) (k0_pay97 (arg13.view.readAt (Elt F) (Rect.unit (s := S192x1) ![0, 0] S192x1.size inb_S192x1_S192x1_0_0).toLoadRect (harg13.unread x11))) (k0_pay99 (arg3.view.readAt (Elt F) (Rect.unit (s := S1x2048) ![0, 0] S1x512.size inb_S1x2048_S1x512_0_0).toLoadRect (harg3.unread x1))) (k0_pay100 (arg3.view.readAt (Elt F) (Rect.unit (s := S1x2048) ![0, 512] S1x512.size inb_S1x2048_S1x512_0_512).toLoadRect (harg3.unread x1))) (k0_pay101 (arg3.view.readAt (Elt F) (Rect.unit (s := S1x2048) ![0, 1024] S1x512.size inb_S1x2048_S1x512_0_1024).toLoadRect (harg3.unread x1))) (k0_pay102 (arg3.view.readAt (Elt F) (Rect.unit (s := S1x2048) ![0, 1536] S1x512.size inb_S1x2048_S1x512_0_1536).toLoadRect (harg3.unread x1))) (FloatOps.ofBits FTy.bf16 16256#16) (FloatOps.ofBits FTy.bf16 0#16) (harg2.unread x0) (arg16.view.writes (Elt F) arg16.view.junk [⟨Rect.unit (s := S192x512) ![0, 0] S192x512.size inb_S192x512_S192x512_0_0, k0_pay92 (arg6.view.readAt (Elt F) (Rect.unit (s := S64x512) ![0, 0] S64x512.size inb_S64x512_S64x512_0_0).toLoadRect (harg6.unread x4)) (arg7.view.readAt (Elt F) (Rect.unit (s := S192x64) ![0, 0] S192x64.size inb_S192x64_S192x64_0_0).toLoadRect (harg7.unread x5)) (arg9.view.readAt (Elt F) (Rect.unit (s := S192x1) ![0, 0] S192x1.size inb_S192x1_S192x1_0_0).toLoadRect (harg9.unread x7))⟩]) (k0_pay5, k0_pay6, k0_pay7, k0_pay8) (k0_t1_loop (tbM0_0.view.readAt (Elt F) (Rect.unit (s := S8x2) (k0_off1 i) S1x1.size (k0_off1_inb i)).toLoadRect xt0 (Shape.Idx.first (numel1_S1x1.symm ▸ Nat.one_pos)))).trips)) (k0_t2_loop (tbM0_0.view.readAt (Elt F) (Rect.unit (s := S8x2) (k0_off1 i) S1x1.size (k0_off1_inb i)).toLoadRect xt0 (Shape.Idx.first (numel1_S1x1.symm ▸ Nat.one_pos)))).trips)) (k0_t3_loop (tbM0_0.view.readAt (Elt F) (Rect.unit (s := S8x2) (k0_off2 i) S1x1.size (k0_off2_inb i)).toLoadRect xt0 (Shape.Idx.first (numel1_S1x1.symm ▸ Nat.one_pos)))).trips).2 ++ [⟨Rect.unit (s := S20x64x2048) ![0, 0, 0] S20x64x2048.size inb_S20x64x2048_S20x64x2048_0_0_0, k0_pay4⟩]) := by
  unfold kernelRun0_A
  dsimp only
  refine congrArg₂ (fun a b => a ++ b) ?a (Eq.trans (b := _ ++ _) (by with_unfolding_all with_reducible rfl) (congrArg₂ (fun a b => a ++ b) ?b ?c))
  case c => rfl
  case b =>
    sl_unfold_run_names
    refine congrArg Prod.snd ?_
    with_reducible rfl
  case a =>
    sl_unfold_run_names
    refine congrArg Prod.snd ?_
    with_reducible rfl

theorem scratch0_A (c : Dev nD) (i : grid0.Coords) (arg2 : Memref sig .tc .vmem S20x1x2048 .i16) (harg2 : arg2.IsWhole) (arg3 : Memref sig .tc .vmem S1x2048 .i32) (harg3 : arg3.IsWhole) (arg4 : Memref sig .tc .vmem S20x1x2048 .i16) (harg4 : arg4.IsWhole) (arg5 : Memref sig .tc .vmem S1x2048 .i32) (harg5 : arg5.IsWhole) (arg6 : Memref sig .tc .vmem S64x512 .f32) (harg6 : arg6.IsWhole) (arg7 : Memref sig .tc .vmem S192x64 .f32) (harg7 : arg7.IsWhole) (arg8 : Memref sig .tc .vmem S192x64 .f32) (harg8 : arg8.IsWhole) (arg9 : Memref sig .tc .vmem S192x1 .f32) (harg9 : arg9.IsWhole) (arg10 : Memref sig .tc .vmem S192x64 .f32) (harg10 : arg10.IsWhole) (arg11 : Memref sig .tc .vmem S192x64 .f32) (harg11 : arg11.IsWhole) (arg12 : Memref sig .tc .vmem S192x1 .f32) (harg12 : arg12.IsWhole) (arg13 : Memref sig .tc .vmem S192x1 .f32) (harg13 : arg13.IsWhole) (arg14 : Memref sig .tc .vmem S192x1 .f32) (harg14 : arg14.IsWhole) (arg15 : Memref sig .tc .vmem S20x64x2048 .f32) (harg15 : arg15.IsWhole) (arg16 : Memref sig .tc .vmem S192x512 .bf16) (harg16 : arg16.IsWhole) (arg17 : Memref sig .tc .vmem S192x512 .bf16) (harg17 : arg17.IsWhole) (hc0 : cond0_0 i) (x0 : Vec F S20x1x2048 .i16) (x1 : Vec F S1x2048 .i32) (x2 : Vec F S20x1x2048 .i16) (x3 : Vec F S1x2048 .i32) (x4 : Vec F S64x512 .f32) (x5 : Vec F S192x64 .f32) (x6 : Vec F S192x64 .f32) (x7 : Vec F S192x1 .f32) (x8 : Vec F S192x64 .f32) (x9 : Vec F S192x64 .f32) (x10 : Vec F S192x1 .f32) (x11 : Vec F S192x1 .f32) (x12 : Vec F S192x1 .f32) (xt0 : TbBuf0 (F := F) c tbM0_0) (k0_hw1 : k0_chk1 (tbM0_0.view.readAt (Elt F) (Rect.unit (s := S8x2) (k0_off1 i) S1x1.size (k0_off1_inb i)).toLoadRect xt0 (Shape.Idx.first (numel1_S1x1.symm ▸ Nat.one_pos)))) (k0_hw2 : k0_chk2 (tbM0_0.view.readAt (Elt F) (Rect.unit (s := S8x2) (k0_off2 i) S1x1.size (k0_off2_inb i)).toLoadRect xt0 (Shape.Idx.first (numel1_S1x1.symm ▸ Nat.one_pos)))) :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xt0 k0_hw1 k0_hw2).2.1 = [⟨Rect.unit (s := S192x512) ![0, 0] S192x512.size inb_S192x512_S192x512_0_0, k0_pay92 (arg6.view.readAt (Elt F) (Rect.unit (s := S64x512) ![0, 0] S64x512.size inb_S64x512_S64x512_0_0).toLoadRect (harg6.unread x4)) (arg7.view.readAt (Elt F) (Rect.unit (s := S192x64) ![0, 0] S192x64.size inb_S192x64_S192x64_0_0).toLoadRect (harg7.unread x5)) (arg9.view.readAt (Elt F) (Rect.unit (s := S192x1) ![0, 0] S192x1.size inb_S192x1_S192x1_0_0).toLoadRect (harg9.unread x7))⟩] := by
  unfold kernelRun0_A
  rfl

theorem scratch1_A (c : Dev nD) (i : grid0.Coords) (arg2 : Memref sig .tc .vmem S20x1x2048 .i16) (harg2 : arg2.IsWhole) (arg3 : Memref sig .tc .vmem S1x2048 .i32) (harg3 : arg3.IsWhole) (arg4 : Memref sig .tc .vmem S20x1x2048 .i16) (harg4 : arg4.IsWhole) (arg5 : Memref sig .tc .vmem S1x2048 .i32) (harg5 : arg5.IsWhole) (arg6 : Memref sig .tc .vmem S64x512 .f32) (harg6 : arg6.IsWhole) (arg7 : Memref sig .tc .vmem S192x64 .f32) (harg7 : arg7.IsWhole) (arg8 : Memref sig .tc .vmem S192x64 .f32) (harg8 : arg8.IsWhole) (arg9 : Memref sig .tc .vmem S192x1 .f32) (harg9 : arg9.IsWhole) (arg10 : Memref sig .tc .vmem S192x64 .f32) (harg10 : arg10.IsWhole) (arg11 : Memref sig .tc .vmem S192x64 .f32) (harg11 : arg11.IsWhole) (arg12 : Memref sig .tc .vmem S192x1 .f32) (harg12 : arg12.IsWhole) (arg13 : Memref sig .tc .vmem S192x1 .f32) (harg13 : arg13.IsWhole) (arg14 : Memref sig .tc .vmem S192x1 .f32) (harg14 : arg14.IsWhole) (arg15 : Memref sig .tc .vmem S20x64x2048 .f32) (harg15 : arg15.IsWhole) (arg16 : Memref sig .tc .vmem S192x512 .bf16) (harg16 : arg16.IsWhole) (arg17 : Memref sig .tc .vmem S192x512 .bf16) (harg17 : arg17.IsWhole) (hc0 : cond0_0 i) (x0 : Vec F S20x1x2048 .i16) (x1 : Vec F S1x2048 .i32) (x2 : Vec F S20x1x2048 .i16) (x3 : Vec F S1x2048 .i32) (x4 : Vec F S64x512 .f32) (x5 : Vec F S192x64 .f32) (x6 : Vec F S192x64 .f32) (x7 : Vec F S192x1 .f32) (x8 : Vec F S192x64 .f32) (x9 : Vec F S192x64 .f32) (x10 : Vec F S192x1 .f32) (x11 : Vec F S192x1 .f32) (x12 : Vec F S192x1 .f32) (xt0 : TbBuf0 (F := F) c tbM0_0) (k0_hw1 : k0_chk1 (tbM0_0.view.readAt (Elt F) (Rect.unit (s := S8x2) (k0_off1 i) S1x1.size (k0_off1_inb i)).toLoadRect xt0 (Shape.Idx.first (numel1_S1x1.symm ▸ Nat.one_pos)))) (k0_hw2 : k0_chk2 (tbM0_0.view.readAt (Elt F) (Rect.unit (s := S8x2) (k0_off2 i) S1x1.size (k0_off2_inb i)).toLoadRect xt0 (Shape.Idx.first (numel1_S1x1.symm ▸ Nat.one_pos)))) :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xt0 k0_hw1 k0_hw2).2.2.1 = [⟨Rect.unit (s := S192x512) ![0, 0] S192x512.size inb_S192x512_S192x512_0_0, k0_pay93 (arg6.view.readAt (Elt F) (Rect.unit (s := S64x512) ![0, 0] S64x512.size inb_S64x512_S64x512_0_0).toLoadRect (harg6.unread x4)) (arg10.view.readAt (Elt F) (Rect.unit (s := S192x64) ![0, 0] S192x64.size inb_S192x64_S192x64_0_0).toLoadRect (harg10.unread x8)) (arg12.view.readAt (Elt F) (Rect.unit (s := S192x1) ![0, 0] S192x1.size inb_S192x1_S192x1_0_0).toLoadRect (harg12.unread x10))⟩] := by
  unfold kernelRun0_A
  rfl

theorem pieces_B (c : Dev nD) (i : grid0.Coords) (arg2 : Memref sig .tc .vmem S20x1x2048 .i16) (harg2 : arg2.IsWhole) (arg3 : Memref sig .tc .vmem S1x2048 .i32) (harg3 : arg3.IsWhole) (arg4 : Memref sig .tc .vmem S20x1x2048 .i16) (harg4 : arg4.IsWhole) (arg5 : Memref sig .tc .vmem S1x2048 .i32) (harg5 : arg5.IsWhole) (arg6 : Memref sig .tc .vmem S64x512 .f32) (harg6 : arg6.IsWhole) (arg7 : Memref sig .tc .vmem S192x64 .f32) (harg7 : arg7.IsWhole) (arg8 : Memref sig .tc .vmem S192x64 .f32) (harg8 : arg8.IsWhole) (arg9 : Memref sig .tc .vmem S192x1 .f32) (harg9 : arg9.IsWhole) (arg10 : Memref sig .tc .vmem S192x64 .f32) (harg10 : arg10.IsWhole) (arg11 : Memref sig .tc .vmem S192x64 .f32) (harg11 : arg11.IsWhole) (arg12 : Memref sig .tc .vmem S192x1 .f32) (harg12 : arg12.IsWhole) (arg13 : Memref sig .tc .vmem S192x1 .f32) (harg13 : arg13.IsWhole) (arg14 : Memref sig .tc .vmem S192x1 .f32) (harg14 : arg14.IsWhole) (arg15 : Memref sig .tc .vmem S20x64x2048 .f32) (harg15 : arg15.IsWhole) (arg16 : Memref sig .tc .vmem S192x512 .bf16) (harg16 : arg16.IsWhole) (arg17 : Memref sig .tc .vmem S192x512 .bf16) (harg17 : arg17.IsWhole) (hc0 : ¬cond0_0 i) (x0 : Vec F S20x1x2048 .i16) (x1 : Vec F S1x2048 .i32) (x2 : Vec F S20x1x2048 .i16) (x3 : Vec F S1x2048 .i32) (x4 : Vec F S64x512 .f32) (x5 : Vec F S192x64 .f32) (x6 : Vec F S192x64 .f32) (x7 : Vec F S192x1 .f32) (x8 : Vec F S192x64 .f32) (x9 : Vec F S192x64 .f32) (x10 : Vec F S192x1 .f32) (x11 : Vec F S192x1 .f32) (x12 : Vec F S192x1 .f32) (xt0 : TbBuf0 (F := F) c tbM0_0) (xs0 : Vec F S192x512 .bf16) (xs1 : Vec F S192x512 .bf16) (k0_hw1 : k0_chk1 (tbM0_0.view.readAt (Elt F) (Rect.unit (s := S8x2) (k0_off1 i) S1x1.size (k0_off1_inb i)).toLoadRect xt0 (Shape.Idx.first (numel1_S1x1.symm ▸ Nat.one_pos)))) (k0_hw2 : k0_chk2 (tbM0_0.view.readAt (Elt F) (Rect.unit (s := S8x2) (k0_off2 i) S1x1.size (k0_off2_inb i)).toLoadRect xt0 (Shape.Idx.first (numel1_S1x1.symm ▸ Nat.one_pos)))) :
    (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xt0 xs0 xs1 k0_hw1 k0_hw2).1 = (st_k0_t4 (F := F) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (tbM0_0.view.readAt (Elt F) (Rect.unit (s := S8x2) (k0_off2 i) S1x1.size (k0_off2_inb i)).toLoadRect xt0 (Shape.Idx.first (numel1_S1x1.symm ▸ Nat.one_pos))) k0_hw2 k0_pay94 (k0_pay96 (arg11.view.readAt (Elt F) (Rect.unit (s := S192x64) ![0, 0] S192x64.size inb_S192x64_S192x64_0_0).toLoadRect (harg11.unread x9))) (k0_pay98 (arg14.view.readAt (Elt F) (Rect.unit (s := S192x1) ![0, 0] S192x1.size inb_S192x1_S192x1_0_0).toLoadRect (harg14.unread x12))) (k0_pay103 (arg5.view.readAt (Elt F) (Rect.unit (s := S1x2048) ![0, 0] S1x512.size inb_S1x2048_S1x512_0_0).toLoadRect (harg5.unread x3))) (arg5.view.readAt (Elt F) (Rect.unit (s := S1x2048) ![0, 512] S1x512.size inb_S1x2048_S1x512_0_512).toLoadRect (harg5.unread x3)) (arg5.view.readAt (Elt F) (Rect.unit (s := S1x2048) ![0, 1024] S1x512.size inb_S1x2048_S1x512_0_1024).toLoadRect (harg5.unread x3)) (arg5.view.readAt (Elt F) (Rect.unit (s := S1x2048) ![0, 1536] S1x512.size inb_S1x2048_S1x512_0_1536).toLoadRect (harg5.unread x3)) (FloatOps.ofBits FTy.bf16 16256#16) (FloatOps.ofBits FTy.bf16 0#16) (k0_t3_loop (tbM0_0.view.readAt (Elt F) (Rect.unit (s := S8x2) (k0_off2 i) S1x1.size (k0_off2_inb i)).toLoadRect xt0 (Shape.Idx.first (numel1_S1x1.symm ▸ Nat.one_pos)))).ub (harg4.unread x2) (harg17.unread xs1) (et (st_k0_t3 (F := F) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (tbM0_0.view.readAt (Elt F) (Rect.unit (s := S8x2) (k0_off2 i) S1x1.size (k0_off2_inb i)).toLoadRect xt0 (Shape.Idx.first (numel1_S1x1.symm ▸ Nat.one_pos))) k0_hw2 k0_pay94 (k0_pay96 (arg11.view.readAt (Elt F) (Rect.unit (s := S192x64) ![0, 0] S192x64.size inb_S192x64_S192x64_0_0).toLoadRect (harg11.unread x9))) (k0_pay98 (arg14.view.readAt (Elt F) (Rect.unit (s := S192x1) ![0, 0] S192x1.size inb_S192x1_S192x1_0_0).toLoadRect (harg14.unread x12))) (k0_pay103 (arg5.view.readAt (Elt F) (Rect.unit (s := S1x2048) ![0, 0] S1x512.size inb_S1x2048_S1x512_0_0).toLoadRect (harg5.unread x3))) (arg5.view.readAt (Elt F) (Rect.unit (s := S1x2048) ![0, 512] S1x512.size inb_S1x2048_S1x512_0_512).toLoadRect (harg5.unread x3)) (arg5.view.readAt (Elt F) (Rect.unit (s := S1x2048) ![0, 1024] S1x512.size inb_S1x2048_S1x512_0_1024).toLoadRect (harg5.unread x3)) (arg5.view.readAt (Elt F) (Rect.unit (s := S1x2048) ![0, 1536] S1x512.size inb_S1x2048_S1x512_0_1536).toLoadRect (harg5.unread x3)) (FloatOps.ofBits FTy.bf16 16256#16) (FloatOps.ofBits FTy.bf16 0#16) (harg4.unread x2) (harg17.unread xs1) (et (st_k0_t2 (F := F) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (tbM0_0.view.readAt (Elt F) (Rect.unit (s := S8x2) (k0_off1 i) S1x1.size (k0_off1_inb i)).toLoadRect xt0 (Shape.Idx.first (numel1_S1x1.symm ▸ Nat.one_pos))) k0_hw1 k0_pay94 (k0_pay95 (arg8.view.readAt (Elt F) (Rect.unit (s := S192x64) ![0, 0] S192x64.size inb_S192x64_S192x64_0_0).toLoadRect (harg8.unread x6))) (k0_pay97 (arg13.view.readAt (Elt F) (Rect.unit (s := S192x1) ![0, 0] S192x1.size inb_S192x1_S192x1_0_0).toLoadRect (harg13.unread x11))) (k0_pay99 (arg3.view.readAt (Elt F) (Rect.unit (s := S1x2048) ![0, 0] S1x512.size inb_S1x2048_S1x512_0_0).toLoadRect (harg3.unread x1))) (k0_pay100 (arg3.view.readAt (Elt F) (Rect.unit (s := S1x2048) ![0, 512] S1x512.size inb_S1x2048_S1x512_0_512).toLoadRect (harg3.unread x1))) (k0_pay101 (arg3.view.readAt (Elt F) (Rect.unit (s := S1x2048) ![0, 1024] S1x512.size inb_S1x2048_S1x512_0_1024).toLoadRect (harg3.unread x1))) (k0_pay102 (arg3.view.readAt (Elt F) (Rect.unit (s := S1x2048) ![0, 1536] S1x512.size inb_S1x2048_S1x512_0_1536).toLoadRect (harg3.unread x1))) (FloatOps.ofBits FTy.bf16 16256#16) (FloatOps.ofBits FTy.bf16 0#16) (k0_t1_loop (tbM0_0.view.readAt (Elt F) (Rect.unit (s := S8x2) (k0_off1 i) S1x1.size (k0_off1_inb i)).toLoadRect xt0 (Shape.Idx.first (numel1_S1x1.symm ▸ Nat.one_pos)))).ub (harg2.unread x0) (harg16.unread xs0) (et (st_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (tbM0_0.view.readAt (Elt F) (Rect.unit (s := S8x2) (k0_off1 i) S1x1.size (k0_off1_inb i)).toLoadRect xt0 (Shape.Idx.first (numel1_S1x1.symm ▸ Nat.one_pos))) k0_hw1 k0_pay94 (k0_pay95 (arg8.view.readAt (Elt F) (Rect.unit (s := S192x64) ![0, 0] S192x64.size inb_S192x64_S192x64_0_0).toLoadRect (harg8.unread x6))) (k0_pay97 (arg13.view.readAt (Elt F) (Rect.unit (s := S192x1) ![0, 0] S192x1.size inb_S192x1_S192x1_0_0).toLoadRect (harg13.unread x11))) (k0_pay99 (arg3.view.readAt (Elt F) (Rect.unit (s := S1x2048) ![0, 0] S1x512.size inb_S1x2048_S1x512_0_0).toLoadRect (harg3.unread x1))) (k0_pay100 (arg3.view.readAt (Elt F) (Rect.unit (s := S1x2048) ![0, 512] S1x512.size inb_S1x2048_S1x512_0_512).toLoadRect (harg3.unread x1))) (k0_pay101 (arg3.view.readAt (Elt F) (Rect.unit (s := S1x2048) ![0, 1024] S1x512.size inb_S1x2048_S1x512_0_1024).toLoadRect (harg3.unread x1))) (k0_pay102 (arg3.view.readAt (Elt F) (Rect.unit (s := S1x2048) ![0, 1536] S1x512.size inb_S1x2048_S1x512_0_1536).toLoadRect (harg3.unread x1))) (FloatOps.ofBits FTy.bf16 16256#16) (FloatOps.ofBits FTy.bf16 0#16) (harg2.unread x0) (harg16.unread xs0) (k0_pay5, k0_pay6, k0_pay7, k0_pay8) (k0_t1_loop (tbM0_0.view.readAt (Elt F) (Rect.unit (s := S8x2) (k0_off1 i) S1x1.size (k0_off1_inb i)).toLoadRect xt0 (Shape.Idx.first (numel1_S1x1.symm ▸ Nat.one_pos)))).trips)) (k0_t2_loop (tbM0_0.view.readAt (Elt F) (Rect.unit (s := S8x2) (k0_off1 i) S1x1.size (k0_off1_inb i)).toLoadRect xt0 (Shape.Idx.first (numel1_S1x1.symm ▸ Nat.one_pos)))).trips)) (k0_t3_loop (tbM0_0.view.readAt (Elt F) (Rect.unit (s := S8x2) (k0_off2 i) S1x1.size (k0_off2_inb i)).toLoadRect xt0 (Shape.Idx.first (numel1_S1x1.symm ▸ Nat.one_pos)))).trips).1) (k0_t4_loop (tbM0_0.view.readAt (Elt F) (Rect.unit (s := S8x2) (k0_off2 i) S1x1.size (k0_off2_inb i)).toLoadRect xt0 (Shape.Idx.first (numel1_S1x1.symm ▸ Nat.one_pos)))).trips).2 ++ ((st_k0_t3 (F := F) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (tbM0_0.view.readAt (Elt F) (Rect.unit (s := S8x2) (k0_off2 i) S1x1.size (k0_off2_inb i)).toLoadRect xt0 (Shape.Idx.first (numel1_S1x1.symm ▸ Nat.one_pos))) k0_hw2 k0_pay94 (k0_pay96 (arg11.view.readAt (Elt F) (Rect.unit (s := S192x64) ![0, 0] S192x64.size inb_S192x64_S192x64_0_0).toLoadRect (harg11.unread x9))) (k0_pay98 (arg14.view.readAt (Elt F) (Rect.unit (s := S192x1) ![0, 0] S192x1.size inb_S192x1_S192x1_0_0).toLoadRect (harg14.unread x12))) (k0_pay103 (arg5.view.readAt (Elt F) (Rect.unit (s := S1x2048) ![0, 0] S1x512.size inb_S1x2048_S1x512_0_0).toLoadRect (harg5.unread x3))) (arg5.view.readAt (Elt F) (Rect.unit (s := S1x2048) ![0, 512] S1x512.size inb_S1x2048_S1x512_0_512).toLoadRect (harg5.unread x3)) (arg5.view.readAt (Elt F) (Rect.unit (s := S1x2048) ![0, 1024] S1x512.size inb_S1x2048_S1x512_0_1024).toLoadRect (harg5.unread x3)) (arg5.view.readAt (Elt F) (Rect.unit (s := S1x2048) ![0, 1536] S1x512.size inb_S1x2048_S1x512_0_1536).toLoadRect (harg5.unread x3)) (FloatOps.ofBits FTy.bf16 16256#16) (FloatOps.ofBits FTy.bf16 0#16) (harg4.unread x2) (harg17.unread xs1) (et (st_k0_t2 (F := F) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (tbM0_0.view.readAt (Elt F) (Rect.unit (s := S8x2) (k0_off1 i) S1x1.size (k0_off1_inb i)).toLoadRect xt0 (Shape.Idx.first (numel1_S1x1.symm ▸ Nat.one_pos))) k0_hw1 k0_pay94 (k0_pay95 (arg8.view.readAt (Elt F) (Rect.unit (s := S192x64) ![0, 0] S192x64.size inb_S192x64_S192x64_0_0).toLoadRect (harg8.unread x6))) (k0_pay97 (arg13.view.readAt (Elt F) (Rect.unit (s := S192x1) ![0, 0] S192x1.size inb_S192x1_S192x1_0_0).toLoadRect (harg13.unread x11))) (k0_pay99 (arg3.view.readAt (Elt F) (Rect.unit (s := S1x2048) ![0, 0] S1x512.size inb_S1x2048_S1x512_0_0).toLoadRect (harg3.unread x1))) (k0_pay100 (arg3.view.readAt (Elt F) (Rect.unit (s := S1x2048) ![0, 512] S1x512.size inb_S1x2048_S1x512_0_512).toLoadRect (harg3.unread x1))) (k0_pay101 (arg3.view.readAt (Elt F) (Rect.unit (s := S1x2048) ![0, 1024] S1x512.size inb_S1x2048_S1x512_0_1024).toLoadRect (harg3.unread x1))) (k0_pay102 (arg3.view.readAt (Elt F) (Rect.unit (s := S1x2048) ![0, 1536] S1x512.size inb_S1x2048_S1x512_0_1536).toLoadRect (harg3.unread x1))) (FloatOps.ofBits FTy.bf16 16256#16) (FloatOps.ofBits FTy.bf16 0#16) (k0_t1_loop (tbM0_0.view.readAt (Elt F) (Rect.unit (s := S8x2) (k0_off1 i) S1x1.size (k0_off1_inb i)).toLoadRect xt0 (Shape.Idx.first (numel1_S1x1.symm ▸ Nat.one_pos)))).ub (harg2.unread x0) (harg16.unread xs0) (et (st_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (tbM0_0.view.readAt (Elt F) (Rect.unit (s := S8x2) (k0_off1 i) S1x1.size (k0_off1_inb i)).toLoadRect xt0 (Shape.Idx.first (numel1_S1x1.symm ▸ Nat.one_pos))) k0_hw1 k0_pay94 (k0_pay95 (arg8.view.readAt (Elt F) (Rect.unit (s := S192x64) ![0, 0] S192x64.size inb_S192x64_S192x64_0_0).toLoadRect (harg8.unread x6))) (k0_pay97 (arg13.view.readAt (Elt F) (Rect.unit (s := S192x1) ![0, 0] S192x1.size inb_S192x1_S192x1_0_0).toLoadRect (harg13.unread x11))) (k0_pay99 (arg3.view.readAt (Elt F) (Rect.unit (s := S1x2048) ![0, 0] S1x512.size inb_S1x2048_S1x512_0_0).toLoadRect (harg3.unread x1))) (k0_pay100 (arg3.view.readAt (Elt F) (Rect.unit (s := S1x2048) ![0, 512] S1x512.size inb_S1x2048_S1x512_0_512).toLoadRect (harg3.unread x1))) (k0_pay101 (arg3.view.readAt (Elt F) (Rect.unit (s := S1x2048) ![0, 1024] S1x512.size inb_S1x2048_S1x512_0_1024).toLoadRect (harg3.unread x1))) (k0_pay102 (arg3.view.readAt (Elt F) (Rect.unit (s := S1x2048) ![0, 1536] S1x512.size inb_S1x2048_S1x512_0_1536).toLoadRect (harg3.unread x1))) (FloatOps.ofBits FTy.bf16 16256#16) (FloatOps.ofBits FTy.bf16 0#16) (harg2.unread x0) (harg16.unread xs0) (k0_pay5, k0_pay6, k0_pay7, k0_pay8) (k0_t1_loop (tbM0_0.view.readAt (Elt F) (Rect.unit (s := S8x2) (k0_off1 i) S1x1.size (k0_off1_inb i)).toLoadRect xt0 (Shape.Idx.first (numel1_S1x1.symm ▸ Nat.one_pos)))).trips)) (k0_t2_loop (tbM0_0.view.readAt (Elt F) (Rect.unit (s := S8x2) (k0_off1 i) S1x1.size (k0_off1_inb i)).toLoadRect xt0 (Shape.Idx.first (numel1_S1x1.symm ▸ Nat.one_pos)))).trips)) (k0_t3_loop (tbM0_0.view.readAt (Elt F) (Rect.unit (s := S8x2) (k0_off2 i) S1x1.size (k0_off2_inb i)).toLoadRect xt0 (Shape.Idx.first (numel1_S1x1.symm ▸ Nat.one_pos)))).trips).2 ++ [⟨Rect.unit (s := S20x64x2048) ![0, 0, 0] S20x64x2048.size inb_S20x64x2048_S20x64x2048_0_0_0, k0_pay4⟩]) := by
  unfold kernelRun0_B
  dsimp only
  refine congrArg₂ (fun a b => a ++ b) ?a (Eq.trans (b := _ ++ _) (by with_unfolding_all with_reducible rfl) (congrArg₂ (fun a b => a ++ b) ?b ?c))
  case c => rfl
  case b =>
    sl_unfold_run_names
    refine congrArg Prod.snd ?_
    with_reducible rfl
  case a =>
    sl_unfold_run_names
    refine congrArg Prod.snd ?_
    with_reducible rfl

end Cert.KernelIdeal.Gru
-- ==== Proof.Model.lean ====
/- The gated cell of one batch place at one step, over extended reals, and the recursion of one batch place's state. -/
module

public import Idealize.ShloMosaic.PureOps.Ideal
public import Idealize.ShloMosaic.Lib.Pointwise

@[expose] public section

noncomputable section

namespace Cert.Gru

open Idealize.ShloMosaic

/-- The logistic function, `1 / (1 + e^(-a))`. -/
def sgm (a : EReal) : EReal := Ideal.div 1 (1 + Ideal.exp (-a))

/-- Half the hyperbolic tangent of half the argument, and a half: the logistic function again, at the infinities too. -/
theorem half_tanh (a : EReal) : ((2⁻¹ : ℝ) : EReal) * Ideal.tanh (((2⁻¹ : ℝ) : EReal) * a) + ((2⁻¹ : ℝ) : EReal) = sgm a := by
  unfold sgm
  induction a with
  | bot =>
    rw [EReal.coe_mul_bot_of_pos (by norm_num), EReal.neg_bot, Ideal.tanh_bot, Ideal.exp_top]
    have h1 : (1 : EReal) + ⊤ = ⊤ := by
      rw [← EReal.coe_one]; exact EReal.coe_add_top 1
    rw [h1, Ideal.div, if_neg (by simp), EReal.inv_top, mul_zero]
    have h2 : (-1 : EReal) = ((-1 : ℝ) : EReal) := by norm_num
    rw [h2, ← EReal.coe_mul, ← EReal.coe_add]
    norm_num
  | top =>
    rw [EReal.coe_mul_top_of_pos (by norm_num), EReal.neg_top, Ideal.tanh_top, Ideal.exp_bot, add_zero, Ideal.div, if_neg one_ne_zero,
      mul_one, ← EReal.coe_add]
    have h3 : (1 : EReal)⁻¹ = 1 := by
      rw [← EReal.coe_one, ← EReal.coe_inv]; norm_num
    rw [h3, one_mul]
    norm_num
  | coe r =>
    rw [← EReal.coe_mul, Ideal.tanh_coe, ← EReal.coe_mul, ← EReal.coe_add, ← EReal.coe_neg, Ideal.exp_coe, ← EReal.coe_one, ← EReal.coe_add]
    have hp : (0 : ℝ) < 1 + Real.exp (-r) := by positivity
    rw [Ideal.div, if_neg (by exact_mod_cast hp.ne'), ← EReal.coe_inv, ← EReal.coe_mul]
    congr 1
    have e1 : Real.exp (-r) = Real.exp (-(2⁻¹ * r)) * Real.exp (-(2⁻¹ * r)) := by rw [← Real.exp_add]; congr 1; ring
    have e2 : Real.exp (2⁻¹ * r) * Real.exp (-(2⁻¹ * r)) = 1 := by rw [← Real.exp_add]; simp
    have pa := Real.exp_pos (2⁻¹ * r)
    have pb := Real.exp_pos (-(2⁻¹ * r))
    rw [Real.tanh_eq_sinh_div_cosh, Real.sinh_eq, Real.cosh_eq, e1]
    rw [e1] at hp
    generalize Real.exp (2⁻¹ * r) = u at *
    generalize Real.exp (-(2⁻¹ * r)) = v at *
    have huv : u + v ≠ 0 := by positivity
    have hv : (1 + v * v : ℝ) ≠ 0 := hp.ne'
    field_simp
    linear_combination (2 * v) * e2

/-- The cell's new state from the two sides' gate inputs (reset, update and new, 64 each) and the old state. -/
def newState (gi gh : Fin 192 → EReal) (h : Fin 64 → EReal) (p : Fin 64) : EReal :=
  (1 - sgm (gi ⟨64 + p.val, by omega⟩ + gh ⟨64 + p.val, by omega⟩))
      * Ideal.tanh (gi ⟨128 + p.val, by omega⟩ + sgm (gi ⟨p.val, by omega⟩ + gh ⟨p.val, by omega⟩) * gh ⟨128 + p.val, by omega⟩)
    + sgm (gi ⟨64 + p.val, by omega⟩ + gh ⟨64 + p.val, by omega⟩) * h p

/-- A vector times a weight matrix, plus a bias. -/
def gateSum (W : Fin 192 → Fin 64 → EReal) (b : Fin 192 → EReal) (x : Fin 64 → EReal) (g : Fin 192) : EReal :=
  (∑ e : Fin 64, x e * W g e) + b g

/-- One step of one batch place: the new state while the step is before the length, the old one after. -/
def colStep (gi : ℕ → Fin 192 → EReal) (W : Fin 192 → Fin 64 → EReal) (b : Fin 192 → EReal) (len : ℤ) (t : ℕ)
    (h : Fin 64 → EReal) : Fin 64 → EReal :=
  if (t : ℤ) < len then newState (gi t) (gateSum W b h) h else h

/-- The state of one batch place before step `t`. -/
def colRun (gi : ℕ → Fin 192 → EReal) (W : Fin 192 → Fin 64 → EReal) (b : Fin 192 → EReal) (len : ℤ) (h0 : Fin 64 → EReal) :
    ℕ → Fin 64 → EReal
  | 0 => h0
  | t + 1 => colStep gi W b len t (colRun gi W b len h0 t)

theorem colRun_succ (gi : ℕ → Fin 192 → EReal) (W : Fin 192 → Fin 64 → EReal) (b : Fin 192 → EReal) (len : ℤ) (h0 : Fin 64 → EReal) (t : ℕ) :
    colRun gi W b len h0 (t + 1) = colStep gi W b len t (colRun gi W b len h0 t) := rfl

/-- Steps at or past the length change nothing. -/
theorem colRun_past (gi : ℕ → Fin 192 → EReal) (W : Fin 192 → Fin 64 → EReal) (b : Fin 192 → EReal) (len : ℤ) (h0 : Fin 64 → EReal)
    (n d : ℕ) (hn : len ≤ n) : colRun gi W b len h0 (n + d) = colRun gi W b len h0 n := by
  induction d with
  | zero => rfl
  | succ d ih =>
    rw [← Nat.add_assoc, colRun_succ, colStep, if_neg (by push_cast; omega), ih]

theorem colRun_ge (gi : ℕ → Fin 192 → EReal) (W : Fin 192 → Fin 64 → EReal) (b : Fin 192 → EReal) (len : ℤ) (h0 : Fin 64 → EReal)
    (n k : ℕ) (hn : len ≤ n) (hk : n ≤ k) : colRun gi W b len h0 k = colRun gi W b len h0 n := by
  obtain ⟨d, rfl⟩ := Nat.exists_eq_add_of_le hk
  exact colRun_past gi W b len h0 n d hn

/-- What the run writes for step `t`: the state after it, or zero past the length. -/
def colOut (gi : ℕ → Fin 192 → EReal) (W : Fin 192 → Fin 64 → EReal) (b : Fin 192 → EReal) (len : ℤ) (h0 : Fin 64 → EReal)
    (t : ℕ) (p : Fin 64) : EReal :=
  if (t : ℤ) < len then newState (gi t) (gateSum W b (colRun gi W b len h0 t)) (colRun gi W b len h0 t) p else 0

end Cert.Gru

end
-- ==== Proof.KCell.lean ====
module

public import proofs.«01_k».proof.Proof.KTrips
public import proofs.«01_k».proof.Proof.Model
public import Idealize.ShloMosaic.Lib.WordCmp

/-! # One strip of the kernel, column by column, over the extended reals -/

@[expose] public section
set_option maxRecDepth 16384
noncomputable section
namespace Cert.KernelIdeal.Gru

open Idealize.ShloMosaic Idealize.ShloMosaic.TcCoe
open Cert.KernelIdeal Cert.KernelIdeal.Gen Cert.Gru

/-- Half, as the program writes it. -/
theorem half_word : Ideal.ofBits FTy.f32 1056964608#32 = ((2⁻¹ : ℝ) : EReal) := by
  simp [Ideal.ofBits, Ideal.ieee, -EReal.coe_mul]
  norm_num

/-- The column of words 0 … 511. -/
theorem places_apply (x : Fin 512) : k0_pay94 (ix2 x 0) = BitVec.ofNat 16 x.val := by
  pointwise [k0_pay94]
  apply BitVec.eq_of_toNat_eq
  rw [BitVec.toNat_setWidth, BitVec.toNat_ofNat, BitVec.toNat_ofNat]
  omega

/-- A row of zeros and ones with its one at the id picks the id's entry. -/
theorem pick (f : Fin 512 → EReal) (a : BitVec 16) (id : Fin 512) (h : a.toNat = id.val) :
    ∑ x : Fin 512, Scalar.select (IntOp.cmpi .eq a (k0_pay94 (ix2 x 0))) (f x) (0 : EReal) = f id := by
  have hx : ∀ x : Fin 512, Scalar.select (IntOp.cmpi .eq a (k0_pay94 (ix2 x 0))) (f x) (0 : EReal) = if x = id then f x else 0 := by
    intro x
    rw [places_apply]
    show Scalar.select (BitVec.ofBool (a == BitVec.ofNat 16 x.val)) (f x) 0 = _
    rw [WordCmp.select_ofBool]
    by_cases e : x = id
    · subst e
      rw [if_pos rfl, if_pos]
      rw [beq_iff_eq]
      apply BitVec.eq_of_toNat_eq
      rw [h, BitVec.toNat_ofNat]; omega
    · rw [if_neg e, if_neg]
      rw [beq_iff_eq]
      intro hh
      apply e
      apply Fin.ext
      have := congrArg BitVec.toNat hh
      rw [h, BitVec.toNat_ofNat] at this; omega
  rw [Finset.sum_congr rfl fun x _ => hx x]
  simp

theorem fresh_apply (w : FVec Ideal S192x64 .bf16) (b : FVec Ideal S192x512 .f32) (h : Strip Ideal)
    (ids : Vec Ideal S1x1x512 .i16) (tab : Vec Ideal S192x512 .bf16) (p : Fin 64) (q : Fin 512) (id : Fin 512)
    (hid : (ids (ix3 0 0 q)).toNat = id.val) :
    freshOf (k0_pay94) w b (FloatOps.ofBits FTy.bf16 16256#16) (FloatOps.ofBits FTy.bf16 0#16) h ids tab (ix2 p q)
      = newState (fun g => tab (ix2 g id)) (gateSum (fun g e => w (ix2 g e)) (fun g => b (ix2 g q)) (fun e => h (ix2 e q)))
          (fun e => h (ix2 e q)) p := by
  unfold freshOf newState gateSum
  simp only [← half_tanh]
  pointwise [k0_pay23]
  simp only [pick _ _ id hid, half_word, fun (x : Fin 64) (a : Fin 192) => mul_comm (h (ix2 x q)) (w (ix2 a x))]

theorem step_apply (w : FVec Ideal S192x64 .bf16) (b : FVec Ideal S192x512 .f32) (c1 c0 : Ideal .bf16)
    (len : IVec S1x512 32) (t : BitVec 32) (h : Strip Ideal) (ids : Vec Ideal S1x1x512 .i16) (tab : Vec Ideal S192x512 .bf16)
    (p : Fin 64) (q : Fin 512) :
    stepOf k0_pay94 w b c1 c0 len t h ids tab (ix2 p q)
      = if t.toInt < (len (ix2 0 q)).toInt then freshOf k0_pay94 w b c1 c0 h ids tab (ix2 p q) else h (ix2 p q) := by
  unfold stepOf
  generalize freshOf k0_pay94 w b c1 c0 h ids tab = fr
  pointwise [k0_pay9]
  rw [WordCmp.cmpi_sgt_eq, WordCmp.select_ofBool]
  simp only [decide_eq_true_eq]

theorem put_apply (w : FVec Ideal S192x64 .bf16) (b : FVec Ideal S192x512 .f32) (c1 c0 : Ideal .bf16)
    (len : IVec S1x512 32) (t : BitVec 32) (h : Strip Ideal) (ids : Vec Ideal S1x1x512 .i16) (tab : Vec Ideal S192x512 .bf16)
    (p : Fin 64) (q : Fin 512) :
    putOf k0_pay94 w b c1 c0 len t h ids tab (ix3 0 p q)
      = if t.toInt < (len (ix2 0 q)).toInt then freshOf k0_pay94 w b c1 c0 h ids tab (ix2 p q) else 0 := by
  unfold putOf
  generalize freshOf k0_pay94 w b c1 c0 h ids tab = fr
  pointwise [k0_pay64, k0_pay60]
  rw [WordCmp.cmpi_sgt_eq, WordCmp.select_ofBool]
  simp only [decide_eq_true_eq]

theorem table_apply (embT : Vec Ideal S64x512 .f32) (w : Vec Ideal S192x64 .f32) (b : Vec Ideal S192x1 .f32) (g : Fin 192) (x : Fin 512) :
    k0_pay92 embT w b (ix2 g x)
      = gateSum (fun g e => w (ix2 g e)) (fun g => b (ix2 g 0)) (fun e => embT (ix2 e x)) g := by
  unfold gateSum
  pointwise [k0_pay92, k0_pay91]
  simp only [fun (y : Fin 64) => mul_comm (embT (ix2 y x)) (w (ix2 g y))]

end Cert.KernelIdeal.Gru
-- ==== Proof.KStrip.lean ====
module

public import proofs.«01_k».proof.Proof.KCell
public import Idealize.ShloMosaic.Lib.Pipeline.FrameBody
public import Idealize.ShloMosaic.Lib.Scf.Counter

/-! # One step of a strip against the recursion of its columns -/

@[expose] public section
set_option maxRecDepth 16384
noncomputable section
namespace Cert.KernelIdeal.Gru

open Idealize.ShloMosaic Idealize.ShloMosaic.TcCoe
open Cert.KernelIdeal Cert.KernelIdeal.Gen Cert.Gru

/-- Place `q` of strip `j` among the block's columns. -/
def colOf (j : Fin 4) (q : Fin 512) : Fin 2048 := ⟨512 * j.val + q.val, by omega⟩

theorem iv_word (k : ℕ) : Scf.iv 0#32 1#32 k = BitVec.ofNat 32 k := by
  induction k with
  | zero => rw [Scf.iv_zero]
  | succ k ih => rw [Scf.iv_succ, ih, BitVec.ofNat_add]

theorem iv_toInt {k : ℕ} (hk : k < 20) : (Scf.iv 0#32 1#32 k).toInt = k := by
  have hk' : (BitVec.ofNat 32 k).toNat = k := by rw [BitVec.toNat_ofNat]; omega
  rw [iv_word, BitVec.toInt_eq_toNat_of_lt (by rw [hk']; omega), hk']

theorem iv_toNat {k : ℕ} (hk : k < 20) : (Scf.iv 0#32 1#32 k).toNat = k := by
  rw [iv_word, BitVec.toNat_ofNat]
  omega

/-- The strip `j` holds `f`, column by column. -/
def At (s : Strip Ideal) (f : Fin 2048 → Fin 64 → EReal) (j : Fin 4) : Prop :=
  ∀ (p : Fin 64) (q : Fin 512), s (ix2 p q) = f (colOf j q) p

/-- A column's recursion, from the tables a strip's step reads. -/
abbrev runOf (tab : Vec Ideal S192x512 .bf16) (w : FVec Ideal S192x64 .bf16) (bb : Fin 192 → EReal) (len : Fin 2048 → ℤ)
    (id : Fin 2048 → ℕ → Fin 512) (h0 : Fin 2048 → Fin 64 → EReal) (n : ℕ) (c : Fin 2048) : Fin 64 → EReal :=
  colRun (fun t g => tab (ix2 g (id c t))) (fun g e => w (ix2 g e)) bb (len c) (h0 c) n

abbrev outOf (tab : Vec Ideal S192x512 .bf16) (w : FVec Ideal S192x64 .bf16) (bb : Fin 192 → EReal) (len : Fin 2048 → ℤ)
    (id : Fin 2048 → ℕ → Fin 512) (h0 : Fin 2048 → Fin 64 → EReal) (n : ℕ) (c : Fin 2048) : Fin 64 → EReal :=
  colOut (fun t g => tab (ix2 g (id c t))) (fun g e => w (ix2 g e)) bb (len c) (h0 c) n

section
variable {tab : Vec Ideal S192x512 .bf16} {w : FVec Ideal S192x64 .bf16} {b : FVec Ideal S192x512 .f32} {bb : Fin 192 → EReal}
  {len : Fin 2048 → ℤ} {id : Fin 2048 → ℕ → Fin 512} {h0 : Fin 2048 → Fin 64 → EReal} {lenv : IVec S1x512 32}
  {ids : Vec Ideal S1x1x512 .i16} {h : Strip Ideal} {j : Fin 4} {n : ℕ}

theorem fresh_col (hb : ∀ g q, b (ix2 g q) = bb g) (hid : ∀ q, (ids (ix3 0 0 q)).toNat = (id (colOf j q) n).val)
    (hh : At h (runOf tab w bb len id h0 n) j) (p : Fin 64) (q : Fin 512) :
    freshOf k0_pay94 w b (FloatOps.ofBits FTy.bf16 16256#16) (FloatOps.ofBits FTy.bf16 0#16) h ids tab (ix2 p q)
      = newState (fun g => tab (ix2 g (id (colOf j q) n))) (gateSum (fun g e => w (ix2 g e)) bb (runOf tab w bb len id h0 n (colOf j q)))
          (runOf tab w bb len id h0 n (colOf j q)) p := by
  rw [fresh_apply w b h ids tab p q _ (hid q)]
  rw [show (fun e => h (ix2 e q)) = runOf tab w bb len id h0 n (colOf j q) from funext fun e => hh e q,
    show (fun g => b (ix2 g q)) = bb from funext fun g => hb g q]

theorem strip_step (hb : ∀ g q, b (ix2 g q) = bb g) (hlen : ∀ q, (lenv (ix2 0 q)).toInt = len (colOf j q)) (hn : n < 20)
    (hid : ∀ q, (ids (ix3 0 0 q)).toNat = (id (colOf j q) n).val) (hh : At h (runOf tab w bb len id h0 n) j) :
    At (stepOf k0_pay94 w b (FloatOps.ofBits FTy.bf16 16256#16) (FloatOps.ofBits FTy.bf16 0#16) lenv (Scf.iv 0#32 1#32 n) h ids tab)
      (runOf tab w bb len id h0 (n + 1)) j := by
  intro p q
  rw [step_apply, iv_toInt hn, hlen, fresh_col hb hid hh, hh p q,
    show runOf tab w bb len id h0 (n + 1) (colOf j q) = colStep (fun t g => tab (ix2 g (id (colOf j q) t))) (fun g e => w (ix2 g e)) bb
      (len (colOf j q)) n (runOf tab w bb len id h0 n (colOf j q)) from rfl, colStep]
  by_cases e : (n : ℤ) < len (colOf j q)
  · rw [if_pos e, if_pos e]
  · rw [if_neg e, if_neg e]

theorem strip_put (hb : ∀ g q, b (ix2 g q) = bb g) (hlen : ∀ q, (lenv (ix2 0 q)).toInt = len (colOf j q)) (hn : n < 20)
    (hid : ∀ q, (ids (ix3 0 0 q)).toNat = (id (colOf j q) n).val) (hh : At h (runOf tab w bb len id h0 n) j) (p : Fin 64) (q : Fin 512) :
    putOf k0_pay94 w b (FloatOps.ofBits FTy.bf16 16256#16) (FloatOps.ofBits FTy.bf16 0#16) lenv (Scf.iv 0#32 1#32 n) h ids tab (ix3 0 p q)
      = outOf tab w bb len id h0 n (colOf j q) p := by
  rw [put_apply, iv_toInt hn, hlen, fresh_col hb hid hh]
  rfl

end

/-! ## Reads of a block -/

theorem read_ids (M : Memref sig .tc .vmem S20x1x2048 .i16) (hM : M.IsWhole) (ids : Vec Ideal S20x1x2048 .i16)
    (off : Fin 3 → ℕ) (inb : ∀ a, off a + S1x1x512.size a ≤ S20x1x2048.size a) (t : Fin 20) (j : Fin 4)
    (hoff : off = ![t.val, 0, 512 * j.val]) (q : Fin 512) :
    M.view.readAt (Elt Ideal) (Rect.unit (s := S20x1x2048) off S1x1x512.size inb).toLoadRect (hM.unread ids) (ix3 0 0 q)
      = ids (ix3 t 0 (colOf j q)) := by
  subst hoff
  rw [View.readAt_eq_ld, hM.read_unread]
  refine congrArg ids (funext fun a => Fin.ext ?_)
  fin_cases a
  · show t.val + 1 * 0 = t.val; omega
  · rfl
  · show 512 * j.val + 1 * q.val = 512 * j.val + q.val; omega

theorem read_lens (M : Memref sig .tc .vmem S1x2048 .i32) (hM : M.IsWhole) (lens : Vec Ideal S1x2048 .i32)
    (off : Fin 2 → ℕ) (inb : ∀ a, off a + S1x512.size a ≤ S1x2048.size a) (j : Fin 4)
    (hoff : off = ![0, 512 * j.val]) (q : Fin 512) :
    M.view.readAt (Elt Ideal) (Rect.unit (s := S1x2048) off S1x512.size inb).toLoadRect (hM.unread lens) (ix2 0 q)
      = lens (ix2 0 (colOf j q)) := by
  subst hoff
  rw [View.readAt_eq_ld, hM.read_unread]
  refine congrArg lens (funext fun a => Fin.ext ?_)
  fin_cases a
  · rfl
  · show 512 * j.val + 1 * q.val = 512 * j.val + q.val; omega

theorem read_all2 {a b : ℕ} {e : EltTy} (M : Memref sig .tc .vmem ⟨2, ![a, b]⟩ e) (hM : M.IsWhole) (X : Vec Ideal ⟨2, ![a, b]⟩ e)
    (inb : ∀ k, (![0, 0] : Fin 2 → ℕ) k + (⟨2, ![a, b]⟩ : Shape).size k ≤ (⟨2, ![a, b]⟩ : Shape).size k) :
    M.view.readAt (Elt Ideal) (Rect.unit (s := ⟨2, ![a, b]⟩) ![0, 0] (⟨2, ![a, b]⟩ : Shape).size inb).toLoadRect (hM.unread X) = X := by
  rw [View.readAt_eq_ld, hM.read_unread]
  exact View.ld_unit_zero (by funext k; fin_cases k <;> rfl) inb X

theorem read_stored2 {a b : ℕ} {e : EltTy} (M : Memref sig .tc .vmem ⟨2, ![a, b]⟩ e) (X : Vec Ideal ⟨2, ![a, b]⟩ e)
    (inb inb' : ∀ k, (![0, 0] : Fin 2 → ℕ) k + (⟨2, ![a, b]⟩ : Shape).size k ≤ (⟨2, ![a, b]⟩ : Shape).size k) :
    M.view.readAt (Elt Ideal) (Rect.unit (s := ⟨2, ![a, b]⟩) ![0, 0] (⟨2, ![a, b]⟩ : Shape).size inb).toLoadRect
      (M.view.writes (Elt Ideal) M.view.junk [⟨Rect.unit (s := ⟨2, ![a, b]⟩) ![0, 0] (⟨2, ![a, b]⟩ : Shape).size inb', X⟩]) = X := by
  rw [View.readAt_eq_ld, View.read_writes_junk_eq_canon, View.canon_unit_zero (by funext k; fin_cases k <;> rfl)]
  exact View.ld_unit_zero (by funext k; fin_cases k <;> rfl) inb X

/-! ## One written piece, read at a place -/

theorem canon_put (L : List (View.Piece (Elt Ideal) S20x64x2048 .f32)) (off : Fin 3 → ℕ)
    (inb : ∀ a, off a + S1x64x512.size a ≤ S20x64x2048.size a) (P : Vec Ideal S1x64x512 .f32) (n : Fin 20) (j : Fin 4)
    (hoff : off = ![n.val, 0, 512 * j.val]) (t : Fin 20) (p : Fin 64) (i : Fin 4) (q : Fin 512) :
    View.canon (⟨Rect.unit (s := S20x64x2048) off S1x64x512.size inb, P⟩ :: L) (ix3 t p (colOf i q))
      = if t = n ∧ i = j then P (ix3 0 p q) else View.canon L (ix3 t p (colOf i q)) := by
  subst hoff
  by_cases e : t = n ∧ i = j
  · obtain ⟨rfl, rfl⟩ := e
    rw [if_pos ⟨rfl, rfl⟩]
    have hx : (ix3 t p (colOf i q) : S20x64x2048.Idx) = (Rect.unit (s := S20x64x2048) ![t.val, 0, 512 * i.val] S1x64x512.size inb).emb (ix3 0 p q) := by
      refine funext fun a => Fin.ext ?_
      fin_cases a
      · show t.val = t.val + 1 * 0; omega
      · show p.val = 0 + 1 * p.val; omega
      · show 512 * i.val + q.val = 512 * i.val + 1 * q.val; omega
    rw [hx]
    exact View.canon_cons_emb (Rect.unit (s := S20x64x2048) ![t.val, 0, 512 * i.val] S1x64x512.size inb) P L (ix3 0 p q)
  · rw [if_neg e]
    apply View.canon_cons_of_not_mem
    intro hm
    rw [Rect.mem_set_unit] at hm
    apply e
    have h0 := hm 0
    have h2 := hm 2
    have h0' : n.val ≤ t.val ∧ t.val < n.val + 1 := h0
    have h2' : 512 * j.val ≤ 512 * i.val + q.val ∧ 512 * i.val + q.val < 512 * j.val + 512 := h2
    refine ⟨Fin.ext (by omega), Fin.ext (by omega)⟩

end Cert.KernelIdeal.Gru
-- ==== Proof.KLoop.lean ====
module

public import proofs.«01_k».proof.Proof.KStrip

/-! # The kernel's two loops, column by column -/

@[expose] public section
set_option maxRecDepth 16384
noncomputable section
namespace Cert.KernelIdeal.Gru

open Idealize.ShloMosaic Idealize.ShloMosaic.TcCoe
open Cert.KernelIdeal Cert.KernelIdeal.Gen Cert.Gru

/-- The four strips hold `f`, column by column. -/
def AllAt (s : Strip Ideal × Strip Ideal × Strip Ideal × Strip Ideal) (f : Fin 2048 → Fin 64 → EReal) : Prop :=
  At s.1 f 0 ∧ At s.2.1 f 1 ∧ At s.2.2.1 f 2 ∧ At s.2.2.2 f 3

/-- A block of ids, read strip by strip and step by step, is `id`. -/
def IdsAre (M : Memref sig .tc .vmem S20x1x2048 .i16) (X : BufTy.Contents (Elt Ideal) M.view.ty) (id : Fin 2048 → ℕ → Fin 512) : Prop :=
  ∀ (t : Fin 20) (j : Fin 4) (off : Fin 3 → ℕ) (inb : ∀ a, off a + S1x1x512.size a ≤ S20x1x2048.size a),
    off = ![t.val, 0, 512 * j.val] → ∀ q : Fin 512,
      (M.view.readAt (Elt Ideal) (Rect.unit (s := S20x1x2048) off S1x1x512.size inb).toLoadRect X (ix3 0 0 q) : BitVec 16).toNat = (id (colOf j q) t.val).val

theorem idsAre_unread (M : Memref sig .tc .vmem S20x1x2048 .i16) (hM : M.IsWhole) (ids : Vec Ideal S20x1x2048 .i16)
    (id : Fin 2048 → ℕ → Fin 512) (h : ∀ (t : Fin 20) (c : Fin 2048), (ids (ix3 t 0 c)).toNat = (id c t.val).val) :
    IdsAre M (hM.unread ids) id := by
  intro t j off inb hoff q
  rw [read_ids M hM ids off inb t j hoff q]
  exact h t _

/-- A length strip's values. -/
def LensAre (l : IVec S1x512 32) (len : Fin 2048 → ℤ) (j : Fin 4) : Prop := ∀ q : Fin 512, (l (ix2 0 q)).toInt = len (colOf j q)

theorem off3_at (v : BitVec 32) (k : Fin (k0_t1_loop v).trips) (hk : k.val < 20) : k0_off3 v k = ![k.val, 0, 512 * ((0 : Fin 4)).val] := by
  show ![(Scf.iv 0#32 1#32 k.val).toNat, 0, 0] = _
  rw [iv_toNat hk]
  rfl

theorem off4_at (v : BitVec 32) (k : Fin (k0_t1_loop v).trips) (hk : k.val < 20) : k0_off4 v k = ![k.val, 0, 512 * ((1 : Fin 4)).val] := by
  show ![(Scf.iv 0#32 1#32 k.val).toNat, 0, 512] = _
  rw [iv_toNat hk]
  rfl

theorem off5_at (v : BitVec 32) (k : Fin (k0_t1_loop v).trips) (hk : k.val < 20) : k0_off5 v k = ![k.val, 0, 512 * ((2 : Fin 4)).val] := by
  show ![(Scf.iv 0#32 1#32 k.val).toNat, 0, 1024] = _
  rw [iv_toNat hk]
  rfl

theorem off6_at (v : BitVec 32) (k : Fin (k0_t1_loop v).trips) (hk : k.val < 20) : k0_off6 v k = ![k.val, 0, 512 * ((3 : Fin 4)).val] := by
  show ![(Scf.iv 0#32 1#32 k.val).toNat, 0, 1536] = _
  rw [iv_toNat hk]
  rfl

theorem off11_at (v : BitVec 32) (k : Fin (k0_t3_loop v).trips) (hk : k.val < 20) : k0_off11 v k = ![k.val, 0, 512 * ((0 : Fin 4)).val] := by
  show ![(Scf.iv 0#32 1#32 k.val).toNat, 0, 0] = _
  rw [iv_toNat hk]
  rfl

theorem off12_at (v : BitVec 32) (k : Fin (k0_t3_loop v).trips) (hk : k.val < 20) : k0_off12 v k = ![k.val, 0, 512 * ((1 : Fin 4)).val] := by
  show ![(Scf.iv 0#32 1#32 k.val).toNat, 0, 512] = _
  rw [iv_toNat hk]
  rfl

theorem off13_at (v : BitVec 32) (k : Fin (k0_t3_loop v).trips) (hk : k.val < 20) : k0_off13 v k = ![k.val, 0, 512 * ((2 : Fin 4)).val] := by
  show ![(Scf.iv 0#32 1#32 k.val).toNat, 0, 1024] = _
  rw [iv_toNat hk]
  rfl

theorem off14_at (v : BitVec 32) (k : Fin (k0_t3_loop v).trips) (hk : k.val < 20) : k0_off14 v k = ![k.val, 0, 512 * ((3 : Fin 4)).val] := by
  show ![(Scf.iv 0#32 1#32 k.val).toNat, 0, 1536] = _
  rw [iv_toNat hk]
  rfl

theorem off15_at (v : BitVec 32) (k : Fin (k0_t3_loop v).trips) (hk : k.val < 20) : k0_off15 v k = ![k.val, 0, 512 * ((0 : Fin 4)).val] := by
  show ![(Scf.iv 0#32 1#32 k.val).toNat, 0, 0] = _
  rw [iv_toNat hk]
  rfl

theorem off16_at (v : BitVec 32) (k : Fin (k0_t3_loop v).trips) (hk : k.val < 20) : k0_off16 v k = ![k.val, 0, 512 * ((1 : Fin 4)).val] := by
  show ![(Scf.iv 0#32 1#32 k.val).toNat, 0, 512] = _
  rw [iv_toNat hk]
  rfl

theorem off17_at (v : BitVec 32) (k : Fin (k0_t3_loop v).trips) (hk : k.val < 20) : k0_off17 v k = ![k.val, 0, 512 * ((2 : Fin 4)).val] := by
  show ![(Scf.iv 0#32 1#32 k.val).toNat, 0, 1024] = _
  rw [iv_toNat hk]
  rfl

theorem off18_at (v : BitVec 32) (k : Fin (k0_t3_loop v).trips) (hk : k.val < 20) : k0_off18 v k = ![k.val, 0, 512 * ((3 : Fin 4)).val] := by
  show ![(Scf.iv 0#32 1#32 k.val).toNat, 0, 1536] = _
  rw [iv_toNat hk]
  rfl

theorem enc_loop (𝒱 : Variants) (c : Dev nD) (bd : Option 𝒱.V) (i : grid0.Coords) (arg1 : Memref sig .tc .smem S8x2 .i32) (harg1 : arg1.IsWhole) (arg2 : Memref sig .tc .vmem S20x1x2048 .i16) (harg2 : arg2.IsWhole) (arg3 : Memref sig .tc .vmem S1x2048 .i32) (harg3 : arg3.IsWhole) (arg4 : Memref sig .tc .vmem S20x1x2048 .i16) (harg4 : arg4.IsWhole) (arg5 : Memref sig .tc .vmem S1x2048 .i32) (harg5 : arg5.IsWhole) (arg6 : Memref sig .tc .vmem S64x512 .f32) (harg6 : arg6.IsWhole) (arg7 : Memref sig .tc .vmem S192x64 .f32) (harg7 : arg7.IsWhole) (arg8 : Memref sig .tc .vmem S192x64 .f32) (harg8 : arg8.IsWhole) (arg9 : Memref sig .tc .vmem S192x1 .f32) (harg9 : arg9.IsWhole) (arg10 : Memref sig .tc .vmem S192x64 .f32) (harg10 : arg10.IsWhole) (arg11 : Memref sig .tc .vmem S192x64 .f32) (harg11 : arg11.IsWhole) (arg12 : Memref sig .tc .vmem S192x1 .f32) (harg12 : arg12.IsWhole) (arg13 : Memref sig .tc .vmem S192x1 .f32) (harg13 : arg13.IsWhole) (arg14 : Memref sig .tc .vmem S192x1 .f32) (harg14 : arg14.IsWhole) (arg15 : Memref sig .tc .vmem S20x64x2048 .f32) (harg15 : arg15.IsWhole) (arg16 : Memref sig .tc .vmem S192x512 .bf16) (harg16 : arg16.IsWhole) (arg17 : Memref sig .tc .vmem S192x512 .bf16) (harg17 : arg17.IsWhole) (v1 : Elt Ideal .i32) (k0_hw1 : k0_chk1 v1) (v10 : FVec Ideal S192x64 .bf16) (v16 : FVec Ideal S192x512 .f32) (v22 : IVec S1x512 32) (v24 : IVec S1x512 32) (v26 : IVec S1x512 32) (v28 : IVec S1x512 32) (X_arg2 : BufTy.Contents (Elt Ideal) arg2.view.ty) (X_arg16 : BufTy.Contents (Elt Ideal) arg16.view.ty) (init : FVec Ideal S64x512 .f32 × FVec Ideal S64x512 .f32 × FVec Ideal S64x512 .f32 × FVec Ideal S64x512 .f32)
    {tab : Vec Ideal S192x512 .bf16} {bb : Fin 192 → EReal} {len : Fin 2048 → ℤ} {id : Fin 2048 → ℕ → Fin 512} {h0 : Fin 2048 → Fin 64 → EReal}
    (hids : IdsAre arg2 X_arg2 id)
    (htab : arg16.view.readAt (Elt Ideal) (Rect.unit (s := S192x512) ![0, 0] S192x512.size inb_S192x512_S192x512_0_0).toLoadRect X_arg16 = tab)
    (hb : ∀ g q, v16 (ix2 g q) = bb g)
    (hl0 : LensAre v22 len 0)
    (hl1 : LensAre v24 len 1)
    (hl2 : LensAre v26 len 2)
    (hl3 : LensAre v28 len 3)
    (hi : AllAt init h0) (ht : (k0_t1_loop v1).trips ≤ 20) :
    ∀ n, n ≤ (k0_t1_loop v1).trips → AllAt (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw1 k0_pay94 v10 v16 v22 v24 v26 v28 (FloatOps.ofBits FTy.bf16 16256#16) (FloatOps.ofBits FTy.bf16 0#16) X_arg2 X_arg16 init n) (runOf tab v10 bb len id h0 n) := by
  intro n
  induction n with
  | zero => intro _; exact hi
  | succ n ih =>
    intro hn
    have hk : n < 20 := by omega
    obtain ⟨a0, a1, a2, a3⟩ := ih (by omega)
    have e := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw1 k0_pay94 v10 v16 v22 v24 v26 v28 (FloatOps.ofBits FTy.bf16 16256#16) (FloatOps.ofBits FTy.bf16 0#16) X_arg2 X_arg16 init ⟨n, hn⟩
    rw [encTrip, htab] at e
    rw [show (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw1 k0_pay94 v10 v16 v22 v24 v26 v28 (FloatOps.ofBits FTy.bf16 16256#16) (FloatOps.ofBits FTy.bf16 0#16) X_arg2 X_arg16 init (n + 1)) = _ from e]
    exact ⟨strip_step hb hl0 hk (hids ⟨n, hk⟩ 0 _ _ (off3_at v1 ⟨n, hn⟩ hk)) a0,
      strip_step hb hl1 hk (hids ⟨n, hk⟩ 1 _ _ (off4_at v1 ⟨n, hn⟩ hk)) a1,
      strip_step hb hl2 hk (hids ⟨n, hk⟩ 2 _ _ (off5_at v1 ⟨n, hn⟩ hk)) a2,
      strip_step hb hl3 hk (hids ⟨n, hk⟩ 3 _ _ (off6_at v1 ⟨n, hn⟩ hk)) a3⟩

theorem dec_loop (𝒱 : Variants) (c : Dev nD) (bd : Option 𝒱.V) (i : grid0.Coords) (arg1 : Memref sig .tc .smem S8x2 .i32) (harg1 : arg1.IsWhole) (arg2 : Memref sig .tc .vmem S20x1x2048 .i16) (harg2 : arg2.IsWhole) (arg3 : Memref sig .tc .vmem S1x2048 .i32) (harg3 : arg3.IsWhole) (arg4 : Memref sig .tc .vmem S20x1x2048 .i16) (harg4 : arg4.IsWhole) (arg5 : Memref sig .tc .vmem S1x2048 .i32) (harg5 : arg5.IsWhole) (arg6 : Memref sig .tc .vmem S64x512 .f32) (harg6 : arg6.IsWhole) (arg7 : Memref sig .tc .vmem S192x64 .f32) (harg7 : arg7.IsWhole) (arg8 : Memref sig .tc .vmem S192x64 .f32) (harg8 : arg8.IsWhole) (arg9 : Memref sig .tc .vmem S192x1 .f32) (harg9 : arg9.IsWhole) (arg10 : Memref sig .tc .vmem S192x64 .f32) (harg10 : arg10.IsWhole) (arg11 : Memref sig .tc .vmem S192x64 .f32) (harg11 : arg11.IsWhole) (arg12 : Memref sig .tc .vmem S192x1 .f32) (harg12 : arg12.IsWhole) (arg13 : Memref sig .tc .vmem S192x1 .f32) (harg13 : arg13.IsWhole) (arg14 : Memref sig .tc .vmem S192x1 .f32) (harg14 : arg14.IsWhole) (arg15 : Memref sig .tc .vmem S20x64x2048 .f32) (harg15 : arg15.IsWhole) (arg16 : Memref sig .tc .vmem S192x512 .bf16) (harg16 : arg16.IsWhole) (arg17 : Memref sig .tc .vmem S192x512 .bf16) (harg17 : arg17.IsWhole) (v3 : Elt Ideal .i32) (k0_hw2 : k0_chk2 v3) (v12 : FVec Ideal S192x64 .bf16) (v20 : FVec Ideal S192x512 .f32) (v30 : IVec S1x512 32) (v31 : Vec Ideal S1x512 .i32) (v33 : Vec Ideal S1x512 .i32) (v35 : Vec Ideal S1x512 .i32) (X_arg4 : BufTy.Contents (Elt Ideal) arg4.view.ty) (X_arg17 : BufTy.Contents (Elt Ideal) arg17.view.ty) (init : FVec Ideal S64x512 .f32 × FVec Ideal S64x512 .f32 × FVec Ideal S64x512 .f32 × FVec Ideal S64x512 .f32)
    {tab : Vec Ideal S192x512 .bf16} {bb : Fin 192 → EReal} {len : Fin 2048 → ℤ} {id : Fin 2048 → ℕ → Fin 512} {h0 : Fin 2048 → Fin 64 → EReal}
    (hids : IdsAre arg4 X_arg4 id)
    (htab : arg17.view.readAt (Elt Ideal) (Rect.unit (s := S192x512) ![0, 0] S192x512.size inb_S192x512_S192x512_0_0).toLoadRect X_arg17 = tab)
    (hb : ∀ g q, v20 (ix2 g q) = bb g)
    (hl0 : LensAre v30 len 0)
    (hl1 : LensAre (k0_pay1 (F := Ideal) v31) len 1)
    (hl2 : LensAre (k0_pay2 (F := Ideal) v33) len 2)
    (hl3 : LensAre (k0_pay3 (F := Ideal) v35) len 3)
    (hi : AllAt init h0) (ht : (k0_t3_loop v3).trips ≤ 20) :
    ∀ n, n ≤ (k0_t3_loop v3).trips → AllAt (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw2 k0_pay94 v12 v20 v30 v31 v33 v35 (FloatOps.ofBits FTy.bf16 16256#16) (FloatOps.ofBits FTy.bf16 0#16) X_arg4 X_arg17 init n).1 (runOf tab v12 bb len id h0 n) := by
  intro n
  induction n with
  | zero => intro _; exact hi
  | succ n ih =>
    intro hn
    have hk : n < 20 := by omega
    obtain ⟨a0, a1, a2, a3⟩ := ih (by omega)
    have e := st_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw2 k0_pay94 v12 v20 v30 v31 v33 v35 (FloatOps.ofBits FTy.bf16 16256#16) (FloatOps.ofBits FTy.bf16 0#16) X_arg4 X_arg17 init ⟨n, hn⟩
    rw [decTrip, htab] at e
    rw [show (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw2 k0_pay94 v12 v20 v30 v31 v33 v35 (FloatOps.ofBits FTy.bf16 16256#16) (FloatOps.ofBits FTy.bf16 0#16) X_arg4 X_arg17 init (n + 1)) = _ from e]
    exact ⟨strip_step hb hl0 hk (hids ⟨n, hk⟩ 0 _ _ (off11_at v3 ⟨n, hn⟩ hk)) a0,
      strip_step hb hl1 hk (hids ⟨n, hk⟩ 1 _ _ (off12_at v3 ⟨n, hn⟩ hk)) a1,
      strip_step hb hl2 hk (hids ⟨n, hk⟩ 2 _ _ (off13_at v3 ⟨n, hn⟩ hk)) a2,
      strip_step hb hl3 hk (hids ⟨n, hk⟩ 3 _ _ (off14_at v3 ⟨n, hn⟩ hk)) a3⟩

theorem dec_loop_pieces (𝒱 : Variants) (c : Dev nD) (bd : Option 𝒱.V) (i : grid0.Coords) (arg1 : Memref sig .tc .smem S8x2 .i32) (harg1 : arg1.IsWhole) (arg2 : Memref sig .tc .vmem S20x1x2048 .i16) (harg2 : arg2.IsWhole) (arg3 : Memref sig .tc .vmem S1x2048 .i32) (harg3 : arg3.IsWhole) (arg4 : Memref sig .tc .vmem S20x1x2048 .i16) (harg4 : arg4.IsWhole) (arg5 : Memref sig .tc .vmem S1x2048 .i32) (harg5 : arg5.IsWhole) (arg6 : Memref sig .tc .vmem S64x512 .f32) (harg6 : arg6.IsWhole) (arg7 : Memref sig .tc .vmem S192x64 .f32) (harg7 : arg7.IsWhole) (arg8 : Memref sig .tc .vmem S192x64 .f32) (harg8 : arg8.IsWhole) (arg9 : Memref sig .tc .vmem S192x1 .f32) (harg9 : arg9.IsWhole) (arg10 : Memref sig .tc .vmem S192x64 .f32) (harg10 : arg10.IsWhole) (arg11 : Memref sig .tc .vmem S192x64 .f32) (harg11 : arg11.IsWhole) (arg12 : Memref sig .tc .vmem S192x1 .f32) (harg12 : arg12.IsWhole) (arg13 : Memref sig .tc .vmem S192x1 .f32) (harg13 : arg13.IsWhole) (arg14 : Memref sig .tc .vmem S192x1 .f32) (harg14 : arg14.IsWhole) (arg15 : Memref sig .tc .vmem S20x64x2048 .f32) (harg15 : arg15.IsWhole) (arg16 : Memref sig .tc .vmem S192x512 .bf16) (harg16 : arg16.IsWhole) (arg17 : Memref sig .tc .vmem S192x512 .bf16) (harg17 : arg17.IsWhole) (v3 : Elt Ideal .i32) (k0_hw2 : k0_chk2 v3) (v12 : FVec Ideal S192x64 .bf16) (v20 : FVec Ideal S192x512 .f32) (v30 : IVec S1x512 32) (v31 : Vec Ideal S1x512 .i32) (v33 : Vec Ideal S1x512 .i32) (v35 : Vec Ideal S1x512 .i32) (X_arg4 : BufTy.Contents (Elt Ideal) arg4.view.ty) (X_arg17 : BufTy.Contents (Elt Ideal) arg17.view.ty) (init : FVec Ideal S64x512 .f32 × FVec Ideal S64x512 .f32 × FVec Ideal S64x512 .f32 × FVec Ideal S64x512 .f32)
    {tab : Vec Ideal S192x512 .bf16} {bb : Fin 192 → EReal} {len : Fin 2048 → ℤ} {id : Fin 2048 → ℕ → Fin 512} {h0 : Fin 2048 → Fin 64 → EReal}
    (hids : IdsAre arg4 X_arg4 id)
    (htab : arg17.view.readAt (Elt Ideal) (Rect.unit (s := S192x512) ![0, 0] S192x512.size inb_S192x512_S192x512_0_0).toLoadRect X_arg17 = tab)
    (hb : ∀ g q, v20 (ix2 g q) = bb g)
    (hl0 : LensAre v30 len 0)
    (hl1 : LensAre (k0_pay1 (F := Ideal) v31) len 1)
    (hl2 : LensAre (k0_pay2 (F := Ideal) v33) len 2)
    (hl3 : LensAre (k0_pay3 (F := Ideal) v35) len 3)
    (hi : AllAt init h0) (ht : (k0_t3_loop v3).trips ≤ 20) (tail : List (View.Piece (Elt Ideal) S20x64x2048 .f32)) :
    ∀ n, n ≤ (k0_t3_loop v3).trips → ∀ (t : Fin 20) (p : Fin 64) (jj : Fin 4) (q : Fin 512),
      View.canon ((st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw2 k0_pay94 v12 v20 v30 v31 v33 v35 (FloatOps.ofBits FTy.bf16 16256#16) (FloatOps.ofBits FTy.bf16 0#16) X_arg4 X_arg17 init n).2 ++ tail) (ix3 t p (colOf jj q))
        = if t.val < n then outOf tab v12 bb len id h0 t.val (colOf jj q) p else View.canon tail (ix3 t p (colOf jj q)) := by
  intro n
  induction n with
  | zero => intro _ t p jj q; rfl
  | succ n ih =>
    intro hn t p jj q
    have hk : n < 20 := by omega
    have ih' := ih (by omega) t p jj q
    obtain ⟨a0, a1, a2, a3⟩ := dec_loop 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw2 v12 v20 v30 v31 v33 v35 X_arg4 X_arg17 init hids htab hb hl0 hl1 hl2 hl3 hi ht n (by omega)
    have e := st_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw2 k0_pay94 v12 v20 v30 v31 v33 v35 (FloatOps.ofBits FTy.bf16 16256#16) (FloatOps.ofBits FTy.bf16 0#16) X_arg4 X_arg17 init ⟨n, hn⟩
    rw [decPieces, htab] at e
    rw [show (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw2 k0_pay94 v12 v20 v30 v31 v33 v35 (FloatOps.ofBits FTy.bf16 16256#16) (FloatOps.ofBits FTy.bf16 0#16) X_arg4 X_arg17 init (n + 1)) = _ from e]
    simp only [List.cons_append, List.nil_append]
    rw [canon_put _ _ _ _ ⟨n, hk⟩ 3 (off18_at v3 ⟨n, hn⟩ hk), canon_put _ _ _ _ ⟨n, hk⟩ 2 (off17_at v3 ⟨n, hn⟩ hk),
      canon_put _ _ _ _ ⟨n, hk⟩ 1 (off16_at v3 ⟨n, hn⟩ hk), canon_put _ _ _ _ ⟨n, hk⟩ 0 (off15_at v3 ⟨n, hn⟩ hk), ih']
    by_cases hte : t = ⟨n, hk⟩
    · subst hte
      rw [if_pos (Nat.lt_succ_self n)]
      obtain rfl | rfl | rfl | rfl : jj = 0 ∨ jj = 1 ∨ jj = 2 ∨ jj = 3 := by fin_cases jj <;> simp
      · rw [if_neg (fun h => absurd h.2 (by decide)), if_neg (fun h => absurd h.2 (by decide)), if_neg (fun h => absurd h.2 (by decide)), if_pos ⟨rfl, rfl⟩]
        exact strip_put hb hl0 hk (hids ⟨n, hk⟩ 0 _ _ (off11_at v3 ⟨n, hn⟩ hk)) a0 p q
      · rw [if_neg (fun h => absurd h.2 (by decide)), if_neg (fun h => absurd h.2 (by decide)), if_pos ⟨rfl, rfl⟩]
        exact strip_put hb hl1 hk (hids ⟨n, hk⟩ 1 _ _ (off12_at v3 ⟨n, hn⟩ hk)) a1 p q
      · rw [if_neg (fun h => absurd h.2 (by decide)), if_pos ⟨rfl, rfl⟩]
        exact strip_put hb hl2 hk (hids ⟨n, hk⟩ 2 _ _ (off13_at v3 ⟨n, hn⟩ hk)) a2 p q
      · rw [if_pos ⟨rfl, rfl⟩]
        exact strip_put hb hl3 hk (hids ⟨n, hk⟩ 3 _ _ (off14_at v3 ⟨n, hn⟩ hk)) a3 p q
    · have hne : t.val ≠ n := fun h => hte (Fin.ext h)
      rw [if_neg (fun h => hte h.1), if_neg (fun h => hte h.1), if_neg (fun h => hte h.1), if_neg (fun h => hte h.1)]
      by_cases hlt : t.val < n
      · rw [if_pos hlt, if_pos (by omega)]
      · rw [if_neg hlt, if_neg (by omega)]

end Cert.KernelIdeal.Gru
-- ==== Proof.KBlock.lean ====
module

public import proofs.«01_k».proof.Proof.KPieces
public import proofs.«01_k».proof.Proof.KLoop

/-! # One block of the output -/

@[expose] public section
set_option maxRecDepth 16384
noncomputable section
namespace Cert.KernelIdeal.Gru

open Idealize.ShloMosaic Idealize.ShloMosaic.TcCoe
open Cert.KernelIdeal Cert.KernelIdeal.Gen Cert.Gru

theorem trips1 : ∀ n : Fin 21, (k0_t1_loop (BitVec.ofNat 32 n.val)).trips = n.val := by decide +kernel
theorem trips2 : ∀ n : Fin 21, (k0_t2_loop (BitVec.ofNat 32 n.val)).trips = 0 := by decide +kernel
theorem trips3 : ∀ n : Fin 21, (k0_t3_loop (BitVec.ofNat 32 n.val)).trips = n.val := by decide +kernel
theorem trips4 : ∀ n : Fin 21, (k0_t4_loop (BitVec.ofNat 32 n.val)).trips = 0 := by decide +kernel

theorem w_enc (X : Vec Ideal S192x64 .f32) : (k0_pay95 X : FVec Ideal S192x64 .bf16) = X := rfl
theorem w_dec (X : Vec Ideal S192x64 .f32) : (k0_pay96 X : FVec Ideal S192x64 .bf16) = X := rfl

theorem b_enc (X : Vec Ideal S192x1 .f32) (g : Fin 192) (q : Fin 512) : k0_pay97 X (ix2 g q) = X (ix2 g 0) := by
  pointwise [k0_pay97]
theorem b_dec (X : Vec Ideal S192x1 .f32) (g : Fin 192) (q : Fin 512) : k0_pay98 X (ix2 g q) = X (ix2 g 0) := by
  pointwise [k0_pay98]

theorem len0 (X : Vec Ideal S1x512 .i32) (q : Fin 512) : k0_pay99 (F := Ideal) X (ix2 0 q) = X (ix2 0 q) := by
  pointwise [k0_pay99]
theorem len1 (X : Vec Ideal S1x512 .i32) (q : Fin 512) : k0_pay100 (F := Ideal) X (ix2 0 q) = X (ix2 0 q) := by
  pointwise [k0_pay100]
theorem len2 (X : Vec Ideal S1x512 .i32) (q : Fin 512) : k0_pay101 (F := Ideal) X (ix2 0 q) = X (ix2 0 q) := by
  pointwise [k0_pay101]
theorem len3 (X : Vec Ideal S1x512 .i32) (q : Fin 512) : k0_pay102 (F := Ideal) X (ix2 0 q) = X (ix2 0 q) := by
  pointwise [k0_pay102]
theorem len4 (X : Vec Ideal S1x512 .i32) (q : Fin 512) : k0_pay103 (F := Ideal) X (ix2 0 q) = X (ix2 0 q) := by
  pointwise [k0_pay103]
theorem len5 (X : Vec Ideal S1x512 .i32) (q : Fin 512) : k0_pay1 (F := Ideal) X (ix2 0 q) = X (ix2 0 q) := by
  pointwise [k0_pay1]
theorem len6 (X : Vec Ideal S1x512 .i32) (q : Fin 512) : k0_pay2 (F := Ideal) X (ix2 0 q) = X (ix2 0 q) := by
  pointwise [k0_pay2]
theorem len7 (X : Vec Ideal S1x512 .i32) (q : Fin 512) : k0_pay3 (F := Ideal) X (ix2 0 q) = X (ix2 0 q) := by
  pointwise [k0_pay3]

theorem start_zero : AllAt ((k0_pay5, k0_pay6, k0_pay7, k0_pay8) : Strip Ideal × Strip Ideal × Strip Ideal × Strip Ideal) (fun _ _ => 0) := by
  refine ⟨fun p q => ?_, fun p q => ?_, fun p q => ?_, fun p q => ?_⟩
  · pointwise [k0_pay5]
  · pointwise [k0_pay6]
  · pointwise [k0_pay7]
  · pointwise [k0_pay8]

theorem fill_zero (inb) (t : Fin 20) (p : Fin 64) (c : Fin 2048) :
    View.canon ([⟨Rect.unit (s := S20x64x2048) ![0, 0, 0] S20x64x2048.size inb, k0_pay4 (F := Ideal)⟩] : List (View.Piece (Elt Ideal) S20x64x2048 .f32)) (ix3 t p c) = 0 := by
  rw [View.canon_unit_zero (by funext k; fin_cases k <;> rfl)]
  pointwise [k0_pay4]

theorem rest2 {𝒱 : Variants} {c : Dev nD} {bd : Option 𝒱.V} {i : grid0.Coords} {arg1 : Memref sig .tc .smem S8x2 .i32} {harg1 : arg1.IsWhole} {arg2 : Memref sig .tc .vmem S20x1x2048 .i16} {harg2 : arg2.IsWhole} {arg3 : Memref sig .tc .vmem S1x2048 .i32} {harg3 : arg3.IsWhole} {arg4 : Memref sig .tc .vmem S20x1x2048 .i16} {harg4 : arg4.IsWhole} {arg5 : Memref sig .tc .vmem S1x2048 .i32} {harg5 : arg5.IsWhole} {arg6 : Memref sig .tc .vmem S64x512 .f32} {harg6 : arg6.IsWhole} {arg7 : Memref sig .tc .vmem S192x64 .f32} {harg7 : arg7.IsWhole} {arg8 : Memref sig .tc .vmem S192x64 .f32} {harg8 : arg8.IsWhole} {arg9 : Memref sig .tc .vmem S192x1 .f32} {harg9 : arg9.IsWhole} {arg10 : Memref sig .tc .vmem S192x64 .f32} {harg10 : arg10.IsWhole} {arg11 : Memref sig .tc .vmem S192x64 .f32} {harg11 : arg11.IsWhole} {arg12 : Memref sig .tc .vmem S192x1 .f32} {harg12 : arg12.IsWhole} {arg13 : Memref sig .tc .vmem S192x1 .f32} {harg13 : arg13.IsWhole} {arg14 : Memref sig .tc .vmem S192x1 .f32} {harg14 : arg14.IsWhole} {arg15 : Memref sig .tc .vmem S20x64x2048 .f32} {harg15 : arg15.IsWhole} {arg16 : Memref sig .tc .vmem S192x512 .bf16} {harg16 : arg16.IsWhole} {arg17 : Memref sig .tc .vmem S192x512 .bf16} {harg17 : arg17.IsWhole} {v1 : Elt Ideal .i32} {k0_hw1 : k0_chk1 v1} {v8 : IVec S512x1 16} {v10 : FVec Ideal S192x64 .bf16} {v16 : FVec Ideal S192x512 .f32} {v22 : IVec S1x512 32} {v24 : IVec S1x512 32} {v26 : IVec S1x512 32} {v28 : IVec S1x512 32} {cst_29 : Ideal .bf16} {cst_30 : Ideal .bf16} {v47 : BitVec 32} {X_arg2 : BufTy.Contents (Elt Ideal) arg2.view.ty} {X_arg16 : BufTy.Contents (Elt Ideal) arg16.view.ty} {init : FVec Ideal S64x512 .f32 × FVec Ideal S64x512 .f32 × FVec Ideal S64x512 .f32 × FVec Ideal S64x512 .f32} (h : (k0_t2_loop v1).trips = 0) :
    st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw1 v8 v10 v16 v22 v24 v26 v28 cst_29 cst_30 v47 X_arg2 X_arg16 init (k0_t2_loop v1).trips = init := by
  rw [h]; rfl

theorem rest4 {𝒱 : Variants} {c : Dev nD} {bd : Option 𝒱.V} {i : grid0.Coords} {arg1 : Memref sig .tc .smem S8x2 .i32} {harg1 : arg1.IsWhole} {arg2 : Memref sig .tc .vmem S20x1x2048 .i16} {harg2 : arg2.IsWhole} {arg3 : Memref sig .tc .vmem S1x2048 .i32} {harg3 : arg3.IsWhole} {arg4 : Memref sig .tc .vmem S20x1x2048 .i16} {harg4 : arg4.IsWhole} {arg5 : Memref sig .tc .vmem S1x2048 .i32} {harg5 : arg5.IsWhole} {arg6 : Memref sig .tc .vmem S64x512 .f32} {harg6 : arg6.IsWhole} {arg7 : Memref sig .tc .vmem S192x64 .f32} {harg7 : arg7.IsWhole} {arg8 : Memref sig .tc .vmem S192x64 .f32} {harg8 : arg8.IsWhole} {arg9 : Memref sig .tc .vmem S192x1 .f32} {harg9 : arg9.IsWhole} {arg10 : Memref sig .tc .vmem S192x64 .f32} {harg10 : arg10.IsWhole} {arg11 : Memref sig .tc .vmem S192x64 .f32} {harg11 : arg11.IsWhole} {arg12 : Memref sig .tc .vmem S192x1 .f32} {harg12 : arg12.IsWhole} {arg13 : Memref sig .tc .vmem S192x1 .f32} {harg13 : arg13.IsWhole} {arg14 : Memref sig .tc .vmem S192x1 .f32} {harg14 : arg14.IsWhole} {arg15 : Memref sig .tc .vmem S20x64x2048 .f32} {harg15 : arg15.IsWhole} {arg16 : Memref sig .tc .vmem S192x512 .bf16} {harg16 : arg16.IsWhole} {arg17 : Memref sig .tc .vmem S192x512 .bf16} {harg17 : arg17.IsWhole} {v3 : Elt Ideal .i32} {k0_hw2 : k0_chk2 v3} {v8 : IVec S512x1 16} {v12 : FVec Ideal S192x64 .bf16} {v20 : FVec Ideal S192x512 .f32} {v30 : IVec S1x512 32} {v31 : Vec Ideal S1x512 .i32} {v33 : Vec Ideal S1x512 .i32} {v35 : Vec Ideal S1x512 .i32} {cst_34 : Ideal .bf16} {cst_35 : Ideal .bf16} {v54 : BitVec 32} {X_arg4 : BufTy.Contents (Elt Ideal) arg4.view.ty} {X_arg17 : BufTy.Contents (Elt Ideal) arg17.view.ty} {init : FVec Ideal S64x512 .f32 × FVec Ideal S64x512 .f32 × FVec Ideal S64x512 .f32 × FVec Ideal S64x512 .f32} (h : (k0_t4_loop v3).trips = 0) :
    (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw2 v8 v12 v20 v30 v31 v33 v35 cst_34 cst_35 v54 X_arg4 X_arg17 init (k0_t4_loop v3).trips).2 = [] := by
  rw [h]; rfl

theorem block_core (c : Dev nD) (i : grid0.Coords) (arg1 : Memref sig .tc .smem S8x2 .i32) (harg1 : arg1.IsWhole) (arg2 : Memref sig .tc .vmem S20x1x2048 .i16) (harg2 : arg2.IsWhole) (arg3 : Memref sig .tc .vmem S1x2048 .i32) (harg3 : arg3.IsWhole) (arg4 : Memref sig .tc .vmem S20x1x2048 .i16) (harg4 : arg4.IsWhole) (arg5 : Memref sig .tc .vmem S1x2048 .i32) (harg5 : arg5.IsWhole) (arg6 : Memref sig .tc .vmem S64x512 .f32) (harg6 : arg6.IsWhole) (arg7 : Memref sig .tc .vmem S192x64 .f32) (harg7 : arg7.IsWhole) (arg8 : Memref sig .tc .vmem S192x64 .f32) (harg8 : arg8.IsWhole) (arg9 : Memref sig .tc .vmem S192x1 .f32) (harg9 : arg9.IsWhole) (arg10 : Memref sig .tc .vmem S192x64 .f32) (harg10 : arg10.IsWhole) (arg11 : Memref sig .tc .vmem S192x64 .f32) (harg11 : arg11.IsWhole) (arg12 : Memref sig .tc .vmem S192x1 .f32) (harg12 : arg12.IsWhole) (arg13 : Memref sig .tc .vmem S192x1 .f32) (harg13 : arg13.IsWhole) (arg14 : Memref sig .tc .vmem S192x1 .f32) (harg14 : arg14.IsWhole) (arg15 : Memref sig .tc .vmem S20x64x2048 .f32) (harg15 : arg15.IsWhole) (arg16 : Memref sig .tc .vmem S192x512 .bf16) (harg16 : arg16.IsWhole) (arg17 : Memref sig .tc .vmem S192x512 .bf16) (harg17 : arg17.IsWhole) (v1 : Elt Ideal .i32) (k0_hw1 : k0_chk1 v1) (v10 : FVec Ideal S192x64 .bf16) (v16 : FVec Ideal S192x512 .f32) (v22 : IVec S1x512 32) (v24 : IVec S1x512 32) (v26 : IVec S1x512 32) (v28 : IVec S1x512 32) (X_arg2 : BufTy.Contents (Elt Ideal) arg2.view.ty) (X_arg16 : BufTy.Contents (Elt Ideal) arg16.view.ty) (v3 : Elt Ideal .i32) (k0_hw2 : k0_chk2 v3) (v12 : FVec Ideal S192x64 .bf16) (v20 : FVec Ideal S192x512 .f32) (v30 : IVec S1x512 32) (v31 : Vec Ideal S1x512 .i32) (v33 : Vec Ideal S1x512 .i32) (v35 : Vec Ideal S1x512 .i32) (X_arg4 : BufTy.Contents (Elt Ideal) arg4.view.ty) (X_arg17 : BufTy.Contents (Elt Ideal) arg17.view.ty) {tabE tabD : Vec Ideal S192x512 .bf16}
    {bbE bbD : Fin 192 → EReal} {lenE lenD : Fin 2048 → ℤ} {idE idD : Fin 2048 → ℕ → Fin 512} (E D : Fin 21)
    (hv1 : v1 = BitVec.ofNat 32 E.val) (hv3 : v3 = BitVec.ofNat 32 D.val)
    (hidE : IdsAre arg2 X_arg2 idE) (hidD : IdsAre arg4 X_arg4 idD)
    (htE : arg16.view.readAt (Elt Ideal) (Rect.unit (s := S192x512) ![0, 0] S192x512.size inb_S192x512_S192x512_0_0).toLoadRect X_arg16 = tabE) (htD : arg17.view.readAt (Elt Ideal) (Rect.unit (s := S192x512) ![0, 0] S192x512.size inb_S192x512_S192x512_0_0).toLoadRect X_arg17 = tabD)
    (hbE : ∀ g q, v16 (ix2 g q) = bbE g) (hbD : ∀ g q, v20 (ix2 g q) = bbD g)
    (hl0 : LensAre v22 lenE 0) (hl1 : LensAre v24 lenE 1) (hl2 : LensAre v26 lenE 2) (hl3 : LensAre v28 lenE 3)
    (hm0 : LensAre v30 lenD 0) (hm1 : LensAre (k0_pay1 (F := Ideal) v31) lenD 1) (hm2 : LensAre (k0_pay2 (F := Ideal) v33) lenD 2) (hm3 : LensAre (k0_pay3 (F := Ideal) v35) lenD 3)
    (hE : ∀ c, lenE c ≤ E.val) (hD : ∀ c, lenD c ≤ D.val)
    (t : Fin 20) (p : Fin 64) (jj : Fin 4) (q : Fin 512) :
    View.canon ((st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw2 k0_pay94 v12 v20 v30 v31 v33 v35 (FloatOps.ofBits FTy.bf16 16256#16) (FloatOps.ofBits FTy.bf16 0#16) (k0_t3_loop v3).ub X_arg4 X_arg17 (et (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw2 k0_pay94 v12 v20 v30 v31 v33 v35 (FloatOps.ofBits FTy.bf16 16256#16) (FloatOps.ofBits FTy.bf16 0#16) X_arg4 X_arg17 (et (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw1 k0_pay94 v10 v16 v22 v24 v26 v28 (FloatOps.ofBits FTy.bf16 16256#16) (FloatOps.ofBits FTy.bf16 0#16) (k0_t1_loop v1).ub X_arg2 X_arg16 (et (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw1 k0_pay94 v10 v16 v22 v24 v26 v28 (FloatOps.ofBits FTy.bf16 16256#16) (FloatOps.ofBits FTy.bf16 0#16) X_arg2 X_arg16 (k0_pay5, k0_pay6, k0_pay7, k0_pay8) (k0_t1_loop v1).trips)) (k0_t2_loop v1).trips)) (k0_t3_loop v3).trips).1) (k0_t4_loop v3).trips).2 ++ ((st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw2 k0_pay94 v12 v20 v30 v31 v33 v35 (FloatOps.ofBits FTy.bf16 16256#16) (FloatOps.ofBits FTy.bf16 0#16) X_arg4 X_arg17 (et (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw1 k0_pay94 v10 v16 v22 v24 v26 v28 (FloatOps.ofBits FTy.bf16 16256#16) (FloatOps.ofBits FTy.bf16 0#16) (k0_t1_loop v1).ub X_arg2 X_arg16 (et (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw1 k0_pay94 v10 v16 v22 v24 v26 v28 (FloatOps.ofBits FTy.bf16 16256#16) (FloatOps.ofBits FTy.bf16 0#16) X_arg2 X_arg16 (k0_pay5, k0_pay6, k0_pay7, k0_pay8) (k0_t1_loop v1).trips)) (k0_t2_loop v1).trips)) (k0_t3_loop v3).trips).2 ++ [⟨Rect.unit (s := S20x64x2048) ![0, 0, 0] S20x64x2048.size inb_S20x64x2048_S20x64x2048_0_0_0, k0_pay4 (F := Ideal)⟩])) (ix3 t p (colOf jj q))
      = outOf tabD v12 bbD lenD idD (runOf tabE v10 bbE lenE idE (fun _ _ => 0) 20) t.val (colOf jj q) p := by
  have q1 : (k0_t1_loop v1).trips = E.val := by rw [hv1]; exact trips1 E
  have q2 : (k0_t2_loop v1).trips = 0 := by rw [hv1]; exact trips2 E
  have q3 : (k0_t3_loop v3).trips = D.val := by rw [hv3]; exact trips3 D
  have q4 : (k0_t4_loop v3).trips = 0 := by rw [hv3]; exact trips4 D
  have a1 := enc_loop Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw1 v10 v16 v22 v24 v26 v28 X_arg2 X_arg16 (k0_pay5, k0_pay6, k0_pay7, k0_pay8) hidE htE hbE hl0 hl1 hl2 hl3 start_zero
    (by rw [q1]; omega) (k0_t1_loop v1).trips (Nat.le_refl _)
  have a2 : AllAt (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw1 k0_pay94 v10 v16 v22 v24 v26 v28 (FloatOps.ofBits FTy.bf16 16256#16) (FloatOps.ofBits FTy.bf16 0#16) X_arg2 X_arg16 (k0_pay5, k0_pay6, k0_pay7, k0_pay8) (k0_t1_loop v1).trips) (runOf tabE v10 bbE lenE idE (fun _ _ => 0) 20) := by
    have e20 : runOf tabE v10 bbE lenE idE (fun _ _ => 0) (k0_t1_loop v1).trips = runOf tabE v10 bbE lenE idE (fun _ _ => 0) 20 := by
      funext c
      rw [q1]
      exact (colRun_ge _ _ _ _ _ E.val 20 (hE c) (by omega)).symm
    rw [← e20]; exact a1
  rw [rest4 q4, List.nil_append, rest2 q2, et_eq]
  rw [dec_loop_pieces Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw2 v12 v20 v30 v31 v33 v35 X_arg4 X_arg17 (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 k0_hw1 k0_pay94 v10 v16 v22 v24 v26 v28 (FloatOps.ofBits FTy.bf16 16256#16) (FloatOps.ofBits FTy.bf16 0#16) X_arg2 X_arg16 (k0_pay5, k0_pay6, k0_pay7, k0_pay8) (k0_t1_loop v1).trips) hidD htD hbD hm0 hm1 hm2 hm3 a2
    (by rw [q3]; omega) _ (k0_t3_loop v3).trips (Nat.le_refl _) t p jj q, fill_zero]
  rw [q3]
  by_cases hlt : t.val < D.val
  · rw [if_pos hlt]
  · rw [if_neg hlt]
    have := hD (colOf jj q)
    exact (if_neg (by push_cast; omega)).symm

theorem out_A (c : Dev nD) (i : grid0.Coords) (arg2 : Memref sig .tc .vmem S20x1x2048 .i16) (harg2 : arg2.IsWhole) (arg3 : Memref sig .tc .vmem S1x2048 .i32) (harg3 : arg3.IsWhole) (arg4 : Memref sig .tc .vmem S20x1x2048 .i16) (harg4 : arg4.IsWhole) (arg5 : Memref sig .tc .vmem S1x2048 .i32) (harg5 : arg5.IsWhole) (arg6 : Memref sig .tc .vmem S64x512 .f32) (harg6 : arg6.IsWhole) (arg7 : Memref sig .tc .vmem S192x64 .f32) (harg7 : arg7.IsWhole) (arg8 : Memref sig .tc .vmem S192x64 .f32) (harg8 : arg8.IsWhole) (arg9 : Memref sig .tc .vmem S192x1 .f32) (harg9 : arg9.IsWhole) (arg10 : Memref sig .tc .vmem S192x64 .f32) (harg10 : arg10.IsWhole) (arg11 : Memref sig .tc .vmem S192x64 .f32) (harg11 : arg11.IsWhole) (arg12 : Memref sig .tc .vmem S192x1 .f32) (harg12 : arg12.IsWhole) (arg13 : Memref sig .tc .vmem S192x1 .f32) (harg13 : arg13.IsWhole) (arg14 : Memref sig .tc .vmem S192x1 .f32) (harg14 : arg14.IsWhole) (arg15 : Memref sig .tc .vmem S20x64x2048 .f32) (harg15 : arg15.IsWhole) (arg16 : Memref sig .tc .vmem S192x512 .bf16) (harg16 : arg16.IsWhole) (arg17 : Memref sig .tc .vmem S192x512 .bf16) (harg17 : arg17.IsWhole) (hc0 : cond0_0 i) (x0 : Vec Ideal S20x1x2048 .i16) (x1 : Vec Ideal S1x2048 .i32) (x2 : Vec Ideal S20x1x2048 .i16) (x3 : Vec Ideal S1x2048 .i32) (x4 : Vec Ideal S64x512 .f32) (x5 : Vec Ideal S192x64 .f32) (x6 : Vec Ideal S192x64 .f32) (x7 : Vec Ideal S192x1 .f32) (x8 : Vec Ideal S192x64 .f32) (x9 : Vec Ideal S192x64 .f32) (x10 : Vec Ideal S192x1 .f32) (x11 : Vec Ideal S192x1 .f32) (x12 : Vec Ideal S192x1 .f32) (xt0 : TbBuf0 (F := Ideal) c tbM0_0) (k0_hw1 : k0_chk1 (tbM0_0.view.readAt (Elt Ideal) (Rect.unit (s := S8x2) (k0_off1 i) S1x1.size (k0_off1_inb i)).toLoadRect xt0 (Shape.Idx.first (numel1_S1x1.symm ▸ Nat.one_pos)))) (k0_hw2 : k0_chk2 (tbM0_0.view.readAt (Elt Ideal) (Rect.unit (s := S8x2) (k0_off2 i) S1x1.size (k0_off2_inb i)).toLoadRect xt0 (Shape.Idx.first (numel1_S1x1.symm ▸ Nat.one_pos))))
    {lenE lenD : Fin 2048 → ℤ} {idE idD : Fin 2048 → ℕ → Fin 512} (E D : Fin 21)
    (hv1 : (tbM0_0.view.readAt (Elt Ideal) (Rect.unit (s := S8x2) (k0_off1 i) S1x1.size (k0_off1_inb i)).toLoadRect xt0 (Shape.Idx.first (numel1_S1x1.symm ▸ Nat.one_pos))) = BitVec.ofNat 32 E.val) (hv3 : (tbM0_0.view.readAt (Elt Ideal) (Rect.unit (s := S8x2) (k0_off2 i) S1x1.size (k0_off2_inb i)).toLoadRect xt0 (Shape.Idx.first (numel1_S1x1.symm ▸ Nat.one_pos))) = BitVec.ofNat 32 D.val)
    (hidE : ∀ (t : Fin 20) (k : Fin 2048), (x0 (ix3 t 0 k)).toNat = (idE k t.val).val) (hidD : ∀ (t : Fin 20) (k : Fin 2048), (x2 (ix3 t 0 k)).toNat = (idD k t.val).val)
    (hlenE : ∀ k : Fin 2048, (x1 (ix2 0 k)).toInt = lenE k) (hlenD : ∀ k : Fin 2048, (x3 (ix2 0 k)).toInt = lenD k)
    (hE : ∀ k, lenE k ≤ E.val) (hD : ∀ k, lenD k ≤ D.val) (t : Fin 20) (p : Fin 64) (k : Fin 2048) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xt0 k0_hw1 k0_hw2 (ix3 t p k)
      = outOf (k0_pay93 x4 x8 x10) x9 (fun g => x12 (ix2 g 0)) lenD idD (runOf (k0_pay92 x4 x5 x7) x6 (fun g => x11 (ix2 g 0)) lenE idE (fun _ _ => 0) 20) t.val k p := by
  obtain ⟨jj, q, rfl⟩ : ∃ (jj : Fin 4) (q : Fin 512), k = colOf jj q :=
    ⟨⟨k.val / 512, by omega⟩, ⟨k.val % 512, by omega⟩, Fin.ext (by show k.val = 512 * (k.val / 512) + k.val % 512; omega)⟩
  unfold out0_A_13
  rw [View.read_writes_junk_eq_canon, pieces_A]
  refine (block_core c i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (tbM0_0.view.readAt (Elt Ideal) (Rect.unit (s := S8x2) (k0_off1 i) S1x1.size (k0_off1_inb i)).toLoadRect xt0 (Shape.Idx.first (numel1_S1x1.symm ▸ Nat.one_pos))) k0_hw1 (k0_pay95 (arg8.view.readAt (Elt Ideal) (Rect.unit (s := S192x64) ![0, 0] S192x64.size inb_S192x64_S192x64_0_0).toLoadRect (harg8.unread x6))) (k0_pay97 (arg13.view.readAt (Elt Ideal) (Rect.unit (s := S192x1) ![0, 0] S192x1.size inb_S192x1_S192x1_0_0).toLoadRect (harg13.unread x11))) (k0_pay99 (arg3.view.readAt (Elt Ideal) (Rect.unit (s := S1x2048) ![0, 0] S1x512.size inb_S1x2048_S1x512_0_0).toLoadRect (harg3.unread x1))) (k0_pay100 (arg3.view.readAt (Elt Ideal) (Rect.unit (s := S1x2048) ![0, 512] S1x512.size inb_S1x2048_S1x512_0_512).toLoadRect (harg3.unread x1))) (k0_pay101 (arg3.view.readAt (Elt Ideal) (Rect.unit (s := S1x2048) ![0, 1024] S1x512.size inb_S1x2048_S1x512_0_1024).toLoadRect (harg3.unread x1))) (k0_pay102 (arg3.view.readAt (Elt Ideal) (Rect.unit (s := S1x2048) ![0, 1536] S1x512.size inb_S1x2048_S1x512_0_1536).toLoadRect (harg3.unread x1))) (harg2.unread x0) (arg16.view.writes (Elt Ideal) arg16.view.junk [⟨Rect.unit (s := S192x512) ![0, 0] S192x512.size inb_S192x512_S192x512_0_0, k0_pay92 (arg6.view.readAt (Elt Ideal) (Rect.unit (s := S64x512) ![0, 0] S64x512.size inb_S64x512_S64x512_0_0).toLoadRect (harg6.unread x4)) (arg7.view.readAt (Elt Ideal) (Rect.unit (s := S192x64) ![0, 0] S192x64.size inb_S192x64_S192x64_0_0).toLoadRect (harg7.unread x5)) (arg9.view.readAt (Elt Ideal) (Rect.unit (s := S192x1) ![0, 0] S192x1.size inb_S192x1_S192x1_0_0).toLoadRect (harg9.unread x7))⟩]) (tbM0_0.view.readAt (Elt Ideal) (Rect.unit (s := S8x2) (k0_off2 i) S1x1.size (k0_off2_inb i)).toLoadRect xt0 (Shape.Idx.first (numel1_S1x1.symm ▸ Nat.one_pos))) k0_hw2 (k0_pay96 (arg11.view.readAt (Elt Ideal) (Rect.unit (s := S192x64) ![0, 0] S192x64.size inb_S192x64_S192x64_0_0).toLoadRect (harg11.unread x9))) (k0_pay98 (arg14.view.readAt (Elt Ideal) (Rect.unit (s := S192x1) ![0, 0] S192x1.size inb_S192x1_S192x1_0_0).toLoadRect (harg14.unread x12))) (k0_pay103 (arg5.view.readAt (Elt Ideal) (Rect.unit (s := S1x2048) ![0, 0] S1x512.size inb_S1x2048_S1x512_0_0).toLoadRect (harg5.unread x3))) (arg5.view.readAt (Elt Ideal) (Rect.unit (s := S1x2048) ![0, 512] S1x512.size inb_S1x2048_S1x512_0_512).toLoadRect (harg5.unread x3)) (arg5.view.readAt (Elt Ideal) (Rect.unit (s := S1x2048) ![0, 1024] S1x512.size inb_S1x2048_S1x512_0_1024).toLoadRect (harg5.unread x3)) (arg5.view.readAt (Elt Ideal) (Rect.unit (s := S1x2048) ![0, 1536] S1x512.size inb_S1x2048_S1x512_0_1536).toLoadRect (harg5.unread x3)) (harg4.unread x2) (arg17.view.writes (Elt Ideal) arg17.view.junk [⟨Rect.unit (s := S192x512) ![0, 0] S192x512.size inb_S192x512_S192x512_0_0, k0_pay93 (arg6.view.readAt (Elt Ideal) (Rect.unit (s := S64x512) ![0, 0] S64x512.size inb_S64x512_S64x512_0_0).toLoadRect (harg6.unread x4)) (arg10.view.readAt (Elt Ideal) (Rect.unit (s := S192x64) ![0, 0] S192x64.size inb_S192x64_S192x64_0_0).toLoadRect (harg10.unread x8)) (arg12.view.readAt (Elt Ideal) (Rect.unit (s := S192x1) ![0, 0] S192x1.size inb_S192x1_S192x1_0_0).toLoadRect (harg12.unread x10))⟩]) (tabE := (k0_pay92 x4 x5 x7)) (tabD := (k0_pay93 x4 x8 x10)) (bbE := fun g => x11 (ix2 g 0)) (bbD := fun g => x12 (ix2 g 0)) (lenE := lenE) (lenD := lenD) (idE := idE) (idD := idD) E D hv1 hv3
    (idsAre_unread arg2 harg2 x0 idE hidE) (idsAre_unread arg4 harg4 x2 idD hidD) (by rw [read_all2 arg6, read_all2 arg7, read_all2 arg9]; exact read_stored2 arg16 _ _ _) (by rw [read_all2 arg6, read_all2 arg10, read_all2 arg12]; exact read_stored2 arg17 _ _ _)
    (fun g q => by rw [b_enc, read_all2 arg13]) (fun g q => by rw [b_dec, read_all2 arg14])
    (fun q => by rw [len0]; exact (congrArg BitVec.toInt (read_lens arg3 harg3 x1 ![0, 0] _ 0 rfl q)).trans (hlenE _)) (fun q => by rw [len1]; exact (congrArg BitVec.toInt (read_lens arg3 harg3 x1 ![0, 512] _ 1 rfl q)).trans (hlenE _)) (fun q => by rw [len2]; exact (congrArg BitVec.toInt (read_lens arg3 harg3 x1 ![0, 1024] _ 2 rfl q)).trans (hlenE _)) (fun q => by rw [len3]; exact (congrArg BitVec.toInt (read_lens arg3 harg3 x1 ![0, 1536] _ 3 rfl q)).trans (hlenE _)) (fun q => by rw [len4]; exact (congrArg BitVec.toInt (read_lens arg5 harg5 x3 ![0, 0] _ 0 rfl q)).trans (hlenD _)) (fun q => by rw [len5]; exact (congrArg BitVec.toInt (read_lens arg5 harg5 x3 ![0, 512] _ 1 rfl q)).trans (hlenD _)) (fun q => by rw [len6]; exact (congrArg BitVec.toInt (read_lens arg5 harg5 x3 ![0, 1024] _ 2 rfl q)).trans (hlenD _)) (fun q => by rw [len7]; exact (congrArg BitVec.toInt (read_lens arg5 harg5 x3 ![0, 1536] _ 3 rfl q)).trans (hlenD _)) hE hD t p jj q).trans ?_
  rw [w_enc, w_dec, read_all2 arg8, read_all2 arg11]

theorem out_B (c : Dev nD) (i : grid0.Coords) (arg2 : Memref sig .tc .vmem S20x1x2048 .i16) (harg2 : arg2.IsWhole) (arg3 : Memref sig .tc .vmem S1x2048 .i32) (harg3 : arg3.IsWhole) (arg4 : Memref sig .tc .vmem S20x1x2048 .i16) (harg4 : arg4.IsWhole) (arg5 : Memref sig .tc .vmem S1x2048 .i32) (harg5 : arg5.IsWhole) (arg6 : Memref sig .tc .vmem S64x512 .f32) (harg6 : arg6.IsWhole) (arg7 : Memref sig .tc .vmem S192x64 .f32) (harg7 : arg7.IsWhole) (arg8 : Memref sig .tc .vmem S192x64 .f32) (harg8 : arg8.IsWhole) (arg9 : Memref sig .tc .vmem S192x1 .f32) (harg9 : arg9.IsWhole) (arg10 : Memref sig .tc .vmem S192x64 .f32) (harg10 : arg10.IsWhole) (arg11 : Memref sig .tc .vmem S192x64 .f32) (harg11 : arg11.IsWhole) (arg12 : Memref sig .tc .vmem S192x1 .f32) (harg12 : arg12.IsWhole) (arg13 : Memref sig .tc .vmem S192x1 .f32) (harg13 : arg13.IsWhole) (arg14 : Memref sig .tc .vmem S192x1 .f32) (harg14 : arg14.IsWhole) (arg15 : Memref sig .tc .vmem S20x64x2048 .f32) (harg15 : arg15.IsWhole) (arg16 : Memref sig .tc .vmem S192x512 .bf16) (harg16 : arg16.IsWhole) (arg17 : Memref sig .tc .vmem S192x512 .bf16) (harg17 : arg17.IsWhole) (hc0 : ¬cond0_0 i) (x0 : Vec Ideal S20x1x2048 .i16) (x1 : Vec Ideal S1x2048 .i32) (x2 : Vec Ideal S20x1x2048 .i16) (x3 : Vec Ideal S1x2048 .i32) (x4 : Vec Ideal S64x512 .f32) (x5 : Vec Ideal S192x64 .f32) (x6 : Vec Ideal S192x64 .f32) (x7 : Vec Ideal S192x1 .f32) (x8 : Vec Ideal S192x64 .f32) (x9 : Vec Ideal S192x64 .f32) (x10 : Vec Ideal S192x1 .f32) (x11 : Vec Ideal S192x1 .f32) (x12 : Vec Ideal S192x1 .f32) (xt0 : TbBuf0 (F := Ideal) c tbM0_0) (xs0 : Vec Ideal S192x512 .bf16) (xs1 : Vec Ideal S192x512 .bf16) (k0_hw1 : k0_chk1 (tbM0_0.view.readAt (Elt Ideal) (Rect.unit (s := S8x2) (k0_off1 i) S1x1.size (k0_off1_inb i)).toLoadRect xt0 (Shape.Idx.first (numel1_S1x1.symm ▸ Nat.one_pos)))) (k0_hw2 : k0_chk2 (tbM0_0.view.readAt (Elt Ideal) (Rect.unit (s := S8x2) (k0_off2 i) S1x1.size (k0_off2_inb i)).toLoadRect xt0 (Shape.Idx.first (numel1_S1x1.symm ▸ Nat.one_pos))))
    {lenE lenD : Fin 2048 → ℤ} {idE idD : Fin 2048 → ℕ → Fin 512} (E D : Fin 21)
    (hv1 : (tbM0_0.view.readAt (Elt Ideal) (Rect.unit (s := S8x2) (k0_off1 i) S1x1.size (k0_off1_inb i)).toLoadRect xt0 (Shape.Idx.first (numel1_S1x1.symm ▸ Nat.one_pos))) = BitVec.ofNat 32 E.val) (hv3 : (tbM0_0.view.readAt (Elt Ideal) (Rect.unit (s := S8x2) (k0_off2 i) S1x1.size (k0_off2_inb i)).toLoadRect xt0 (Shape.Idx.first (numel1_S1x1.symm ▸ Nat.one_pos))) = BitVec.ofNat 32 D.val)
    (hidE : ∀ (t : Fin 20) (k : Fin 2048), (x0 (ix3 t 0 k)).toNat = (idE k t.val).val) (hidD : ∀ (t : Fin 20) (k : Fin 2048), (x2 (ix3 t 0 k)).toNat = (idD k t.val).val)
    (hlenE : ∀ k : Fin 2048, (x1 (ix2 0 k)).toInt = lenE k) (hlenD : ∀ k : Fin 2048, (x3 (ix2 0 k)).toInt = lenD k)
    (hE : ∀ k, lenE k ≤ E.val) (hD : ∀ k, lenD k ≤ D.val) (t : Fin 20) (p : Fin 64) (k : Fin 2048) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xt0 xs0 xs1 k0_hw1 k0_hw2 (ix3 t p k)
      = outOf xs1 x9 (fun g => x12 (ix2 g 0)) lenD idD (runOf xs0 x6 (fun g => x11 (ix2 g 0)) lenE idE (fun _ _ => 0) 20) t.val k p := by
  obtain ⟨jj, q, rfl⟩ : ∃ (jj : Fin 4) (q : Fin 512), k = colOf jj q :=
    ⟨⟨k.val / 512, by omega⟩, ⟨k.val % 512, by omega⟩, Fin.ext (by show k.val = 512 * (k.val / 512) + k.val % 512; omega)⟩
  unfold out0_B_13
  rw [View.read_writes_junk_eq_canon, pieces_B]
  refine (block_core c i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (tbM0_0.view.readAt (Elt Ideal) (Rect.unit (s := S8x2) (k0_off1 i) S1x1.size (k0_off1_inb i)).toLoadRect xt0 (Shape.Idx.first (numel1_S1x1.symm ▸ Nat.one_pos))) k0_hw1 (k0_pay95 (arg8.view.readAt (Elt Ideal) (Rect.unit (s := S192x64) ![0, 0] S192x64.size inb_S192x64_S192x64_0_0).toLoadRect (harg8.unread x6))) (k0_pay97 (arg13.view.readAt (Elt Ideal) (Rect.unit (s := S192x1) ![0, 0] S192x1.size inb_S192x1_S192x1_0_0).toLoadRect (harg13.unread x11))) (k0_pay99 (arg3.view.readAt (Elt Ideal) (Rect.unit (s := S1x2048) ![0, 0] S1x512.size inb_S1x2048_S1x512_0_0).toLoadRect (harg3.unread x1))) (k0_pay100 (arg3.view.readAt (Elt Ideal) (Rect.unit (s := S1x2048) ![0, 512] S1x512.size inb_S1x2048_S1x512_0_512).toLoadRect (harg3.unread x1))) (k0_pay101 (arg3.view.readAt (Elt Ideal) (Rect.unit (s := S1x2048) ![0, 1024] S1x512.size inb_S1x2048_S1x512_0_1024).toLoadRect (harg3.unread x1))) (k0_pay102 (arg3.view.readAt (Elt Ideal) (Rect.unit (s := S1x2048) ![0, 1536] S1x512.size inb_S1x2048_S1x512_0_1536).toLoadRect (harg3.unread x1))) (harg2.unread x0) (harg16.unread xs0) (tbM0_0.view.readAt (Elt Ideal) (Rect.unit (s := S8x2) (k0_off2 i) S1x1.size (k0_off2_inb i)).toLoadRect xt0 (Shape.Idx.first (numel1_S1x1.symm ▸ Nat.one_pos))) k0_hw2 (k0_pay96 (arg11.view.readAt (Elt Ideal) (Rect.unit (s := S192x64) ![0, 0] S192x64.size inb_S192x64_S192x64_0_0).toLoadRect (harg11.unread x9))) (k0_pay98 (arg14.view.readAt (Elt Ideal) (Rect.unit (s := S192x1) ![0, 0] S192x1.size inb_S192x1_S192x1_0_0).toLoadRect (harg14.unread x12))) (k0_pay103 (arg5.view.readAt (Elt Ideal) (Rect.unit (s := S1x2048) ![0, 0] S1x512.size inb_S1x2048_S1x512_0_0).toLoadRect (harg5.unread x3))) (arg5.view.readAt (Elt Ideal) (Rect.unit (s := S1x2048) ![0, 512] S1x512.size inb_S1x2048_S1x512_0_512).toLoadRect (harg5.unread x3)) (arg5.view.readAt (Elt Ideal) (Rect.unit (s := S1x2048) ![0, 1024] S1x512.size inb_S1x2048_S1x512_0_1024).toLoadRect (harg5.unread x3)) (arg5.view.readAt (Elt Ideal) (Rect.unit (s := S1x2048) ![0, 1536] S1x512.size inb_S1x2048_S1x512_0_1536).toLoadRect (harg5.unread x3)) (harg4.unread x2) (harg17.unread xs1) (tabE := xs0) (tabD := xs1) (bbE := fun g => x11 (ix2 g 0)) (bbD := fun g => x12 (ix2 g 0)) (lenE := lenE) (lenD := lenD) (idE := idE) (idD := idD) E D hv1 hv3
    (idsAre_unread arg2 harg2 x0 idE hidE) (idsAre_unread arg4 harg4 x2 idD hidD) (read_all2 arg16 harg16 xs0 _) (read_all2 arg17 harg17 xs1 _)
    (fun g q => by rw [b_enc, read_all2 arg13]) (fun g q => by rw [b_dec, read_all2 arg14])
    (fun q => by rw [len0]; exact (congrArg BitVec.toInt (read_lens arg3 harg3 x1 ![0, 0] _ 0 rfl q)).trans (hlenE _)) (fun q => by rw [len1]; exact (congrArg BitVec.toInt (read_lens arg3 harg3 x1 ![0, 512] _ 1 rfl q)).trans (hlenE _)) (fun q => by rw [len2]; exact (congrArg BitVec.toInt (read_lens arg3 harg3 x1 ![0, 1024] _ 2 rfl q)).trans (hlenE _)) (fun q => by rw [len3]; exact (congrArg BitVec.toInt (read_lens arg3 harg3 x1 ![0, 1536] _ 3 rfl q)).trans (hlenE _)) (fun q => by rw [len4]; exact (congrArg BitVec.toInt (read_lens arg5 harg5 x3 ![0, 0] _ 0 rfl q)).trans (hlenD _)) (fun q => by rw [len5]; exact (congrArg BitVec.toInt (read_lens arg5 harg5 x3 ![0, 512] _ 1 rfl q)).trans (hlenD _)) (fun q => by rw [len6]; exact (congrArg BitVec.toInt (read_lens arg5 harg5 x3 ![0, 1024] _ 2 rfl q)).trans (hlenD _)) (fun q => by rw [len7]; exact (congrArg BitVec.toInt (read_lens arg5 harg5 x3 ![0, 1536] _ 3 rfl q)).trans (hlenD _)) hE hD t p jj q).trans ?_
  rw [w_enc, w_dec, read_all2 arg8, read_all2 arg11]

theorem sout_A0 (c : Dev nD) (i : grid0.Coords) (arg2 : Memref sig .tc .vmem S20x1x2048 .i16) (harg2 : arg2.IsWhole) (arg3 : Memref sig .tc .vmem S1x2048 .i32) (harg3 : arg3.IsWhole) (arg4 : Memref sig .tc .vmem S20x1x2048 .i16) (harg4 : arg4.IsWhole) (arg5 : Memref sig .tc .vmem S1x2048 .i32) (harg5 : arg5.IsWhole) (arg6 : Memref sig .tc .vmem S64x512 .f32) (harg6 : arg6.IsWhole) (arg7 : Memref sig .tc .vmem S192x64 .f32) (harg7 : arg7.IsWhole) (arg8 : Memref sig .tc .vmem S192x64 .f32) (harg8 : arg8.IsWhole) (arg9 : Memref sig .tc .vmem S192x1 .f32) (harg9 : arg9.IsWhole) (arg10 : Memref sig .tc .vmem S192x64 .f32) (harg10 : arg10.IsWhole) (arg11 : Memref sig .tc .vmem S192x64 .f32) (harg11 : arg11.IsWhole) (arg12 : Memref sig .tc .vmem S192x1 .f32) (harg12 : arg12.IsWhole) (arg13 : Memref sig .tc .vmem S192x1 .f32) (harg13 : arg13.IsWhole) (arg14 : Memref sig .tc .vmem S192x1 .f32) (harg14 : arg14.IsWhole) (arg15 : Memref sig .tc .vmem S20x64x2048 .f32) (harg15 : arg15.IsWhole) (arg16 : Memref sig .tc .vmem S192x512 .bf16) (harg16 : arg16.IsWhole) (arg17 : Memref sig .tc .vmem S192x512 .bf16) (harg17 : arg17.IsWhole) (hc0 : cond0_0 i) (x0 : Vec Ideal S20x1x2048 .i16) (x1 : Vec Ideal S1x2048 .i32) (x2 : Vec Ideal S20x1x2048 .i16) (x3 : Vec Ideal S1x2048 .i32) (x4 : Vec Ideal S64x512 .f32) (x5 : Vec Ideal S192x64 .f32) (x6 : Vec Ideal S192x64 .f32) (x7 : Vec Ideal S192x1 .f32) (x8 : Vec Ideal S192x64 .f32) (x9 : Vec Ideal S192x64 .f32) (x10 : Vec Ideal S192x1 .f32) (x11 : Vec Ideal S192x1 .f32) (x12 : Vec Ideal S192x1 .f32) (xt0 : TbBuf0 (F := Ideal) c tbM0_0) (k0_hw1 : k0_chk1 (tbM0_0.view.readAt (Elt Ideal) (Rect.unit (s := S8x2) (k0_off1 i) S1x1.size (k0_off1_inb i)).toLoadRect xt0 (Shape.Idx.first (numel1_S1x1.symm ▸ Nat.one_pos)))) (k0_hw2 : k0_chk2 (tbM0_0.view.readAt (Elt Ideal) (Rect.unit (s := S8x2) (k0_off2 i) S1x1.size (k0_off2_inb i)).toLoadRect xt0 (Shape.Idx.first (numel1_S1x1.symm ▸ Nat.one_pos)))) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xt0 k0_hw1 k0_hw2 = k0_pay92 x4 x5 x7 := by
  unfold sout0_A_0
  rw [View.read_writes_junk_eq_canon, scratch0_A, View.canon_unit_zero (by funext k; fin_cases k <;> rfl), read_all2 arg6, read_all2 arg7, read_all2 arg9]

theorem sout_A1 (c : Dev nD) (i : grid0.Coords) (arg2 : Memref sig .tc .vmem S20x1x2048 .i16) (harg2 : arg2.IsWhole) (arg3 : Memref sig .tc .vmem S1x2048 .i32) (harg3 : arg3.IsWhole) (arg4 : Memref sig .tc .vmem S20x1x2048 .i16) (harg4 : arg4.IsWhole) (arg5 : Memref sig .tc .vmem S1x2048 .i32) (harg5 : arg5.IsWhole) (arg6 : Memref sig .tc .vmem S64x512 .f32) (harg6 : arg6.IsWhole) (arg7 : Memref sig .tc .vmem S192x64 .f32) (harg7 : arg7.IsWhole) (arg8 : Memref sig .tc .vmem S192x64 .f32) (harg8 : arg8.IsWhole) (arg9 : Memref sig .tc .vmem S192x1 .f32) (harg9 : arg9.IsWhole) (arg10 : Memref sig .tc .vmem S192x64 .f32) (harg10 : arg10.IsWhole) (arg11 : Memref sig .tc .vmem S192x64 .f32) (harg11 : arg11.IsWhole) (arg12 : Memref sig .tc .vmem S192x1 .f32) (harg12 : arg12.IsWhole) (arg13 : Memref sig .tc .vmem S192x1 .f32) (harg13 : arg13.IsWhole) (arg14 : Memref sig .tc .vmem S192x1 .f32) (harg14 : arg14.IsWhole) (arg15 : Memref sig .tc .vmem S20x64x2048 .f32) (harg15 : arg15.IsWhole) (arg16 : Memref sig .tc .vmem S192x512 .bf16) (harg16 : arg16.IsWhole) (arg17 : Memref sig .tc .vmem S192x512 .bf16) (harg17 : arg17.IsWhole) (hc0 : cond0_0 i) (x0 : Vec Ideal S20x1x2048 .i16) (x1 : Vec Ideal S1x2048 .i32) (x2 : Vec Ideal S20x1x2048 .i16) (x3 : Vec Ideal S1x2048 .i32) (x4 : Vec Ideal S64x512 .f32) (x5 : Vec Ideal S192x64 .f32) (x6 : Vec Ideal S192x64 .f32) (x7 : Vec Ideal S192x1 .f32) (x8 : Vec Ideal S192x64 .f32) (x9 : Vec Ideal S192x64 .f32) (x10 : Vec Ideal S192x1 .f32) (x11 : Vec Ideal S192x1 .f32) (x12 : Vec Ideal S192x1 .f32) (xt0 : TbBuf0 (F := Ideal) c tbM0_0) (k0_hw1 : k0_chk1 (tbM0_0.view.readAt (Elt Ideal) (Rect.unit (s := S8x2) (k0_off1 i) S1x1.size (k0_off1_inb i)).toLoadRect xt0 (Shape.Idx.first (numel1_S1x1.symm ▸ Nat.one_pos)))) (k0_hw2 : k0_chk2 (tbM0_0.view.readAt (Elt Ideal) (Rect.unit (s := S8x2) (k0_off2 i) S1x1.size (k0_off2_inb i)).toLoadRect xt0 (Shape.Idx.first (numel1_S1x1.symm ▸ Nat.one_pos)))) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xt0 k0_hw1 k0_hw2 = k0_pay93 x4 x8 x10 := by
  unfold sout0_A_1
  rw [View.read_writes_junk_eq_canon, scratch1_A, View.canon_unit_zero (by funext k; fin_cases k <;> rfl), read_all2 arg6, read_all2 arg10, read_all2 arg12]

theorem sout_B0 (c : Dev nD) (i : grid0.Coords) (arg2 : Memref sig .tc .vmem S20x1x2048 .i16) (harg2 : arg2.IsWhole) (arg3 : Memref sig .tc .vmem S1x2048 .i32) (harg3 : arg3.IsWhole) (arg4 : Memref sig .tc .vmem S20x1x2048 .i16) (harg4 : arg4.IsWhole) (arg5 : Memref sig .tc .vmem S1x2048 .i32) (harg5 : arg5.IsWhole) (arg6 : Memref sig .tc .vmem S64x512 .f32) (harg6 : arg6.IsWhole) (arg7 : Memref sig .tc .vmem S192x64 .f32) (harg7 : arg7.IsWhole) (arg8 : Memref sig .tc .vmem S192x64 .f32) (harg8 : arg8.IsWhole) (arg9 : Memref sig .tc .vmem S192x1 .f32) (harg9 : arg9.IsWhole) (arg10 : Memref sig .tc .vmem S192x64 .f32) (harg10 : arg10.IsWhole) (arg11 : Memref sig .tc .vmem S192x64 .f32) (harg11 : arg11.IsWhole) (arg12 : Memref sig .tc .vmem S192x1 .f32) (harg12 : arg12.IsWhole) (arg13 : Memref sig .tc .vmem S192x1 .f32) (harg13 : arg13.IsWhole) (arg14 : Memref sig .tc .vmem S192x1 .f32) (harg14 : arg14.IsWhole) (arg15 : Memref sig .tc .vmem S20x64x2048 .f32) (harg15 : arg15.IsWhole) (arg16 : Memref sig .tc .vmem S192x512 .bf16) (harg16 : arg16.IsWhole) (arg17 : Memref sig .tc .vmem S192x512 .bf16) (harg17 : arg17.IsWhole) (hc0 : ¬cond0_0 i) (x0 : Vec Ideal S20x1x2048 .i16) (x1 : Vec Ideal S1x2048 .i32) (x2 : Vec Ideal S20x1x2048 .i16) (x3 : Vec Ideal S1x2048 .i32) (x4 : Vec Ideal S64x512 .f32) (x5 : Vec Ideal S192x64 .f32) (x6 : Vec Ideal S192x64 .f32) (x7 : Vec Ideal S192x1 .f32) (x8 : Vec Ideal S192x64 .f32) (x9 : Vec Ideal S192x64 .f32) (x10 : Vec Ideal S192x1 .f32) (x11 : Vec Ideal S192x1 .f32) (x12 : Vec Ideal S192x1 .f32) (xt0 : TbBuf0 (F := Ideal) c tbM0_0) (xs0 : Vec Ideal S192x512 .bf16) (xs1 : Vec Ideal S192x512 .bf16) (k0_hw1 : k0_chk1 (tbM0_0.view.readAt (Elt Ideal) (Rect.unit (s := S8x2) (k0_off1 i) S1x1.size (k0_off1_inb i)).toLoadRect xt0 (Shape.Idx.first (numel1_S1x1.symm ▸ Nat.one_pos)))) (k0_hw2 : k0_chk2 (tbM0_0.view.readAt (Elt Ideal) (Rect.unit (s := S8x2) (k0_off2 i) S1x1.size (k0_off2_inb i)).toLoadRect xt0 (Shape.Idx.first (numel1_S1x1.symm ▸ Nat.one_pos)))) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xt0 xs0 xs1 k0_hw1 k0_hw2 = xs0 := by
  rfl

theorem sout_B1 (c : Dev nD) (i : grid0.Coords) (arg2 : Memref sig .tc .vmem S20x1x2048 .i16) (harg2 : arg2.IsWhole) (arg3 : Memref sig .tc .vmem S1x2048 .i32) (harg3 : arg3.IsWhole) (arg4 : Memref sig .tc .vmem S20x1x2048 .i16) (harg4 : arg4.IsWhole) (arg5 : Memref sig .tc .vmem S1x2048 .i32) (harg5 : arg5.IsWhole) (arg6 : Memref sig .tc .vmem S64x512 .f32) (harg6 : arg6.IsWhole) (arg7 : Memref sig .tc .vmem S192x64 .f32) (harg7 : arg7.IsWhole) (arg8 : Memref sig .tc .vmem S192x64 .f32) (harg8 : arg8.IsWhole) (arg9 : Memref sig .tc .vmem S192x1 .f32) (harg9 : arg9.IsWhole) (arg10 : Memref sig .tc .vmem S192x64 .f32) (harg10 : arg10.IsWhole) (arg11 : Memref sig .tc .vmem S192x64 .f32) (harg11 : arg11.IsWhole) (arg12 : Memref sig .tc .vmem S192x1 .f32) (harg12 : arg12.IsWhole) (arg13 : Memref sig .tc .vmem S192x1 .f32) (harg13 : arg13.IsWhole) (arg14 : Memref sig .tc .vmem S192x1 .f32) (harg14 : arg14.IsWhole) (arg15 : Memref sig .tc .vmem S20x64x2048 .f32) (harg15 : arg15.IsWhole) (arg16 : Memref sig .tc .vmem S192x512 .bf16) (harg16 : arg16.IsWhole) (arg17 : Memref sig .tc .vmem S192x512 .bf16) (harg17 : arg17.IsWhole) (hc0 : ¬cond0_0 i) (x0 : Vec Ideal S20x1x2048 .i16) (x1 : Vec Ideal S1x2048 .i32) (x2 : Vec Ideal S20x1x2048 .i16) (x3 : Vec Ideal S1x2048 .i32) (x4 : Vec Ideal S64x512 .f32) (x5 : Vec Ideal S192x64 .f32) (x6 : Vec Ideal S192x64 .f32) (x7 : Vec Ideal S192x1 .f32) (x8 : Vec Ideal S192x64 .f32) (x9 : Vec Ideal S192x64 .f32) (x10 : Vec Ideal S192x1 .f32) (x11 : Vec Ideal S192x1 .f32) (x12 : Vec Ideal S192x1 .f32) (xt0 : TbBuf0 (F := Ideal) c tbM0_0) (xs0 : Vec Ideal S192x512 .bf16) (xs1 : Vec Ideal S192x512 .bf16) (k0_hw1 : k0_chk1 (tbM0_0.view.readAt (Elt Ideal) (Rect.unit (s := S8x2) (k0_off1 i) S1x1.size (k0_off1_inb i)).toLoadRect xt0 (Shape.Idx.first (numel1_S1x1.symm ▸ Nat.one_pos)))) (k0_hw2 : k0_chk2 (tbM0_0.view.readAt (Elt Ideal) (Rect.unit (s := S8x2) (k0_off2 i) S1x1.size (k0_off2_inb i)).toLoadRect xt0 (Shape.Idx.first (numel1_S1x1.symm ▸ Nat.one_pos)))) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xt0 xs0 xs1 k0_hw1 k0_hw2 = xs1 := by
  rfl

theorem table_dec (embT : Vec Ideal S64x512 .f32) (w : Vec Ideal S192x64 .f32) (b : Vec Ideal S192x1 .f32) (g : Fin 192) (x : Fin 512) :
    k0_pay93 embT w b (ix2 g x)
      = gateSum (fun g e => w (ix2 g e)) (fun g => b (ix2 g 0)) (fun e => embT (ix2 e x)) g := by
  unfold gateSum
  pointwise [k0_pay93, k0_pay91]
  simp only [fun (y : Fin 64) => mul_comm (embT (ix2 y x)) (w (ix2 g y))]

end Cert.KernelIdeal.Gru
-- ==== Proof.KWindows.lean ====
module

public import proofs.«01_k».proof.Proof.HypsOfPre
public import proofs.«01_k».proof.Proof.Gen.KernelIdeal.Frame
public import Idealize.ShloMosaic.Lib.Pipeline.Value

/-! # What each window's block holds: columns of the arrays -/

@[expose] public section
noncomputable section
namespace Cert.KernelIdeal.Gru

open Idealize.ShloMosaic Idealize.ShloMosaic.TcCoe
open Cert.KernelIdeal Cert.KernelIdeal.Gen

variable {F : FTy → Type} [FloatOps F]
variable (m : (ℓ : Loc nD τ sig) → Buf (Elt F) ℓ)

theorem coord_val (t : Fin grid0.N) : (grid0.coords t 0).val = t.val := by
  have h : (grid0.coords t 0).val = t.val / 1 % 8 := Pipeline.Grid.coords_val t 0 (by decide) rfl
  have ht : t.val < 8 := t.isLt
  omega

/-- The batch row in column `k` of block `b`. -/
def rowAt (b : ℕ) (hb : b < 8) (k : Fin 2048) : Fin 16384 := ⟨2048 * b + k.val, by omega⟩

theorem map0 : ∀ (t : Fin grid0.N) (a : Fin 3), cc0_transform_0 (grid0.coords t) a = ![0, 0, t.val] a := by decide +kernel
theorem map1 : ∀ (t : Fin grid0.N) (a : Fin 2), cc0_transform_1 (grid0.coords t) a = ![0, t.val] a := by decide +kernel
theorem map2 : ∀ (t : Fin grid0.N) (a : Fin 3), cc0_transform_2 (grid0.coords t) a = ![0, 0, t.val] a := by decide +kernel
theorem map3 : ∀ (t : Fin grid0.N) (a : Fin 2), cc0_transform_3 (grid0.coords t) a = ![0, t.val] a := by decide +kernel
theorem map13 : ∀ (t : Fin grid0.N) (a : Fin 3), cc0_transform_13 (grid0.coords t) a = ![0, 0, t.val] a := by decide +kernel
theorem map4 : ∀ (t : Fin grid0.N) (a : Fin 2), cc0_transform_4 (grid0.coords t) a = ![0, 0] a := by decide +kernel
theorem map5 : ∀ (t : Fin grid0.N) (a : Fin 2), cc0_transform_5 (grid0.coords t) a = ![0, 0] a := by decide +kernel
theorem map6 : ∀ (t : Fin grid0.N) (a : Fin 2), cc0_transform_6 (grid0.coords t) a = ![0, 0] a := by decide +kernel
theorem map7 : ∀ (t : Fin grid0.N) (a : Fin 2), cc0_transform_7 (grid0.coords t) a = ![0, 0] a := by decide +kernel
theorem map8 : ∀ (t : Fin grid0.N) (a : Fin 2), cc0_transform_8 (grid0.coords t) a = ![0, 0] a := by decide +kernel
theorem map9 : ∀ (t : Fin grid0.N) (a : Fin 2), cc0_transform_9 (grid0.coords t) a = ![0, 0] a := by decide +kernel
theorem map10 : ∀ (t : Fin grid0.N) (a : Fin 2), cc0_transform_10 (grid0.coords t) a = ![0, 0] a := by decide +kernel
theorem map11 : ∀ (t : Fin grid0.N) (a : Fin 2), cc0_transform_11 (grid0.coords t) a = ![0, 0] a := by decide +kernel
theorem map12 : ∀ (t : Fin grid0.N) (a : Fin 2), cc0_transform_12 (grid0.coords t) a = ![0, 0] a := by decide +kernel

theorem blk0 (hO : Ok m) (c : Dev nD) (t : Fin (cfgM m hO).N) (a : Fin 20) (k : Fin 2048) :
    (iblk m hO c 0 t : Vec F S20x1x2048 .i16) (ix3 a 0 k) = (V m c main_v13 : Vec F S20x1x16384 .i16) (ix3 a 0 (rowAt t.val t.isLt k)) := by
  refine (View.read_apply ..).trans ?_
  refine congrArg (V m c main_v13) (funext fun x => Fin.ext ?_)
  match x with
  | ⟨0, _⟩ => show cc0_transform_0 (grid0.coords t) 0 * 20 + 1 * a.val = a.val; rw [map0 t 0]; show 0 * 20 + _ = _; omega
  | ⟨1, _⟩ => show cc0_transform_0 (grid0.coords t) 1 * 1 + 1 * 0 = 0; rw [map0 t 1]; rfl
  | ⟨2, _⟩ => show cc0_transform_0 (grid0.coords t) 2 * 2048 + 1 * k.val = 2048 * t.val + k.val; rw [map0 t 2]; show t.val * 2048 + _ = _; omega

theorem blk2 (hO : Ok m) (c : Dev nD) (t : Fin (cfgM m hO).N) (a : Fin 20) (k : Fin 2048) :
    (iblk m hO c 2 t : Vec F S20x1x2048 .i16) (ix3 a 0 k) = (V m c main_v15 : Vec F S20x1x16384 .i16) (ix3 a 0 (rowAt t.val t.isLt k)) := by
  refine (View.read_apply ..).trans ?_
  refine congrArg (V m c main_v15) (funext fun x => Fin.ext ?_)
  match x with
  | ⟨0, _⟩ => show cc0_transform_2 (grid0.coords t) 0 * 20 + 1 * a.val = a.val; rw [map2 t 0]; show 0 * 20 + _ = _; omega
  | ⟨1, _⟩ => show cc0_transform_2 (grid0.coords t) 1 * 1 + 1 * 0 = 0; rw [map2 t 1]; rfl
  | ⟨2, _⟩ => show cc0_transform_2 (grid0.coords t) 2 * 2048 + 1 * k.val = 2048 * t.val + k.val; rw [map2 t 2]; show t.val * 2048 + _ = _; omega

theorem blk1 (hO : Ok m) (c : Dev nD) (t : Fin (cfgM m hO).N) (k : Fin 2048) :
    (iblk m hO c 1 t : Vec F S1x2048 .i32) (ix2 0 k) = (V m c main_v21 : Vec F S1x16384 .i32) (ix2 0 (rowAt t.val t.isLt k)) := by
  refine (View.read_apply ..).trans ?_
  refine congrArg (V m c main_v21) (funext fun x => Fin.ext ?_)
  match x with
  | ⟨0, _⟩ => show cc0_transform_1 (grid0.coords t) 0 * 1 + 1 * 0 = 0; rw [map1 t 0]; rfl
  | ⟨1, _⟩ => show cc0_transform_1 (grid0.coords t) 1 * 2048 + 1 * k.val = 2048 * t.val + k.val; rw [map1 t 1]; show t.val * 2048 + _ = _; omega

theorem blk3 (hO : Ok m) (c : Dev nD) (t : Fin (cfgM m hO).N) (k : Fin 2048) :
    (iblk m hO c 3 t : Vec F S1x2048 .i32) (ix2 0 k) = (V m c main_v22 : Vec F S1x16384 .i32) (ix2 0 (rowAt t.val t.isLt k)) := by
  refine (View.read_apply ..).trans ?_
  refine congrArg (V m c main_v22) (funext fun x => Fin.ext ?_)
  match x with
  | ⟨0, _⟩ => show cc0_transform_3 (grid0.coords t) 0 * 1 + 1 * 0 = 0; rw [map3 t 0]; rfl
  | ⟨1, _⟩ => show cc0_transform_3 (grid0.coords t) 1 * 2048 + 1 * k.val = 2048 * t.val + k.val; rw [map3 t 1]; show t.val * 2048 + _ = _; omega

theorem blk4 (hO : Ok m) (c : Dev nD) (t : Fin (cfgM m hO).N) :
    (iblk m hO c 4 t : Vec F S64x512 .f32) = (V m c main_v23 : Vec F S64x512 .f32) := by
  funext j
  refine (View.read_apply ..).trans ?_
  refine congrArg (V m c main_v23) (funext fun x => Fin.ext ?_)
  match x with
  | ⟨0, _⟩ => show cc0_transform_4 (grid0.coords t) 0 * 64 + 1 * ((id j : S64x512.Idx) 0).val = ((id j : S64x512.Idx) 0).val; rw [map4 t 0]; show 0 * 64 + _ = _; omega
  | ⟨1, _⟩ => show cc0_transform_4 (grid0.coords t) 1 * 512 + 1 * ((id j : S64x512.Idx) 1).val = ((id j : S64x512.Idx) 1).val; rw [map4 t 1]; show 0 * 512 + _ = _; omega

theorem blk5 (hO : Ok m) (c : Dev nD) (t : Fin (cfgM m hO).N) :
    (iblk m hO c 5 t : Vec F S192x64 .f32) = (V m c main_arg7 : Vec F S192x64 .f32) := by
  funext j
  refine (View.read_apply ..).trans ?_
  refine congrArg (V m c main_arg7) (funext fun x => Fin.ext ?_)
  match x with
  | ⟨0, _⟩ => show cc0_transform_5 (grid0.coords t) 0 * 192 + 1 * ((id j : S192x64.Idx) 0).val = ((id j : S192x64.Idx) 0).val; rw [map5 t 0]; show 0 * 192 + _ = _; omega
  | ⟨1, _⟩ => show cc0_transform_5 (grid0.coords t) 1 * 64 + 1 * ((id j : S192x64.Idx) 1).val = ((id j : S192x64.Idx) 1).val; rw [map5 t 1]; show 0 * 64 + _ = _; omega

theorem blk6 (hO : Ok m) (c : Dev nD) (t : Fin (cfgM m hO).N) :
    (iblk m hO c 6 t : Vec F S192x64 .f32) = (V m c main_arg8 : Vec F S192x64 .f32) := by
  funext j
  refine (View.read_apply ..).trans ?_
  refine congrArg (V m c main_arg8) (funext fun x => Fin.ext ?_)
  match x with
  | ⟨0, _⟩ => show cc0_transform_6 (grid0.coords t) 0 * 192 + 1 * ((id j : S192x64.Idx) 0).val = ((id j : S192x64.Idx) 0).val; rw [map6 t 0]; show 0 * 192 + _ = _; omega
  | ⟨1, _⟩ => show cc0_transform_6 (grid0.coords t) 1 * 64 + 1 * ((id j : S192x64.Idx) 1).val = ((id j : S192x64.Idx) 1).val; rw [map6 t 1]; show 0 * 64 + _ = _; omega

theorem blk7 (hO : Ok m) (c : Dev nD) (t : Fin (cfgM m hO).N) :
    (iblk m hO c 7 t : Vec F S192x1 .f32) = (V m c main_v24 : Vec F S192x1 .f32) := by
  funext j
  refine (View.read_apply ..).trans ?_
  refine congrArg (V m c main_v24) (funext fun x => Fin.ext ?_)
  match x with
  | ⟨0, _⟩ => show cc0_transform_7 (grid0.coords t) 0 * 192 + 1 * ((id j : S192x1.Idx) 0).val = ((id j : S192x1.Idx) 0).val; rw [map7 t 0]; show 0 * 192 + _ = _; omega
  | ⟨1, _⟩ => show cc0_transform_7 (grid0.coords t) 1 * 1 + 1 * ((id j : S192x1.Idx) 1).val = ((id j : S192x1.Idx) 1).val; rw [map7 t 1]; show 0 * 1 + _ = _; omega

theorem blk8 (hO : Ok m) (c : Dev nD) (t : Fin (cfgM m hO).N) :
    (iblk m hO c 8 t : Vec F S192x64 .f32) = (V m c main_arg11 : Vec F S192x64 .f32) := by
  funext j
  refine (View.read_apply ..).trans ?_
  refine congrArg (V m c main_arg11) (funext fun x => Fin.ext ?_)
  match x with
  | ⟨0, _⟩ => show cc0_transform_8 (grid0.coords t) 0 * 192 + 1 * ((id j : S192x64.Idx) 0).val = ((id j : S192x64.Idx) 0).val; rw [map8 t 0]; show 0 * 192 + _ = _; omega
  | ⟨1, _⟩ => show cc0_transform_8 (grid0.coords t) 1 * 64 + 1 * ((id j : S192x64.Idx) 1).val = ((id j : S192x64.Idx) 1).val; rw [map8 t 1]; show 0 * 64 + _ = _; omega

theorem blk9 (hO : Ok m) (c : Dev nD) (t : Fin (cfgM m hO).N) :
    (iblk m hO c 9 t : Vec F S192x64 .f32) = (V m c main_arg12 : Vec F S192x64 .f32) := by
  funext j
  refine (View.read_apply ..).trans ?_
  refine congrArg (V m c main_arg12) (funext fun x => Fin.ext ?_)
  match x with
  | ⟨0, _⟩ => show cc0_transform_9 (grid0.coords t) 0 * 192 + 1 * ((id j : S192x64.Idx) 0).val = ((id j : S192x64.Idx) 0).val; rw [map9 t 0]; show 0 * 192 + _ = _; omega
  | ⟨1, _⟩ => show cc0_transform_9 (grid0.coords t) 1 * 64 + 1 * ((id j : S192x64.Idx) 1).val = ((id j : S192x64.Idx) 1).val; rw [map9 t 1]; show 0 * 64 + _ = _; omega

theorem blk10 (hO : Ok m) (c : Dev nD) (t : Fin (cfgM m hO).N) :
    (iblk m hO c 10 t : Vec F S192x1 .f32) = (V m c main_v25 : Vec F S192x1 .f32) := by
  funext j
  refine (View.read_apply ..).trans ?_
  refine congrArg (V m c main_v25) (funext fun x => Fin.ext ?_)
  match x with
  | ⟨0, _⟩ => show cc0_transform_10 (grid0.coords t) 0 * 192 + 1 * ((id j : S192x1.Idx) 0).val = ((id j : S192x1.Idx) 0).val; rw [map10 t 0]; show 0 * 192 + _ = _; omega
  | ⟨1, _⟩ => show cc0_transform_10 (grid0.coords t) 1 * 1 + 1 * ((id j : S192x1.Idx) 1).val = ((id j : S192x1.Idx) 1).val; rw [map10 t 1]; show 0 * 1 + _ = _; omega

theorem blk11 (hO : Ok m) (c : Dev nD) (t : Fin (cfgM m hO).N) :
    (iblk m hO c 11 t : Vec F S192x1 .f32) = (V m c main_v26 : Vec F S192x1 .f32) := by
  funext j
  refine (View.read_apply ..).trans ?_
  refine congrArg (V m c main_v26) (funext fun x => Fin.ext ?_)
  match x with
  | ⟨0, _⟩ => show cc0_transform_11 (grid0.coords t) 0 * 192 + 1 * ((id j : S192x1.Idx) 0).val = ((id j : S192x1.Idx) 0).val; rw [map11 t 0]; show 0 * 192 + _ = _; omega
  | ⟨1, _⟩ => show cc0_transform_11 (grid0.coords t) 1 * 1 + 1 * ((id j : S192x1.Idx) 1).val = ((id j : S192x1.Idx) 1).val; rw [map11 t 1]; show 0 * 1 + _ = _; omega

theorem blk12 (hO : Ok m) (c : Dev nD) (t : Fin (cfgM m hO).N) :
    (iblk m hO c 12 t : Vec F S192x1 .f32) = (V m c main_v27 : Vec F S192x1 .f32) := by
  funext j
  refine (View.read_apply ..).trans ?_
  refine congrArg (V m c main_v27) (funext fun x => Fin.ext ?_)
  match x with
  | ⟨0, _⟩ => show cc0_transform_12 (grid0.coords t) 0 * 192 + 1 * ((id j : S192x1.Idx) 0).val = ((id j : S192x1.Idx) 0).val; rw [map12 t 0]; show 0 * 192 + _ = _; omega
  | ⟨1, _⟩ => show cc0_transform_12 (grid0.coords t) 1 * 1 + 1 * ((id j : S192x1.Idx) 1).val = ((id j : S192x1.Idx) 1).val; rw [map12 t 1]; show 0 * 1 + _ = _; omega

end Cert.KernelIdeal.Gru
-- ==== Proof.Target.lean ====
/- What both programs compute, at one batch row, one step and one unit of the state. -/
module

public import proofs.«01_k».proof.Proof.Model

@[expose] public section

noncomputable section

namespace Cert.Gru

open Idealize.ShloMosaic

/-- The id of a row at a step. -/
def idAt (x : (⟨2, ![16384, 20]⟩ : Shape).Idx → BitVec 32) (r : Fin 16384) (t : ℕ) : Fin 512 :=
  if h : t < 20 then ⟨(x (ValueIdx.ix2 r ⟨t, h⟩)).toNat % 512, Nat.mod_lt _ (by decide)⟩ else 0

theorem idAt_val (x : (⟨2, ![16384, 20]⟩ : Shape).Idx → BitVec 32) (r : Fin 16384) (t : Fin 20)
    (h0 : 0 ≤ (x (ValueIdx.ix2 r t)).toInt) (h1 : (x (ValueIdx.ix2 r t)).toInt < 512) :
    (idAt x r t.val).val = (x (ValueIdx.ix2 r t)).toNat := by
  unfold idAt
  rw [dif_pos t.isLt]
  show (x (ValueIdx.ix2 r t)).toNat % 512 = _
  refine Nat.mod_eq_of_lt ?_
  have := BitVec.toInt_eq_toNat_cond (x (ValueIdx.ix2 r t))
  have := (x (ValueIdx.ix2 r t)).isLt
  split at * <;> omega

/-- The input gates of a row, step by step: the embedding of the step's id through the input weights. -/
def inGates (emb : (⟨2, ![512, 64]⟩ : Shape).Idx → EReal) (w : (⟨2, ![192, 64]⟩ : Shape).Idx → EReal) (b : (⟨1, ![192]⟩ : Shape).Idx → EReal)
    (id : ℕ → Fin 512) (t : ℕ) (g : Fin 192) : EReal :=
  gateSum (fun g e => w (ValueIdx.ix2 g e)) (fun g => b (ValueIdx.ix1 g)) (fun e => emb (ValueIdx.ix2 (id t) e)) g

/-- A row's state after `n` steps. -/
def rowRun (emb : (⟨2, ![512, 64]⟩ : Shape).Idx → EReal) (wi wh : (⟨2, ![192, 64]⟩ : Shape).Idx → EReal) (bi bh : (⟨1, ![192]⟩ : Shape).Idx → EReal)
    (id : ℕ → Fin 512) (len : ℤ) (h0 : Fin 64 → EReal) (n : ℕ) : Fin 64 → EReal :=
  colRun (inGates emb wi bi id) (fun g e => wh (ValueIdx.ix2 g e)) (fun g => bh (ValueIdx.ix1 g)) len h0 n

/-- A row's output at step `t`. -/
def rowOut (emb : (⟨2, ![512, 64]⟩ : Shape).Idx → EReal) (wi wh : (⟨2, ![192, 64]⟩ : Shape).Idx → EReal) (bi bh : (⟨1, ![192]⟩ : Shape).Idx → EReal)
    (id : ℕ → Fin 512) (len : ℤ) (h0 : Fin 64 → EReal) (t : ℕ) : Fin 64 → EReal :=
  colOut (inGates emb wi bi id) (fun g e => wh (ValueIdx.ix2 g e)) (fun g => bh (ValueIdx.ix1 g)) len h0 t

end Cert.Gru

end
-- ==== Proof.KArray.lean ====
/- What the idealised kernel leaves in its output array, row by row. -/
module

public import proofs.«01_k».proof.Proof.KBlock
public import proofs.«01_k».proof.Proof.KWindows
public import proofs.«01_k».proof.Proof.Target

@[expose] public section

set_option maxRecDepth 16384

noncomputable section

namespace Cert.KernelIdeal.Gru

open Idealize.ShloMosaic Idealize.ShloMosaic.TcCoe
open Cert.KernelIdeal Cert.KernelIdeal.Gen Cert.Gru

theorem byStep_apply (x : IVec S16384x20 32) (t : Fin 20) (r : Fin 16384) :
    byStep x (ix3 t 0 r) = BitVec.truncate 16 (x (ValueIdx.ix2 r t)) := by
  unfold byStep layout
  pointwise
  rfl

theorem lens_apply (x : IVec S16384 32) (r : Fin 16384) :
    (broadcastInDim S1x16384 ![1] bcast_S16384_S1x16384_1 x : IVec S1x16384 32) (ix2 0 r) = x (ValueIdx.ix1 r) := by
  pointwise
  rfl

theorem column_apply (x : FVec Ideal S192 .f32) (g : Fin 192) :
    (shapeCast S192x1 x shapeCasts_S192_S192x1 : FVec Ideal S192x1 .f32) (ix2 g 0) = x (ValueIdx.ix1 g) := by
  pointwise
  rfl

theorem embT_apply (x : FVec Ideal S512x64 .f32) (e : Fin 64) (v : Fin 512) :
    (transpose S64x512 [1, 0] x transposes_S512x64_S64x512_1_0 : FVec Ideal S64x512 .f32) (ix2 e v) = x (ValueIdx.ix2 v e) := by
  pointwise
  rfl

theorem trunc_small (w : BitVec 32) (h0 : 0 ≤ w.toInt) (h1 : w.toInt < 512) : (BitVec.truncate 16 w).toNat = w.toNat := by
  have := BitVec.toInt_eq_toNat_cond w
  have := w.isLt
  rw [BitVec.truncate_eq_setWidth, BitVec.toNat_setWidth]
  split at * <;> omega

variable (m : (ℓ : Loc nD τ sig) → Buf (Elt Ideal) ℓ)

/-- The tables of input gates, one column per id. -/
abbrev encTable (c : Dev nD) : Vec Ideal S192x512 .bf16 := k0_pay92 (V m c main_v23) (V m c main_arg7) (V m c main_v24)
abbrev decTable (c : Dev nD) : Vec Ideal S192x512 .bf16 := k0_pay93 (V m c main_v23) (V m c main_arg11) (V m c main_v25)

/-- After every point the two scratch arrays hold the tables. -/
theorem scratch_at (hO : Ok m) (hH : Hyps m hO) (c : Dev nD) : ∀ (n : ℕ) (hn : n < (cfgM m hO).N),
    (outsAt0 m hO hH c n hn).2 = (encTable m c, decTable m c) := by
  intro n
  induction n with
  | zero =>
    intro hn
    rw [outsAt0_A m hO hH c ⟨0, hn⟩ rfl]
    refine Prod.ext ?_ ?_
    · dsimp only
      refine (sout_A0 ..).trans ?_
      exact congr (congrArg₂ k0_pay92 (blk4 m hO c _) (blk5 m hO c _)) (blk7 m hO c _)
    · dsimp only
      refine (sout_A1 ..).trans ?_
      exact congr (congrArg₂ k0_pay93 (blk4 m hO c _) (blk8 m hO c _)) (blk10 m hO c _)
  | succ n ih =>
    intro hn
    by_cases h0 : (n + 1) % 8 = 0
    · rw [outsAt0_A m hO hH c ⟨n + 1, hn⟩ h0]
      refine Prod.ext ?_ ?_
      · dsimp only
        refine (sout_A0 ..).trans ?_
        exact congr (congrArg₂ k0_pay92 (blk4 m hO c _) (blk5 m hO c _)) (blk7 m hO c _)
      · dsimp only
        refine (sout_A1 ..).trans ?_
        exact congr (congrArg₂ k0_pay93 (blk4 m hO c _) (blk8 m hO c _)) (blk10 m hO c _)
    · rw [outsAt0_B m hO hH c ⟨n + 1, hn⟩ h0]
      refine Prod.ext ?_ ?_
      · dsimp only
        refine (sout_B0 ..).trans ?_
        exact congrArg Prod.fst (ih _)
      · dsimp only
        refine (sout_B1 ..).trans ?_
        exact congrArg Prod.snd (ih _)

/-- The row that a place of the sorted batch comes from, and what is known of it. -/
abbrev encLen (r : Fin 16384) : ℤ := (encSorted m 0 (ValueIdx.ix1 r)).toInt
abbrev decLen (r : Fin 16384) : ℤ := (decSorted m 0 (ValueIdx.ix1 r)).toInt
abbrev encId (r : Fin 16384) : ℕ → Fin 512 := idAt (encIds m 0) r
abbrev decId (r : Fin 16384) : ℕ → Fin 512 := idAt (decIds m 0) r

abbrev encFinal (r : Fin 16384) : Fin 64 → EReal :=
  rowRun (m ((0 : Dev nD).tc.loc main_arg6)) (m ((0 : Dev nD).tc.loc main_arg7)) (m ((0 : Dev nD).tc.loc main_arg8))
    (m ((0 : Dev nD).tc.loc main_arg9)) (m ((0 : Dev nD).tc.loc main_arg10)) (encId m r) (encLen m r) (fun _ => 0) 20

/-- The value of the output at a place of the sorted batch. -/
abbrev outAt (r : Fin 16384) (t : ℕ) (p : Fin 64) : EReal :=
  rowOut (m ((0 : Dev nD).tc.loc main_arg6)) (m ((0 : Dev nD).tc.loc main_arg11)) (m ((0 : Dev nD).tc.loc main_arg12))
    (m ((0 : Dev nD).tc.loc main_arg13)) (m ((0 : Dev nD).tc.loc main_arg14)) (decId m r) (decLen m r) (encFinal m r) t p

theorem encTable_apply (c : Dev nD) (g : Fin 192) (x : Fin 512) :
    encTable m c (ix2 g x) = gateSum (fun g e => (m (c.tc.loc main_arg7) : FVec Ideal S192x64 .f32) (ValueIdx.ix2 g e))
      (fun g => (m (c.tc.loc main_arg9) : FVec Ideal S192 .f32) (ValueIdx.ix1 g))
      (fun e => (m (c.tc.loc main_arg6) : FVec Ideal S512x64 .f32) (ValueIdx.ix2 x e)) g := by
  refine (table_apply _ _ _ g x).trans ?_
  rw [V_v23, V_v24, V_main_arg7]
  congr 1
  · funext g; exact column_apply _ g
  · funext e; exact embT_apply _ e x

theorem decTable_apply (c : Dev nD) (g : Fin 192) (x : Fin 512) :
    decTable m c (ix2 g x) = gateSum (fun g e => (m (c.tc.loc main_arg11) : FVec Ideal S192x64 .f32) (ValueIdx.ix2 g e))
      (fun g => (m (c.tc.loc main_arg13) : FVec Ideal S192 .f32) (ValueIdx.ix1 g))
      (fun e => (m (c.tc.loc main_arg6) : FVec Ideal S512x64 .f32) (ValueIdx.ix2 x e)) g := by
  refine (table_dec _ _ _ g x).trans ?_
  rw [V_v23, V_v25, V_main_arg11]
  congr 1
  · funext g; exact column_apply _ g
  · funext e; exact embT_apply _ e x

/-- The recursion over a table of input gates is the row's own. -/
theorem runOf_row {emb : FVec Ideal S512x64 .f32} {wi wh : FVec Ideal S192x64 .f32} {bi bh : FVec Ideal S192 .f32}
    {tab : Vec Ideal S192x512 .bf16} {w : Vec Ideal S192x64 .bf16} {bb : Fin 192 → EReal} {len : Fin 2048 → ℤ}
    {id : Fin 2048 → ℕ → Fin 512} {h0 : Fin 2048 → Fin 64 → EReal}
    (htab : ∀ g x, tab (ix2 g x) = gateSum (fun g e => wi (ValueIdx.ix2 g e)) (fun g => bi (ValueIdx.ix1 g)) (fun e => emb (ValueIdx.ix2 x e)) g)
    (hw : w = wh) (hb : ∀ g, bb g = bh (ValueIdx.ix1 g)) (n : ℕ) (k : Fin 2048) :
    runOf tab w bb len id h0 n k = rowRun emb wi wh bi bh (id k) (len k) (h0 k) n := by
  subst hw
  unfold runOf rowRun
  rw [show bb = fun g => bh (ValueIdx.ix1 g) from funext hb,
    show (fun (t : ℕ) (g : Fin 192) => tab (ix2 g (id k t))) = inGates emb wi bi (id k) from funext fun t => funext fun g => htab g _]
  rfl

theorem outOf_row {emb : FVec Ideal S512x64 .f32} {wi wh : FVec Ideal S192x64 .f32} {bi bh : FVec Ideal S192 .f32}
    {tab : Vec Ideal S192x512 .bf16} {w : Vec Ideal S192x64 .bf16} {bb : Fin 192 → EReal} {len : Fin 2048 → ℤ}
    {id : Fin 2048 → ℕ → Fin 512} {h0 : Fin 2048 → Fin 64 → EReal}
    (htab : ∀ g x, tab (ix2 g x) = gateSum (fun g e => wi (ValueIdx.ix2 g e)) (fun g => bi (ValueIdx.ix1 g)) (fun e => emb (ValueIdx.ix2 x e)) g)
    (hw : w = wh) (hb : ∀ g, bb g = bh (ValueIdx.ix1 g)) (t : ℕ) (k : Fin 2048) (p : Fin 64) :
    outOf tab w bb len id h0 t k p = rowOut emb wi wh bi bh (id k) (len k) (h0 k) t p := by
  subst hw
  unfold outOf rowOut
  rw [show bb = fun g => bh (ValueIdx.ix1 g) from funext hb,
    show (fun (t : ℕ) (g : Fin 192) => tab (ix2 g (id k t))) = inGates emb wi bi (id k) from funext fun t => funext fun g => htab g _]
  rfl

theorem enc_bias (c : Dev nD) (g : Fin 192) :
    (V m c main_v26 : FVec Ideal S192x1 .f32) (ix2 g 0) = (m (c.tc.loc main_arg10) : FVec Ideal S192 .f32) (ValueIdx.ix1 g) := by
  rw [V_v26]; exact column_apply _ g

theorem dec_bias (c : Dev nD) (g : Fin 192) :
    (V m c main_v27 : FVec Ideal S192x1 .f32) (ix2 g 0) = (m (c.tc.loc main_arg14) : FVec Ideal S192 .f32) (ValueIdx.ix1 g) := by
  rw [V_v27]; exact column_apply _ g

/-- The block the kernel computes from the tables is the rows' own recursion. -/
theorem block_rows (r : Fin 2048 → Fin 16384) (k : Fin 2048) (t : ℕ) (p : Fin 64) :
    outOf (decTable m 0) (V m 0 main_arg12 : FVec Ideal S192x64 .f32) (fun g => (V m 0 main_v27 : FVec Ideal S192x1 .f32) (ix2 g 0)) (fun k => decLen m (r k)) (fun k => decId m (r k))
      (runOf (encTable m 0) (V m 0 main_arg8 : FVec Ideal S192x64 .f32) (fun g => (V m 0 main_v26 : FVec Ideal S192x1 .f32) (ix2 g 0)) (fun k => encLen m (r k)) (fun k => encId m (r k)) (fun _ _ => 0) 20) t k p
      = outAt m (r k) t p := by
  refine (outOf_row (decTable_apply m 0) (V_main_arg12 m 0) (dec_bias m 0) t k p).trans ?_
  have e := runOf_row (len := fun k => encLen m (r k)) (id := fun k => encId m (r k)) (h0 := fun _ _ => 0)
    (encTable_apply m 0) (V_main_arg8 m 0) (enc_bias m 0) 20 k
  rw [e]

end Cert.KernelIdeal.Gru

end
-- ==== Proof.KValue.lean ====
/- The idealised kernel's output array holds every row's own recursion. -/
module

public import proofs.«01_k».proof.Proof.KArray

@[expose] public section

set_option maxRecDepth 16384

noncomputable section

namespace Cert.KernelIdeal.Gru

open Idealize.ShloMosaic Idealize.ShloMosaic.TcCoe
open Cert.KernelIdeal Cert.KernelIdeal.Gen Cert.Gru

variable (m : (ℓ : Loc nD τ sig) → Buf (Elt Ideal) ℓ)

theorem encIds_apply (c : Dev nD) (i : Fin 16384) (t : Fin 20) :
    encIds m c (ValueIdx.ix2 i t) = (m (c.tc.loc main_arg0) : IVec S16384x20 32) (ValueIdx.ix2 (rowOf (encLens m c) i) t) :=
  takeRows_apply _ _ _ (order_apply _) i t

theorem decIds_apply (c : Dev nD) (i : Fin 16384) (t : Fin 20) :
    decIds m c (ValueIdx.ix2 i t) = (m (c.tc.loc main_arg1) : IVec S16384x20 32) (ValueIdx.ix2 (rowOf (decLens m c) i) t) :=
  takeRows_apply _ _ _ (order_apply _) i t

variable {m}

theorem blk_encIds (hO : Ok m) (h : MemInRange m 0) (x : Fin (cfgM m hO).N) (t : Fin 20) (k : Fin 2048) :
    ((iblk m hO 0 0 x : Vec Ideal S20x1x2048 .i16) (ix3 t 0 k)).toNat = (encId m (rowAt x.val x.isLt k) t.val).val := by
  have r : 0 ≤ (encIds m 0 (ValueIdx.ix2 (rowAt x.val x.isLt k) t)).toInt ∧ (encIds m 0 (ValueIdx.ix2 (rowAt x.val x.isLt k) t)).toInt < 512 := by
    rw [encIds_apply]; exact h.id0 _
  refine (congrArg BitVec.toNat ((blk0 m hO 0 x t k).trans ((congrFun (V_v13 m 0) _).trans (byStep_apply _ _ _)))).trans ?_
  exact (trunc_small _ r.1 r.2).trans (idAt_val _ _ t r.1 r.2).symm

theorem blk_decIds (hO : Ok m) (h : MemInRange m 0) (x : Fin (cfgM m hO).N) (t : Fin 20) (k : Fin 2048) :
    ((iblk m hO 0 2 x : Vec Ideal S20x1x2048 .i16) (ix3 t 0 k)).toNat = (decId m (rowAt x.val x.isLt k) t.val).val := by
  have r : 0 ≤ (decIds m 0 (ValueIdx.ix2 (rowAt x.val x.isLt k) t)).toInt ∧ (decIds m 0 (ValueIdx.ix2 (rowAt x.val x.isLt k) t)).toInt < 512 := by
    rw [decIds_apply]; exact h.id1 _
  refine (congrArg BitVec.toNat ((blk2 m hO 0 x t k).trans ((congrFun (V_v15 m 0) _).trans (byStep_apply _ _ _)))).trans ?_
  exact (trunc_small _ r.1 r.2).trans (idAt_val _ _ t r.1 r.2).symm

theorem blk_encLens (hO : Ok m) (x : Fin (cfgM m hO).N) (k : Fin 2048) :
    ((iblk m hO 0 1 x : Vec Ideal S1x2048 .i32) (ix2 0 k)).toInt = encLen m (rowAt x.val x.isLt k) :=
  congrArg BitVec.toInt ((blk1 m hO 0 x k).trans ((congrFun (V_v21 m 0) _).trans (lens_apply _ _)))

theorem blk_decLens (hO : Ok m) (x : Fin (cfgM m hO).N) (k : Fin 2048) :
    ((iblk m hO 0 3 x : Vec Ideal S1x2048 .i32) (ix2 0 k)).toInt = decLen m (rowAt x.val x.isLt k) :=
  congrArg BitVec.toInt ((blk3 m hO 0 x k).trans ((congrFun (V_v22 m 0) _).trans (lens_apply _ _)))

theorem first_le (b : Fin 8) (k : Fin 2048) : first b ≤ rowAt b.val b.isLt k := Nat.le_add_right _ _

theorem bound_enc (h : MemInRange m 0) (b : Fin 8) :
    ∃ E : Fin 21, encSorted m 0 (ValueIdx.ix1 (first b)) = BitVec.ofNat 32 E.val ∧ ∀ k, encLen m (rowAt b.val b.isLt k) ≤ E.val := by
  obtain ⟨n, e⟩ := word_small (by rw [encSorted_apply]; exact encLens_range h _ : 1 ≤ (encSorted m 0 (ValueIdx.ix1 (first b))).toInt ∧ _)
  refine ⟨n, e, fun k => ?_⟩
  have hn := n.isLt
  have e' : (encSorted m 0 (ValueIdx.ix1 (first b))).toInt = n.val := by rw [e, toInt_small (by omega)]
  rw [← e']
  unfold encLen
  rw [encSorted_apply, encSorted_apply]
  exact rowOf_sorted _ (fun i => encLens_range h i) _ _ (first_le b k)

theorem bound_dec (h : MemInRange m 0) (b : Fin 8) :
    ∃ D : Fin 21, decSorted m 0 (ValueIdx.ix1 (first b)) = BitVec.ofNat 32 D.val ∧ ∀ k, decLen m (rowAt b.val b.isLt k) ≤ D.val := by
  obtain ⟨n, e⟩ := word_small (by rw [decSorted_apply]; exact decLens_range h _ : 1 ≤ (decSorted m 0 (ValueIdx.ix1 (first b))).toInt ∧ _)
  refine ⟨n, e, fun k => ?_⟩
  have hn := n.isLt
  have e' : (decSorted m 0 (ValueIdx.ix1 (first b))).toInt = n.val := by rw [e, toInt_small (by omega)]
  rw [← e']
  unfold decLen
  rw [decSorted_apply, decSorted_apply]
  exact rowOf_sorted _ (fun i => decLens_range h i) _ _ (first_le b k)

theorem block_of (x : Fin grid0.N) : blockAt (grid0.coords x) = ⟨x.val, x.isLt⟩ := Fin.ext (coord_val x)

/-- What the body leaves in the output's block at a point. -/
theorem out_at (hO : Ok m) (hH : Hyps m hO) (h : MemInRange m 0) (x : Fin (cfgM m hO).N) (t : Fin 20) (p : Fin 64) (k : Fin 2048) :
    (outsAt0 m hO hH 0 x.val x.isLt).1 (ix3 t p k) = outAt m (rowAt x.val x.isLt k) t.val p := by
  obtain ⟨E, eE, hE⟩ := bound_enc h ⟨x.val, x.isLt⟩
  obtain ⟨D, eD, hD⟩ := bound_dec h ⟨x.val, x.isLt⟩
  have w1 := (word_enc m (grid0.coords x)).trans ((congrArg (fun b => encSorted m 0 (ValueIdx.ix1 (first b))) (block_of x)).trans eE)
  have w3 := (word_dec m (grid0.coords x)).trans ((congrArg (fun b => decSorted m 0 (ValueIdx.ix1 (first b))) (block_of x)).trans eD)
  refine Eq.trans ?_ (block_rows m (fun k => rowAt x.val x.isLt k) k t.val p)
  by_cases h0 : x.val % 8 = 0
  · rw [outsAt0_A m hO hH 0 x h0]
    dsimp only
    refine (out_A (xt0 := tbl m 0) (E := E) (D := D) (hv1 := w1) (hv3 := w3) (hidE := blk_encIds hO h x) (hidD := blk_decIds hO h x)
      (hlenE := blk_encLens hO x) (hlenD := blk_decLens hO x) (hE := hE) (hD := hD) (t := t) (p := p) (k := k) ..).trans ?_
    rw [blk4, blk5, blk6, blk7, blk8, blk9, blk10, blk11, blk12]
  · have hs := scratch_at m hO hH 0 (x.val - 1) (by have := x.isLt; omega)
    rw [outsAt0_B m hO hH 0 x h0]
    dsimp only
    refine (out_B (xt0 := tbl m 0) (E := E) (D := D) (hv1 := w1) (hv3 := w3) (hidE := blk_encIds hO h x) (hidD := blk_decIds hO h x)
      (hlenE := blk_encLens hO x) (hlenD := blk_decLens hO x) (hE := hE) (hD := hD) (t := t) (p := p) (k := k) ..).trans ?_
    rw [hs, blk6, blk9, blk11, blk12]

end Cert.KernelIdeal.Gru

end
-- ==== Proof.KRun.lean ====
/- The idealised kernel's run: its result holds every row's own recursion. -/
module

public import proofs.«01_k».proof.Proof.KValue
public import Idealize.ShloMosaic.Lib.Pipeline.ValueKit.Geometry

@[expose] public section

set_option maxRecDepth 16384

noncomputable section

namespace Cert.KernelIdeal.Gru

open Idealize.ShloMosaic Idealize.ShloMosaic.TcCoe Idealize.SL.Sem
open Idealize.ShloMosaic.Pipeline (Dat)
open Cert.KernelIdeal Cert.KernelIdeal.Gen Cert.Gru

variable (m : (ℓ : Loc nD τ sig) → Buf (Elt Ideal) ℓ)

/-- The pipeline's output array, by step, unit and row. -/
abbrev outArray : FVec Ideal S20x64x16384 .f32 := fun j => outAt m (j 2) (j 0).val (j 1)

/-- The result, by row, step and unit. -/
abbrev result : FVec Ideal S16384x20x64 .f32 := fun j => outAt m (j 0) (j 1).val (j 2)

variable {m}

theorem emb_block (hO : Ok m) (x : Fin (cfgM m hO).N) (t : Fin 20) (p : Fin 64) (k : Fin 2048) :
    (((cfgM m hO).win 13).blk x).view.emb (ix3 t p k : S20x64x2048.Idx) = (ix3 t p (rowAt x.val x.isLt k) : S20x64x16384.Idx) := by
  refine funext fun a => Fin.ext ?_
  match a with
  | ⟨0, _⟩ => show cc0_transform_13 (grid0.coords x) 0 * 20 + 1 * t.val = t.val; rw [map13 x 0]; show 0 * 20 + _ = _; omega
  | ⟨1, _⟩ => show cc0_transform_13 (grid0.coords x) 1 * 64 + 1 * p.val = p.val; rw [map13 x 1]; show 0 * 64 + _ = _; omega
  | ⟨2, _⟩ => show cc0_transform_13 (grid0.coords x) 2 * 2048 + 1 * k.val = 2048 * x.val + k.val; rw [map13 x 2]; show x.val * 2048 + _ = _; omega

theorem final_28 (hO : Ok m) (hH : Hyps m hO) (h : MemInRange m 0) :
    (dats m hO hH 0 0).arrAt 13 (cfgM m hO).N = outArray m := by
  refine (dats m hO hH 0 0).arrAt_eq_of_emb 13 (outArray m) (fun x _ y => ?_) fun i => ?_
  · obtain ⟨t, p, k, rfl⟩ : ∃ (t : Fin 20) (p : Fin 64) (k : Fin 2048), (ix3 t p k : S20x64x2048.Idx) = y :=
      ⟨(id y : S20x64x2048.Idx) 0, (id y : S20x64x2048.Idx) 1, (id y : S20x64x2048.Idx) 2, (ValueIdx.eq_ix3 (id y : S20x64x2048.Idx)).symm⟩
    refine (show _ = (dats m hO hH 0 0).after 13 x (ix3 t p k : S20x64x2048.Idx) from rfl).trans ?_
    refine (congrFun (after0_13 m hO hH 0 x) _).trans ((out_at hO hH h x t p k).trans ?_)
    exact (congrArg (outArray m) (emb_block hO x t p k)).symm
  · have hi : ((id i : S20x64x16384.Idx) 2).val < 16384 := ((id i : S20x64x16384.Idx) 2).isLt
    refine ⟨⟨((id i : S20x64x16384.Idx) 2).val / 2048, by show _ < 8; omega⟩, flush0_13 _ _, ?_⟩
    have e := emb_block hO ⟨((id i : S20x64x16384.Idx) 2).val / 2048, by show _ < 8; omega⟩ ((id i : S20x64x16384.Idx) 0) ((id i : S20x64x16384.Idx) 1)
      ⟨((id i : S20x64x16384.Idx) 2).val % 2048, Nat.mod_lt _ (by decide)⟩
    have e' : rowAt (((id i : S20x64x16384.Idx) 2).val / 2048) (by omega) ⟨((id i : S20x64x16384.Idx) 2).val % 2048, Nat.mod_lt _ (by decide)⟩ = (id i : S20x64x16384.Idx) 2 :=
      Fin.ext (Nat.div_add_mod _ _)
    have e'' := e.trans ((congrArg (fun r => (ix3 ((id i : S20x64x16384.Idx) 0) ((id i : S20x64x16384.Idx) 1) r : S20x64x16384.Idx)) e').trans (ValueIdx.eq_ix3 (id i : S20x64x16384.Idx)).symm)
    exact Eq.mp (congrArg (fun j => j ∈ _) e'') (View.emb_mem_set _ _)

theorem tail_29 (hO : Ok m) (hH : Hyps m hO) (h : MemInRange m 0) :
    Pipeline.afterTail pcfgs (fun _ => adm m hO) (dats m hO hH) 0 (V0 m) [hostOps1] 0 main_v29 = result m := by
  unfold Pipeline.afterTail
  have e : Pipeline.withArrays spec0 0 (V0 m 0) (fun w => (dats m hO hH 0 0).arrAt w (cfgM m hO).N) (Proc.devRef .tc main_v28) = outArray m :=
    (Pipeline.withArrays_arr spec0 (by decide) 0 (V0 m 0) (fun w => (dats m hO hH 0 0).arrAt w (cfgM m hO).N) 13).trans (final_28 hO hH h)
  refine (show _ = (transpose S16384x20x64 [2, 0, 1] (Pipeline.withArrays spec0 0 (V0 m 0) (fun w => (dats m hO hH 0 0).arrAt w (cfgM m hO).N) (Proc.devRef .tc main_v28) : FVec Ideal S20x64x16384 .f32) transposes_S20x64x16384_S16384x20x64_2_0_1) from ?_).trans ?_
  · after_reads_simp
    all_goals rfl
  · rw [e]
    funext j
    obtain ⟨r, t, p, rfl⟩ : ∃ r t p, j = ValueIdx.ix3 r t p := ⟨j 0, j 1, j 2, ValueIdx.eq_ix3 j⟩
    pointwise
    rfl

theorem args_kept (hO : Ok m) (hH : Hyps m hO) {r : PUnit × MemSt nD τ sig (Elt Ideal)}
    (hr : Pipeline.FramePost (Pipeline.pin pcfgs fun _ => adm m hO) (dats m hO hH) 0 (Pipeline.afterTail pcfgs (fun _ => adm m hO) (dats m hO hH) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((hr c).2 main_arg0 (by decide : main_arg0 ∈ Pipeline.restRefs sig spec0)).trans (W_main_arg0 m hO (dats m hO hH) c),
    ((hr c).2 main_arg1 (by decide : main_arg1 ∈ Pipeline.restRefs sig spec0)).trans (W_main_arg1 m hO (dats m hO hH) c),
    ((hr c).2 main_arg2 (by decide : main_arg2 ∈ Pipeline.restRefs sig spec0)).trans (W_main_arg2 m hO (dats m hO hH) c),
    ((hr c).2 main_arg3 (by decide : main_arg3 ∈ Pipeline.restRefs sig spec0)).trans (W_main_arg3 m hO (dats m hO hH) c),
    ((hr c).2 main_arg4 (by decide : main_arg4 ∈ Pipeline.restRefs sig spec0)).trans (W_main_arg4 m hO (dats m hO hH) c),
    ((hr c).2 main_arg5 (by decide : main_arg5 ∈ Pipeline.restRefs sig spec0)).trans (W_main_arg5 m hO (dats m hO hH) c),
    ((hr c).2 main_arg6 (by decide : main_arg6 ∈ Pipeline.restRefs sig spec0)).trans (W_main_arg6 m hO (dats m hO hH) c),
    ((hr c).1 5).trans (((dats m hO hH 0 c).arrAt_in 5 rfl _).trans ((A_eq m hO hH c 5).trans (V_main_arg7 m c))),
    ((hr c).1 6).trans (((dats m hO hH 0 c).arrAt_in 6 rfl _).trans ((A_eq m hO hH c 6).trans (V_main_arg8 m c))),
    ((hr c).2 main_arg9 (by decide : main_arg9 ∈ Pipeline.restRefs sig spec0)).trans (W_main_arg9 m hO (dats m hO hH) c),
    ((hr c).2 main_arg10 (by decide : main_arg10 ∈ Pipeline.restRefs sig spec0)).trans (W_main_arg10 m hO (dats m hO hH) c),
    ((hr c).1 8).trans (((dats m hO hH 0 c).arrAt_in 8 rfl _).trans ((A_eq m hO hH c 8).trans (V_main_arg11 m c))),
    ((hr c).1 9).trans (((dats m hO hH 0 c).arrAt_in 9 rfl _).trans ((A_eq m hO hH c 9).trans (V_main_arg12 m c))),
    ((hr c).2 main_arg13 (by decide : main_arg13 ∈ Pipeline.restRefs sig spec0)).trans (W_main_arg13 m hO (dats m hO hH) c),
    ((hr c).2 main_arg14 (by decide : main_arg14 ∈ Pipeline.restRefs sig spec0)).trans (W_main_arg14 m hO (dats m hO hH) c)⟩

/-- The idealised kernel's run: the result, and the arguments as they were. -/
theorem run (ρ : Dev nD → PrngReg) (hO : Ok m) (hH : Hyps m hO) (h : MemInRange m 0) :
    θ_run defs (onTc (τ := τ) (main (F := Ideal))) ⟨m, fun _ => 0, ρ⟩ fun r => ∀ c : Dev nD,
      r.2.mem ((c.tc : Thread nD τ).loc main_v29) = result m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r hr c => by
      obtain rfl : c = 0 := Subsingleton.elim _ _
      exact ⟨(hr.rest_eq 0 main_v29 (by decide : main_v29 ∈ Pipeline.restRefs sig spec0)).trans (tail_29 hO hH h), args_kept hO hH hr 0⟩)
    (run_main m ρ hO hH)

end Cert.KernelIdeal.Gru

end
-- ==== Proof.RefReads.lean ====
/- What the reference's two loops start from, as functions of the arguments. -/
module

public import proofs.«01_k».proof.Proof.HostValue
public import proofs.«01_k».proof.Proof.RefRun
public import Idealize.ShloMosaic.Lib.StableHlo.RunRead

@[expose] public section

set_option maxRecDepth 8192

noncomputable section

namespace Cert.Gru

open Idealize.ShloMosaic Idealize.ShloMosaic.TcCoe Idealize.ShloMosaic.StableHlo
open Cert.ReferenceIdeal Cert.ReferenceIdeal.Gen

variable {F : FTy → Type} [FloatOps F]
variable (X : Valuation τ sig (Elt F))

/-- A column of lengths as a vector. -/
abbrev vec (a : IVec S16384x1 32) : IVec S16384 32 := shapeCast S16384 a shapeCasts_S16384x1_S16384
/-- Rows' embedded ids by step. -/
abbrev stepFirst (x : FVec F S16384x20x64 .f32) : FVec F S20x16384x64 .f32 := transpose S20x16384x64 [1, 0, 2] x transposes_S16384x20x64_S20x16384x64_1_0_2
/-- Zero at every step. -/
def zerosAll : FVec F S20x16384x64 .f32 := broadcastInDim S20x16384x64 ![] bcast_S_S20x16384x64 (constant S_ .f32 0x00000000#32)

theorem h0_v0 : after h0 X (Proc.devRef .tc main_v0) = vec (X (Proc.devRef .tc main_arg4)) := by
  after_reads_simp
  all_goals rfl

theorem h0_v1 : after h0 X (Proc.devRef .tc main_v1) = negi (vec (X (Proc.devRef .tc main_arg4))) := by
  after_reads_simp
  all_goals rfl

theorem h1_v2 : after h1 X (Proc.devRef .tc main_v2) = (Host.sort2 S16384 0 comparator_i32_i32_d0 (X (Proc.devRef .tc main_v1)) (iotaInDim S16384 32 0)).2 := by
  after_reads_simp
  simp only [TRef.ofBuf_toBuf, TRef.toBuf, TRef.ofBuf, cast_eq]

theorem h2_v3 : after h2 X (Proc.devRef .tc main_v3) = takeRows (X (Proc.devRef .tc main_arg0)) (X (Proc.devRef .tc main_v2)) := by
  after_reads_simp
  simp only [TRef.ofBuf_toBuf, TRef.toBuf, TRef.ofBuf, cast_eq]
  unfold takeRows posIn wrapPos
  rfl

theorem h3_v4 : after h3 X (Proc.devRef .tc main_v4) = takeVec (X (Proc.devRef .tc main_v0)) (X (Proc.devRef .tc main_v2)) := by
  after_reads_simp
  simp only [TRef.ofBuf_toBuf, TRef.toBuf, TRef.ofBuf, cast_eq]
  unfold takeVec posIn wrapPos
  rfl

theorem h4_v5 : after h4 X (Proc.devRef .tc main_v5) = takeEmb (F := F) (X (Proc.devRef .tc main_arg6)) (X (Proc.devRef .tc main_v3)) := by
  after_reads_simp
  simp only [TRef.ofBuf_toBuf, TRef.toBuf, TRef.ofBuf, cast_eq]
  unfold takeEmb idIn wrapId
  rfl

theorem h5_v10_0 : after h5 X (Proc.devRef .tc main_v10_0) = stepFirst (F := F) (X (Proc.devRef .tc main_v5)) := by
  after_reads_simp
  all_goals rfl

theorem h5_v10_6 : after h5 X (Proc.devRef .tc main_v10_6) = (X (Proc.devRef .tc main_v4)) := by
  after_reads_simp
  all_goals rfl

theorem h1_keep_v0 : after h1 X (Proc.devRef .tc main_v0) = (X (Proc.devRef .tc main_v0)) := by after_reads_simp

theorem h2_keep_v0 : after h2 X (Proc.devRef .tc main_v0) = (X (Proc.devRef .tc main_v0)) := by after_reads_simp

theorem h2_keep_v2 : after h2 X (Proc.devRef .tc main_v2) = (X (Proc.devRef .tc main_v2)) := by after_reads_simp

theorem h3_keep_v3 : after h3 X (Proc.devRef .tc main_v3) = (X (Proc.devRef .tc main_v3)) := by after_reads_simp

theorem h4_keep_v4 : after h4 X (Proc.devRef .tc main_v4) = (X (Proc.devRef .tc main_v4)) := by after_reads_simp

theorem h0_keep_arg6 : after h0 X (Proc.devRef .tc main_arg6) = (X (Proc.devRef .tc main_arg6)) := by after_reads_simp

theorem h1_keep_arg6 : after h1 X (Proc.devRef .tc main_arg6) = (X (Proc.devRef .tc main_arg6)) := by after_reads_simp

theorem h2_keep_arg6 : after h2 X (Proc.devRef .tc main_arg6) = (X (Proc.devRef .tc main_arg6)) := by after_reads_simp

theorem h3_keep_arg6 : after h3 X (Proc.devRef .tc main_arg6) = (X (Proc.devRef .tc main_arg6)) := by after_reads_simp

theorem h0_keep_arg0 : after h0 X (Proc.devRef .tc main_arg0) = (X (Proc.devRef .tc main_arg0)) := by after_reads_simp

theorem h1_keep_arg0 : after h1 X (Proc.devRef .tc main_arg0) = (X (Proc.devRef .tc main_arg0)) := by after_reads_simp

theorem pre_0 : afterL preOps X (Proc.devRef .tc main_v10_0) = stepFirst (takeEmb (F := F) (X (Proc.devRef .tc main_arg6)) (takeRows (X (Proc.devRef .tc main_arg0)) (order (vec (X (Proc.devRef .tc main_arg4)))))) := by
  simp only [afterL_cons, afterL_nil]
  rw [h5_v10_0, h4_v5, h3_keep_arg6, h2_keep_arg6, h1_keep_arg6, h0_keep_arg6, h3_keep_v3, h2_v3, h1_keep_arg0, h0_keep_arg0, h1_v2, h0_v1]
  all_goals rfl

theorem pre_6 : afterL preOps X (Proc.devRef .tc main_v10_6) = takeVec (vec (X (Proc.devRef .tc main_arg4))) (order (vec (X (Proc.devRef .tc main_arg4)))) := by
  simp only [afterL_cons, afterL_nil]
  rw [h5_v10_6, h4_keep_v4, h3_v4, h2_keep_v0, h1_keep_v0, h0_v0, h2_keep_v2, h1_v2, h0_v1]
  all_goals rfl

theorem pre_1 : afterL preOps X (Proc.devRef .tc main_v10_1) = iotaInDim S20 32 0 := by
  rw [afterL_eq_after_flatten]; after_reads_simp; all_goals rfl

theorem pre_2 : afterL preOps X (Proc.devRef .tc main_v10_2) = (X (Proc.devRef .tc main_arg7)) := by
  rw [afterL_eq_after_flatten]; after_reads_simp; all_goals rfl

theorem pre_3 : afterL preOps X (Proc.devRef .tc main_v10_3) = (X (Proc.devRef .tc main_arg9)) := by
  rw [afterL_eq_after_flatten]; after_reads_simp; all_goals rfl

theorem pre_4 : afterL preOps X (Proc.devRef .tc main_v10_4) = (X (Proc.devRef .tc main_arg8)) := by
  rw [afterL_eq_after_flatten]; after_reads_simp; all_goals rfl

theorem pre_5 : afterL preOps X (Proc.devRef .tc main_v10_5) = (X (Proc.devRef .tc main_arg10)) := by
  rw [afterL_eq_after_flatten]; after_reads_simp; all_goals rfl

theorem pre_8 : afterL preOps X (Proc.devRef .tc main_v10_8) = zeros := by
  rw [afterL_eq_after_flatten]; after_reads_simp; all_goals rfl

theorem pre_9 : afterL preOps X (Proc.devRef .tc main_v10_9) = zerosAll := by
  rw [afterL_eq_after_flatten]; after_reads_simp; all_goals rfl

theorem h6_v12 : after h6 X (Proc.devRef .tc main_v12) = vec (X (Proc.devRef .tc main_arg5)) := by
  after_reads_simp
  all_goals rfl

theorem h6_v13 : after h6 X (Proc.devRef .tc main_v13) = negi (vec (X (Proc.devRef .tc main_arg5))) := by
  after_reads_simp
  all_goals rfl

theorem h7_v14 : after h7 X (Proc.devRef .tc main_v14) = (Host.sort2 S16384 0 comparator_i32_i32_d0 (X (Proc.devRef .tc main_v13)) (iotaInDim S16384 32 0)).2 := by
  after_reads_simp
  simp only [TRef.ofBuf_toBuf, TRef.toBuf, TRef.ofBuf, cast_eq]

theorem h8_v15 : after h8 X (Proc.devRef .tc main_v15) = takeRows (X (Proc.devRef .tc main_arg1)) (X (Proc.devRef .tc main_v14)) := by
  after_reads_simp
  simp only [TRef.ofBuf_toBuf, TRef.toBuf, TRef.ofBuf, cast_eq]
  unfold takeRows posIn wrapPos
  rfl

theorem h9_v16 : after h9 X (Proc.devRef .tc main_v16) = takeVec (X (Proc.devRef .tc main_v12)) (X (Proc.devRef .tc main_v14)) := by
  after_reads_simp
  simp only [TRef.ofBuf_toBuf, TRef.toBuf, TRef.ofBuf, cast_eq]
  unfold takeVec posIn wrapPos
  rfl

theorem h10_v17 : after h10 X (Proc.devRef .tc main_v17) = takeEmb (F := F) (X (Proc.devRef .tc main_arg6)) (X (Proc.devRef .tc main_v15)) := by
  after_reads_simp
  simp only [TRef.ofBuf_toBuf, TRef.toBuf, TRef.ofBuf, cast_eq]
  unfold takeEmb idIn wrapId
  rfl

theorem h11_v21_0 : after h11 X (Proc.devRef .tc main_v21_0) = stepFirst (F := F) (X (Proc.devRef .tc main_v17)) := by
  after_reads_simp
  all_goals rfl

theorem h11_v21_6 : after h11 X (Proc.devRef .tc main_v21_6) = (X (Proc.devRef .tc main_v16)) := by
  after_reads_simp
  all_goals rfl

theorem h7_keep_v12 : after h7 X (Proc.devRef .tc main_v12) = (X (Proc.devRef .tc main_v12)) := by after_reads_simp

theorem h8_keep_v12 : after h8 X (Proc.devRef .tc main_v12) = (X (Proc.devRef .tc main_v12)) := by after_reads_simp

theorem h8_keep_v14 : after h8 X (Proc.devRef .tc main_v14) = (X (Proc.devRef .tc main_v14)) := by after_reads_simp

theorem h9_keep_v15 : after h9 X (Proc.devRef .tc main_v15) = (X (Proc.devRef .tc main_v15)) := by after_reads_simp

theorem h10_keep_v16 : after h10 X (Proc.devRef .tc main_v16) = (X (Proc.devRef .tc main_v16)) := by after_reads_simp

theorem h6_keep_arg6 : after h6 X (Proc.devRef .tc main_arg6) = (X (Proc.devRef .tc main_arg6)) := by after_reads_simp

theorem h7_keep_arg6 : after h7 X (Proc.devRef .tc main_arg6) = (X (Proc.devRef .tc main_arg6)) := by after_reads_simp

theorem h8_keep_arg6 : after h8 X (Proc.devRef .tc main_arg6) = (X (Proc.devRef .tc main_arg6)) := by after_reads_simp

theorem h9_keep_arg6 : after h9 X (Proc.devRef .tc main_arg6) = (X (Proc.devRef .tc main_arg6)) := by after_reads_simp

theorem h6_keep_arg1 : after h6 X (Proc.devRef .tc main_arg1) = (X (Proc.devRef .tc main_arg1)) := by after_reads_simp

theorem h7_keep_arg1 : after h7 X (Proc.devRef .tc main_arg1) = (X (Proc.devRef .tc main_arg1)) := by after_reads_simp

theorem mid_0 : afterL midOps X (Proc.devRef .tc main_v21_0) = stepFirst (takeEmb (F := F) (X (Proc.devRef .tc main_arg6)) (takeRows (X (Proc.devRef .tc main_arg1)) (order (vec (X (Proc.devRef .tc main_arg5)))))) := by
  simp only [afterL_cons, afterL_nil]
  rw [h11_v21_0, h10_v17, h9_keep_arg6, h8_keep_arg6, h7_keep_arg6, h6_keep_arg6, h9_keep_v15, h8_v15, h7_keep_arg1, h6_keep_arg1, h7_v14, h6_v13]
  all_goals rfl

theorem mid_6 : afterL midOps X (Proc.devRef .tc main_v21_6) = takeVec (vec (X (Proc.devRef .tc main_arg5))) (order (vec (X (Proc.devRef .tc main_arg5)))) := by
  simp only [afterL_cons, afterL_nil]
  rw [h11_v21_6, h10_keep_v16, h9_v16, h8_keep_v12, h7_keep_v12, h6_v12, h8_keep_v14, h7_v14, h6_v13]
  all_goals rfl

theorem mid_1 : afterL midOps X (Proc.devRef .tc main_v21_1) = iotaInDim S20 32 0 := by
  rw [afterL_eq_after_flatten]; after_reads_simp; all_goals rfl

theorem mid_2 : afterL midOps X (Proc.devRef .tc main_v21_2) = (X (Proc.devRef .tc main_arg11)) := by
  rw [afterL_eq_after_flatten]; after_reads_simp; all_goals rfl

theorem mid_3 : afterL midOps X (Proc.devRef .tc main_v21_3) = (X (Proc.devRef .tc main_arg13)) := by
  rw [afterL_eq_after_flatten]; after_reads_simp; all_goals rfl

theorem mid_4 : afterL midOps X (Proc.devRef .tc main_v21_4) = (X (Proc.devRef .tc main_arg12)) := by
  rw [afterL_eq_after_flatten]; after_reads_simp; all_goals rfl

theorem mid_5 : afterL midOps X (Proc.devRef .tc main_v21_5) = (X (Proc.devRef .tc main_arg14)) := by
  rw [afterL_eq_after_flatten]; after_reads_simp; all_goals rfl

theorem mid_8 : afterL midOps X (Proc.devRef .tc main_v21_8) = (X (Proc.devRef .tc main_v10_8)) := by
  rw [afterL_eq_after_flatten]; after_reads_simp; all_goals rfl

theorem mid_9 : afterL midOps X (Proc.devRef .tc main_v21_9) = zerosAll := by
  rw [afterL_eq_after_flatten]; after_reads_simp; all_goals rfl

theorem post_22 : afterL postOps X (Proc.devRef .tc main_v22) = transpose S16384x20x64 [1, 0, 2] (X (Proc.devRef .tc main_v21_9) : FVec F S20x16384x64 .f32) transposes_S20x16384x64_S16384x20x64_1_0_2 := by
  rw [afterL_eq_after_flatten]; after_reads_simp; all_goals rfl

end Cert.Gru

end
-- ==== Proof.RefCell.lean ====
/- The reference's operations of one trip, at one batch row and one unit. -/
module

public import proofs.«01_k».proof.Proof.RefTripValue
public import proofs.«01_k».proof.Proof.RefReads
public import proofs.«01_k».proof.Proof.Model
public import Idealize.ShloMosaic.Lib.DynamicIndex
public import Idealize.ShloMosaic.Lib.WordCmp
public import Idealize.ShloMosaic.Lib.Pointwise.ShapeOpsCore
public import Idealize.ShloMosaic.Lib.Pipeline.Value

@[expose] public section

set_option maxRecDepth 8192

noncomputable section

namespace Cert.Gru

open Idealize.ShloMosaic Idealize.ShloMosaic.TcCoe
open Cert.ReferenceIdeal Cert.ReferenceIdeal.Gen

theorem gates_apply (x : FVec Ideal S16384x64 .f32) (w : FVec Ideal S192x64 .f32) (b : FVec Ideal S192 .f32) (i : Fin 16384) (g : Fin 192) :
    gates (F := Ideal) x w b (ValueIdx.ix2 i g) = gateSum (fun g e => w (ValueIdx.ix2 g e)) (fun g => b (ValueIdx.ix1 g)) (fun e => x (ValueIdx.ix2 i e)) g := by
  unfold gates gateSum
  pointwise
  try rfl

theorem cell_apply (gi gh : FVec Ideal S16384x192 .f32) (h : FVec Ideal S16384x64 .f32) (i : Fin 16384) (p : Fin 64) :
    cell (F := Ideal) gi gh h (ValueIdx.ix2 i p) = newState (fun g => gi (ValueIdx.ix2 i g)) (fun g => gh (ValueIdx.ix2 i g)) (fun p => h (ValueIdx.ix2 i p)) p := by
  unfold cell newState sgm
  pointwise [logistic, ones, third0, third1, third2]
  try rfl

theorem small_toInt {k : ℕ} (hk : k < 20) : (BitVec.ofNat 32 k).toInt = k := toInt_ofNat_of_lt (by omega)

theorem xAt_apply (xs : FVec Ideal S20x16384x64 .f32) (k : ℕ) (hk : k < 20) (i : Fin 16384) (e : Fin 64) :
    xAt (F := Ideal) xs (constantI S_ 32 (BitVec.ofNat 32 k)) (ValueIdx.ix2 i e) = xs (ValueIdx.ix3 ⟨k, hk⟩ i e) := by
  unfold xAt
  have hs : S20x16384x64.Slices ![k, 0, 0] S1x16384x64 := ⟨rfl, fun a => by
    match a with
    | ⟨0, _⟩ => show k + 1 ≤ 20; omega
    | ⟨1, _⟩ => exact Nat.le_refl _
    | ⟨2, _⟩ => exact Nat.le_refl _⟩
  rw [Host.dynamicSlice_eq_extractStridedSlice S1x16384x64 xs _ ![k, 0, 0] _ hs (fun a => by
    match a with
    | ⟨0, _⟩ => exact small_toInt hk
    | ⟨1, _⟩ => rfl
    | ⟨2, _⟩ => rfl)]
  pointwise
  try rfl

/-- The entry of the step counter's table at a step. -/
def nowAt (ts : IVec S20 32) (t : IVec S_ 32) : IVec S_ 32 :=
  shapeCast S_ (Host.dynamicSlice S1 ts (fun q => ((![t] : Fin 1 → IVec S_ 32) q (Shape.Idx.first h_S_)).toInt) sliceFits_S20_S1) shapeCasts_S1_S_

/-- Whether a step is below each row's length, given the step. -/
def maskOf (x : IVec S_ 32) (len : IVec S16384 32) : IVec S16384x64 1 :=
  broadcastInDim S16384x64 ![0, 1] bcast_S16384x1_S16384x64_0_1 (broadcastInDim S16384x1 ![0] bcast_S16384_S16384x1_0
    (cmpi .slt (broadcastInDim S16384 ![] bcast_S_S16384 x) len))

theorem maskAt_eq (ts : IVec S20 32) (len : IVec S16384 32) (t : IVec S_ 32) : maskAt (F := Ideal) ts len t = maskOf (nowAt ts t) len := rfl

theorem nowAt_eq (k : ℕ) (hk : k < 20) : nowAt (iotaInDim S20 32 0) (constantI S_ 32 (BitVec.ofNat 32 k)) = constantI S_ 32 (BitVec.ofNat 32 k) := by
  unfold nowAt
  have hs : S20.Slices ![k] S1 := ⟨rfl, fun a => by
    match a with
    | ⟨0, _⟩ => show k + 1 ≤ 20; omega⟩
  rw [Host.dynamicSlice_eq_extractStridedSlice S1 (iotaInDim S20 32 0) _ ![k] _ hs (fun a => by
    match a with
    | ⟨0, _⟩ => exact small_toInt hk)]
  have e : ∀ q : S1.Idx, extractStridedSlice S1 ![k] (iotaInDim S20 32 0) hs q = BitVec.ofNat 32 k := fun q => by
    have hq : ((id q : S1.Idx) 0).val < 1 := ((id q : S1.Idx) 0).isLt
    have hz : ((id q : S1.Idx) 0).val = 0 := by omega
    show BitVec.ofNat 32 (k + ((id q : S1.Idx) 0).val) = _
    rw [hz, Nat.add_zero]
  exact funext fun j => e _

theorem maskOf_apply (x : BitVec 32) (len : IVec S16384 32) (i : Fin 16384) (p : Fin 64) :
    maskOf (constantI S_ 32 x) len (ValueIdx.ix2 i p) = IntOp.cmpi .slt x (len (ValueIdx.ix1 i)) := by
  unfold maskOf
  pointwise
  try rfl

theorem maskAt_apply (len : IVec S16384 32) (k : ℕ) (hk : k < 20) (i : Fin 16384) (p : Fin 64) :
    maskAt (F := Ideal) (iotaInDim S20 32 0) len (constantI S_ 32 (BitVec.ofNat 32 k)) (ValueIdx.ix2 i p) = IntOp.cmpi .slt (BitVec.ofNat 32 k) (len (ValueIdx.ix1 i)) := by
  refine (congrFun (maskAt_eq _ len _) _).trans ?_
  refine (congrArg (fun x => maskOf x len (ValueIdx.ix2 i p)) (nowAt_eq k hk)).trans ?_
  exact maskOf_apply _ len i p

/-- A row still running takes the new value, a row that is done the old one. -/
theorem masked_apply (len : IVec S16384 32) (k : ℕ) (hk : k < 20) (a b : FVec Ideal S16384x64 .f32) (i : Fin 16384) (p : Fin 64) :
    select (maskAt (F := Ideal) (iotaInDim S20 32 0) len (constantI S_ 32 (BitVec.ofNat 32 k))) a b (ValueIdx.ix2 i p)
      = if (k : ℤ) < (len (ValueIdx.ix1 i)).toInt then a (ValueIdx.ix2 i p) else b (ValueIdx.ix2 i p) := by
  show (if maskAt (F := Ideal) (iotaInDim S20 32 0) len (constantI S_ 32 (BitVec.ofNat 32 k)) (ValueIdx.ix2 i p) = 1#1 then _ else _) = _
  rw [maskAt_apply len k hk]
  refine if_congr ?_ rfl rfl
  rw [IntOp.cmpi_slt, small_toInt hk]

theorem putAt_apply (ys : FVec Ideal S20x16384x64 .f32) (y : FVec Ideal S16384x64 .f32) (k : ℕ) (hk : k < 20) (t : Fin 20) (i : Fin 16384) (p : Fin 64) :
    putAt (F := Ideal) ys y (constantI S_ 32 (BitVec.ofNat 32 k)) (ValueIdx.ix3 t i p) = if t.val = k then y (ValueIdx.ix2 i p) else ys (ValueIdx.ix3 t i p) := by
  unfold putAt
  have hs : S20x16384x64.Slices ![k, 0, 0] S1x16384x64 := ⟨rfl, fun a => by
    match a with
    | ⟨0, _⟩ => show k + 1 ≤ 20; omega
    | ⟨1, _⟩ => exact Nat.le_refl _
    | ⟨2, _⟩ => exact Nat.le_refl _⟩
  rw [WordCmp.dynamicUpdateSlice_eq_update ys _ _ _ ![k, 0, 0] hs (fun a => by
    match a with
    | ⟨0, _⟩ => exact small_toInt hk
    | ⟨1, _⟩ => rfl
    | ⟨2, _⟩ => rfl)]
  pointwise
  by_cases h : t.val = k
  · rw [if_pos h]
    refine (dif_pos (show k ≤ t.val ∧ t.val < k + 1 from ⟨by omega, by omega⟩)).trans rfl
  · rw [if_neg h]
    exact dif_neg (show ¬(k ≤ t.val ∧ t.val < k + 1) from by omega)

end Cert.Gru

end
-- ==== Proof.RefLoop.lean ====
/- What the reference's loops compute, at one batch row: the row's run and its outputs. -/
module

public import proofs.«01_k».proof.Proof.RefCell
public import proofs.«01_k».proof.Proof.Target

@[expose] public section

set_option maxRecDepth 8192

noncomputable section

namespace Cert.Gru

open Idealize.ShloMosaic Idealize.ShloMosaic.TcCoe
open Cert.ReferenceIdeal Cert.ReferenceIdeal.Gen

/-- The counter before a trip. -/
abbrev ctr (k : ℕ) : IVec S_ 32 := constantI S_ 32 (BitVec.ofNat 32 k)

theorem zeros_apply (i : Fin 16384) (p : Fin 64) : zeros (F := Ideal) (ValueIdx.ix2 i p) = 0 := by
  unfold zeros
  pointwise
  try rfl

section Rows
variable (xs : FVec Ideal S20x16384x64 .f32) (wi wh : FVec Ideal S192x64 .f32) (bi bh : FVec Ideal S192 .f32) (len : IVec S16384 32)

/-- The cell's new state at a trip. -/
abbrev fresh (k : ℕ) (h : FVec Ideal S16384x64 .f32) : FVec Ideal S16384x64 .f32 :=
  cell (F := Ideal) (gates (xAt xs (ctr k)) wi bi) (gates h wh bh) h

abbrev maskNow (k : ℕ) : IVec S16384x64 1 := maskAt (F := Ideal) (iotaInDim S20 32 0) len (ctr k)

variable (emb : FVec Ideal S512x64 .f32) (id : ℕ → Fin 512) (r : Fin 16384)
  (hx : ∀ (t : ℕ) (ht : t < 20) (e : Fin 64), xs (ValueIdx.ix3 ⟨t, ht⟩ r e) = emb (ValueIdx.ix2 (id t) e))

include hx in
theorem fresh_apply (k : ℕ) (hk : k < 20) (h : FVec Ideal S16384x64 .f32) (p : Fin 64) :
    fresh xs wi wh bi bh k h (ValueIdx.ix2 r p)
      = newState (inGates emb wi bi id k) (gateSum (fun g e => wh (ValueIdx.ix2 g e)) (fun g => bh (ValueIdx.ix1 g)) (fun p => h (ValueIdx.ix2 r p)))
          (fun p => h (ValueIdx.ix2 r p)) p := by
  refine (cell_apply _ _ h r p).trans ?_
  have e1 : (fun g => gates (F := Ideal) (xAt xs (ctr k)) wi bi (ValueIdx.ix2 r g)) = inGates emb wi bi id k := by
    funext g
    refine (gates_apply _ _ _ r g).trans ?_
    unfold inGates
    exact congrArg (fun v => gateSum (fun g e => wi (ValueIdx.ix2 g e)) (fun g => bi (ValueIdx.ix1 g)) v g)
      (funext fun e => (xAt_apply xs k hk r e).trans (hx k hk e))
  have e2 : (fun g => gates (F := Ideal) h wh bh (ValueIdx.ix2 r g))
      = gateSum (fun g e => wh (ValueIdx.ix2 g e)) (fun g => bh (ValueIdx.ix1 g)) (fun p => h (ValueIdx.ix2 r p)) :=
    funext fun g => gates_apply _ _ _ r g
  rw [e1, e2]

variable (st : ℕ → FVec Ideal S16384x64 .f32) (hst : ∀ k, k < 20 → st (k + 1) = select (maskNow len k) (fresh xs wi wh bi bh k (st k)) (st k))

include hx hst in
theorem state_row : ∀ k, k ≤ 20 → (fun p => st k (ValueIdx.ix2 r p))
      = rowRun emb wi wh bi bh id (len (ValueIdx.ix1 r)).toInt (fun p => st 0 (ValueIdx.ix2 r p)) k
  | 0, _ => rfl
  | k + 1, hk => by
    have ih := state_row k (by omega)
    unfold rowRun at ih ⊢
    rw [colRun_succ, ← ih]
    funext p
    rw [hst k hk]
    refine (masked_apply len k hk _ _ r p).trans ?_
    unfold colStep
    rw [fresh_apply xs wi wh bi bh emb id r hx k hk]
    split <;> rfl

variable (ys : ℕ → FVec Ideal S20x16384x64 .f32)
  (hys : ∀ k, k < 20 → ys (k + 1) = putAt (F := Ideal) (ys k) (select (maskNow len k) (fresh xs wi wh bi bh k (st k)) zeros) (ctr k))

include hx hst hys in
theorem out_row (p : Fin 64) : ∀ k, k ≤ 20 → ∀ t : Fin 20, t.val < k → ys k (ValueIdx.ix3 t r p)
      = rowOut emb wi wh bi bh id (len (ValueIdx.ix1 r)).toInt (fun p => st 0 (ValueIdx.ix2 r p)) t.val p
  | 0, _, t, h => absurd h (Nat.not_lt_zero _)
  | k + 1, hk, t, h => by
    rw [hys k hk]
    refine (putAt_apply _ _ k hk t r p).trans ?_
    by_cases e : t.val = k
    · rw [if_pos e, e]
      refine (masked_apply len k hk _ _ r p).trans ?_
      have s := state_row xs wi wh bi bh len emb id r hx st hst k (by omega)
      rw [fresh_apply xs wi wh bi bh emb id r hx k hk, zeros_apply, s]
      rfl
    · rw [if_neg e]
      exact out_row p k (by omega) t (by omega)

end Rows

end Cert.Gru

end
-- ==== Proof.RefValue.lean ====
/- What the reference's run leaves in its result, row by row. -/
module

public import proofs.«01_k».proof.Proof.RefLoop
public import proofs.«01_k».proof.Proof.InRange

@[expose] public section

set_option maxRecDepth 8192

noncomputable section

namespace Cert.Gru

open Idealize.ShloMosaic Idealize.ShloMosaic.TcCoe Idealize.ShloMosaic.StableHlo
open Cert.ReferenceIdeal Cert.ReferenceIdeal.Gen

/-! What a loop's trips do not write. -/

section Keeps
variable (W : Dev nD → Valuation τ sig (Elt Ideal)) (c : Dev nD)

theorem e_keep_0 : ∀ k, atTrip eCond eTrip W k c (Proc.devRef .tc main_v10_0) = W c (Proc.devRef .tc main_v10_0)
  | 0 => rfl
  | k + 1 => by rw [atTrip_succ, eTrip_0, e_keep_0 k]

theorem e_keep_1 : ∀ k, atTrip eCond eTrip W k c (Proc.devRef .tc main_v10_1) = W c (Proc.devRef .tc main_v10_1)
  | 0 => rfl
  | k + 1 => by rw [atTrip_succ, eTrip_1, e_keep_1 k]

theorem e_keep_2 : ∀ k, atTrip eCond eTrip W k c (Proc.devRef .tc main_v10_2) = W c (Proc.devRef .tc main_v10_2)
  | 0 => rfl
  | k + 1 => by rw [atTrip_succ, eTrip_2, e_keep_2 k]

theorem e_keep_3 : ∀ k, atTrip eCond eTrip W k c (Proc.devRef .tc main_v10_3) = W c (Proc.devRef .tc main_v10_3)
  | 0 => rfl
  | k + 1 => by rw [atTrip_succ, eTrip_3, e_keep_3 k]

theorem e_keep_4 : ∀ k, atTrip eCond eTrip W k c (Proc.devRef .tc main_v10_4) = W c (Proc.devRef .tc main_v10_4)
  | 0 => rfl
  | k + 1 => by rw [atTrip_succ, eTrip_4, e_keep_4 k]

theorem e_keep_5 : ∀ k, atTrip eCond eTrip W k c (Proc.devRef .tc main_v10_5) = W c (Proc.devRef .tc main_v10_5)
  | 0 => rfl
  | k + 1 => by rw [atTrip_succ, eTrip_5, e_keep_5 k]

theorem e_keep_6 : ∀ k, atTrip eCond eTrip W k c (Proc.devRef .tc main_v10_6) = W c (Proc.devRef .tc main_v10_6)
  | 0 => rfl
  | k + 1 => by rw [atTrip_succ, eTrip_6, e_keep_6 k]

theorem d_keep_0 : ∀ k, atTrip dCond dTrip W k c (Proc.devRef .tc main_v21_0) = W c (Proc.devRef .tc main_v21_0)
  | 0 => rfl
  | k + 1 => by rw [atTrip_succ, dTrip_0, d_keep_0 k]

theorem d_keep_1 : ∀ k, atTrip dCond dTrip W k c (Proc.devRef .tc main_v21_1) = W c (Proc.devRef .tc main_v21_1)
  | 0 => rfl
  | k + 1 => by rw [atTrip_succ, dTrip_1, d_keep_1 k]

theorem d_keep_2 : ∀ k, atTrip dCond dTrip W k c (Proc.devRef .tc main_v21_2) = W c (Proc.devRef .tc main_v21_2)
  | 0 => rfl
  | k + 1 => by rw [atTrip_succ, dTrip_2, d_keep_2 k]

theorem d_keep_3 : ∀ k, atTrip dCond dTrip W k c (Proc.devRef .tc main_v21_3) = W c (Proc.devRef .tc main_v21_3)
  | 0 => rfl
  | k + 1 => by rw [atTrip_succ, dTrip_3, d_keep_3 k]

theorem d_keep_4 : ∀ k, atTrip dCond dTrip W k c (Proc.devRef .tc main_v21_4) = W c (Proc.devRef .tc main_v21_4)
  | 0 => rfl
  | k + 1 => by rw [atTrip_succ, dTrip_4, d_keep_4 k]

theorem d_keep_5 : ∀ k, atTrip dCond dTrip W k c (Proc.devRef .tc main_v21_5) = W c (Proc.devRef .tc main_v21_5)
  | 0 => rfl
  | k + 1 => by rw [atTrip_succ, dTrip_5, d_keep_5 k]

theorem d_keep_6 : ∀ k, atTrip dCond dTrip W k c (Proc.devRef .tc main_v21_6) = W c (Proc.devRef .tc main_v21_6)
  | 0 => rfl
  | k + 1 => by rw [atTrip_succ, dTrip_6, d_keep_6 k]

theorem e_state (h0 : ∀ c, W c (Proc.devRef .tc main_v10_7) = constantI S_ 32 0#32) (h1 : W c (Proc.devRef .tc main_v10_1) = iotaInDim S20 32 0) (k : ℕ) :
    (atTrip eCond eTrip W (k + 1) c (Proc.devRef .tc main_v10_8)) = select (maskNow (W c (Proc.devRef .tc main_v10_6)) k) (fresh (W c (Proc.devRef .tc main_v10_0)) (W c (Proc.devRef .tc main_v10_2)) (W c (Proc.devRef .tc main_v10_4)) (W c (Proc.devRef .tc main_v10_3)) (W c (Proc.devRef .tc main_v10_5)) k (atTrip eCond eTrip W (k) c (Proc.devRef .tc main_v10_8))) (atTrip eCond eTrip W (k) c (Proc.devRef .tc main_v10_8)) := by
  rw [atTrip_succ, eTrip_h, e_keep_0, e_keep_1, e_keep_2, e_keep_3, e_keep_4, e_keep_5, e_keep_6, e_ctr W h0 c k, h1]

theorem d_state (h0 : ∀ c, W c (Proc.devRef .tc main_v21_7) = constantI S_ 32 0#32) (h1 : W c (Proc.devRef .tc main_v21_1) = iotaInDim S20 32 0) (k : ℕ) :
    (atTrip dCond dTrip W (k + 1) c (Proc.devRef .tc main_v21_8)) = select (maskNow (W c (Proc.devRef .tc main_v21_6)) k) (fresh (W c (Proc.devRef .tc main_v21_0)) (W c (Proc.devRef .tc main_v21_2)) (W c (Proc.devRef .tc main_v21_4)) (W c (Proc.devRef .tc main_v21_3)) (W c (Proc.devRef .tc main_v21_5)) k (atTrip dCond dTrip W (k) c (Proc.devRef .tc main_v21_8))) (atTrip dCond dTrip W (k) c (Proc.devRef .tc main_v21_8)) := by
  rw [atTrip_succ, dTrip_h, d_keep_0, d_keep_1, d_keep_2, d_keep_3, d_keep_4, d_keep_5, d_keep_6, d_ctr W h0 c k, h1]

theorem d_outs (h0 : ∀ c, W c (Proc.devRef .tc main_v21_7) = constantI S_ 32 0#32) (h1 : W c (Proc.devRef .tc main_v21_1) = iotaInDim S20 32 0) (k : ℕ) :
    (atTrip dCond dTrip W (k + 1) c (Proc.devRef .tc main_v21_9)) = putAt (F := Ideal) (atTrip dCond dTrip W (k) c (Proc.devRef .tc main_v21_9)) (select (maskNow (W c (Proc.devRef .tc main_v21_6)) k) (fresh (W c (Proc.devRef .tc main_v21_0)) (W c (Proc.devRef .tc main_v21_2)) (W c (Proc.devRef .tc main_v21_4)) (W c (Proc.devRef .tc main_v21_3)) (W c (Proc.devRef .tc main_v21_5)) k (atTrip dCond dTrip W (k) c (Proc.devRef .tc main_v21_8))) zeros) (ctr k) := by
  rw [atTrip_succ, dTrip_y, d_keep_0, d_keep_1, d_keep_2, d_keep_3, d_keep_4, d_keep_5, d_keep_6, d_ctr W h0 c k, h1]

end Keeps

/-- The ids along an order, when each lies in the vocabulary. -/
theorem embedded (emb : FVec Ideal S512x64 .f32) (ids : IVec S16384x20 32)
    (h : ∀ i t, 0 ≤ (ids (ValueIdx.ix2 i t)).toInt ∧ (ids (ValueIdx.ix2 i t)).toInt < 512) (r : Fin 16384) (t : ℕ) (ht : t < 20) (e : Fin 64) :
    stepFirst (takeEmb emb ids) (ValueIdx.ix3 ⟨t, ht⟩ r e) = emb (ValueIdx.ix2 (idAt ids r t) e) := by
  have s : stepFirst (takeEmb emb ids) (ValueIdx.ix3 ⟨t, ht⟩ r e) = takeEmb emb ids (ValueIdx.ix3 r ⟨t, ht⟩ e) := by
    unfold stepFirst
    pointwise
    try rfl
  refine s.trans (takeEmb_apply emb ids (fun i t => idAt ids i t.val) (fun i t => ?_) r ⟨t, ht⟩ e)
  rw [idAt_val ids i t (h i t).1 (h i t).2, BitVec.ofNat_toNat, BitVec.setWidth_eq]

variable (m : (ℓ : Loc nD τ sig) → Buf (Elt Ideal) ℓ) (c : Dev nD)

abbrev rLens0 : IVec S16384 32 := vec (m ((c.tc : Thread nD τ).loc main_arg4))
abbrev rLens1 : IVec S16384 32 := vec (m ((c.tc : Thread nD τ).loc main_arg5))
abbrev rIds0 : IVec S16384x20 32 := takeRows (m ((c.tc : Thread nD τ).loc main_arg0)) (order (rLens0 m c))
abbrev rIds1 : IVec S16384x20 32 := takeRows (m ((c.tc : Thread nD τ).loc main_arg1)) (order (rLens1 m c))
abbrev rSorted0 : IVec S16384 32 := takeVec (rLens0 m c) (order (rLens0 m c))
abbrev rSorted1 : IVec S16384 32 := takeVec (rLens1 m c) (order (rLens1 m c))

/-- The encoder's last state of a row. -/
abbrev rFinal (r : Fin 16384) : Fin 64 → EReal :=
  rowRun (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (idAt (rIds0 m c) r) (rSorted0 m c (ValueIdx.ix1 r)).toInt (fun _ => 0) 20

abbrev KeepsRange : Prop := InRange (m ((c.tc : Thread nD τ).loc main_arg0)) (m ((c.tc : Thread nD τ).loc main_arg1))
    (m ((c.tc : Thread nD τ).loc main_arg4)) (m ((c.tc : Thread nD τ).loc main_arg5))

variable {m} {c}

theorem rIds0_range (h : KeepsRange m c) (i : Fin 16384) (t : Fin 20) :
    0 ≤ (rIds0 m c (ValueIdx.ix2 i t)).toInt ∧ (rIds0 m c (ValueIdx.ix2 i t)).toInt < 512 := by
  have e : rIds0 m c (ValueIdx.ix2 i t) = _ := takeRows_apply _ _ _ (order_apply (rLens0 m c)) i t
  rw [e]; exact h.id0 _

theorem rIds1_range (h : KeepsRange m c) (i : Fin 16384) (t : Fin 20) :
    0 ≤ (rIds1 m c (ValueIdx.ix2 i t)).toInt ∧ (rIds1 m c (ValueIdx.ix2 i t)).toInt < 512 := by
  have e : rIds1 m c (ValueIdx.ix2 i t) = _ := takeRows_apply _ _ _ (order_apply (rLens1 m c)) i t
  rw [e]; exact h.id1 _

theorem encState_row (h : KeepsRange m c) (r : Fin 16384) :
    (fun p => (encLoop.exit (atEnc m) c (Proc.devRef .tc main_v10_8) : FVec Ideal S16384x64 .f32) (ValueIdx.ix2 r p)) = rFinal m c r := by
  have k : encLoop.exit (atEnc m) c (Proc.devRef .tc main_v10_8) = atTrip eCond eTrip (atEnc m) 20 c (Proc.devRef .tc main_v10_8) := eCond_keep _ _ (by decide)
  have s := state_row (atEnc m c (Proc.devRef .tc main_v10_0)) (atEnc m c (Proc.devRef .tc main_v10_2)) (atEnc m c (Proc.devRef .tc main_v10_4))
    (atEnc m c (Proc.devRef .tc main_v10_3)) (atEnc m c (Proc.devRef .tc main_v10_5)) (atEnc m c (Proc.devRef .tc main_v10_6))
    (m ((c.tc : Thread nD τ).loc main_arg6)) (idAt (rIds0 m c) r) r
    (fun t ht e => (congrFun (pre_0 (launchContents m c)) _).trans (embedded _ _ (rIds0_range h) r t ht e))
    (fun k => atTrip eCond eTrip (atEnc m) k c (Proc.devRef .tc main_v10_8))
    (fun k _ => e_state (atEnc m) c (fun c => pre_ctr _) (pre_1 _) k) 20 (Nat.le_refl _)
  have z : (fun p => (atTrip eCond eTrip (atEnc m) 0 c (Proc.devRef .tc main_v10_8) : FVec Ideal S16384x64 .f32) (ValueIdx.ix2 r p)) = fun _ => (0 : EReal) :=
    funext fun p => (congrFun (pre_8 (launchContents m c)) _).trans (zeros_apply r p)
  have w2 : atEnc m c (Proc.devRef .tc main_v10_2) = m ((c.tc : Thread nD τ).loc main_arg7) := pre_2 _
  have w3 : atEnc m c (Proc.devRef .tc main_v10_3) = m ((c.tc : Thread nD τ).loc main_arg9) := pre_3 _
  have w4 : atEnc m c (Proc.devRef .tc main_v10_4) = m ((c.tc : Thread nD τ).loc main_arg8) := pre_4 _
  have w5 : atEnc m c (Proc.devRef .tc main_v10_5) = m ((c.tc : Thread nD τ).loc main_arg10) := pre_5 _
  have w6 : atEnc m c (Proc.devRef .tc main_v10_6) = rSorted0 m c := pre_6 _
  rw [w2, w3, w4, w5, w6, z] at s
  refine Eq.trans ?_ s
  rw [k]

theorem atDec_8 : atDec m c (Proc.devRef .tc main_v21_8) = encLoop.exit (atEnc m) c (Proc.devRef .tc main_v10_8) := mid_8 _

theorem exit_args (b : Ref sig .tc) (hb : b ∈ args) : encLoop.exit (atEnc m) c (Proc.devRef .tc b) = m ((c.tc : Thread nD τ).loc b) := by
  show after eCond (atTrip eCond eTrip (atEnc m) 20 c) _ = _
  rw [eCond_keep _ b (args_ne b hb).1, e_trips_args _ c b hb, atEnc_args m c b hb]

/-- The result, entry by entry. -/
theorem ref_value (h : KeepsRange m c) (r : Fin 16384) (t : Fin 20) (p : Fin 64) :
    (atEnd m c (Proc.devRef .tc main_v22) : FVec Ideal S16384x20x64 .f32) (ValueIdx.ix3 r t p)
      = rowOut (m ((c.tc : Thread nD τ).loc main_arg6)) (m ((c.tc : Thread nD τ).loc main_arg11)) (m ((c.tc : Thread nD τ).loc main_arg12))
          (m ((c.tc : Thread nD τ).loc main_arg13)) (m ((c.tc : Thread nD τ).loc main_arg14)) (idAt (rIds1 m c) r) (rSorted1 m c (ValueIdx.ix1 r)).toInt
          (rFinal m c r) t.val p := by
  have a : ∀ b ∈ args, encLoop.exit (atEnc m) c (Proc.devRef .tc b) = m ((c.tc : Thread nD τ).loc b) := exit_args
  have k : decLoop.exit (atDec m) c (Proc.devRef .tc main_v21_9) = atTrip dCond dTrip (atDec m) 20 c (Proc.devRef .tc main_v21_9) := dCond_keep _ _ (by decide)
  have x0 : atDec m c (Proc.devRef .tc main_v21_0) = stepFirst (F := Ideal) (takeEmb (m ((c.tc : Thread nD τ).loc main_arg6)) (rIds1 m c)) := by
    refine (mid_0 _).trans ?_
    rw [a main_arg6 (by decide), a main_arg1 (by decide), a main_arg5 (by decide)]
  have w2 : atDec m c (Proc.devRef .tc main_v21_2) = m ((c.tc : Thread nD τ).loc main_arg11) := (mid_2 _).trans (a _ (by decide))
  have w3 : atDec m c (Proc.devRef .tc main_v21_3) = m ((c.tc : Thread nD τ).loc main_arg13) := (mid_3 _).trans (a _ (by decide))
  have w4 : atDec m c (Proc.devRef .tc main_v21_4) = m ((c.tc : Thread nD τ).loc main_arg12) := (mid_4 _).trans (a _ (by decide))
  have w5 : atDec m c (Proc.devRef .tc main_v21_5) = m ((c.tc : Thread nD τ).loc main_arg14) := (mid_5 _).trans (a _ (by decide))
  have w6 : atDec m c (Proc.devRef .tc main_v21_6) = rSorted1 m c := by
    refine (mid_6 _).trans ?_
    rw [a main_arg5 (by decide)]
  have s := out_row (atDec m c (Proc.devRef .tc main_v21_0)) (atDec m c (Proc.devRef .tc main_v21_2)) (atDec m c (Proc.devRef .tc main_v21_4))
    (atDec m c (Proc.devRef .tc main_v21_3)) (atDec m c (Proc.devRef .tc main_v21_5)) (atDec m c (Proc.devRef .tc main_v21_6))
    (m ((c.tc : Thread nD τ).loc main_arg6)) (idAt (rIds1 m c) r) r
    (fun t ht e => (congrFun x0 _).trans (embedded _ _ (rIds1_range h) r t ht e))
    (fun k => atTrip dCond dTrip (atDec m) k c (Proc.devRef .tc main_v21_8))
    (fun k _ => d_state (atDec m) c (fun c => mid_ctr _) (mid_1 _) k)
    (fun k => atTrip dCond dTrip (atDec m) k c (Proc.devRef .tc main_v21_9))
    (fun k _ => d_outs (atDec m) c (fun c => mid_ctr _) (mid_1 _) k) p 20 (Nat.le_refl _) t t.isLt
  have z : (fun p => (atTrip dCond dTrip (atDec m) 0 c (Proc.devRef .tc main_v21_8) : FVec Ideal S16384x64 .f32) (ValueIdx.ix2 r p)) = rFinal m c r := by
    refine Eq.trans ?_ (encState_row h r)
    exact funext fun p => congrFun (atDec_8 (m := m) (c := c)) _
  rw [w2, w3, w4, w5, w6, z] at s
  refine (congrFun (post_22 _) _).trans ?_
  have e : ∀ y : FVec Ideal S20x16384x64 .f32, transpose S16384x20x64 [1, 0, 2] y transposes_S20x16384x64_S16384x20x64_1_0_2 (ValueIdx.ix3 r t p) = y (ValueIdx.ix3 t r p) := fun y => by
    pointwise
    try rfl
  exact (e _).trans ((congrFun k _).trans s)

end Cert.Gru

end
-- ==== Proof.Algebraic.lean ====
/- From memories that agree on the arguments, the idealised kernel and the reference end with equal results. -/
module

public import proofs.«01_k».proof.Proof.KRun
public import proofs.«01_k».proof.Proof.RefValue
public import proofs.«01_k».proof.Proof.RefFrame
public import proofs.«01_k».proof.Proof.HypsOfPre

@[expose] public section

set_option maxRecDepth 8192

noncomputable section

namespace Cert.Gru

open Idealize.ShloMosaic Idealize.ShloMosaic.TcCoe Idealize.SL.Sem

/-- The two programs' values agree: both are the row's run over the same arguments. -/
theorem values_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.KernelIdeal.Gru.MemInRange m 0) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    atEnd m' c (Proc.devRef .tc Cert.ReferenceIdeal.main_v22) = Cert.KernelIdeal.Gru.result m := by
  obtain rfl : c = 0 := Subsingleton.elim _ _
  have h' : KeepsRange m' 0 := by
    unfold KeepsRange
    rw [e0, e1, e4, e5]
    exact h
  funext j
  obtain ⟨r, t, p, rfl⟩ : ∃ (r : Fin 16384) (t : Fin 20) (p : Fin 64), j = ValueIdx.ix3 r t p := ⟨j 0, j 1, j 2, ValueIdx.eq_ix3 j⟩
  refine (ref_value h' r t p).trans ?_
  show rowOut _ _ _ _ _ _ _ _ t.val p = Cert.KernelIdeal.Gru.outAt m r t.val p
  unfold rFinal rIds1 rIds0 rSorted0 rSorted1 rLens0 rLens1
  rw [e0, e1, e4, e5, e6, e7, e8, e9, e10, e11, e12, e13, e14]

theorem algebraic : Cert.algebraic_KernelIdeal_ReferenceIdeal (hKernelIdeal := Cert.KernelIdeal.Gen.facts) (hReferenceIdeal := Cert.ReferenceIdeal.Gen.facts)
    (hPre_in_range := Cert.Pre_in_range.Gen.facts) := by
  intro m g m' g' hpre hargs
  have h : Cert.KernelIdeal.Gru.MemInRange m 0 := Cert.KernelIdeal.Gru.range_of_pre m hpre 0
  refine ⟨fun _ => Cert.KernelIdeal.Gru.result m, Cert.KernelIdeal.Gru.run g trivial (Cert.KernelIdeal.Gru.hyps_of_range m trivial h) h, ?_⟩
  refine (θ_run _ _ _).mono (fun r hr c => ?_) (ref_final m' g')
  have k := (hr.1 c).2
  obtain ⟨e0, e1, e2, e3, e4, e5, e6, e7, e8, e9, e10, e11, e12, e13, e14⟩ := hargs c
  refine ⟨(hr.1 c).1.trans (values_agree m m' h c e0 e1 e4 e5 e6 e7 e8 e9 e10 e11 e12 e13 e14), k _ ?_, k _ ?_, k _ ?_, k _ ?_, k _ ?_, k _ ?_, k _ ?_, k _ ?_, k _ ?_, k _ ?_, k _ ?_, k _ ?_, k _ ?_, k _ ?_, k _ ?_⟩ <;>
    simp [args]

end Cert.Gru

end
-- ==== Proof.lean ====
module

public import proofs.«01_k».proof.Defs
public import proofs.«01_k».proof.Proof.Frames
public import proofs.«01_k».proof.Proof.RefFrame
public import proofs.«01_k».proof.Proof.Algebraic

@[expose] public section

noncomputable section

namespace Cert.Proof

/-- The reference's frame holds under the precondition too. -/
theorem frame_ref_in_range : Cert.quiescent_ReferenceIdeal_pre_in_range (hReferenceIdeal := Cert.ReferenceIdeal.Gen.facts)
    (hPre_in_range := Cert.Pre_in_range.Gen.facts) := fun m g _ => Cert.Gru.frame_ref m g trivial

theorem claim : Cert.Claim := ⟨Cert.Kernel.Gen.facts, Cert.KernelIdeal.Gen.facts, Cert.ReferenceIdeal.Gen.facts, Cert.Pre_in_range.Gen.facts,
  Cert.Gru.frame_kernel, Cert.Gru.frame_ideal, Cert.Gru.frame_ref, frame_ref_in_range, trivial, Cert.Gru.algebraic⟩

end Cert.Proof

end
